-- ==== Defs.lean ====
def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRefIdeal (m : (ℓ : Loc Cert.GwUpRefIdeal.nD Cert.GwUpRefIdeal.τ Cert.GwUpRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_MixDu (m : (ℓ : Loc Cert.MixDu.nD Cert.MixDu.τ Cert.MixDu.sig) → Buf (Elt Bits) ℓ) : Prop :=
  True

def Pre_MixDuIdeal (m : (ℓ : Loc Cert.MixDuIdeal.nD Cert.MixDuIdeal.τ Cert.MixDuIdeal.sig) → Buf (Elt Ideal) ℓ) : Prop :=
  True

def Pre_MixDuRefIdeal (m : (ℓ : Loc Cert.MixDuRefIdeal.nD Cert.MixDuRefIdeal.τ Cert.MixDuRefIdeal.sig) → Buf (Elt Ideal) ℓ) : Prop :=
  True

def Pre_Swiglu [hPre_finite : Cert.Pre_finite.Facts] (m : (ℓ : Loc Cert.Swiglu.nD Cert.Swiglu.τ Cert.Swiglu.sig) → Buf (Elt Bits) ℓ) : Prop :=
  ∀ c : Dev Cert.Swiglu.nD,
    (Cert.Pre_finite.fn (F := Bits) (m ((c.tc : Thread Cert.Swiglu.nD Cert.Swiglu.τ).loc Cert.Swiglu.main_arg0)) (m ((c.tc : Thread Cert.Swiglu.nD Cert.Swiglu.τ).loc Cert.Swiglu.main_arg1)) (m ((c.tc : Thread Cert.Swiglu.nD Cert.Swiglu.τ).loc Cert.Swiglu.main_arg2)) (m ((c.tc : Thread Cert.Swiglu.nD Cert.Swiglu.τ).loc Cert.Swiglu.main_arg3))) = (fun _ => 1#1)

def Pre_Swiglu_none (m : (ℓ : Loc Cert.Swiglu.nD Cert.Swiglu.τ Cert.Swiglu.sig) → Buf (Elt Bits) ℓ) : Prop :=
  True

def Pre_SwigluIdeal [hPre_finite : Cert.Pre_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))) = (fun _ => 1#1)

def Pre_SwigluIdeal_none (m : (ℓ : Loc Cert.SwigluIdeal.nD Cert.SwigluIdeal.τ Cert.SwigluIdeal.sig) → Buf (Elt Ideal) ℓ) : Prop :=
  True

def Pre_SwigluRefIdeal [hPre_finite : Cert.Pre_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))) = (fun _ => 1#1)

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_GwA (m : (ℓ : Loc Cert.GwA.nD Cert.GwA.τ Cert.GwA.sig) → Buf (Elt Bits) ℓ) : Prop :=
  True

def Pre_GwAIdeal (m : (ℓ : Loc Cert.GwAIdeal.nD Cert.GwAIdeal.τ Cert.GwAIdeal.sig) → Buf (Elt Ideal) ℓ) : Prop :=
  True

def Pre_GwARefIdeal (m : (ℓ : Loc Cert.GwARefIdeal.nD Cert.GwARefIdeal.τ Cert.GwARefIdeal.sig) → Buf (Elt Ideal) ℓ) : Prop :=
  True

def Pre_Dmg (m : (ℓ : Loc Cert.Dmg.nD Cert.Dmg.τ Cert.Dmg.sig) → Buf (Elt Bits) ℓ) : Prop :=
  True

def Pre_DmgIdeal (m : (ℓ : Loc Cert.DmgIdeal.nD Cert.DmgIdeal.τ Cert.DmgIdeal.sig) → Buf (Elt Ideal) ℓ) : Prop :=
  True

def Pre_DmgRefIdeal (m : (ℓ : Loc Cert.DmgRefIdeal.nD Cert.DmgRefIdeal.τ Cert.DmgRefIdeal.sig) → Buf (Elt Ideal) ℓ) : Prop :=
  True

def Pre_Dya (m : (ℓ : Loc Cert.Dya.nD Cert.Dya.τ Cert.Dya.sig) → Buf (Elt Bits) ℓ) : Prop :=
  True

def Pre_DyaIdeal (m : (ℓ : Loc Cert.DyaIdeal.nD Cert.DyaIdeal.τ Cert.DyaIdeal.sig) → Buf (Elt Ideal) ℓ) : Prop :=
  True

def Pre_DyaRefIdeal (m : (ℓ : Loc Cert.DyaRefIdeal.nD Cert.DyaRefIdeal.τ Cert.DyaRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_BOut (m : (ℓ : Loc Cert.BOut.nD Cert.BOut.τ Cert.BOut.sig) → Buf (Elt Bits) ℓ) : Prop :=
  True

def Pre_BOutIdeal (m : (ℓ : Loc Cert.BOutIdeal.nD Cert.BOutIdeal.τ Cert.BOutIdeal.sig) → Buf (Elt Ideal) ℓ) : Prop :=
  True

def Pre_BOutRefIdeal (m : (ℓ : Loc Cert.BOutRefIdeal.nD Cert.BOutRefIdeal.τ Cert.BOutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_ResidBwd (m : (ℓ : Loc Cert.ResidBwd.nD Cert.ResidBwd.τ Cert.ResidBwd.sig) → Buf (Elt Bits) ℓ) : Prop :=
  True

def Pre_ResidBwdIdeal (m : (ℓ : Loc Cert.ResidBwdIdeal.nD Cert.ResidBwdIdeal.τ Cert.ResidBwdIdeal.sig) → Buf (Elt Ideal) ℓ) : Prop :=
  True

def Pre_ResidBwdRefIdeal (m : (ℓ : Loc Cert.ResidBwdRefIdeal.nD Cert.ResidBwdRefIdeal.τ Cert.ResidBwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_PrepA (m : (ℓ : Loc Cert.PrepA.nD Cert.PrepA.τ Cert.PrepA.sig) → Buf (Elt Bits) ℓ) : Prop :=
  True

def Pre_PrepAIdeal (m : (ℓ : Loc Cert.PrepAIdeal.nD Cert.PrepAIdeal.τ Cert.PrepAIdeal.sig) → Buf (Elt Ideal) ℓ) : Prop :=
  True

def Pre_PrepARefIdeal (m : (ℓ : Loc Cert.PrepARefIdeal.nD Cert.PrepARefIdeal.τ Cert.PrepARefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PrepABwd (m : (ℓ : Loc Cert.PrepABwd.nD Cert.PrepABwd.τ Cert.PrepABwd.sig) → Buf (Elt Bits) ℓ) : Prop :=
  True

def Pre_PrepABwdIdeal (m : (ℓ : Loc Cert.PrepABwdIdeal.nD Cert.PrepABwdIdeal.τ Cert.PrepABwdIdeal.sig) → Buf (Elt Ideal) ℓ) : Prop :=
  True

def Pre_PrepABwdRefIdeal (m : (ℓ : Loc Cert.PrepABwdRefIdeal.nD Cert.PrepABwdRefIdeal.τ Cert.PrepABwdRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_AdamwAda (m : (ℓ : Loc Cert.AdamwAda.nD Cert.AdamwAda.τ Cert.AdamwAda.sig) → Buf (Elt Bits) ℓ) : Prop :=
  True

def Pre_AdamwAdaIdeal (m : (ℓ : Loc Cert.AdamwAdaIdeal.nD Cert.AdamwAdaIdeal.τ Cert.AdamwAdaIdeal.sig) → Buf (Elt Ideal) ℓ) : Prop :=
  True

def Pre_AdamwAdaRefIdeal (m : (ℓ : Loc Cert.AdamwAdaRefIdeal.nD Cert.AdamwAdaRefIdeal.τ Cert.AdamwAdaRefIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpRefIdeal (m : (ℓ : Loc Cert.AdamwUpRefIdeal.nD Cert.AdamwUpRefIdeal.τ Cert.AdamwUpRefIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownRefIdeal (m : (ℓ : Loc Cert.AdamwDownRefIdeal.nD Cert.AdamwDownRefIdeal.τ Cert.AdamwDownRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwA (m : (ℓ : Loc Cert.AdamwA.nD Cert.AdamwA.τ Cert.AdamwA.sig) → Buf (Elt Bits) ℓ) : Prop :=
  True

def Pre_AdamwAIdeal (m : (ℓ : Loc Cert.AdamwAIdeal.nD Cert.AdamwAIdeal.τ Cert.AdamwAIdeal.sig) → Buf (Elt Ideal) ℓ) : Prop :=
  True

def Pre_AdamwARefIdeal (m : (ℓ : Loc Cert.AdamwARefIdeal.nD Cert.AdamwARefIdeal.τ Cert.AdamwARefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRefIdeal [hGwUpRefIdeal : Cert.GwUpRefIdeal.Facts] : Prop :=
  ∀ (m : (ℓ : Loc Cert.GwUpRefIdeal.nD Cert.GwUpRefIdeal.τ Cert.GwUpRefIdeal.sig) → Buf (Elt Ideal) ℓ) (g : Dev Cert.GwUpRefIdeal.nD → PrngReg), Pre_GwUpRefIdeal m →
    θ_run (Cert.GwUpRefIdeal.defs (F := Ideal)) (onTc (τ := Cert.GwUpRefIdeal.τ) (Cert.GwUpRefIdeal.main (F := Ideal))) ⟨m, fun _ => 0, g⟩ (fun r => (∀ c : Dev Cert.GwUpRefIdeal.nD,
      r.2.mem ((c.tc : Thread Cert.GwUpRefIdeal.nD Cert.GwUpRefIdeal.τ).loc Cert.GwUpRefIdeal.main_arg0) = m ((c.tc : Thread Cert.GwUpRefIdeal.nD Cert.GwUpRefIdeal.τ).loc Cert.GwUpRefIdeal.main_arg0)
      ∧ r.2.mem ((c.tc : Thread Cert.GwUpRefIdeal.nD Cert.GwUpRefIdeal.τ).loc Cert.GwUpRefIdeal.main_arg1) = m ((c.tc : Thread Cert.GwUpRefIdeal.nD Cert.GwUpRefIdeal.τ).loc Cert.GwUpRefIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_MixDu [hMixDu : Cert.MixDu.Facts] : Prop :=
  ∀ (m : (ℓ : Loc Cert.MixDu.nD Cert.MixDu.τ Cert.MixDu.sig) → Buf (Elt Bits) ℓ) (g : Dev Cert.MixDu.nD → PrngReg), Pre_MixDu m →
    θ_run (Cert.MixDu.defs (F := Bits)) (onTc (τ := Cert.MixDu.τ) (Cert.MixDu.main (F := Bits))) ⟨m, fun _ => 0, g⟩ (fun r => (∀ c : Dev Cert.MixDu.nD,
      r.2.mem ((c.tc : Thread Cert.MixDu.nD Cert.MixDu.τ).loc Cert.MixDu.main_arg0) = m ((c.tc : Thread Cert.MixDu.nD Cert.MixDu.τ).loc Cert.MixDu.main_arg0)
      ∧ r.2.mem ((c.tc : Thread Cert.MixDu.nD Cert.MixDu.τ).loc Cert.MixDu.main_arg1) = m ((c.tc : Thread Cert.MixDu.nD Cert.MixDu.τ).loc Cert.MixDu.main_arg1))
      ∧ r.2.sem = fun _ => 0)

def quiescent_MixDuIdeal [hMixDuIdeal : Cert.MixDuIdeal.Facts] : Prop :=
  ∀ (m : (ℓ : Loc Cert.MixDuIdeal.nD Cert.MixDuIdeal.τ Cert.MixDuIdeal.sig) → Buf (Elt Ideal) ℓ) (g : Dev Cert.MixDuIdeal.nD → PrngReg), Pre_MixDuIdeal m →
    θ_run (Cert.MixDuIdeal.defs (F := Ideal)) (onTc (τ := Cert.MixDuIdeal.τ) (Cert.MixDuIdeal.main (F := Ideal))) ⟨m, fun _ => 0, g⟩ (fun r => (∀ c : Dev Cert.MixDuIdeal.nD,
      r.2.mem ((c.tc : Thread Cert.MixDuIdeal.nD Cert.MixDuIdeal.τ).loc Cert.MixDuIdeal.main_arg0) = m ((c.tc : Thread Cert.MixDuIdeal.nD Cert.MixDuIdeal.τ).loc Cert.MixDuIdeal.main_arg0)
      ∧ r.2.mem ((c.tc : Thread Cert.MixDuIdeal.nD Cert.MixDuIdeal.τ).loc Cert.MixDuIdeal.main_arg1) = m ((c.tc : Thread Cert.MixDuIdeal.nD Cert.MixDuIdeal.τ).loc Cert.MixDuIdeal.main_arg1))
      ∧ r.2.sem = fun _ => 0)

def quiescent_MixDuRefIdeal [hMixDuRefIdeal : Cert.MixDuRefIdeal.Facts] : Prop :=
  ∀ (m : (ℓ : Loc Cert.MixDuRefIdeal.nD Cert.MixDuRefIdeal.τ Cert.MixDuRefIdeal.sig) → Buf (Elt Ideal) ℓ) (g : Dev Cert.MixDuRefIdeal.nD → PrngReg), Pre_MixDuRefIdeal m →
    θ_run (Cert.MixDuRefIdeal.defs (F := Ideal)) (onTc (τ := Cert.MixDuRefIdeal.τ) (Cert.MixDuRefIdeal.main (F := Ideal))) ⟨m, fun _ => 0, g⟩ (fun r => (∀ c : Dev Cert.MixDuRefIdeal.nD,
      r.2.mem ((c.tc : Thread Cert.MixDuRefIdeal.nD Cert.MixDuRefIdeal.τ).loc Cert.MixDuRefIdeal.main_arg0) = m ((c.tc : Thread Cert.MixDuRefIdeal.nD Cert.MixDuRefIdeal.τ).loc Cert.MixDuRefIdeal.main_arg0)
      ∧ r.2.mem ((c.tc : Thread Cert.MixDuRefIdeal.nD Cert.MixDuRefIdeal.τ).loc Cert.MixDuRefIdeal.main_arg1) = m ((c.tc : Thread Cert.MixDuRefIdeal.nD Cert.MixDuRefIdeal.τ).loc Cert.MixDuRefIdeal.main_arg1))
      ∧ r.2.sem = fun _ => 0)

def quiescent_Swiglu [hSwiglu : Cert.Swiglu.Facts] [hPre_finite : Cert.Pre_finite.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_Swiglu_pre_none [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu_none m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] [hPre_finite : Cert.Pre_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_none [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_none m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] [hPre_finite : Cert.Pre_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_GwA [hGwA : Cert.GwA.Facts] : Prop :=
  ∀ (m : (ℓ : Loc Cert.GwA.nD Cert.GwA.τ Cert.GwA.sig) → Buf (Elt Bits) ℓ) (g : Dev Cert.GwA.nD → PrngReg), Pre_GwA m →
    θ_run (Cert.GwA.defs (F := Bits)) (onTc (τ := Cert.GwA.τ) (Cert.GwA.main (F := Bits))) ⟨m, fun _ => 0, g⟩ (fun r => (∀ c : Dev Cert.GwA.nD,
      r.2.mem ((c.tc : Thread Cert.GwA.nD Cert.GwA.τ).loc Cert.GwA.main_arg0) = m ((c.tc : Thread Cert.GwA.nD Cert.GwA.τ).loc Cert.GwA.main_arg0)
      ∧ r.2.mem ((c.tc : Thread Cert.GwA.nD Cert.GwA.τ).loc Cert.GwA.main_arg1) = m ((c.tc : Thread Cert.GwA.nD Cert.GwA.τ).loc Cert.GwA.main_arg1))
      ∧ r.2.sem = fun _ => 0)

def quiescent_GwAIdeal [hGwAIdeal : Cert.GwAIdeal.Facts] : Prop :=
  ∀ (m : (ℓ : Loc Cert.GwAIdeal.nD Cert.GwAIdeal.τ Cert.GwAIdeal.sig) → Buf (Elt Ideal) ℓ) (g : Dev Cert.GwAIdeal.nD → PrngReg), Pre_GwAIdeal m →
    θ_run (Cert.GwAIdeal.defs (F := Ideal)) (onTc (τ := Cert.GwAIdeal.τ) (Cert.GwAIdeal.main (F := Ideal))) ⟨m, fun _ => 0, g⟩ (fun r => (∀ c : Dev Cert.GwAIdeal.nD,
      r.2.mem ((c.tc : Thread Cert.GwAIdeal.nD Cert.GwAIdeal.τ).loc Cert.GwAIdeal.main_arg0) = m ((c.tc : Thread Cert.GwAIdeal.nD Cert.GwAIdeal.τ).loc Cert.GwAIdeal.main_arg0)
      ∧ r.2.mem ((c.tc : Thread Cert.GwAIdeal.nD Cert.GwAIdeal.τ).loc Cert.GwAIdeal.main_arg1) = m ((c.tc : Thread Cert.GwAIdeal.nD Cert.GwAIdeal.τ).loc Cert.GwAIdeal.main_arg1))
      ∧ r.2.sem = fun _ => 0)

def quiescent_GwARefIdeal [hGwARefIdeal : Cert.GwARefIdeal.Facts] : Prop :=
  ∀ (m : (ℓ : Loc Cert.GwARefIdeal.nD Cert.GwARefIdeal.τ Cert.GwARefIdeal.sig) → Buf (Elt Ideal) ℓ) (g : Dev Cert.GwARefIdeal.nD → PrngReg), Pre_GwARefIdeal m →
    θ_run (Cert.GwARefIdeal.defs (F := Ideal)) (onTc (τ := Cert.GwARefIdeal.τ) (Cert.GwARefIdeal.main (F := Ideal))) ⟨m, fun _ => 0, g⟩ (fun r => (∀ c : Dev Cert.GwARefIdeal.nD,
      r.2.mem ((c.tc : Thread Cert.GwARefIdeal.nD Cert.GwARefIdeal.τ).loc Cert.GwARefIdeal.main_arg0) = m ((c.tc : Thread Cert.GwARefIdeal.nD Cert.GwARefIdeal.τ).loc Cert.GwARefIdeal.main_arg0)
      ∧ r.2.mem ((c.tc : Thread Cert.GwARefIdeal.nD Cert.GwARefIdeal.τ).loc Cert.GwARefIdeal.main_arg1) = m ((c.tc : Thread Cert.GwARefIdeal.nD Cert.GwARefIdeal.τ).loc Cert.GwARefIdeal.main_arg1))
      ∧ r.2.sem = fun _ => 0)

def quiescent_Dmg [hDmg : Cert.Dmg.Facts] : Prop :=
  ∀ (m : (ℓ : Loc Cert.Dmg.nD Cert.Dmg.τ Cert.Dmg.sig) → Buf (Elt Bits) ℓ) (g : Dev Cert.Dmg.nD → PrngReg), Pre_Dmg m →
    θ_run (Cert.Dmg.defs (F := Bits)) (onTc (τ := Cert.Dmg.τ) (Cert.Dmg.main (F := Bits))) ⟨m, fun _ => 0, g⟩ (fun r => (∀ c : Dev Cert.Dmg.nD,
      r.2.mem ((c.tc : Thread Cert.Dmg.nD Cert.Dmg.τ).loc Cert.Dmg.main_arg0) = m ((c.tc : Thread Cert.Dmg.nD Cert.Dmg.τ).loc Cert.Dmg.main_arg0)
      ∧ r.2.mem ((c.tc : Thread Cert.Dmg.nD Cert.Dmg.τ).loc Cert.Dmg.main_arg1) = m ((c.tc : Thread Cert.Dmg.nD Cert.Dmg.τ).loc Cert.Dmg.main_arg1))
      ∧ r.2.sem = fun _ => 0)

def quiescent_DmgIdeal [hDmgIdeal : Cert.DmgIdeal.Facts] : Prop :=
  ∀ (m : (ℓ : Loc Cert.DmgIdeal.nD Cert.DmgIdeal.τ Cert.DmgIdeal.sig) → Buf (Elt Ideal) ℓ) (g : Dev Cert.DmgIdeal.nD → PrngReg), Pre_DmgIdeal m →
    θ_run (Cert.DmgIdeal.defs (F := Ideal)) (onTc (τ := Cert.DmgIdeal.τ) (Cert.DmgIdeal.main (F := Ideal))) ⟨m, fun _ => 0, g⟩ (fun r => (∀ c : Dev Cert.DmgIdeal.nD,
      r.2.mem ((c.tc : Thread Cert.DmgIdeal.nD Cert.DmgIdeal.τ).loc Cert.DmgIdeal.main_arg0) = m ((c.tc : Thread Cert.DmgIdeal.nD Cert.DmgIdeal.τ).loc Cert.DmgIdeal.main_arg0)
      ∧ r.2.mem ((c.tc : Thread Cert.DmgIdeal.nD Cert.DmgIdeal.τ).loc Cert.DmgIdeal.main_arg1) = m ((c.tc : Thread Cert.DmgIdeal.nD Cert.DmgIdeal.τ).loc Cert.DmgIdeal.main_arg1))
      ∧ r.2.sem = fun _ => 0)

def quiescent_DmgRefIdeal [hDmgRefIdeal : Cert.DmgRefIdeal.Facts] : Prop :=
  ∀ (m : (ℓ : Loc Cert.DmgRefIdeal.nD Cert.DmgRefIdeal.τ Cert.DmgRefIdeal.sig) → Buf (Elt Ideal) ℓ) (g : Dev Cert.DmgRefIdeal.nD → PrngReg), Pre_DmgRefIdeal m →
    θ_run (Cert.DmgRefIdeal.defs (F := Ideal)) (onTc (τ := Cert.DmgRefIdeal.τ) (Cert.DmgRefIdeal.main (F := Ideal))) ⟨m, fun _ => 0, g⟩ (fun r => (∀ c : Dev Cert.DmgRefIdeal.nD,
      r.2.mem ((c.tc : Thread Cert.DmgRefIdeal.nD Cert.DmgRefIdeal.τ).loc Cert.DmgRefIdeal.main_arg0) = m ((c.tc : Thread Cert.DmgRefIdeal.nD Cert.DmgRefIdeal.τ).loc Cert.DmgRefIdeal.main_arg0)
      ∧ r.2.mem ((c.tc : Thread Cert.DmgRefIdeal.nD Cert.DmgRefIdeal.τ).loc Cert.DmgRefIdeal.main_arg1) = m ((c.tc : Thread Cert.DmgRefIdeal.nD Cert.DmgRefIdeal.τ).loc Cert.DmgRefIdeal.main_arg1))
      ∧ r.2.sem = fun _ => 0)

def quiescent_Dya [hDya : Cert.Dya.Facts] : Prop :=
  ∀ (m : (ℓ : Loc Cert.Dya.nD Cert.Dya.τ Cert.Dya.sig) → Buf (Elt Bits) ℓ) (g : Dev Cert.Dya.nD → PrngReg), Pre_Dya m →
    θ_run (Cert.Dya.defs (F := Bits)) (onTc (τ := Cert.Dya.τ) (Cert.Dya.main (F := Bits))) ⟨m, fun _ => 0, g⟩ (fun r => (∀ c : Dev Cert.Dya.nD,
      r.2.mem ((c.tc : Thread Cert.Dya.nD Cert.Dya.τ).loc Cert.Dya.main_arg0) = m ((c.tc : Thread Cert.Dya.nD Cert.Dya.τ).loc Cert.Dya.main_arg0)
      ∧ r.2.mem ((c.tc : Thread Cert.Dya.nD Cert.Dya.τ).loc Cert.Dya.main_arg1) = m ((c.tc : Thread Cert.Dya.nD Cert.Dya.τ).loc Cert.Dya.main_arg1))
      ∧ r.2.sem = fun _ => 0)

def quiescent_DyaIdeal [hDyaIdeal : Cert.DyaIdeal.Facts] : Prop :=
  ∀ (m : (ℓ : Loc Cert.DyaIdeal.nD Cert.DyaIdeal.τ Cert.DyaIdeal.sig) → Buf (Elt Ideal) ℓ) (g : Dev Cert.DyaIdeal.nD → PrngReg), Pre_DyaIdeal m →
    θ_run (Cert.DyaIdeal.defs (F := Ideal)) (onTc (τ := Cert.DyaIdeal.τ) (Cert.DyaIdeal.main (F := Ideal))) ⟨m, fun _ => 0, g⟩ (fun r => (∀ c : Dev Cert.DyaIdeal.nD,
      r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
      ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ r.2.sem = fun _ => 0)

def quiescent_DyaRefIdeal [hDyaRefIdeal : Cert.DyaRefIdeal.Facts] : Prop :=
  ∀ (m : (ℓ : Loc Cert.DyaRefIdeal.nD Cert.DyaRefIdeal.τ Cert.DyaRefIdeal.sig) → Buf (Elt Ideal) ℓ) (g : Dev Cert.DyaRefIdeal.nD → PrngReg), Pre_DyaRefIdeal m →
    θ_run (Cert.DyaRefIdeal.defs (F := Ideal)) (onTc (τ := Cert.DyaRefIdeal.τ) (Cert.DyaRefIdeal.main (F := Ideal))) ⟨m, fun _ => 0, g⟩ (fun r => (∀ c : Dev Cert.DyaRefIdeal.nD,
      r.2.mem ((c.tc : Thread Cert.DyaRefIdeal.nD Cert.DyaRefIdeal.τ).loc Cert.DyaRefIdeal.main_arg0) = m ((c.tc : Thread Cert.DyaRefIdeal.nD Cert.DyaRefIdeal.τ).loc Cert.DyaRefIdeal.main_arg0)
      ∧ r.2.mem ((c.tc : Thread Cert.DyaRefIdeal.nD Cert.DyaRefIdeal.τ).loc Cert.DyaRefIdeal.main_arg1) = m ((c.tc : Thread Cert.DyaRefIdeal.nD Cert.DyaRefIdeal.τ).loc Cert.DyaRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_BOut [hBOut : Cert.BOut.Facts] : Prop :=
  ∀ (m : (ℓ : Loc Cert.BOut.nD Cert.BOut.τ Cert.BOut.sig) → Buf (Elt Bits) ℓ) (g : Dev Cert.BOut.nD → PrngReg), Pre_BOut m →
    θ_run (Cert.BOut.defs (F := Bits)) (onTc (τ := Cert.BOut.τ) (Cert.BOut.main (F := Bits))) ⟨m, fun _ => 0, g⟩ (fun r => (∀ c : Dev Cert.BOut.nD,
      r.2.mem ((c.tc : Thread Cert.BOut.nD Cert.BOut.τ).loc Cert.BOut.main_arg0) = m ((c.tc : Thread Cert.BOut.nD Cert.BOut.τ).loc Cert.BOut.main_arg0)
      ∧ r.2.mem ((c.tc : Thread Cert.BOut.nD Cert.BOut.τ).loc Cert.BOut.main_arg1) = m ((c.tc : Thread Cert.BOut.nD Cert.BOut.τ).loc Cert.BOut.main_arg1)
      ∧ r.2.mem ((c.tc : Thread Cert.BOut.nD Cert.BOut.τ).loc Cert.BOut.main_arg2) = m ((c.tc : Thread Cert.BOut.nD Cert.BOut.τ).loc Cert.BOut.main_arg2)
      ∧ r.2.mem ((c.tc : Thread Cert.BOut.nD Cert.BOut.τ).loc Cert.BOut.main_arg3) = m ((c.tc : Thread Cert.BOut.nD Cert.BOut.τ).loc Cert.BOut.main_arg3))
      ∧ r.2.sem = fun _ => 0)

def quiescent_BOutIdeal [hBOutIdeal : Cert.BOutIdeal.Facts] : Prop :=
  ∀ (m : (ℓ : Loc Cert.BOutIdeal.nD Cert.BOutIdeal.τ Cert.BOutIdeal.sig) → Buf (Elt Ideal) ℓ) (g : Dev Cert.BOutIdeal.nD → PrngReg), Pre_BOutIdeal m →
    θ_run (Cert.BOutIdeal.defs (F := Ideal)) (onTc (τ := Cert.BOutIdeal.τ) (Cert.BOutIdeal.main (F := Ideal))) ⟨m, fun _ => 0, g⟩ (fun r => (∀ c : Dev Cert.BOutIdeal.nD,
      r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
      ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
      ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2)
      ∧ r.2.mem ((c.tc : Thread Cert.BOutIdeal.nD Cert.BOutIdeal.τ).loc Cert.BOutIdeal.main_arg3) = m ((c.tc : Thread Cert.BOutIdeal.nD Cert.BOutIdeal.τ).loc Cert.BOutIdeal.main_arg3))
      ∧ r.2.sem = fun _ => 0)

def quiescent_BOutRefIdeal [hBOutRefIdeal : Cert.BOutRefIdeal.Facts] : Prop :=
  ∀ (m : (ℓ : Loc Cert.BOutRefIdeal.nD Cert.BOutRefIdeal.τ Cert.BOutRefIdeal.sig) → Buf (Elt Ideal) ℓ) (g : Dev Cert.BOutRefIdeal.nD → PrngReg), Pre_BOutRefIdeal m →
    θ_run (Cert.BOutRefIdeal.defs (F := Ideal)) (onTc (τ := Cert.BOutRefIdeal.τ) (Cert.BOutRefIdeal.main (F := Ideal))) ⟨m, fun _ => 0, g⟩ (fun r => (∀ c : Dev Cert.BOutRefIdeal.nD,
      r.2.mem ((c.tc : Thread Cert.BOutRefIdeal.nD Cert.BOutRefIdeal.τ).loc Cert.BOutRefIdeal.main_arg0) = m ((c.tc : Thread Cert.BOutRefIdeal.nD Cert.BOutRefIdeal.τ).loc Cert.BOutRefIdeal.main_arg0)
      ∧ r.2.mem ((c.tc : Thread Cert.BOutRefIdeal.nD Cert.BOutRefIdeal.τ).loc Cert.BOutRefIdeal.main_arg1) = m ((c.tc : Thread Cert.BOutRefIdeal.nD Cert.BOutRefIdeal.τ).loc Cert.BOutRefIdeal.main_arg1)
      ∧ r.2.mem ((c.tc : Thread Cert.BOutRefIdeal.nD Cert.BOutRefIdeal.τ).loc Cert.BOutRefIdeal.main_arg2) = m ((c.tc : Thread Cert.BOutRefIdeal.nD Cert.BOutRefIdeal.τ).loc Cert.BOutRefIdeal.main_arg2)
      ∧ r.2.mem ((c.tc : Thread Cert.BOutRefIdeal.nD Cert.BOutRefIdeal.τ).loc Cert.BOutRefIdeal.main_arg3) = m ((c.tc : Thread Cert.BOutRefIdeal.nD Cert.BOutRefIdeal.τ).loc Cert.BOutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_ResidBwd [hResidBwd : Cert.ResidBwd.Facts] : Prop :=
  ∀ (m : (ℓ : Loc Cert.ResidBwd.nD Cert.ResidBwd.τ Cert.ResidBwd.sig) → Buf (Elt Bits) ℓ) (g : Dev Cert.ResidBwd.nD → PrngReg), Pre_ResidBwd m →
    θ_run (Cert.ResidBwd.defs (F := Bits)) (onTc (τ := Cert.ResidBwd.τ) (Cert.ResidBwd.main (F := Bits))) ⟨m, fun _ => 0, g⟩ (fun r => (∀ c : Dev Cert.ResidBwd.nD,
      r.2.mem ((c.tc : Thread Cert.ResidBwd.nD Cert.ResidBwd.τ).loc Cert.ResidBwd.main_arg0) = m ((c.tc : Thread Cert.ResidBwd.nD Cert.ResidBwd.τ).loc Cert.ResidBwd.main_arg0)
      ∧ r.2.mem ((c.tc : Thread Cert.ResidBwd.nD Cert.ResidBwd.τ).loc Cert.ResidBwd.main_arg1) = m ((c.tc : Thread Cert.ResidBwd.nD Cert.ResidBwd.τ).loc Cert.ResidBwd.main_arg1)
      ∧ r.2.mem ((c.tc : Thread Cert.ResidBwd.nD Cert.ResidBwd.τ).loc Cert.ResidBwd.main_arg2) = m ((c.tc : Thread Cert.ResidBwd.nD Cert.ResidBwd.τ).loc Cert.ResidBwd.main_arg2))
      ∧ r.2.sem = fun _ => 0)

def quiescent_ResidBwdIdeal [hResidBwdIdeal : Cert.ResidBwdIdeal.Facts] : Prop :=
  ∀ (m : (ℓ : Loc Cert.ResidBwdIdeal.nD Cert.ResidBwdIdeal.τ Cert.ResidBwdIdeal.sig) → Buf (Elt Ideal) ℓ) (g : Dev Cert.ResidBwdIdeal.nD → PrngReg), Pre_ResidBwdIdeal m →
    θ_run (Cert.ResidBwdIdeal.defs (F := Ideal)) (onTc (τ := Cert.ResidBwdIdeal.τ) (Cert.ResidBwdIdeal.main (F := Ideal))) ⟨m, fun _ => 0, g⟩ (fun r => (∀ c : Dev Cert.ResidBwdIdeal.nD,
      r.2.mem ((c.tc : Thread Cert.ResidBwdIdeal.nD Cert.ResidBwdIdeal.τ).loc Cert.ResidBwdIdeal.main_arg0) = m ((c.tc : Thread Cert.ResidBwdIdeal.nD Cert.ResidBwdIdeal.τ).loc Cert.ResidBwdIdeal.main_arg0)
      ∧ r.2.mem ((c.tc : Thread Cert.ResidBwdIdeal.nD Cert.ResidBwdIdeal.τ).loc Cert.ResidBwdIdeal.main_arg1) = m ((c.tc : Thread Cert.ResidBwdIdeal.nD Cert.ResidBwdIdeal.τ).loc Cert.ResidBwdIdeal.main_arg1)
      ∧ r.2.mem ((c.tc : Thread Cert.ResidBwdIdeal.nD Cert.ResidBwdIdeal.τ).loc Cert.ResidBwdIdeal.main_arg2) = m ((c.tc : Thread Cert.ResidBwdIdeal.nD Cert.ResidBwdIdeal.τ).loc Cert.ResidBwdIdeal.main_arg2))
      ∧ r.2.sem = fun _ => 0)

def quiescent_ResidBwdRefIdeal [hResidBwdRefIdeal : Cert.ResidBwdRefIdeal.Facts] : Prop :=
  ∀ (m : (ℓ : Loc Cert.ResidBwdRefIdeal.nD Cert.ResidBwdRefIdeal.τ Cert.ResidBwdRefIdeal.sig) → Buf (Elt Ideal) ℓ) (g : Dev Cert.ResidBwdRefIdeal.nD → PrngReg), Pre_ResidBwdRefIdeal m →
    θ_run (Cert.ResidBwdRefIdeal.defs (F := Ideal)) (onTc (τ := Cert.ResidBwdRefIdeal.τ) (Cert.ResidBwdRefIdeal.main (F := Ideal))) ⟨m, fun _ => 0, g⟩ (fun r => (∀ c : Dev Cert.ResidBwdRefIdeal.nD,
      r.2.mem ((c.tc : Thread Cert.ResidBwdRefIdeal.nD Cert.ResidBwdRefIdeal.τ).loc Cert.ResidBwdRefIdeal.main_arg0) = m ((c.tc : Thread Cert.ResidBwdRefIdeal.nD Cert.ResidBwdRefIdeal.τ).loc Cert.ResidBwdRefIdeal.main_arg0)
      ∧ r.2.mem ((c.tc : Thread Cert.ResidBwdRefIdeal.nD Cert.ResidBwdRefIdeal.τ).loc Cert.ResidBwdRefIdeal.main_arg1) = m ((c.tc : Thread Cert.ResidBwdRefIdeal.nD Cert.ResidBwdRefIdeal.τ).loc Cert.ResidBwdRefIdeal.main_arg1)
      ∧ r.2.mem ((c.tc : Thread Cert.ResidBwdRefIdeal.nD Cert.ResidBwdRefIdeal.τ).loc Cert.ResidBwdRefIdeal.main_arg2) = m ((c.tc : Thread Cert.ResidBwdRefIdeal.nD Cert.ResidBwdRefIdeal.τ).loc Cert.ResidBwdRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_PrepA [hPrepA : Cert.PrepA.Facts] : Prop :=
  ∀ (m : (ℓ : Loc Cert.PrepA.nD Cert.PrepA.τ Cert.PrepA.sig) → Buf (Elt Bits) ℓ) (g : Dev Cert.PrepA.nD → PrngReg), Pre_PrepA m →
    θ_run (Cert.PrepA.defs (F := Bits)) (onTc (τ := Cert.PrepA.τ) (Cert.PrepA.main (F := Bits))) ⟨m, fun _ => 0, g⟩ (fun r => (∀ c : Dev Cert.PrepA.nD,
      r.2.mem ((c.tc : Thread Cert.PrepA.nD Cert.PrepA.τ).loc Cert.PrepA.main_arg0) = m ((c.tc : Thread Cert.PrepA.nD Cert.PrepA.τ).loc Cert.PrepA.main_arg0)
      ∧ r.2.mem ((c.tc : Thread Cert.PrepA.nD Cert.PrepA.τ).loc Cert.PrepA.main_arg1) = m ((c.tc : Thread Cert.PrepA.nD Cert.PrepA.τ).loc Cert.PrepA.main_arg1))
      ∧ r.2.sem = fun _ => 0)

def quiescent_PrepAIdeal [hPrepAIdeal : Cert.PrepAIdeal.Facts] : Prop :=
  ∀ (m : (ℓ : Loc Cert.PrepAIdeal.nD Cert.PrepAIdeal.τ Cert.PrepAIdeal.sig) → Buf (Elt Ideal) ℓ) (g : Dev Cert.PrepAIdeal.nD → PrngReg), Pre_PrepAIdeal m →
    θ_run (Cert.PrepAIdeal.defs (F := Ideal)) (onTc (τ := Cert.PrepAIdeal.τ) (Cert.PrepAIdeal.main (F := Ideal))) ⟨m, fun _ => 0, g⟩ (fun r => (∀ c : Dev Cert.PrepAIdeal.nD,
      r.2.mem ((c.tc : Thread Cert.PrepAIdeal.nD Cert.PrepAIdeal.τ).loc Cert.PrepAIdeal.main_arg0) = m ((c.tc : Thread Cert.PrepAIdeal.nD Cert.PrepAIdeal.τ).loc Cert.PrepAIdeal.main_arg0)
      ∧ r.2.mem ((c.tc : Thread Cert.PrepAIdeal.nD Cert.PrepAIdeal.τ).loc Cert.PrepAIdeal.main_arg1) = m ((c.tc : Thread Cert.PrepAIdeal.nD Cert.PrepAIdeal.τ).loc Cert.PrepAIdeal.main_arg1))
      ∧ r.2.sem = fun _ => 0)

def quiescent_PrepARefIdeal [hPrepARefIdeal : Cert.PrepARefIdeal.Facts] : Prop :=
  ∀ (m : (ℓ : Loc Cert.PrepARefIdeal.nD Cert.PrepARefIdeal.τ Cert.PrepARefIdeal.sig) → Buf (Elt Ideal) ℓ) (g : Dev Cert.PrepARefIdeal.nD → PrngReg), Pre_PrepARefIdeal m →
    θ_run (Cert.PrepARefIdeal.defs (F := Ideal)) (onTc (τ := Cert.PrepARefIdeal.τ) (Cert.PrepARefIdeal.main (F := Ideal))) ⟨m, fun _ => 0, g⟩ (fun r => (∀ c : Dev Cert.PrepARefIdeal.nD,
      r.2.mem ((c.tc : Thread Cert.PrepARefIdeal.nD Cert.PrepARefIdeal.τ).loc Cert.PrepARefIdeal.main_arg0) = m ((c.tc : Thread Cert.PrepARefIdeal.nD Cert.PrepARefIdeal.τ).loc Cert.PrepARefIdeal.main_arg0)
      ∧ r.2.mem ((c.tc : Thread Cert.PrepARefIdeal.nD Cert.PrepARefIdeal.τ).loc Cert.PrepARefIdeal.main_arg1) = m ((c.tc : Thread Cert.PrepARefIdeal.nD Cert.PrepARefIdeal.τ).loc Cert.PrepARefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_PrepABwd [hPrepABwd : Cert.PrepABwd.Facts] : Prop :=
  ∀ (m : (ℓ : Loc Cert.PrepABwd.nD Cert.PrepABwd.τ Cert.PrepABwd.sig) → Buf (Elt Bits) ℓ) (g : Dev Cert.PrepABwd.nD → PrngReg), Pre_PrepABwd m →
    θ_run (Cert.PrepABwd.defs (F := Bits)) (onTc (τ := Cert.PrepABwd.τ) (Cert.PrepABwd.main (F := Bits))) ⟨m, fun _ => 0, g⟩ (fun r => (∀ c : Dev Cert.PrepABwd.nD,
      r.2.mem ((c.tc : Thread Cert.PrepABwd.nD Cert.PrepABwd.τ).loc Cert.PrepABwd.main_arg0) = m ((c.tc : Thread Cert.PrepABwd.nD Cert.PrepABwd.τ).loc Cert.PrepABwd.main_arg0)
      ∧ r.2.mem ((c.tc : Thread Cert.PrepABwd.nD Cert.PrepABwd.τ).loc Cert.PrepABwd.main_arg1) = m ((c.tc : Thread Cert.PrepABwd.nD Cert.PrepABwd.τ).loc Cert.PrepABwd.main_arg1)
      ∧ r.2.mem ((c.tc : Thread Cert.PrepABwd.nD Cert.PrepABwd.τ).loc Cert.PrepABwd.main_arg2) = m ((c.tc : Thread Cert.PrepABwd.nD Cert.PrepABwd.τ).loc Cert.PrepABwd.main_arg2)
      ∧ r.2.mem ((c.tc : Thread Cert.PrepABwd.nD Cert.PrepABwd.τ).loc Cert.PrepABwd.main_arg3) = m ((c.tc : Thread Cert.PrepABwd.nD Cert.PrepABwd.τ).loc Cert.PrepABwd.main_arg3))
      ∧ r.2.sem = fun _ => 0)

def quiescent_PrepABwdIdeal [hPrepABwdIdeal : Cert.PrepABwdIdeal.Facts] : Prop :=
  ∀ (m : (ℓ : Loc Cert.PrepABwdIdeal.nD Cert.PrepABwdIdeal.τ Cert.PrepABwdIdeal.sig) → Buf (Elt Ideal) ℓ) (g : Dev Cert.PrepABwdIdeal.nD → PrngReg), Pre_PrepABwdIdeal m →
    θ_run (Cert.PrepABwdIdeal.defs (F := Ideal)) (onTc (τ := Cert.PrepABwdIdeal.τ) (Cert.PrepABwdIdeal.main (F := Ideal))) ⟨m, fun _ => 0, g⟩ (fun r => (∀ c : Dev Cert.PrepABwdIdeal.nD,
      r.2.mem ((c.tc : Thread Cert.PrepABwdIdeal.nD Cert.PrepABwdIdeal.τ).loc Cert.PrepABwdIdeal.main_arg0) = m ((c.tc : Thread Cert.PrepABwdIdeal.nD Cert.PrepABwdIdeal.τ).loc Cert.PrepABwdIdeal.main_arg0)
      ∧ r.2.mem ((c.tc : Thread Cert.PrepABwdIdeal.nD Cert.PrepABwdIdeal.τ).loc Cert.PrepABwdIdeal.main_arg1) = m ((c.tc : Thread Cert.PrepABwdIdeal.nD Cert.PrepABwdIdeal.τ).loc Cert.PrepABwdIdeal.main_arg1)
      ∧ r.2.mem ((c.tc : Thread Cert.PrepABwdIdeal.nD Cert.PrepABwdIdeal.τ).loc Cert.PrepABwdIdeal.main_arg2) = m ((c.tc : Thread Cert.PrepABwdIdeal.nD Cert.PrepABwdIdeal.τ).loc Cert.PrepABwdIdeal.main_arg2)
      ∧ r.2.mem ((c.tc : Thread Cert.PrepABwdIdeal.nD Cert.PrepABwdIdeal.τ).loc Cert.PrepABwdIdeal.main_arg3) = m ((c.tc : Thread Cert.PrepABwdIdeal.nD Cert.PrepABwdIdeal.τ).loc Cert.PrepABwdIdeal.main_arg3))
      ∧ r.2.sem = fun _ => 0)

def quiescent_PrepABwdRefIdeal [hPrepABwdRefIdeal : Cert.PrepABwdRefIdeal.Facts] : Prop :=
  ∀ (m : (ℓ : Loc Cert.PrepABwdRefIdeal.nD Cert.PrepABwdRefIdeal.τ Cert.PrepABwdRefIdeal.sig) → Buf (Elt Ideal) ℓ) (g : Dev Cert.PrepABwdRefIdeal.nD → PrngReg), Pre_PrepABwdRefIdeal m →
    θ_run (Cert.PrepABwdRefIdeal.defs (F := Ideal)) (onTc (τ := Cert.PrepABwdRefIdeal.τ) (Cert.PrepABwdRefIdeal.main (F := Ideal))) ⟨m, fun _ => 0, g⟩ (fun r => (∀ c : Dev Cert.PrepABwdRefIdeal.nD,
      r.2.mem ((c.tc : Thread Cert.PrepABwdRefIdeal.nD Cert.PrepABwdRefIdeal.τ).loc Cert.PrepABwdRefIdeal.main_arg0) = m ((c.tc : Thread Cert.PrepABwdRefIdeal.nD Cert.PrepABwdRefIdeal.τ).loc Cert.PrepABwdRefIdeal.main_arg0)
      ∧ r.2.mem ((c.tc : Thread Cert.PrepABwdRefIdeal.nD Cert.PrepABwdRefIdeal.τ).loc Cert.PrepABwdRefIdeal.main_arg1) = m ((c.tc : Thread Cert.PrepABwdRefIdeal.nD Cert.PrepABwdRefIdeal.τ).loc Cert.PrepABwdRefIdeal.main_arg1)
      ∧ r.2.mem ((c.tc : Thread Cert.PrepABwdRefIdeal.nD Cert.PrepABwdRefIdeal.τ).loc Cert.PrepABwdRefIdeal.main_arg2) = m ((c.tc : Thread Cert.PrepABwdRefIdeal.nD Cert.PrepABwdRefIdeal.τ).loc Cert.PrepABwdRefIdeal.main_arg2)
      ∧ r.2.mem ((c.tc : Thread Cert.PrepABwdRefIdeal.nD Cert.PrepABwdRefIdeal.τ).loc Cert.PrepABwdRefIdeal.main_arg3) = m ((c.tc : Thread Cert.PrepABwdRefIdeal.nD Cert.PrepABwdRefIdeal.τ).loc Cert.PrepABwdRefIdeal.main_arg3))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_AdamwAda [hAdamwAda : Cert.AdamwAda.Facts] : Prop :=
  ∀ (m : (ℓ : Loc Cert.AdamwAda.nD Cert.AdamwAda.τ Cert.AdamwAda.sig) → Buf (Elt Bits) ℓ) (g : Dev Cert.AdamwAda.nD → PrngReg), Pre_AdamwAda m →
    θ_run (Cert.AdamwAda.defs (F := Bits)) (onTc (τ := Cert.AdamwAda.τ) (Cert.AdamwAda.main (F := Bits))) ⟨m, fun _ => 0, g⟩ (fun r => (∀ c : Dev Cert.AdamwAda.nD,
      r.2.mem ((c.tc : Thread Cert.AdamwAda.nD Cert.AdamwAda.τ).loc Cert.AdamwAda.main_arg0) = m ((c.tc : Thread Cert.AdamwAda.nD Cert.AdamwAda.τ).loc Cert.AdamwAda.main_arg0)
      ∧ r.2.mem ((c.tc : Thread Cert.AdamwAda.nD Cert.AdamwAda.τ).loc Cert.AdamwAda.main_arg1) = m ((c.tc : Thread Cert.AdamwAda.nD Cert.AdamwAda.τ).loc Cert.AdamwAda.main_arg1)
      ∧ r.2.mem ((c.tc : Thread Cert.AdamwAda.nD Cert.AdamwAda.τ).loc Cert.AdamwAda.main_arg2) = m ((c.tc : Thread Cert.AdamwAda.nD Cert.AdamwAda.τ).loc Cert.AdamwAda.main_arg2)
      ∧ r.2.mem ((c.tc : Thread Cert.AdamwAda.nD Cert.AdamwAda.τ).loc Cert.AdamwAda.main_arg3) = m ((c.tc : Thread Cert.AdamwAda.nD Cert.AdamwAda.τ).loc Cert.AdamwAda.main_arg3))
      ∧ r.2.sem = fun _ => 0)

def quiescent_AdamwAdaIdeal [hAdamwAdaIdeal : Cert.AdamwAdaIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg), Pre_AdamwAdaIdeal m →
    θ_run (Cert.AdamwAdaIdeal.defs (F := Ideal)) (onTc (τ := Cert.AdamwAdaIdeal.τ) (Cert.AdamwAdaIdeal.main (F := Ideal))) ⟨m, fun _ => 0, g⟩ (fun r => (∀ c : Dev Cert.AdamwAdaIdeal.nD,
      r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
      ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
      ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
      ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3))
      ∧ r.2.sem = fun _ => 0)

def quiescent_AdamwAdaRefIdeal [hAdamwAdaRefIdeal : Cert.AdamwAdaRefIdeal.Facts] : Prop :=
  ∀ (m : (ℓ : Loc Cert.AdamwAdaRefIdeal.nD Cert.AdamwAdaRefIdeal.τ Cert.AdamwAdaRefIdeal.sig) → Buf (Elt Ideal) ℓ) (g : Dev Cert.AdamwAdaRefIdeal.nD → PrngReg), Pre_AdamwAdaRefIdeal m →
    θ_run (Cert.AdamwAdaRefIdeal.defs (F := Ideal)) (onTc (τ := Cert.AdamwAdaRefIdeal.τ) (Cert.AdamwAdaRefIdeal.main (F := Ideal))) ⟨m, fun _ => 0, g⟩ (fun r => (∀ c : Dev Cert.AdamwAdaRefIdeal.nD,
      r.2.mem ((c.tc : Thread Cert.AdamwAdaRefIdeal.nD Cert.AdamwAdaRefIdeal.τ).loc Cert.AdamwAdaRefIdeal.main_arg0) = m ((c.tc : Thread Cert.AdamwAdaRefIdeal.nD Cert.AdamwAdaRefIdeal.τ).loc Cert.AdamwAdaRefIdeal.main_arg0)
      ∧ r.2.mem ((c.tc : Thread Cert.AdamwAdaRefIdeal.nD Cert.AdamwAdaRefIdeal.τ).loc Cert.AdamwAdaRefIdeal.main_arg1) = m ((c.tc : Thread Cert.AdamwAdaRefIdeal.nD Cert.AdamwAdaRefIdeal.τ).loc Cert.AdamwAdaRefIdeal.main_arg1)
      ∧ r.2.mem ((c.tc : Thread Cert.AdamwAdaRefIdeal.nD Cert.AdamwAdaRefIdeal.τ).loc Cert.AdamwAdaRefIdeal.main_arg2) = m ((c.tc : Thread Cert.AdamwAdaRefIdeal.nD Cert.AdamwAdaRefIdeal.τ).loc Cert.AdamwAdaRefIdeal.main_arg2)
      ∧ r.2.mem ((c.tc : Thread Cert.AdamwAdaRefIdeal.nD Cert.AdamwAdaRefIdeal.τ).loc Cert.AdamwAdaRefIdeal.main_arg3) = m ((c.tc : Thread Cert.AdamwAdaRefIdeal.nD Cert.AdamwAdaRefIdeal.τ).loc Cert.AdamwAdaRefIdeal.main_arg3))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_AdamwUpRefIdeal [hAdamwUpRefIdeal : Cert.AdamwUpRefIdeal.Facts] : Prop :=
  ∀ (m : (ℓ : Loc Cert.AdamwUpRefIdeal.nD Cert.AdamwUpRefIdeal.τ Cert.AdamwUpRefIdeal.sig) → Buf (Elt Ideal) ℓ) (g : Dev Cert.AdamwUpRefIdeal.nD → PrngReg), Pre_AdamwUpRefIdeal m →
    θ_run (Cert.AdamwUpRefIdeal.defs (F := Ideal)) (onTc (τ := Cert.AdamwUpRefIdeal.τ) (Cert.AdamwUpRefIdeal.main (F := Ideal))) ⟨m, fun _ => 0, g⟩ (fun r => (∀ c : Dev Cert.AdamwUpRefIdeal.nD,
      r.2.mem ((c.tc : Thread Cert.AdamwUpRefIdeal.nD Cert.AdamwUpRefIdeal.τ).loc Cert.AdamwUpRefIdeal.main_arg0) = m ((c.tc : Thread Cert.AdamwUpRefIdeal.nD Cert.AdamwUpRefIdeal.τ).loc Cert.AdamwUpRefIdeal.main_arg0)
      ∧ r.2.mem ((c.tc : Thread Cert.AdamwUpRefIdeal.nD Cert.AdamwUpRefIdeal.τ).loc Cert.AdamwUpRefIdeal.main_arg1) = m ((c.tc : Thread Cert.AdamwUpRefIdeal.nD Cert.AdamwUpRefIdeal.τ).loc Cert.AdamwUpRefIdeal.main_arg1)
      ∧ r.2.mem ((c.tc : Thread Cert.AdamwUpRefIdeal.nD Cert.AdamwUpRefIdeal.τ).loc Cert.AdamwUpRefIdeal.main_arg2) = m ((c.tc : Thread Cert.AdamwUpRefIdeal.nD Cert.AdamwUpRefIdeal.τ).loc Cert.AdamwUpRefIdeal.main_arg2)
      ∧ r.2.mem ((c.tc : Thread Cert.AdamwUpRefIdeal.nD Cert.AdamwUpRefIdeal.τ).loc Cert.AdamwUpRefIdeal.main_arg3) = m ((c.tc : Thread Cert.AdamwUpRefIdeal.nD Cert.AdamwUpRefIdeal.τ).loc Cert.AdamwUpRefIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownRefIdeal [hAdamwDownRefIdeal : Cert.AdamwDownRefIdeal.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwA [hAdamwA : Cert.AdamwA.Facts] : Prop :=
  ∀ (m : (ℓ : Loc Cert.AdamwA.nD Cert.AdamwA.τ Cert.AdamwA.sig) → Buf (Elt Bits) ℓ) (g : Dev Cert.AdamwA.nD → PrngReg), Pre_AdamwA m →
    θ_run (Cert.AdamwA.defs (F := Bits)) (onTc (τ := Cert.AdamwA.τ) (Cert.AdamwA.main (F := Bits))) ⟨m, fun _ => 0, g⟩ (fun r => (∀ c : Dev Cert.AdamwA.nD,
      r.2.mem ((c.tc : Thread Cert.AdamwA.nD Cert.AdamwA.τ).loc Cert.AdamwA.main_arg0) = m ((c.tc : Thread Cert.AdamwA.nD Cert.AdamwA.τ).loc Cert.AdamwA.main_arg0)
      ∧ r.2.mem ((c.tc : Thread Cert.AdamwA.nD Cert.AdamwA.τ).loc Cert.AdamwA.main_arg1) = m ((c.tc : Thread Cert.AdamwA.nD Cert.AdamwA.τ).loc Cert.AdamwA.main_arg1)
      ∧ r.2.mem ((c.tc : Thread Cert.AdamwA.nD Cert.AdamwA.τ).loc Cert.AdamwA.main_arg2) = m ((c.tc : Thread Cert.AdamwA.nD Cert.AdamwA.τ).loc Cert.AdamwA.main_arg2)
      ∧ r.2.mem ((c.tc : Thread Cert.AdamwA.nD Cert.AdamwA.τ).loc Cert.AdamwA.main_arg3) = m ((c.tc : Thread Cert.AdamwA.nD Cert.AdamwA.τ).loc Cert.AdamwA.main_arg3))
      ∧ r.2.sem = fun _ => 0)

def quiescent_AdamwAIdeal [hAdamwAIdeal : Cert.AdamwAIdeal.Facts] : Prop :=
  ∀ (m : (ℓ : Loc Cert.AdamwAIdeal.nD Cert.AdamwAIdeal.τ Cert.AdamwAIdeal.sig) → Buf (Elt Ideal) ℓ) (g : Dev Cert.AdamwAIdeal.nD → PrngReg), Pre_AdamwAIdeal m →
    θ_run (Cert.AdamwAIdeal.defs (F := Ideal)) (onTc (τ := Cert.AdamwAIdeal.τ) (Cert.AdamwAIdeal.main (F := Ideal))) ⟨m, fun _ => 0, g⟩ (fun r => (∀ c : Dev Cert.AdamwAIdeal.nD,
      r.2.mem ((c.tc : Thread Cert.AdamwAIdeal.nD Cert.AdamwAIdeal.τ).loc Cert.AdamwAIdeal.main_arg0) = m ((c.tc : Thread Cert.AdamwAIdeal.nD Cert.AdamwAIdeal.τ).loc Cert.AdamwAIdeal.main_arg0)
      ∧ r.2.mem ((c.tc : Thread Cert.AdamwAIdeal.nD Cert.AdamwAIdeal.τ).loc Cert.AdamwAIdeal.main_arg1) = m ((c.tc : Thread Cert.AdamwAIdeal.nD Cert.AdamwAIdeal.τ).loc Cert.AdamwAIdeal.main_arg1)
      ∧ r.2.mem ((c.tc : Thread Cert.AdamwAIdeal.nD Cert.AdamwAIdeal.τ).loc Cert.AdamwAIdeal.main_arg2) = m ((c.tc : Thread Cert.AdamwAIdeal.nD Cert.AdamwAIdeal.τ).loc Cert.AdamwAIdeal.main_arg2)
      ∧ r.2.mem ((c.tc : Thread Cert.AdamwAIdeal.nD Cert.AdamwAIdeal.τ).loc Cert.AdamwAIdeal.main_arg3) = m ((c.tc : Thread Cert.AdamwAIdeal.nD Cert.AdamwAIdeal.τ).loc Cert.AdamwAIdeal.main_arg3))
      ∧ r.2.sem = fun _ => 0)

def quiescent_AdamwARefIdeal [hAdamwARefIdeal : Cert.AdamwARefIdeal.Facts] : Prop :=
  ∀ (m : (ℓ : Loc Cert.AdamwARefIdeal.nD Cert.AdamwARefIdeal.τ Cert.AdamwARefIdeal.sig) → Buf (Elt Ideal) ℓ) (g : Dev Cert.AdamwARefIdeal.nD → PrngReg), Pre_AdamwARefIdeal m →
    θ_run (Cert.AdamwARefIdeal.defs (F := Ideal)) (onTc (τ := Cert.AdamwARefIdeal.τ) (Cert.AdamwARefIdeal.main (F := Ideal))) ⟨m, fun _ => 0, g⟩ (fun r => (∀ c : Dev Cert.AdamwARefIdeal.nD,
      r.2.mem ((c.tc : Thread Cert.AdamwARefIdeal.nD Cert.AdamwARefIdeal.τ).loc Cert.AdamwARefIdeal.main_arg0) = m ((c.tc : Thread Cert.AdamwARefIdeal.nD Cert.AdamwARefIdeal.τ).loc Cert.AdamwARefIdeal.main_arg0)
      ∧ r.2.mem ((c.tc : Thread Cert.AdamwARefIdeal.nD Cert.AdamwARefIdeal.τ).loc Cert.AdamwARefIdeal.main_arg1) = m ((c.tc : Thread Cert.AdamwARefIdeal.nD Cert.AdamwARefIdeal.τ).loc Cert.AdamwARefIdeal.main_arg1)
      ∧ r.2.mem ((c.tc : Thread Cert.AdamwARefIdeal.nD Cert.AdamwARefIdeal.τ).loc Cert.AdamwARefIdeal.main_arg2) = m ((c.tc : Thread Cert.AdamwARefIdeal.nD Cert.AdamwARefIdeal.τ).loc Cert.AdamwARefIdeal.main_arg2)
      ∧ r.2.mem ((c.tc : Thread Cert.AdamwARefIdeal.nD Cert.AdamwARefIdeal.τ).loc Cert.AdamwARefIdeal.main_arg3) = m ((c.tc : Thread Cert.AdamwARefIdeal.nD Cert.AdamwARefIdeal.τ).loc Cert.AdamwARefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v2)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v2) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v4) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_GwUp_GwUpIdeal : Prop :=
  True

def algebraic_GwUpIdeal_GwUpRefIdeal [hGwUpIdeal : Cert.GwUpIdeal.Facts] [hGwUpRefIdeal : Cert.GwUpRefIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRefIdeal.nD Cert.GwUpRefIdeal.τ Cert.GwUpRefIdeal.sig) → Buf (Elt Ideal) ℓ) (g' : Dev Cert.GwUpRefIdeal.nD → PrngReg), Pre_GwUpIdeal m →
    (∀ c : Dev Cert.GwUpIdeal.nD,
      m' ((c.tc : Thread Cert.GwUpRefIdeal.nD Cert.GwUpRefIdeal.τ).loc Cert.GwUpRefIdeal.main_arg0) = m ((c.tc : Thread Cert.GwUpIdeal.nD Cert.GwUpIdeal.τ).loc Cert.GwUpIdeal.main_arg0)
      ∧ m' ((c.tc : Thread Cert.GwUpRefIdeal.nD Cert.GwUpRefIdeal.τ).loc Cert.GwUpRefIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v2)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v2) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRefIdeal.defs (F := Ideal)) (onTc (τ := Cert.GwUpRefIdeal.τ) (Cert.GwUpRefIdeal.main (F := Ideal))) ⟨m', fun _ => 0, g'⟩ (fun r => ∀ c : Dev Cert.GwUpRefIdeal.nD,
          r.2.mem ((c.tc : Thread Cert.GwUpRefIdeal.nD Cert.GwUpRefIdeal.τ).loc Cert.GwUpRefIdeal.main_v13) = v0 c
          ∧ r.2.mem ((c.tc : Thread Cert.GwUpRefIdeal.nD Cert.GwUpRefIdeal.τ).loc Cert.GwUpRefIdeal.main_arg0) = m' ((c.tc : Thread Cert.GwUpRefIdeal.nD Cert.GwUpRefIdeal.τ).loc Cert.GwUpRefIdeal.main_arg0)
          ∧ r.2.mem ((c.tc : Thread Cert.GwUpRefIdeal.nD Cert.GwUpRefIdeal.τ).loc Cert.GwUpRefIdeal.main_arg1) = m' ((c.tc : Thread Cert.GwUpRefIdeal.nD Cert.GwUpRefIdeal.τ).loc Cert.GwUpRefIdeal.main_arg1))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)) →
    ∃ (v0 : (c : Dev Cert.DuIdeal.nD) → Buf (Elt Ideal) ((c.tc : Thread Cert.DuIdeal.nD Cert.DuIdeal.τ).loc Cert.DuIdeal.main_v2)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v2) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v11) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v2)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v2) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v4) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_MixDu_MixDuIdeal : Prop :=
  True

def algebraic_MixDuIdeal_MixDuRefIdeal [hMixDuIdeal : Cert.MixDuIdeal.Facts] [hMixDuRefIdeal : Cert.MixDuRefIdeal.Facts] : Prop :=
  ∀ (m : (ℓ : Loc Cert.MixDuIdeal.nD Cert.MixDuIdeal.τ Cert.MixDuIdeal.sig) → Buf (Elt Ideal) ℓ) (g : Dev Cert.MixDuIdeal.nD → PrngReg)
    (m' : (ℓ : Loc Cert.MixDuRefIdeal.nD Cert.MixDuRefIdeal.τ Cert.MixDuRefIdeal.sig) → Buf (Elt Ideal) ℓ) (g' : Dev Cert.MixDuRefIdeal.nD → PrngReg), Pre_MixDuIdeal m →
    (∀ c : Dev Cert.MixDuIdeal.nD,
      m' ((c.tc : Thread Cert.MixDuRefIdeal.nD Cert.MixDuRefIdeal.τ).loc Cert.MixDuRefIdeal.main_arg0) = m ((c.tc : Thread Cert.MixDuIdeal.nD Cert.MixDuIdeal.τ).loc Cert.MixDuIdeal.main_arg0)
      ∧ m' ((c.tc : Thread Cert.MixDuRefIdeal.nD Cert.MixDuRefIdeal.τ).loc Cert.MixDuRefIdeal.main_arg1) = m ((c.tc : Thread Cert.MixDuIdeal.nD Cert.MixDuIdeal.τ).loc Cert.MixDuIdeal.main_arg1)) →
    ∃ (v0 : (c : Dev Cert.MixDuIdeal.nD) → Buf (Elt Ideal) ((c.tc : Thread Cert.MixDuIdeal.nD Cert.MixDuIdeal.τ).loc Cert.MixDuIdeal.main_v2)),
      θ_run (Cert.MixDuIdeal.defs (F := Ideal)) (onTc (τ := Cert.MixDuIdeal.τ) (Cert.MixDuIdeal.main (F := Ideal))) ⟨m, fun _ => 0, g⟩ (fun r => ∀ c : Dev Cert.MixDuIdeal.nD,
          r.2.mem ((c.tc : Thread Cert.MixDuIdeal.nD Cert.MixDuIdeal.τ).loc Cert.MixDuIdeal.main_v2) = v0 c
          ∧ r.2.mem ((c.tc : Thread Cert.MixDuIdeal.nD Cert.MixDuIdeal.τ).loc Cert.MixDuIdeal.main_arg0) = m ((c.tc : Thread Cert.MixDuIdeal.nD Cert.MixDuIdeal.τ).loc Cert.MixDuIdeal.main_arg0)
          ∧ r.2.mem ((c.tc : Thread Cert.MixDuIdeal.nD Cert.MixDuIdeal.τ).loc Cert.MixDuIdeal.main_arg1) = m ((c.tc : Thread Cert.MixDuIdeal.nD Cert.MixDuIdeal.τ).loc Cert.MixDuIdeal.main_arg1))
      ∧ θ_run (Cert.MixDuRefIdeal.defs (F := Ideal)) (onTc (τ := Cert.MixDuRefIdeal.τ) (Cert.MixDuRefIdeal.main (F := Ideal))) ⟨m', fun _ => 0, g'⟩ (fun r => ∀ c : Dev Cert.MixDuRefIdeal.nD,
          r.2.mem ((c.tc : Thread Cert.MixDuRefIdeal.nD Cert.MixDuRefIdeal.τ).loc Cert.MixDuRefIdeal.main_v2) = v0 c
          ∧ r.2.mem ((c.tc : Thread Cert.MixDuRefIdeal.nD Cert.MixDuRefIdeal.τ).loc Cert.MixDuRefIdeal.main_arg0) = m' ((c.tc : Thread Cert.MixDuRefIdeal.nD Cert.MixDuRefIdeal.τ).loc Cert.MixDuRefIdeal.main_arg0)
          ∧ r.2.mem ((c.tc : Thread Cert.MixDuRefIdeal.nD Cert.MixDuRefIdeal.τ).loc Cert.MixDuRefIdeal.main_arg1) = m' ((c.tc : Thread Cert.MixDuRefIdeal.nD Cert.MixDuRefIdeal.τ).loc Cert.MixDuRefIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] [hPre_finite : Cert.Pre_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v4)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v4) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v11) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v2)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v2) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v4) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_GwA_GwAIdeal : Prop :=
  True

def algebraic_GwAIdeal_GwARefIdeal [hGwAIdeal : Cert.GwAIdeal.Facts] [hGwARefIdeal : Cert.GwARefIdeal.Facts] : Prop :=
  ∀ (m : (ℓ : Loc Cert.GwAIdeal.nD Cert.GwAIdeal.τ Cert.GwAIdeal.sig) → Buf (Elt Ideal) ℓ) (g : Dev Cert.GwAIdeal.nD → PrngReg)
    (m' : (ℓ : Loc Cert.GwARefIdeal.nD Cert.GwARefIdeal.τ Cert.GwARefIdeal.sig) → Buf (Elt Ideal) ℓ) (g' : Dev Cert.GwARefIdeal.nD → PrngReg), Pre_GwAIdeal m →
    (∀ c : Dev Cert.GwAIdeal.nD,
      m' ((c.tc : Thread Cert.GwARefIdeal.nD Cert.GwARefIdeal.τ).loc Cert.GwARefIdeal.main_arg0) = m ((c.tc : Thread Cert.GwAIdeal.nD Cert.GwAIdeal.τ).loc Cert.GwAIdeal.main_arg0)
      ∧ m' ((c.tc : Thread Cert.GwARefIdeal.nD Cert.GwARefIdeal.τ).loc Cert.GwARefIdeal.main_arg1) = m ((c.tc : Thread Cert.GwAIdeal.nD Cert.GwAIdeal.τ).loc Cert.GwAIdeal.main_arg1)) →
    ∃ (v0 : (c : Dev Cert.GwAIdeal.nD) → Buf (Elt Ideal) ((c.tc : Thread Cert.GwAIdeal.nD Cert.GwAIdeal.τ).loc Cert.GwAIdeal.main_v2)),
      θ_run (Cert.GwAIdeal.defs (F := Ideal)) (onTc (τ := Cert.GwAIdeal.τ) (Cert.GwAIdeal.main (F := Ideal))) ⟨m, fun _ => 0, g⟩ (fun r => ∀ c : Dev Cert.GwAIdeal.nD,
          r.2.mem ((c.tc : Thread Cert.GwAIdeal.nD Cert.GwAIdeal.τ).loc Cert.GwAIdeal.main_v2) = v0 c
          ∧ r.2.mem ((c.tc : Thread Cert.GwAIdeal.nD Cert.GwAIdeal.τ).loc Cert.GwAIdeal.main_arg0) = m ((c.tc : Thread Cert.GwAIdeal.nD Cert.GwAIdeal.τ).loc Cert.GwAIdeal.main_arg0)
          ∧ r.2.mem ((c.tc : Thread Cert.GwAIdeal.nD Cert.GwAIdeal.τ).loc Cert.GwAIdeal.main_arg1) = m ((c.tc : Thread Cert.GwAIdeal.nD Cert.GwAIdeal.τ).loc Cert.GwAIdeal.main_arg1))
      ∧ θ_run (Cert.GwARefIdeal.defs (F := Ideal)) (onTc (τ := Cert.GwARefIdeal.τ) (Cert.GwARefIdeal.main (F := Ideal))) ⟨m', fun _ => 0, g'⟩ (fun r => ∀ c : Dev Cert.GwARefIdeal.nD,
          r.2.mem ((c.tc : Thread Cert.GwARefIdeal.nD Cert.GwARefIdeal.τ).loc Cert.GwARefIdeal.main_v13) = v0 c
          ∧ r.2.mem ((c.tc : Thread Cert.GwARefIdeal.nD Cert.GwARefIdeal.τ).loc Cert.GwARefIdeal.main_arg0) = m' ((c.tc : Thread Cert.GwARefIdeal.nD Cert.GwARefIdeal.τ).loc Cert.GwARefIdeal.main_arg0)
          ∧ r.2.mem ((c.tc : Thread Cert.GwARefIdeal.nD Cert.GwARefIdeal.τ).loc Cert.GwARefIdeal.main_arg1) = m' ((c.tc : Thread Cert.GwARefIdeal.nD Cert.GwARefIdeal.τ).loc Cert.GwARefIdeal.main_arg1))

def preserves_Dmg_DmgIdeal : Prop :=
  True

def algebraic_DmgIdeal_DmgRefIdeal [hDmgIdeal : Cert.DmgIdeal.Facts] [hDmgRefIdeal : Cert.DmgRefIdeal.Facts] : Prop :=
  ∀ (m : (ℓ : Loc Cert.DmgIdeal.nD Cert.DmgIdeal.τ Cert.DmgIdeal.sig) → Buf (Elt Ideal) ℓ) (g : Dev Cert.DmgIdeal.nD → PrngReg)
    (m' : (ℓ : Loc Cert.DmgRefIdeal.nD Cert.DmgRefIdeal.τ Cert.DmgRefIdeal.sig) → Buf (Elt Ideal) ℓ) (g' : Dev Cert.DmgRefIdeal.nD → PrngReg), Pre_DmgIdeal m →
    (∀ c : Dev Cert.DmgIdeal.nD,
      m' ((c.tc : Thread Cert.DmgRefIdeal.nD Cert.DmgRefIdeal.τ).loc Cert.DmgRefIdeal.main_arg0) = m ((c.tc : Thread Cert.DmgIdeal.nD Cert.DmgIdeal.τ).loc Cert.DmgIdeal.main_arg0)
      ∧ m' ((c.tc : Thread Cert.DmgRefIdeal.nD Cert.DmgRefIdeal.τ).loc Cert.DmgRefIdeal.main_arg1) = m ((c.tc : Thread Cert.DmgIdeal.nD Cert.DmgIdeal.τ).loc Cert.DmgIdeal.main_arg1)) →
    ∃ (v0 : (c : Dev Cert.DmgIdeal.nD) → Buf (Elt Ideal) ((c.tc : Thread Cert.DmgIdeal.nD Cert.DmgIdeal.τ).loc Cert.DmgIdeal.main_v2)),
      θ_run (Cert.DmgIdeal.defs (F := Ideal)) (onTc (τ := Cert.DmgIdeal.τ) (Cert.DmgIdeal.main (F := Ideal))) ⟨m, fun _ => 0, g⟩ (fun r => ∀ c : Dev Cert.DmgIdeal.nD,
          r.2.mem ((c.tc : Thread Cert.DmgIdeal.nD Cert.DmgIdeal.τ).loc Cert.DmgIdeal.main_v2) = v0 c
          ∧ r.2.mem ((c.tc : Thread Cert.DmgIdeal.nD Cert.DmgIdeal.τ).loc Cert.DmgIdeal.main_arg0) = m ((c.tc : Thread Cert.DmgIdeal.nD Cert.DmgIdeal.τ).loc Cert.DmgIdeal.main_arg0)
          ∧ r.2.mem ((c.tc : Thread Cert.DmgIdeal.nD Cert.DmgIdeal.τ).loc Cert.DmgIdeal.main_arg1) = m ((c.tc : Thread Cert.DmgIdeal.nD Cert.DmgIdeal.τ).loc Cert.DmgIdeal.main_arg1))
      ∧ θ_run (Cert.DmgRefIdeal.defs (F := Ideal)) (onTc (τ := Cert.DmgRefIdeal.τ) (Cert.DmgRefIdeal.main (F := Ideal))) ⟨m', fun _ => 0, g'⟩ (fun r => ∀ c : Dev Cert.DmgRefIdeal.nD,
          r.2.mem ((c.tc : Thread Cert.DmgRefIdeal.nD Cert.DmgRefIdeal.τ).loc Cert.DmgRefIdeal.main_v2) = v0 c
          ∧ r.2.mem ((c.tc : Thread Cert.DmgRefIdeal.nD Cert.DmgRefIdeal.τ).loc Cert.DmgRefIdeal.main_arg0) = m' ((c.tc : Thread Cert.DmgRefIdeal.nD Cert.DmgRefIdeal.τ).loc Cert.DmgRefIdeal.main_arg0)
          ∧ r.2.mem ((c.tc : Thread Cert.DmgRefIdeal.nD Cert.DmgRefIdeal.τ).loc Cert.DmgRefIdeal.main_arg1) = m' ((c.tc : Thread Cert.DmgRefIdeal.nD Cert.DmgRefIdeal.τ).loc Cert.DmgRefIdeal.main_arg1))

def preserves_Dya_DyaIdeal : Prop :=
  True

def algebraic_DyaIdeal_DyaRefIdeal [hDyaIdeal : Cert.DyaIdeal.Facts] [hDyaRefIdeal : Cert.DyaRefIdeal.Facts] : Prop :=
  ∀ (m : (ℓ : Loc Cert.DyaIdeal.nD Cert.DyaIdeal.τ Cert.DyaIdeal.sig) → Buf (Elt Ideal) ℓ) (g : Dev Cert.DyaIdeal.nD → PrngReg)
    (m' : (ℓ : Loc Cert.DyaRefIdeal.nD Cert.DyaRefIdeal.τ Cert.DyaRefIdeal.sig) → Buf (Elt Ideal) ℓ) (g' : Dev Cert.DyaRefIdeal.nD → PrngReg), Pre_DyaIdeal m →
    (∀ c : Dev Cert.DyaIdeal.nD,
      m' ((c.tc : Thread Cert.DyaRefIdeal.nD Cert.DyaRefIdeal.τ).loc Cert.DyaRefIdeal.main_arg0) = m ((c.tc : Thread Cert.DyaIdeal.nD Cert.DyaIdeal.τ).loc Cert.DyaIdeal.main_arg0)
      ∧ m' ((c.tc : Thread Cert.DyaRefIdeal.nD Cert.DyaRefIdeal.τ).loc Cert.DyaRefIdeal.main_arg1) = m ((c.tc : Thread Cert.DyaIdeal.nD Cert.DyaIdeal.τ).loc Cert.DyaIdeal.main_arg1)) →
    ∃ (v0 : (c : Dev Cert.DyaIdeal.nD) → Buf (Elt Ideal) ((c.tc : Thread Cert.DyaIdeal.nD Cert.DyaIdeal.τ).loc Cert.DyaIdeal.main_v2)),
      θ_run (Cert.DyaIdeal.defs (F := Ideal)) (onTc (τ := Cert.DyaIdeal.τ) (Cert.DyaIdeal.main (F := Ideal))) ⟨m, fun _ => 0, g⟩ (fun r => ∀ c : Dev Cert.DyaIdeal.nD,
          r.2.mem ((c.tc : Thread Cert.DyaIdeal.nD Cert.DyaIdeal.τ).loc Cert.DyaIdeal.main_v2) = v0 c
          ∧ r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
          ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ θ_run (Cert.DyaRefIdeal.defs (F := Ideal)) (onTc (τ := Cert.DyaRefIdeal.τ) (Cert.DyaRefIdeal.main (F := Ideal))) ⟨m', fun _ => 0, g'⟩ (fun r => ∀ c : Dev Cert.DyaRefIdeal.nD,
          r.2.mem ((c.tc : Thread Cert.DyaRefIdeal.nD Cert.DyaRefIdeal.τ).loc Cert.DyaRefIdeal.main_v11) = v0 c
          ∧ r.2.mem ((c.tc : Thread Cert.DyaRefIdeal.nD Cert.DyaRefIdeal.τ).loc Cert.DyaRefIdeal.main_arg0) = m' ((c.tc : Thread Cert.DyaRefIdeal.nD Cert.DyaRefIdeal.τ).loc Cert.DyaRefIdeal.main_arg0)
          ∧ r.2.mem ((c.tc : Thread Cert.DyaRefIdeal.nD Cert.DyaRefIdeal.τ).loc Cert.DyaRefIdeal.main_arg1) = m' ((c.tc : Thread Cert.DyaRefIdeal.nD Cert.DyaRefIdeal.τ).loc Cert.DyaRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v0) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)) →
    ∃ (v0 : (c : Dev Cert.AOutIdeal.nD) → Buf (Elt Ideal) ((c.tc : Thread Cert.AOutIdeal.nD Cert.AOutIdeal.τ).loc Cert.AOutIdeal.main_v2)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v2) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v9) = v0 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)) (v2 : (c : Dev Cert.UpIdeal.nD) → Buf (Elt Ideal) ((c.tc : Thread Cert.UpIdeal.nD Cert.UpIdeal.τ).loc Cert.UpIdeal.main_v2_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_v2_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v12) = v0 c
          ∧ r.2.mem ((c.tc : Thread Cert.UpRefIdeal.nD Cert.UpRefIdeal.τ).loc Cert.UpRefIdeal.main_v13) = v1 c
          ∧ r.2.mem ((c.tc : Thread Cert.UpRefIdeal.nD Cert.UpRefIdeal.τ).loc Cert.UpRefIdeal.main_v16) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v4) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_BOut_BOutIdeal : Prop :=
  True

def algebraic_BOutIdeal_BOutRefIdeal [hBOutIdeal : Cert.BOutIdeal.Facts] [hBOutRefIdeal : Cert.BOutRefIdeal.Facts] : Prop :=
  ∀ (m : (ℓ : Loc Cert.BOutIdeal.nD Cert.BOutIdeal.τ Cert.BOutIdeal.sig) → Buf (Elt Ideal) ℓ) (g : Dev Cert.BOutIdeal.nD → PrngReg)
    (m' : (ℓ : Loc Cert.BOutRefIdeal.nD Cert.BOutRefIdeal.τ Cert.BOutRefIdeal.sig) → Buf (Elt Ideal) ℓ) (g' : Dev Cert.BOutRefIdeal.nD → PrngReg), Pre_BOutIdeal m →
    (∀ c : Dev Cert.BOutIdeal.nD,
      m' ((c.tc : Thread Cert.BOutRefIdeal.nD Cert.BOutRefIdeal.τ).loc Cert.BOutRefIdeal.main_arg0) = m ((c.tc : Thread Cert.BOutIdeal.nD Cert.BOutIdeal.τ).loc Cert.BOutIdeal.main_arg0)
      ∧ m' ((c.tc : Thread Cert.BOutRefIdeal.nD Cert.BOutRefIdeal.τ).loc Cert.BOutRefIdeal.main_arg1) = m ((c.tc : Thread Cert.BOutIdeal.nD Cert.BOutIdeal.τ).loc Cert.BOutIdeal.main_arg1)
      ∧ m' ((c.tc : Thread Cert.BOutRefIdeal.nD Cert.BOutRefIdeal.τ).loc Cert.BOutRefIdeal.main_arg2) = m ((c.tc : Thread Cert.BOutIdeal.nD Cert.BOutIdeal.τ).loc Cert.BOutIdeal.main_arg2)
      ∧ m' ((c.tc : Thread Cert.BOutRefIdeal.nD Cert.BOutRefIdeal.τ).loc Cert.BOutRefIdeal.main_arg3) = m ((c.tc : Thread Cert.BOutIdeal.nD Cert.BOutIdeal.τ).loc Cert.BOutIdeal.main_arg3)) →
    ∃ (v0 : (c : Dev Cert.BOutIdeal.nD) → Buf (Elt Ideal) ((c.tc : Thread Cert.BOutIdeal.nD Cert.BOutIdeal.τ).loc Cert.BOutIdeal.main_v2_0)) (v1 : (c : Dev Cert.BOutIdeal.nD) → Buf (Elt Ideal) ((c.tc : Thread Cert.BOutIdeal.nD Cert.BOutIdeal.τ).loc Cert.BOutIdeal.main_v2_1)),
      θ_run (Cert.BOutIdeal.defs (F := Ideal)) (onTc (τ := Cert.BOutIdeal.τ) (Cert.BOutIdeal.main (F := Ideal))) ⟨m, fun _ => 0, g⟩ (fun r => ∀ c : Dev Cert.BOutIdeal.nD,
          r.2.mem ((c.tc : Thread Cert.BOutIdeal.nD Cert.BOutIdeal.τ).loc Cert.BOutIdeal.main_v2_0) = v0 c
          ∧ r.2.mem ((c.tc : Thread Cert.BOutIdeal.nD Cert.BOutIdeal.τ).loc Cert.BOutIdeal.main_v2_1) = v1 c
          ∧ r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
          ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
          ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2)
          ∧ r.2.mem ((c.tc : Thread Cert.BOutIdeal.nD Cert.BOutIdeal.τ).loc Cert.BOutIdeal.main_arg3) = m ((c.tc : Thread Cert.BOutIdeal.nD Cert.BOutIdeal.τ).loc Cert.BOutIdeal.main_arg3))
      ∧ θ_run (Cert.BOutRefIdeal.defs (F := Ideal)) (onTc (τ := Cert.BOutRefIdeal.τ) (Cert.BOutRefIdeal.main (F := Ideal))) ⟨m', fun _ => 0, g'⟩ (fun r => ∀ c : Dev Cert.BOutRefIdeal.nD,
          r.2.mem ((c.tc : Thread Cert.BOutRefIdeal.nD Cert.BOutRefIdeal.τ).loc Cert.BOutRefIdeal.main_v2) = v0 c
          ∧ r.2.mem ((c.tc : Thread Cert.BOutRefIdeal.nD Cert.BOutRefIdeal.τ).loc Cert.BOutRefIdeal.main_v18) = v1 c
          ∧ r.2.mem ((c.tc : Thread Cert.BOutRefIdeal.nD Cert.BOutRefIdeal.τ).loc Cert.BOutRefIdeal.main_arg0) = m' ((c.tc : Thread Cert.BOutRefIdeal.nD Cert.BOutRefIdeal.τ).loc Cert.BOutRefIdeal.main_arg0)
          ∧ r.2.mem ((c.tc : Thread Cert.BOutRefIdeal.nD Cert.BOutRefIdeal.τ).loc Cert.BOutRefIdeal.main_arg1) = m' ((c.tc : Thread Cert.BOutRefIdeal.nD Cert.BOutRefIdeal.τ).loc Cert.BOutRefIdeal.main_arg1)
          ∧ r.2.mem ((c.tc : Thread Cert.BOutRefIdeal.nD Cert.BOutRefIdeal.τ).loc Cert.BOutRefIdeal.main_arg2) = m' ((c.tc : Thread Cert.BOutRefIdeal.nD Cert.BOutRefIdeal.τ).loc Cert.BOutRefIdeal.main_arg2)
          ∧ r.2.mem ((c.tc : Thread Cert.BOutRefIdeal.nD Cert.BOutRefIdeal.τ).loc Cert.BOutRefIdeal.main_arg3) = m' ((c.tc : Thread Cert.BOutRefIdeal.nD Cert.BOutRefIdeal.τ).loc Cert.BOutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v18) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v49) = v0 c
          ∧ r.2.mem ((c.tc : Thread Cert.NormBwdRefIdeal.nD Cert.NormBwdRefIdeal.τ).loc Cert.NormBwdRefIdeal.main_v51) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_ResidBwd_ResidBwdIdeal : Prop :=
  True

def algebraic_ResidBwdIdeal_ResidBwdRefIdeal [hResidBwdIdeal : Cert.ResidBwdIdeal.Facts] [hResidBwdRefIdeal : Cert.ResidBwdRefIdeal.Facts] : Prop :=
  ∀ (m : (ℓ : Loc Cert.ResidBwdIdeal.nD Cert.ResidBwdIdeal.τ Cert.ResidBwdIdeal.sig) → Buf (Elt Ideal) ℓ) (g : Dev Cert.ResidBwdIdeal.nD → PrngReg)
    (m' : (ℓ : Loc Cert.ResidBwdRefIdeal.nD Cert.ResidBwdRefIdeal.τ Cert.ResidBwdRefIdeal.sig) → Buf (Elt Ideal) ℓ) (g' : Dev Cert.ResidBwdRefIdeal.nD → PrngReg), Pre_ResidBwdIdeal m →
    (∀ c : Dev Cert.ResidBwdIdeal.nD,
      m' ((c.tc : Thread Cert.ResidBwdRefIdeal.nD Cert.ResidBwdRefIdeal.τ).loc Cert.ResidBwdRefIdeal.main_arg0) = m ((c.tc : Thread Cert.ResidBwdIdeal.nD Cert.ResidBwdIdeal.τ).loc Cert.ResidBwdIdeal.main_arg0)
      ∧ m' ((c.tc : Thread Cert.ResidBwdRefIdeal.nD Cert.ResidBwdRefIdeal.τ).loc Cert.ResidBwdRefIdeal.main_arg1) = m ((c.tc : Thread Cert.ResidBwdIdeal.nD Cert.ResidBwdIdeal.τ).loc Cert.ResidBwdIdeal.main_arg1)
      ∧ m' ((c.tc : Thread Cert.ResidBwdRefIdeal.nD Cert.ResidBwdRefIdeal.τ).loc Cert.ResidBwdRefIdeal.main_arg2) = m ((c.tc : Thread Cert.ResidBwdIdeal.nD Cert.ResidBwdIdeal.τ).loc Cert.ResidBwdIdeal.main_arg2)) →
    ∃ (v0 : (c : Dev Cert.ResidBwdIdeal.nD) → Buf (Elt Ideal) ((c.tc : Thread Cert.ResidBwdIdeal.nD Cert.ResidBwdIdeal.τ).loc Cert.ResidBwdIdeal.main_v1_0)) (v1 : (c : Dev Cert.ResidBwdIdeal.nD) → Buf (Elt Ideal) ((c.tc : Thread Cert.ResidBwdIdeal.nD Cert.ResidBwdIdeal.τ).loc Cert.ResidBwdIdeal.main_v1_1)),
      θ_run (Cert.ResidBwdIdeal.defs (F := Ideal)) (onTc (τ := Cert.ResidBwdIdeal.τ) (Cert.ResidBwdIdeal.main (F := Ideal))) ⟨m, fun _ => 0, g⟩ (fun r => ∀ c : Dev Cert.ResidBwdIdeal.nD,
          r.2.mem ((c.tc : Thread Cert.ResidBwdIdeal.nD Cert.ResidBwdIdeal.τ).loc Cert.ResidBwdIdeal.main_v1_0) = v0 c
          ∧ r.2.mem ((c.tc : Thread Cert.ResidBwdIdeal.nD Cert.ResidBwdIdeal.τ).loc Cert.ResidBwdIdeal.main_v1_1) = v1 c
          ∧ r.2.mem ((c.tc : Thread Cert.ResidBwdIdeal.nD Cert.ResidBwdIdeal.τ).loc Cert.ResidBwdIdeal.main_arg0) = m ((c.tc : Thread Cert.ResidBwdIdeal.nD Cert.ResidBwdIdeal.τ).loc Cert.ResidBwdIdeal.main_arg0)
          ∧ r.2.mem ((c.tc : Thread Cert.ResidBwdIdeal.nD Cert.ResidBwdIdeal.τ).loc Cert.ResidBwdIdeal.main_arg1) = m ((c.tc : Thread Cert.ResidBwdIdeal.nD Cert.ResidBwdIdeal.τ).loc Cert.ResidBwdIdeal.main_arg1)
          ∧ r.2.mem ((c.tc : Thread Cert.ResidBwdIdeal.nD Cert.ResidBwdIdeal.τ).loc Cert.ResidBwdIdeal.main_arg2) = m ((c.tc : Thread Cert.ResidBwdIdeal.nD Cert.ResidBwdIdeal.τ).loc Cert.ResidBwdIdeal.main_arg2))
      ∧ θ_run (Cert.ResidBwdRefIdeal.defs (F := Ideal)) (onTc (τ := Cert.ResidBwdRefIdeal.τ) (Cert.ResidBwdRefIdeal.main (F := Ideal))) ⟨m', fun _ => 0, g'⟩ (fun r => ∀ c : Dev Cert.ResidBwdRefIdeal.nD,
          r.2.mem ((c.tc : Thread Cert.ResidBwdRefIdeal.nD Cert.ResidBwdRefIdeal.τ).loc Cert.ResidBwdRefIdeal.main_v11) = v0 c
          ∧ r.2.mem ((c.tc : Thread Cert.ResidBwdRefIdeal.nD Cert.ResidBwdRefIdeal.τ).loc Cert.ResidBwdRefIdeal.main_v13) = v1 c
          ∧ r.2.mem ((c.tc : Thread Cert.ResidBwdRefIdeal.nD Cert.ResidBwdRefIdeal.τ).loc Cert.ResidBwdRefIdeal.main_arg0) = m' ((c.tc : Thread Cert.ResidBwdRefIdeal.nD Cert.ResidBwdRefIdeal.τ).loc Cert.ResidBwdRefIdeal.main_arg0)
          ∧ r.2.mem ((c.tc : Thread Cert.ResidBwdRefIdeal.nD Cert.ResidBwdRefIdeal.τ).loc Cert.ResidBwdRefIdeal.main_arg1) = m' ((c.tc : Thread Cert.ResidBwdRefIdeal.nD Cert.ResidBwdRefIdeal.τ).loc Cert.ResidBwdRefIdeal.main_arg1)
          ∧ r.2.mem ((c.tc : Thread Cert.ResidBwdRefIdeal.nD Cert.ResidBwdRefIdeal.τ).loc Cert.ResidBwdRefIdeal.main_arg2) = m' ((c.tc : Thread Cert.ResidBwdRefIdeal.nD Cert.ResidBwdRefIdeal.τ).loc Cert.ResidBwdRefIdeal.main_arg2))

def preserves_MergeBwd_MergeBwdIdeal : Prop :=
  True

def algebraic_MergeBwdIdeal_MergeBwdRefIdeal_on_gates_written [hMergeBwdIdeal : Cert.MergeBwdIdeal.Facts] [hMergeBwdRefIdeal : Cert.MergeBwdRefIdeal.Facts] [hOn_gates_written : Cert.On_gates_written.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          (∀ i : (⟨2, ![8192, 1024]⟩ : Shape).Idx, (Cert.On_gates_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).1 i = 1#1 → r.2.mem ((c.tc : Thread Cert.MergeBwdIdeal.nD Cert.MergeBwdIdeal.τ).loc Cert.MergeBwdIdeal.main_v0_0) i = v0 c i)
          ∧ (∀ i : (⟨2, ![8192, 1024]⟩ : Shape).Idx, (Cert.On_gates_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).2.1 i = 1#1 → r.2.mem ((c.tc : Thread Cert.MergeBwdIdeal.nD Cert.MergeBwdIdeal.τ).loc Cert.MergeBwdIdeal.main_v0_1) i = v1 c i)
          ∧ (∀ i : (⟨2, ![8192, 8192]⟩ : Shape).Idx, (Cert.On_gates_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).2.2 i = 1#1 → r.2.mem ((c.tc : Thread Cert.MergeBwdIdeal.nD Cert.MergeBwdIdeal.τ).loc Cert.MergeBwdIdeal.main_v0_2) i = v2 c i)
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          (∀ i : (⟨2, ![8192, 1024]⟩ : Shape).Idx, (Cert.On_gates_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).1 i = 1#1 → r.2.mem ((c.tc : Thread Cert.MergeBwdRefIdeal.nD Cert.MergeBwdRefIdeal.τ).loc Cert.MergeBwdRefIdeal.main_v31) i = v0 c i)
          ∧ (∀ i : (⟨2, ![8192, 1024]⟩ : Shape).Idx, (Cert.On_gates_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).2.1 i = 1#1 → r.2.mem ((c.tc : Thread Cert.MergeBwdRefIdeal.nD Cert.MergeBwdRefIdeal.τ).loc Cert.MergeBwdRefIdeal.main_v32) i = v1 c i)
          ∧ (∀ i : (⟨2, ![8192, 8192]⟩ : Shape).Idx, (Cert.On_gates_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).2.2 i = 1#1 → r.2.mem ((c.tc : Thread Cert.MergeBwdRefIdeal.nD Cert.MergeBwdRefIdeal.τ).loc Cert.MergeBwdRefIdeal.main_v35) i = v2 c i)
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_PrepA_PrepAIdeal : Prop :=
  True

def algebraic_PrepAIdeal_PrepARefIdeal [hPrepAIdeal : Cert.PrepAIdeal.Facts] [hPrepARefIdeal : Cert.PrepARefIdeal.Facts] : Prop :=
  ∀ (m : (ℓ : Loc Cert.PrepAIdeal.nD Cert.PrepAIdeal.τ Cert.PrepAIdeal.sig) → Buf (Elt Ideal) ℓ) (g : Dev Cert.PrepAIdeal.nD → PrngReg)
    (m' : (ℓ : Loc Cert.PrepARefIdeal.nD Cert.PrepARefIdeal.τ Cert.PrepARefIdeal.sig) → Buf (Elt Ideal) ℓ) (g' : Dev Cert.PrepARefIdeal.nD → PrngReg), Pre_PrepAIdeal m →
    (∀ c : Dev Cert.PrepAIdeal.nD,
      m' ((c.tc : Thread Cert.PrepARefIdeal.nD Cert.PrepARefIdeal.τ).loc Cert.PrepARefIdeal.main_arg0) = m ((c.tc : Thread Cert.PrepAIdeal.nD Cert.PrepAIdeal.τ).loc Cert.PrepAIdeal.main_arg0)
      ∧ m' ((c.tc : Thread Cert.PrepARefIdeal.nD Cert.PrepARefIdeal.τ).loc Cert.PrepARefIdeal.main_arg1) = m ((c.tc : Thread Cert.PrepAIdeal.nD Cert.PrepAIdeal.τ).loc Cert.PrepAIdeal.main_arg1)) →
    ∃ (v0 : (c : Dev Cert.PrepAIdeal.nD) → Buf (Elt Ideal) ((c.tc : Thread Cert.PrepAIdeal.nD Cert.PrepAIdeal.τ).loc Cert.PrepAIdeal.main_v0)),
      θ_run (Cert.PrepAIdeal.defs (F := Ideal)) (onTc (τ := Cert.PrepAIdeal.τ) (Cert.PrepAIdeal.main (F := Ideal))) ⟨m, fun _ => 0, g⟩ (fun r => ∀ c : Dev Cert.PrepAIdeal.nD,
          r.2.mem ((c.tc : Thread Cert.PrepAIdeal.nD Cert.PrepAIdeal.τ).loc Cert.PrepAIdeal.main_v0) = v0 c
          ∧ r.2.mem ((c.tc : Thread Cert.PrepAIdeal.nD Cert.PrepAIdeal.τ).loc Cert.PrepAIdeal.main_arg0) = m ((c.tc : Thread Cert.PrepAIdeal.nD Cert.PrepAIdeal.τ).loc Cert.PrepAIdeal.main_arg0)
          ∧ r.2.mem ((c.tc : Thread Cert.PrepAIdeal.nD Cert.PrepAIdeal.τ).loc Cert.PrepAIdeal.main_arg1) = m ((c.tc : Thread Cert.PrepAIdeal.nD Cert.PrepAIdeal.τ).loc Cert.PrepAIdeal.main_arg1))
      ∧ θ_run (Cert.PrepARefIdeal.defs (F := Ideal)) (onTc (τ := Cert.PrepARefIdeal.τ) (Cert.PrepARefIdeal.main (F := Ideal))) ⟨m', fun _ => 0, g'⟩ (fun r => ∀ c : Dev Cert.PrepARefIdeal.nD,
          r.2.mem ((c.tc : Thread Cert.PrepARefIdeal.nD Cert.PrepARefIdeal.τ).loc Cert.PrepARefIdeal.main_v26) = v0 c
          ∧ r.2.mem ((c.tc : Thread Cert.PrepARefIdeal.nD Cert.PrepARefIdeal.τ).loc Cert.PrepARefIdeal.main_arg0) = m' ((c.tc : Thread Cert.PrepARefIdeal.nD Cert.PrepARefIdeal.τ).loc Cert.PrepARefIdeal.main_arg0)
          ∧ r.2.mem ((c.tc : Thread Cert.PrepARefIdeal.nD Cert.PrepARefIdeal.τ).loc Cert.PrepARefIdeal.main_arg1) = m' ((c.tc : Thread Cert.PrepARefIdeal.nD Cert.PrepARefIdeal.τ).loc Cert.PrepARefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v21) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_PrepABwd_PrepABwdIdeal : Prop :=
  True

def algebraic_PrepABwdIdeal_PrepABwdRefIdeal [hPrepABwdIdeal : Cert.PrepABwdIdeal.Facts] [hPrepABwdRefIdeal : Cert.PrepABwdRefIdeal.Facts] : Prop :=
  ∀ (m : (ℓ : Loc Cert.PrepABwdIdeal.nD Cert.PrepABwdIdeal.τ Cert.PrepABwdIdeal.sig) → Buf (Elt Ideal) ℓ) (g : Dev Cert.PrepABwdIdeal.nD → PrngReg)
    (m' : (ℓ : Loc Cert.PrepABwdRefIdeal.nD Cert.PrepABwdRefIdeal.τ Cert.PrepABwdRefIdeal.sig) → Buf (Elt Ideal) ℓ) (g' : Dev Cert.PrepABwdRefIdeal.nD → PrngReg), Pre_PrepABwdIdeal m →
    (∀ c : Dev Cert.PrepABwdIdeal.nD,
      m' ((c.tc : Thread Cert.PrepABwdRefIdeal.nD Cert.PrepABwdRefIdeal.τ).loc Cert.PrepABwdRefIdeal.main_arg0) = m ((c.tc : Thread Cert.PrepABwdIdeal.nD Cert.PrepABwdIdeal.τ).loc Cert.PrepABwdIdeal.main_arg0)
      ∧ m' ((c.tc : Thread Cert.PrepABwdRefIdeal.nD Cert.PrepABwdRefIdeal.τ).loc Cert.PrepABwdRefIdeal.main_arg1) = m ((c.tc : Thread Cert.PrepABwdIdeal.nD Cert.PrepABwdIdeal.τ).loc Cert.PrepABwdIdeal.main_arg1)
      ∧ m' ((c.tc : Thread Cert.PrepABwdRefIdeal.nD Cert.PrepABwdRefIdeal.τ).loc Cert.PrepABwdRefIdeal.main_arg2) = m ((c.tc : Thread Cert.PrepABwdIdeal.nD Cert.PrepABwdIdeal.τ).loc Cert.PrepABwdIdeal.main_arg2)
      ∧ m' ((c.tc : Thread Cert.PrepABwdRefIdeal.nD Cert.PrepABwdRefIdeal.τ).loc Cert.PrepABwdRefIdeal.main_arg3) = m ((c.tc : Thread Cert.PrepABwdIdeal.nD Cert.PrepABwdIdeal.τ).loc Cert.PrepABwdIdeal.main_arg3)) →
    ∃ (v0 : (c : Dev Cert.PrepABwdIdeal.nD) → Buf (Elt Ideal) ((c.tc : Thread Cert.PrepABwdIdeal.nD Cert.PrepABwdIdeal.τ).loc Cert.PrepABwdIdeal.main_v1_0)) (v1 : (c : Dev Cert.PrepABwdIdeal.nD) → Buf (Elt Ideal) ((c.tc : Thread Cert.PrepABwdIdeal.nD Cert.PrepABwdIdeal.τ).loc Cert.PrepABwdIdeal.main_v1_1)),
      θ_run (Cert.PrepABwdIdeal.defs (F := Ideal)) (onTc (τ := Cert.PrepABwdIdeal.τ) (Cert.PrepABwdIdeal.main (F := Ideal))) ⟨m, fun _ => 0, g⟩ (fun r => ∀ c : Dev Cert.PrepABwdIdeal.nD,
          r.2.mem ((c.tc : Thread Cert.PrepABwdIdeal.nD Cert.PrepABwdIdeal.τ).loc Cert.PrepABwdIdeal.main_v1_0) = v0 c
          ∧ r.2.mem ((c.tc : Thread Cert.PrepABwdIdeal.nD Cert.PrepABwdIdeal.τ).loc Cert.PrepABwdIdeal.main_v1_1) = v1 c
          ∧ r.2.mem ((c.tc : Thread Cert.PrepABwdIdeal.nD Cert.PrepABwdIdeal.τ).loc Cert.PrepABwdIdeal.main_arg0) = m ((c.tc : Thread Cert.PrepABwdIdeal.nD Cert.PrepABwdIdeal.τ).loc Cert.PrepABwdIdeal.main_arg0)
          ∧ r.2.mem ((c.tc : Thread Cert.PrepABwdIdeal.nD Cert.PrepABwdIdeal.τ).loc Cert.PrepABwdIdeal.main_arg1) = m ((c.tc : Thread Cert.PrepABwdIdeal.nD Cert.PrepABwdIdeal.τ).loc Cert.PrepABwdIdeal.main_arg1)
          ∧ r.2.mem ((c.tc : Thread Cert.PrepABwdIdeal.nD Cert.PrepABwdIdeal.τ).loc Cert.PrepABwdIdeal.main_arg2) = m ((c.tc : Thread Cert.PrepABwdIdeal.nD Cert.PrepABwdIdeal.τ).loc Cert.PrepABwdIdeal.main_arg2)
          ∧ r.2.mem ((c.tc : Thread Cert.PrepABwdIdeal.nD Cert.PrepABwdIdeal.τ).loc Cert.PrepABwdIdeal.main_arg3) = m ((c.tc : Thread Cert.PrepABwdIdeal.nD Cert.PrepABwdIdeal.τ).loc Cert.PrepABwdIdeal.main_arg3))
      ∧ θ_run (Cert.PrepABwdRefIdeal.defs (F := Ideal)) (onTc (τ := Cert.PrepABwdRefIdeal.τ) (Cert.PrepABwdRefIdeal.main (F := Ideal))) ⟨m', fun _ => 0, g'⟩ (fun r => ∀ c : Dev Cert.PrepABwdRefIdeal.nD,
          r.2.mem ((c.tc : Thread Cert.PrepABwdRefIdeal.nD Cert.PrepABwdRefIdeal.τ).loc Cert.PrepABwdRefIdeal.main_v74) = v0 c
          ∧ r.2.mem ((c.tc : Thread Cert.PrepABwdRefIdeal.nD Cert.PrepABwdRefIdeal.τ).loc Cert.PrepABwdRefIdeal.main_v76) = v1 c
          ∧ r.2.mem ((c.tc : Thread Cert.PrepABwdRefIdeal.nD Cert.PrepABwdRefIdeal.τ).loc Cert.PrepABwdRefIdeal.main_arg0) = m' ((c.tc : Thread Cert.PrepABwdRefIdeal.nD Cert.PrepABwdRefIdeal.τ).loc Cert.PrepABwdRefIdeal.main_arg0)
          ∧ r.2.mem ((c.tc : Thread Cert.PrepABwdRefIdeal.nD Cert.PrepABwdRefIdeal.τ).loc Cert.PrepABwdRefIdeal.main_arg1) = m' ((c.tc : Thread Cert.PrepABwdRefIdeal.nD Cert.PrepABwdRefIdeal.τ).loc Cert.PrepABwdRefIdeal.main_arg1)
          ∧ r.2.mem ((c.tc : Thread Cert.PrepABwdRefIdeal.nD Cert.PrepABwdRefIdeal.τ).loc Cert.PrepABwdRefIdeal.main_arg2) = m' ((c.tc : Thread Cert.PrepABwdRefIdeal.nD Cert.PrepABwdRefIdeal.τ).loc Cert.PrepABwdRefIdeal.main_arg2)
          ∧ r.2.mem ((c.tc : Thread Cert.PrepABwdRefIdeal.nD Cert.PrepABwdRefIdeal.τ).loc Cert.PrepABwdRefIdeal.main_arg3) = m' ((c.tc : Thread Cert.PrepABwdRefIdeal.nD Cert.PrepABwdRefIdeal.τ).loc Cert.PrepABwdRefIdeal.main_arg3))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)) →
    ∃ (v0 : (c : Dev Cert.AdaModIdeal.nD) → Buf (Elt Ideal) ((c.tc : Thread Cert.AdaModIdeal.nD Cert.AdaModIdeal.τ).loc Cert.AdaModIdeal.main_v0)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v0) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v0) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v3) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v47) = v0 c
          ∧ r.2.mem ((c.tc : Thread Cert.FinalLossRefIdeal.nD Cert.FinalLossRefIdeal.τ).loc Cert.FinalLossRefIdeal.main_v49) = v1 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_AdamwAda_AdamwAdaIdeal : Prop :=
  True

def algebraic_AdamwAdaIdeal_AdamwAdaRefIdeal [hAdamwAdaIdeal : Cert.AdamwAdaIdeal.Facts] [hAdamwAdaRefIdeal : Cert.AdamwAdaRefIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg)
    (m' : (ℓ : Loc Cert.AdamwAdaRefIdeal.nD Cert.AdamwAdaRefIdeal.τ Cert.AdamwAdaRefIdeal.sig) → Buf (Elt Ideal) ℓ) (g' : Dev Cert.AdamwAdaRefIdeal.nD → PrngReg), Pre_AdamwAdaIdeal m →
    (∀ c : Dev Cert.AdamwAdaIdeal.nD,
      m' ((c.tc : Thread Cert.AdamwAdaRefIdeal.nD Cert.AdamwAdaRefIdeal.τ).loc Cert.AdamwAdaRefIdeal.main_arg0) = m ((c.tc : Thread Cert.AdamwAdaIdeal.nD Cert.AdamwAdaIdeal.τ).loc Cert.AdamwAdaIdeal.main_arg0)
      ∧ m' ((c.tc : Thread Cert.AdamwAdaRefIdeal.nD Cert.AdamwAdaRefIdeal.τ).loc Cert.AdamwAdaRefIdeal.main_arg1) = m ((c.tc : Thread Cert.AdamwAdaIdeal.nD Cert.AdamwAdaIdeal.τ).loc Cert.AdamwAdaIdeal.main_arg1)
      ∧ m' ((c.tc : Thread Cert.AdamwAdaRefIdeal.nD Cert.AdamwAdaRefIdeal.τ).loc Cert.AdamwAdaRefIdeal.main_arg2) = m ((c.tc : Thread Cert.AdamwAdaIdeal.nD Cert.AdamwAdaIdeal.τ).loc Cert.AdamwAdaIdeal.main_arg2)
      ∧ m' ((c.tc : Thread Cert.AdamwAdaRefIdeal.nD Cert.AdamwAdaRefIdeal.τ).loc Cert.AdamwAdaRefIdeal.main_arg3) = m ((c.tc : Thread Cert.AdamwAdaIdeal.nD Cert.AdamwAdaIdeal.τ).loc Cert.AdamwAdaIdeal.main_arg3)) →
    ∃ (v0 : (c : Dev Cert.AdamwAdaIdeal.nD) → Buf (Elt Ideal) ((c.tc : Thread Cert.AdamwAdaIdeal.nD Cert.AdamwAdaIdeal.τ).loc Cert.AdamwAdaIdeal.main_v0_0)) (v1 : (c : Dev Cert.AdamwAdaIdeal.nD) → Buf (Elt Ideal) ((c.tc : Thread Cert.AdamwAdaIdeal.nD Cert.AdamwAdaIdeal.τ).loc Cert.AdamwAdaIdeal.main_v0_1)) (v2 : (c : Dev Cert.AdamwAdaIdeal.nD) → Buf (Elt Ideal) ((c.tc : Thread Cert.AdamwAdaIdeal.nD Cert.AdamwAdaIdeal.τ).loc Cert.AdamwAdaIdeal.main_v0_2)),
      θ_run (Cert.AdamwAdaIdeal.defs (F := Ideal)) (onTc (τ := Cert.AdamwAdaIdeal.τ) (Cert.AdamwAdaIdeal.main (F := Ideal))) ⟨m, fun _ => 0, g⟩ (fun r => ∀ c : Dev Cert.AdamwAdaIdeal.nD,
          r.2.mem ((c.tc : Thread Cert.AdamwAdaIdeal.nD Cert.AdamwAdaIdeal.τ).loc Cert.AdamwAdaIdeal.main_v0_0) = v0 c
          ∧ r.2.mem ((c.tc : Thread Cert.AdamwAdaIdeal.nD Cert.AdamwAdaIdeal.τ).loc Cert.AdamwAdaIdeal.main_v0_1) = v1 c
          ∧ r.2.mem ((c.tc : Thread Cert.AdamwAdaIdeal.nD Cert.AdamwAdaIdeal.τ).loc Cert.AdamwAdaIdeal.main_v0_2) = v2 c
          ∧ r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
          ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
          ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
          ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3))
      ∧ θ_run (Cert.AdamwAdaRefIdeal.defs (F := Ideal)) (onTc (τ := Cert.AdamwAdaRefIdeal.τ) (Cert.AdamwAdaRefIdeal.main (F := Ideal))) ⟨m', fun _ => 0, g'⟩ (fun r => ∀ c : Dev Cert.AdamwAdaRefIdeal.nD,
          r.2.mem ((c.tc : Thread Cert.AdamwAdaRefIdeal.nD Cert.AdamwAdaRefIdeal.τ).loc Cert.AdamwAdaRefIdeal.main_v23) = v0 c
          ∧ r.2.mem ((c.tc : Thread Cert.AdamwAdaRefIdeal.nD Cert.AdamwAdaRefIdeal.τ).loc Cert.AdamwAdaRefIdeal.main_v4) = v1 c
          ∧ r.2.mem ((c.tc : Thread Cert.AdamwAdaRefIdeal.nD Cert.AdamwAdaRefIdeal.τ).loc Cert.AdamwAdaRefIdeal.main_v10) = v2 c
          ∧ r.2.mem ((c.tc : Thread Cert.AdamwAdaRefIdeal.nD Cert.AdamwAdaRefIdeal.τ).loc Cert.AdamwAdaRefIdeal.main_arg0) = m' ((c.tc : Thread Cert.AdamwAdaRefIdeal.nD Cert.AdamwAdaRefIdeal.τ).loc Cert.AdamwAdaRefIdeal.main_arg0)
          ∧ r.2.mem ((c.tc : Thread Cert.AdamwAdaRefIdeal.nD Cert.AdamwAdaRefIdeal.τ).loc Cert.AdamwAdaRefIdeal.main_arg1) = m' ((c.tc : Thread Cert.AdamwAdaRefIdeal.nD Cert.AdamwAdaRefIdeal.τ).loc Cert.AdamwAdaRefIdeal.main_arg1)
          ∧ r.2.mem ((c.tc : Thread Cert.AdamwAdaRefIdeal.nD Cert.AdamwAdaRefIdeal.τ).loc Cert.AdamwAdaRefIdeal.main_arg2) = m' ((c.tc : Thread Cert.AdamwAdaRefIdeal.nD Cert.AdamwAdaRefIdeal.τ).loc Cert.AdamwAdaRefIdeal.main_arg2)
          ∧ r.2.mem ((c.tc : Thread Cert.AdamwAdaRefIdeal.nD Cert.AdamwAdaRefIdeal.τ).loc Cert.AdamwAdaRefIdeal.main_arg3) = m' ((c.tc : Thread Cert.AdamwAdaRefIdeal.nD Cert.AdamwAdaRefIdeal.τ).loc Cert.AdamwAdaRefIdeal.main_arg3))

def preserves_AdamwUp_AdamwUpIdeal : Prop :=
  True

def algebraic_AdamwUpIdeal_AdamwUpRefIdeal [hAdamwUpIdeal : Cert.AdamwUpIdeal.Facts] [hAdamwUpRefIdeal : Cert.AdamwUpRefIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpRefIdeal.nD Cert.AdamwUpRefIdeal.τ Cert.AdamwUpRefIdeal.sig) → Buf (Elt Ideal) ℓ) (g' : Dev Cert.AdamwUpRefIdeal.nD → PrngReg), Pre_AdamwUpIdeal m →
    (∀ c : Dev Cert.AdamwUpIdeal.nD,
      m' ((c.tc : Thread Cert.AdamwUpRefIdeal.nD Cert.AdamwUpRefIdeal.τ).loc Cert.AdamwUpRefIdeal.main_arg0) = m ((c.tc : Thread Cert.AdamwUpIdeal.nD Cert.AdamwUpIdeal.τ).loc Cert.AdamwUpIdeal.main_arg0)
      ∧ m' ((c.tc : Thread Cert.AdamwUpRefIdeal.nD Cert.AdamwUpRefIdeal.τ).loc Cert.AdamwUpRefIdeal.main_arg1) = m ((c.tc : Thread Cert.AdamwUpIdeal.nD Cert.AdamwUpIdeal.τ).loc Cert.AdamwUpIdeal.main_arg1)
      ∧ m' ((c.tc : Thread Cert.AdamwUpRefIdeal.nD Cert.AdamwUpRefIdeal.τ).loc Cert.AdamwUpRefIdeal.main_arg2) = m ((c.tc : Thread Cert.AdamwUpIdeal.nD Cert.AdamwUpIdeal.τ).loc Cert.AdamwUpIdeal.main_arg2)
      ∧ m' ((c.tc : Thread Cert.AdamwUpRefIdeal.nD Cert.AdamwUpRefIdeal.τ).loc Cert.AdamwUpRefIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.AdamwUpRefIdeal.defs (F := Ideal)) (onTc (τ := Cert.AdamwUpRefIdeal.τ) (Cert.AdamwUpRefIdeal.main (F := Ideal))) ⟨m', fun _ => 0, g'⟩ (fun r => ∀ c : Dev Cert.AdamwUpRefIdeal.nD,
          r.2.mem ((c.tc : Thread Cert.AdamwUpRefIdeal.nD Cert.AdamwUpRefIdeal.τ).loc Cert.AdamwUpRefIdeal.main_v23) = v0 c
          ∧ r.2.mem ((c.tc : Thread Cert.AdamwUpRefIdeal.nD Cert.AdamwUpRefIdeal.τ).loc Cert.AdamwUpRefIdeal.main_v4) = v1 c
          ∧ r.2.mem ((c.tc : Thread Cert.AdamwUpRefIdeal.nD Cert.AdamwUpRefIdeal.τ).loc Cert.AdamwUpRefIdeal.main_v10) = v2 c
          ∧ r.2.mem ((c.tc : Thread Cert.AdamwUpRefIdeal.nD Cert.AdamwUpRefIdeal.τ).loc Cert.AdamwUpRefIdeal.main_arg0) = m' ((c.tc : Thread Cert.AdamwUpRefIdeal.nD Cert.AdamwUpRefIdeal.τ).loc Cert.AdamwUpRefIdeal.main_arg0)
          ∧ r.2.mem ((c.tc : Thread Cert.AdamwUpRefIdeal.nD Cert.AdamwUpRefIdeal.τ).loc Cert.AdamwUpRefIdeal.main_arg1) = m' ((c.tc : Thread Cert.AdamwUpRefIdeal.nD Cert.AdamwUpRefIdeal.τ).loc Cert.AdamwUpRefIdeal.main_arg1)
          ∧ r.2.mem ((c.tc : Thread Cert.AdamwUpRefIdeal.nD Cert.AdamwUpRefIdeal.τ).loc Cert.AdamwUpRefIdeal.main_arg2) = m' ((c.tc : Thread Cert.AdamwUpRefIdeal.nD Cert.AdamwUpRefIdeal.τ).loc Cert.AdamwUpRefIdeal.main_arg2)
          ∧ r.2.mem ((c.tc : Thread Cert.AdamwUpRefIdeal.nD Cert.AdamwUpRefIdeal.τ).loc Cert.AdamwUpRefIdeal.main_arg3) = m' ((c.tc : Thread Cert.AdamwUpRefIdeal.nD Cert.AdamwUpRefIdeal.τ).loc Cert.AdamwUpRefIdeal.main_arg3))

def preserves_AdamwDown_AdamwDownIdeal : Prop :=
  True

def algebraic_AdamwDownIdeal_AdamwDownRefIdeal [hAdamwDownIdeal : Cert.AdamwDownIdeal.Facts] [hAdamwDownRefIdeal : Cert.AdamwDownRefIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v23) = v0 c
          ∧ r.2.mem ((c.tc : Thread Cert.AdamwDownRefIdeal.nD Cert.AdamwDownRefIdeal.τ).loc Cert.AdamwDownRefIdeal.main_v4) = v1 c
          ∧ r.2.mem ((c.tc : Thread Cert.AdamwDownRefIdeal.nD Cert.AdamwDownRefIdeal.τ).loc Cert.AdamwDownRefIdeal.main_v10) = v2 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v23) = v0 c
          ∧ r.2.mem ((c.tc : Thread Cert.AdamwInRefIdeal.nD Cert.AdamwInRefIdeal.τ).loc Cert.AdamwInRefIdeal.main_v4) = v1 c
          ∧ r.2.mem ((c.tc : Thread Cert.AdamwInRefIdeal.nD Cert.AdamwInRefIdeal.τ).loc Cert.AdamwInRefIdeal.main_v10) = v2 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwA_AdamwAIdeal : Prop :=
  True

def algebraic_AdamwAIdeal_AdamwARefIdeal [hAdamwAIdeal : Cert.AdamwAIdeal.Facts] [hAdamwARefIdeal : Cert.AdamwARefIdeal.Facts] : Prop :=
  ∀ (m : (ℓ : Loc Cert.AdamwAIdeal.nD Cert.AdamwAIdeal.τ Cert.AdamwAIdeal.sig) → Buf (Elt Ideal) ℓ) (g : Dev Cert.AdamwAIdeal.nD → PrngReg)
    (m' : (ℓ : Loc Cert.AdamwARefIdeal.nD Cert.AdamwARefIdeal.τ Cert.AdamwARefIdeal.sig) → Buf (Elt Ideal) ℓ) (g' : Dev Cert.AdamwARefIdeal.nD → PrngReg), Pre_AdamwAIdeal m →
    (∀ c : Dev Cert.AdamwAIdeal.nD,
      m' ((c.tc : Thread Cert.AdamwARefIdeal.nD Cert.AdamwARefIdeal.τ).loc Cert.AdamwARefIdeal.main_arg0) = m ((c.tc : Thread Cert.AdamwAIdeal.nD Cert.AdamwAIdeal.τ).loc Cert.AdamwAIdeal.main_arg0)
      ∧ m' ((c.tc : Thread Cert.AdamwARefIdeal.nD Cert.AdamwARefIdeal.τ).loc Cert.AdamwARefIdeal.main_arg1) = m ((c.tc : Thread Cert.AdamwAIdeal.nD Cert.AdamwAIdeal.τ).loc Cert.AdamwAIdeal.main_arg1)
      ∧ m' ((c.tc : Thread Cert.AdamwARefIdeal.nD Cert.AdamwARefIdeal.τ).loc Cert.AdamwARefIdeal.main_arg2) = m ((c.tc : Thread Cert.AdamwAIdeal.nD Cert.AdamwAIdeal.τ).loc Cert.AdamwAIdeal.main_arg2)
      ∧ m' ((c.tc : Thread Cert.AdamwARefIdeal.nD Cert.AdamwARefIdeal.τ).loc Cert.AdamwARefIdeal.main_arg3) = m ((c.tc : Thread Cert.AdamwAIdeal.nD Cert.AdamwAIdeal.τ).loc Cert.AdamwAIdeal.main_arg3)) →
    ∃ (v0 : (c : Dev Cert.AdamwAIdeal.nD) → Buf (Elt Ideal) ((c.tc : Thread Cert.AdamwAIdeal.nD Cert.AdamwAIdeal.τ).loc Cert.AdamwAIdeal.main_v0_0)) (v1 : (c : Dev Cert.AdamwAIdeal.nD) → Buf (Elt Ideal) ((c.tc : Thread Cert.AdamwAIdeal.nD Cert.AdamwAIdeal.τ).loc Cert.AdamwAIdeal.main_v0_1)) (v2 : (c : Dev Cert.AdamwAIdeal.nD) → Buf (Elt Ideal) ((c.tc : Thread Cert.AdamwAIdeal.nD Cert.AdamwAIdeal.τ).loc Cert.AdamwAIdeal.main_v0_2)),
      θ_run (Cert.AdamwAIdeal.defs (F := Ideal)) (onTc (τ := Cert.AdamwAIdeal.τ) (Cert.AdamwAIdeal.main (F := Ideal))) ⟨m, fun _ => 0, g⟩ (fun r => ∀ c : Dev Cert.AdamwAIdeal.nD,
          r.2.mem ((c.tc : Thread Cert.AdamwAIdeal.nD Cert.AdamwAIdeal.τ).loc Cert.AdamwAIdeal.main_v0_0) = v0 c
          ∧ r.2.mem ((c.tc : Thread Cert.AdamwAIdeal.nD Cert.AdamwAIdeal.τ).loc Cert.AdamwAIdeal.main_v0_1) = v1 c
          ∧ r.2.mem ((c.tc : Thread Cert.AdamwAIdeal.nD Cert.AdamwAIdeal.τ).loc Cert.AdamwAIdeal.main_v0_2) = v2 c
          ∧ r.2.mem ((c.tc : Thread Cert.AdamwAIdeal.nD Cert.AdamwAIdeal.τ).loc Cert.AdamwAIdeal.main_arg0) = m ((c.tc : Thread Cert.AdamwAIdeal.nD Cert.AdamwAIdeal.τ).loc Cert.AdamwAIdeal.main_arg0)
          ∧ r.2.mem ((c.tc : Thread Cert.AdamwAIdeal.nD Cert.AdamwAIdeal.τ).loc Cert.AdamwAIdeal.main_arg1) = m ((c.tc : Thread Cert.AdamwAIdeal.nD Cert.AdamwAIdeal.τ).loc Cert.AdamwAIdeal.main_arg1)
          ∧ r.2.mem ((c.tc : Thread Cert.AdamwAIdeal.nD Cert.AdamwAIdeal.τ).loc Cert.AdamwAIdeal.main_arg2) = m ((c.tc : Thread Cert.AdamwAIdeal.nD Cert.AdamwAIdeal.τ).loc Cert.AdamwAIdeal.main_arg2)
          ∧ r.2.mem ((c.tc : Thread Cert.AdamwAIdeal.nD Cert.AdamwAIdeal.τ).loc Cert.AdamwAIdeal.main_arg3) = m ((c.tc : Thread Cert.AdamwAIdeal.nD Cert.AdamwAIdeal.τ).loc Cert.AdamwAIdeal.main_arg3))
      ∧ θ_run (Cert.AdamwARefIdeal.defs (F := Ideal)) (onTc (τ := Cert.AdamwARefIdeal.τ) (Cert.AdamwARefIdeal.main (F := Ideal))) ⟨m', fun _ => 0, g'⟩ (fun r => ∀ c : Dev Cert.AdamwARefIdeal.nD,
          r.2.mem ((c.tc : Thread Cert.AdamwARefIdeal.nD Cert.AdamwARefIdeal.τ).loc Cert.AdamwARefIdeal.main_v23) = v0 c
          ∧ r.2.mem ((c.tc : Thread Cert.AdamwARefIdeal.nD Cert.AdamwARefIdeal.τ).loc Cert.AdamwARefIdeal.main_v4) = v1 c
          ∧ r.2.mem ((c.tc : Thread Cert.AdamwARefIdeal.nD Cert.AdamwARefIdeal.τ).loc Cert.AdamwARefIdeal.main_v10) = v2 c
          ∧ r.2.mem ((c.tc : Thread Cert.AdamwARefIdeal.nD Cert.AdamwARefIdeal.τ).loc Cert.AdamwARefIdeal.main_arg0) = m' ((c.tc : Thread Cert.AdamwARefIdeal.nD Cert.AdamwARefIdeal.τ).loc Cert.AdamwARefIdeal.main_arg0)
          ∧ r.2.mem ((c.tc : Thread Cert.AdamwARefIdeal.nD Cert.AdamwARefIdeal.τ).loc Cert.AdamwARefIdeal.main_arg1) = m' ((c.tc : Thread Cert.AdamwARefIdeal.nD Cert.AdamwARefIdeal.τ).loc Cert.AdamwARefIdeal.main_arg1)
          ∧ r.2.mem ((c.tc : Thread Cert.AdamwARefIdeal.nD Cert.AdamwARefIdeal.τ).loc Cert.AdamwARefIdeal.main_arg2) = m' ((c.tc : Thread Cert.AdamwARefIdeal.nD Cert.AdamwARefIdeal.τ).loc Cert.AdamwARefIdeal.main_arg2)
          ∧ r.2.mem ((c.tc : Thread Cert.AdamwARefIdeal.nD Cert.AdamwARefIdeal.τ).loc Cert.AdamwARefIdeal.main_arg3) = m' ((c.tc : Thread Cert.AdamwARefIdeal.nD Cert.AdamwARefIdeal.τ).loc Cert.AdamwARefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v23) = v0 c
          ∧ r.2.mem ((c.tc : Thread Cert.AdamwOutRefIdeal.nD Cert.AdamwOutRefIdeal.τ).loc Cert.AdamwOutRefIdeal.main_v4) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def Claim : Prop :=
  ∃ (hGwDown : Cert.GwDown.Facts) (hGwDownIdeal : Cert.GwDownIdeal.Facts) (hGwDownRefIdeal : Cert.GwDownRefIdeal.Facts) (hGwUp : Cert.GwUp.Facts) (hGwUpIdeal : Cert.GwUpIdeal.Facts) (hGwUpRefIdeal : Cert.GwUpRefIdeal.Facts) (hDu : Cert.Du.Facts) (hDuIdeal : Cert.DuIdeal.Facts) (hDuRefIdeal : Cert.DuRefIdeal.Facts) (hGwIn : Cert.GwIn.Facts) (hGwInIdeal : Cert.GwInIdeal.Facts) (hGwInRefIdeal : Cert.GwInRefIdeal.Facts) (hMixDu : Cert.MixDu.Facts) (hMixDuIdeal : Cert.MixDuIdeal.Facts) (hMixDuRefIdeal : Cert.MixDuRefIdeal.Facts) (hSwiglu : Cert.Swiglu.Facts) (hSwigluIdeal : Cert.SwigluIdeal.Facts) (hSwigluRefIdeal : Cert.SwigluRefIdeal.Facts) (hGwOut : Cert.GwOut.Facts) (hGwOutIdeal : Cert.GwOutIdeal.Facts) (hGwOutRefIdeal : Cert.GwOutRefIdeal.Facts) (hGwA : Cert.GwA.Facts) (hGwAIdeal : Cert.GwAIdeal.Facts) (hGwARefIdeal : Cert.GwARefIdeal.Facts) (hDmg : Cert.Dmg.Facts) (hDmgIdeal : Cert.DmgIdeal.Facts) (hDmgRefIdeal : Cert.DmgRefIdeal.Facts) (hDya : Cert.Dya.Facts) (hDyaIdeal : Cert.DyaIdeal.Facts) (hDyaRefIdeal : Cert.DyaRefIdeal.Facts) (hMixIn : Cert.MixIn.Facts) (hMixInIdeal : Cert.MixInIdeal.Facts) (hMixInRefIdeal : Cert.MixInRefIdeal.Facts) (hAOut : Cert.AOut.Facts) (hAOutIdeal : Cert.AOutIdeal.Facts) (hAOutRefIdeal : Cert.AOutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMixOut : Cert.MixOut.Facts) (hMixOutIdeal : Cert.MixOutIdeal.Facts) (hMixOutRefIdeal : Cert.MixOutRefIdeal.Facts) (hBOut : Cert.BOut.Facts) (hBOutIdeal : Cert.BOutIdeal.Facts) (hBOutRefIdeal : Cert.BOutRefIdeal.Facts) (hNorm : Cert.Norm.Facts) (hNormIdeal : Cert.NormIdeal.Facts) (hNormRefIdeal : Cert.NormRefIdeal.Facts) (hNormBwd : Cert.NormBwd.Facts) (hNormBwdIdeal : Cert.NormBwdIdeal.Facts) (hNormBwdRefIdeal : Cert.NormBwdRefIdeal.Facts) (hResidBwd : Cert.ResidBwd.Facts) (hResidBwdIdeal : Cert.ResidBwdIdeal.Facts) (hResidBwdRefIdeal : Cert.ResidBwdRefIdeal.Facts) (hMergeBwd : Cert.MergeBwd.Facts) (hMergeBwdIdeal : Cert.MergeBwdIdeal.Facts) (hMergeBwdRefIdeal : Cert.MergeBwdRefIdeal.Facts) (hPrepA : Cert.PrepA.Facts) (hPrepAIdeal : Cert.PrepAIdeal.Facts) (hPrepARefIdeal : Cert.PrepARefIdeal.Facts) (hPost : Cert.Post.Facts) (hPostIdeal : Cert.PostIdeal.Facts) (hPostRefIdeal : Cert.PostRefIdeal.Facts) (hPrepABwd : Cert.PrepABwd.Facts) (hPrepABwdIdeal : Cert.PrepABwdIdeal.Facts) (hPrepABwdRefIdeal : Cert.PrepABwdRefIdeal.Facts) (hAdaMod : Cert.AdaMod.Facts) (hAdaModIdeal : Cert.AdaModIdeal.Facts) (hAdaModRefIdeal : Cert.AdaModRefIdeal.Facts) (hAdaGrad : Cert.AdaGrad.Facts) (hAdaGradIdeal : Cert.AdaGradIdeal.Facts) (hAdaGradRefIdeal : Cert.AdaGradRefIdeal.Facts) (hFinalLoss : Cert.FinalLoss.Facts) (hFinalLossIdeal : Cert.FinalLossIdeal.Facts) (hFinalLossRefIdeal : Cert.FinalLossRefIdeal.Facts) (hAdamwAda : Cert.AdamwAda.Facts) (hAdamwAdaIdeal : Cert.AdamwAdaIdeal.Facts) (hAdamwAdaRefIdeal : Cert.AdamwAdaRefIdeal.Facts) (hAdamwUp : Cert.AdamwUp.Facts) (hAdamwUpIdeal : Cert.AdamwUpIdeal.Facts) (hAdamwUpRefIdeal : Cert.AdamwUpRefIdeal.Facts) (hAdamwDown : Cert.AdamwDown.Facts) (hAdamwDownIdeal : Cert.AdamwDownIdeal.Facts) (hAdamwDownRefIdeal : Cert.AdamwDownRefIdeal.Facts) (hAdamwIn : Cert.AdamwIn.Facts) (hAdamwInIdeal : Cert.AdamwInIdeal.Facts) (hAdamwInRefIdeal : Cert.AdamwInRefIdeal.Facts) (hAdamwA : Cert.AdamwA.Facts) (hAdamwAIdeal : Cert.AdamwAIdeal.Facts) (hAdamwARefIdeal : Cert.AdamwARefIdeal.Facts) (hAdamwOut : Cert.AdamwOut.Facts) (hAdamwOutIdeal : Cert.AdamwOutIdeal.Facts) (hAdamwOutRefIdeal : Cert.AdamwOutRefIdeal.Facts) (hAdamwSmall : Cert.AdamwSmall.Facts) (hAdamwSmallIdeal : Cert.AdamwSmallIdeal.Facts) (hAdamwSmallRefIdeal : Cert.AdamwSmallRefIdeal.Facts) (hPre_finite : Cert.Pre_finite.Facts) (hOn_gates_written : Cert.On_gates_written.Facts),
    quiescent_GwDown (hGwDown := hGwDown)
    ∧ quiescent_GwDownIdeal (hGwDownIdeal := hGwDownIdeal)
    ∧ quiescent_GwDownRefIdeal (hGwDownRefIdeal := hGwDownRefIdeal)
    ∧ quiescent_GwUp (hGwUp := hGwUp)
    ∧ quiescent_GwUpIdeal (hGwUpIdeal := hGwUpIdeal)
    ∧ quiescent_GwUpRefIdeal (hGwUpRefIdeal := hGwUpRefIdeal)
    ∧ quiescent_Du (hDu := hDu)
    ∧ quiescent_DuIdeal (hDuIdeal := hDuIdeal)
    ∧ quiescent_DuRefIdeal (hDuRefIdeal := hDuRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_MixDu (hMixDu := hMixDu)
    ∧ quiescent_MixDuIdeal (hMixDuIdeal := hMixDuIdeal)
    ∧ quiescent_MixDuRefIdeal (hMixDuRefIdeal := hMixDuRefIdeal)
    ∧ quiescent_Swiglu (hSwiglu := hSwiglu) (hPre_finite := hPre_finite)
    ∧ quiescent_Swiglu_pre_none (hSwiglu := hSwiglu)
    ∧ quiescent_SwigluIdeal (hSwigluIdeal := hSwigluIdeal) (hPre_finite := hPre_finite)
    ∧ quiescent_SwigluIdeal_pre_none (hSwigluIdeal := hSwigluIdeal)
    ∧ quiescent_SwigluRefIdeal (hSwigluRefIdeal := hSwigluRefIdeal) (hPre_finite := hPre_finite)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_GwA (hGwA := hGwA)
    ∧ quiescent_GwAIdeal (hGwAIdeal := hGwAIdeal)
    ∧ quiescent_GwARefIdeal (hGwARefIdeal := hGwARefIdeal)
    ∧ quiescent_Dmg (hDmg := hDmg)
    ∧ quiescent_DmgIdeal (hDmgIdeal := hDmgIdeal)
    ∧ quiescent_DmgRefIdeal (hDmgRefIdeal := hDmgRefIdeal)
    ∧ quiescent_Dya (hDya := hDya)
    ∧ quiescent_DyaIdeal (hDyaIdeal := hDyaIdeal)
    ∧ quiescent_DyaRefIdeal (hDyaRefIdeal := hDyaRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_AOut (hAOut := hAOut)
    ∧ quiescent_AOutIdeal (hAOutIdeal := hAOutIdeal)
    ∧ quiescent_AOutRefIdeal (hAOutRefIdeal := hAOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_BOut (hBOut := hBOut)
    ∧ quiescent_BOutIdeal (hBOutIdeal := hBOutIdeal)
    ∧ quiescent_BOutRefIdeal (hBOutRefIdeal := hBOutRefIdeal)
    ∧ quiescent_Norm (hNorm := hNorm)
    ∧ quiescent_NormIdeal (hNormIdeal := hNormIdeal)
    ∧ quiescent_NormRefIdeal (hNormRefIdeal := hNormRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_ResidBwd (hResidBwd := hResidBwd)
    ∧ quiescent_ResidBwdIdeal (hResidBwdIdeal := hResidBwdIdeal)
    ∧ quiescent_ResidBwdRefIdeal (hResidBwdRefIdeal := hResidBwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_PrepA (hPrepA := hPrepA)
    ∧ quiescent_PrepAIdeal (hPrepAIdeal := hPrepAIdeal)
    ∧ quiescent_PrepARefIdeal (hPrepARefIdeal := hPrepARefIdeal)
    ∧ quiescent_Post (hPost := hPost)
    ∧ quiescent_PostIdeal (hPostIdeal := hPostIdeal)
    ∧ quiescent_PostRefIdeal (hPostRefIdeal := hPostRefIdeal)
    ∧ quiescent_PrepABwd (hPrepABwd := hPrepABwd)
    ∧ quiescent_PrepABwdIdeal (hPrepABwdIdeal := hPrepABwdIdeal)
    ∧ quiescent_PrepABwdRefIdeal (hPrepABwdRefIdeal := hPrepABwdRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_AdamwAda (hAdamwAda := hAdamwAda)
    ∧ quiescent_AdamwAdaIdeal (hAdamwAdaIdeal := hAdamwAdaIdeal)
    ∧ quiescent_AdamwAdaRefIdeal (hAdamwAdaRefIdeal := hAdamwAdaRefIdeal)
    ∧ quiescent_AdamwUp (hAdamwUp := hAdamwUp)
    ∧ quiescent_AdamwUpIdeal (hAdamwUpIdeal := hAdamwUpIdeal)
    ∧ quiescent_AdamwUpRefIdeal (hAdamwUpRefIdeal := hAdamwUpRefIdeal)
    ∧ quiescent_AdamwDown (hAdamwDown := hAdamwDown)
    ∧ quiescent_AdamwDownIdeal (hAdamwDownIdeal := hAdamwDownIdeal)
    ∧ quiescent_AdamwDownRefIdeal (hAdamwDownRefIdeal := hAdamwDownRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwA (hAdamwA := hAdamwA)
    ∧ quiescent_AdamwAIdeal (hAdamwAIdeal := hAdamwAIdeal)
    ∧ quiescent_AdamwARefIdeal (hAdamwARefIdeal := hAdamwARefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ preserves_GwDown_GwDownIdeal
    ∧ algebraic_GwDownIdeal_GwDownRefIdeal (hGwDownIdeal := hGwDownIdeal) (hGwDownRefIdeal := hGwDownRefIdeal)
    ∧ preserves_GwUp_GwUpIdeal
    ∧ algebraic_GwUpIdeal_GwUpRefIdeal (hGwUpIdeal := hGwUpIdeal) (hGwUpRefIdeal := hGwUpRefIdeal)
    ∧ preserves_Du_DuIdeal
    ∧ algebraic_DuIdeal_DuRefIdeal (hDuIdeal := hDuIdeal) (hDuRefIdeal := hDuRefIdeal)
    ∧ preserves_GwIn_GwInIdeal
    ∧ algebraic_GwInIdeal_GwInRefIdeal (hGwInIdeal := hGwInIdeal) (hGwInRefIdeal := hGwInRefIdeal)
    ∧ preserves_MixDu_MixDuIdeal
    ∧ algebraic_MixDuIdeal_MixDuRefIdeal (hMixDuIdeal := hMixDuIdeal) (hMixDuRefIdeal := hMixDuRefIdeal)
    ∧ preserves_Swiglu_SwigluIdeal
    ∧ algebraic_SwigluIdeal_SwigluRefIdeal (hSwigluIdeal := hSwigluIdeal) (hSwigluRefIdeal := hSwigluRefIdeal) (hPre_finite := hPre_finite)
    ∧ preserves_GwOut_GwOutIdeal
    ∧ algebraic_GwOutIdeal_GwOutRefIdeal (hGwOutIdeal := hGwOutIdeal) (hGwOutRefIdeal := hGwOutRefIdeal)
    ∧ preserves_GwA_GwAIdeal
    ∧ algebraic_GwAIdeal_GwARefIdeal (hGwAIdeal := hGwAIdeal) (hGwARefIdeal := hGwARefIdeal)
    ∧ preserves_Dmg_DmgIdeal
    ∧ algebraic_DmgIdeal_DmgRefIdeal (hDmgIdeal := hDmgIdeal) (hDmgRefIdeal := hDmgRefIdeal)
    ∧ preserves_Dya_DyaIdeal
    ∧ algebraic_DyaIdeal_DyaRefIdeal (hDyaIdeal := hDyaIdeal) (hDyaRefIdeal := hDyaRefIdeal)
    ∧ preserves_MixIn_MixInIdeal
    ∧ algebraic_MixInIdeal_MixInRefIdeal (hMixInIdeal := hMixInIdeal) (hMixInRefIdeal := hMixInRefIdeal)
    ∧ preserves_AOut_AOutIdeal
    ∧ algebraic_AOutIdeal_AOutRefIdeal (hAOutIdeal := hAOutIdeal) (hAOutRefIdeal := hAOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_MixOut_MixOutIdeal
    ∧ algebraic_MixOutIdeal_MixOutRefIdeal (hMixOutIdeal := hMixOutIdeal) (hMixOutRefIdeal := hMixOutRefIdeal)
    ∧ preserves_BOut_BOutIdeal
    ∧ algebraic_BOutIdeal_BOutRefIdeal (hBOutIdeal := hBOutIdeal) (hBOutRefIdeal := hBOutRefIdeal)
    ∧ preserves_Norm_NormIdeal
    ∧ algebraic_NormIdeal_NormRefIdeal (hNormIdeal := hNormIdeal) (hNormRefIdeal := hNormRefIdeal)
    ∧ preserves_NormBwd_NormBwdIdeal
    ∧ algebraic_NormBwdIdeal_NormBwdRefIdeal (hNormBwdIdeal := hNormBwdIdeal) (hNormBwdRefIdeal := hNormBwdRefIdeal)
    ∧ preserves_ResidBwd_ResidBwdIdeal
    ∧ algebraic_ResidBwdIdeal_ResidBwdRefIdeal (hResidBwdIdeal := hResidBwdIdeal) (hResidBwdRefIdeal := hResidBwdRefIdeal)
    ∧ preserves_MergeBwd_MergeBwdIdeal
    ∧ algebraic_MergeBwdIdeal_MergeBwdRefIdeal_on_gates_written (hMergeBwdIdeal := hMergeBwdIdeal) (hMergeBwdRefIdeal := hMergeBwdRefIdeal) (hOn_gates_written := hOn_gates_written)
    ∧ preserves_PrepA_PrepAIdeal
    ∧ algebraic_PrepAIdeal_PrepARefIdeal (hPrepAIdeal := hPrepAIdeal) (hPrepARefIdeal := hPrepARefIdeal)
    ∧ preserves_Post_PostIdeal
    ∧ algebraic_PostIdeal_PostRefIdeal (hPostIdeal := hPostIdeal) (hPostRefIdeal := hPostRefIdeal)
    ∧ preserves_PrepABwd_PrepABwdIdeal
    ∧ algebraic_PrepABwdIdeal_PrepABwdRefIdeal (hPrepABwdIdeal := hPrepABwdIdeal) (hPrepABwdRefIdeal := hPrepABwdRefIdeal)
    ∧ preserves_AdaMod_AdaModIdeal
    ∧ algebraic_AdaModIdeal_AdaModRefIdeal (hAdaModIdeal := hAdaModIdeal) (hAdaModRefIdeal := hAdaModRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_AdamwAda_AdamwAdaIdeal
    ∧ algebraic_AdamwAdaIdeal_AdamwAdaRefIdeal (hAdamwAdaIdeal := hAdamwAdaIdeal) (hAdamwAdaRefIdeal := hAdamwAdaRefIdeal)
    ∧ preserves_AdamwUp_AdamwUpIdeal
    ∧ algebraic_AdamwUpIdeal_AdamwUpRefIdeal (hAdamwUpIdeal := hAdamwUpIdeal) (hAdamwUpRefIdeal := hAdamwUpRefIdeal)
    ∧ preserves_AdamwDown_AdamwDownIdeal
    ∧ algebraic_AdamwDownIdeal_AdamwDownRefIdeal (hAdamwDownIdeal := hAdamwDownIdeal) (hAdamwDownRefIdeal := hAdamwDownRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwA_AdamwAIdeal
    ∧ algebraic_AdamwAIdeal_AdamwARefIdeal (hAdamwAIdeal := hAdamwAIdeal) (hAdamwARefIdeal := hAdamwARefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
-- ==== On_gates_written.lean ====
abbrev S8192x1024 : Shape := ⟨2, ![8192, 1024]⟩
abbrev S8192x8192 : Shape := ⟨2, ![8192, 8192]⟩
abbrev S_ : Shape := ⟨0, ![]⟩

class Facts : Prop where
  bcast_S_S8192x1024 : S_.BroadcastsInDim S8192x1024 (![] : Fin 0 → Fin S8192x1024.rank)
  bcast_S_S8192x8192 : S_.BroadcastsInDim S8192x8192 (![] : Fin 0 → Fin S8192x8192.rank)

variable [Facts]

def fn {F : FTy → Type} [FloatOps F] (main_arg0 : FVec F S8192x1024 .f32) (main_arg1 : FVec F S8192x1024 .f32) (main_arg2 : FVec F S8192x1024 .f32) (main_arg3 : FVec F S8192x8192 .f32) : IVec S8192x1024 1 × IVec S8192x1024 1 × IVec S8192x8192 1 :=
  let main_v0 : IVec S8192x8192 32 := iotaInDim S8192x8192 32 1
  let main_c : IVec S_ 1 := constantI S_ 1 1#1
  let main_v1 : IVec S8192x1024 1 := broadcastInDim S8192x1024 ![] bcast_S_S8192x1024 main_c
  let main_c_0 : IVec S_ 32 := constantI S_ 32 4096#32
  let main_v2 : IVec S8192x8192 32 := broadcastInDim S8192x8192 ![] bcast_S_S8192x8192 main_c_0
  let main_v3 : IVec S8192x8192 1 := cmpi .sge main_v0 main_v2
  let main_c_1 : IVec S_ 32 := constantI S_ 32 6144#32
  let main_v4 : IVec S8192x8192 32 := broadcastInDim S8192x8192 ![] bcast_S_S8192x8192 main_c_1
  let main_v5 : IVec S8192x8192 1 := cmpi .slt main_v0 main_v4
  let main_v6 : IVec S8192x8192 1 := andi main_v3 main_v5
  (main_v1, main_v1, main_v6)
-- ==== Pre_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .f32) (main_arg2 : FVec F S8192x2816 .f32) (main_arg3 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x2816 .f32 := Host.absf main_arg3
  let main_cst_2 : FVec F S_ .f32 := constant S_ .f32 0x7F800000#32
  let main_v10 : FVec F S8192x2816 .f32 := broadcastInDim S8192x2816 ![] bcast_S_S8192x2816 main_cst_2
  let main_v11 : IVec S8192x2816 1 := cmpf .olt main_v9 main_v10
  let main_c_3 : IVec S_ 1 := constantI S_ 1 1#1
  let main_v12 : IVec S_ 1 := (fun x v => Host.reduce IntOp.andi x v reducesTo_S8192x2816_S_d0_1 h_S_) main_v11 main_c_3
  let main_v13 : IVec S_ 1 := andi main_v8 main_v12
  main_v13
-- ==== GwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwUp.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwUpRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1x1024x1408, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S4x1024x1408, .f32⟩
  | .hbm, ⟨16, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Du.lean ====
abbrev S8192x5632 : Shape := ⟨2, ![8192, 5632]⟩
abbrev S4x1024x1408 : Shape := ⟨3, ![4, 1024, 1408]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S4x1024x1408, .f32⟩
  | .hbm, ⟨2, _⟩ => ⟨S8192x5632, .bf16⟩
  | .hbm, ⟨3, _⟩ => ⟨S4x1024x1408, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuRefIdeal.lean ====
abbrev S8192x5632 : Shape := ⟨2, ![8192, 5632]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S4x1024x1408, .f32⟩
  | .hbm, ⟨2, _⟩ => ⟨S1x1024x1408, .f32⟩
  | .hbm, ⟨3, _⟩ => ⟨S1024x1408, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1x1024x1408, .f32⟩
  | .hbm, ⟨9, _⟩ => ⟨S1024x1408, .f32⟩
  | .hbm, ⟨10, _⟩ => ⟨S1024x5632, .f32⟩
  | .hbm, ⟨11, _⟩ => ⟨S_, .f32⟩
  | .hbm, ⟨12, _⟩ => ⟨S8192x1024, .f32⟩
  | .hbm, ⟨13, _⟩ => ⟨S8192x5632, .f32⟩
  | .hbm, ⟨14, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GwIn.lean ====
abbrev S8192x1024 : Shape := ⟨2, ![8192, 1024]⟩
abbrev S8192x8192 : Shape := ⟨2, ![8192, 8192]⟩
abbrev S1024x8192 : Shape := ⟨2, ![1024, 8192]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192x1024, .bf16⟩
  | .hbm, ⟨3, _⟩ => ⟨S8192x8192, .bf16⟩
  | .hbm, ⟨4, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInRefIdeal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S_, .f32⟩
  | .hbm, ⟨3, _⟩ => ⟨S1024x8192, .f32⟩
  | .hbm, ⟨4, _⟩ => ⟨S8192x8192, .f32⟩
  | .hbm, ⟨5, _⟩ => ⟨S8192x1024, .f32⟩
  | .hbm, ⟨6, _⟩ => ⟨S1024x8192, .f32⟩
  | .hbm, ⟨7, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDu.lean ====
abbrev S8192x8192 : Shape := ⟨2, ![8192, 8192]⟩
abbrev S1024x8192 : Shape := ⟨2, ![1024, 8192]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S1024x8192, .f32⟩
  | .hbm, ⟨2, _⟩ => ⟨S8192x8192, .bf16⟩
  | .hbm, ⟨3, _⟩ => ⟨S1024x8192, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDuRefIdeal.lean ====
abbrev S8192x8192 : Shape := ⟨2, ![8192, 8192]⟩
abbrev S1024x8192 : Shape := ⟨2, ![1024, 8192]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1024x8192, .f32⟩
  | .hbm, ⟨2, _⟩ => ⟨S_, .f32⟩
  | .hbm, ⟨3, _⟩ => ⟨S8192x1024, .f32⟩
  | .hbm, ⟨4, _⟩ => ⟨S8192x8192, .f32⟩
  | .hbm, ⟨5, _⟩ => ⟨S8192x1024, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Swiglu.lean ====
abbrev S8192x1024 : Shape := ⟨2, ![8192, 1024]⟩
abbrev S2816x1024 : Shape := ⟨2, ![2816, 1024]⟩
abbrev S8192x2816 : Shape := ⟨2, ![8192, 2816]⟩
abbrev S8192x5632 : Shape := ⟨2, ![8192, 5632]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluRefIdeal.lean ====
abbrev S8192x1024 : Shape := ⟨2, ![8192, 1024]⟩
abbrev S2816x1024 : Shape := ⟨2, ![2816, 1024]⟩
abbrev S8192x2816 : Shape := ⟨2, ![8192, 2816]⟩
abbrev S8192x5632 : Shape := ⟨2, ![8192, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== GwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwA.lean ====
abbrev S8192x512 : Shape := ⟨2, ![8192, 512]⟩
abbrev S8192x1024 : Shape := ⟨2, ![8192, 1024]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S4x512x256, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwARefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S1x512x256, .f32⟩
  | .hbm, ⟨12, _⟩ => ⟨S1x512x256, .f32⟩
  | .hbm, ⟨13, _⟩ => ⟨S1x512x256, .f32⟩
  | .hbm, ⟨14, _⟩ => ⟨S1x512x256, .f32⟩
  | .hbm, ⟨15, _⟩ => ⟨S4x512x256, .f32⟩
  | .hbm, ⟨16, _⟩ => ⟨S4x512x256, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Dmg.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmgRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dya.lean ====
abbrev S8192x1024 : Shape := ⟨2, ![8192, 1024]⟩
abbrev S4x512x256 : Shape := ⟨3, ![4, 512, 256]⟩
abbrev S8192x512 : Shape := ⟨2, ![8192, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4x512x256, .f32⟩
  | .hbm, ⟨2, _⟩ => ⟨S8192x1024, .bf16⟩
  | .hbm, ⟨3, _⟩ => ⟨S4x512x256, .bf16⟩
  | .hbm, ⟨4, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaRefIdeal.lean ====
abbrev S8192x1024 : Shape := ⟨2, ![8192, 1024]⟩
abbrev S4x512x256 : Shape := ⟨3, ![4, 512, 256]⟩
abbrev S1x512x256 : Shape := ⟨3, ![1, 512, 256]⟩
abbrev S512x256 : Shape := ⟨2, ![512, 256]⟩
abbrev S512x1024 : Shape := ⟨2, ![512, 1024]⟩
abbrev S_ : Shape := ⟨0, ![]⟩
abbrev S8192x512 : Shape := ⟨2, ![8192, 512]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x512x256, .f32⟩
  | .hbm, ⟨2, _⟩ => ⟨S1x512x256, .f32⟩
  | .hbm, ⟨3, _⟩ => ⟨S512x256, .f32⟩
  | .hbm, ⟨4, _⟩ => ⟨S1x512x256, .f32⟩
  | .hbm, ⟨5, _⟩ => ⟨S512x256, .f32⟩
  | .hbm, ⟨6, _⟩ => ⟨S1x512x256, .f32⟩
  | .hbm, ⟨7, _⟩ => ⟨S512x256, .f32⟩
  | .hbm, ⟨8, _⟩ => ⟨S1x512x256, .f32⟩
  | .hbm, ⟨9, _⟩ => ⟨S512x256, .f32⟩
  | .hbm, ⟨10, _⟩ => ⟨S512x1024, .f32⟩
  | .hbm, ⟨11, _⟩ => ⟨S_, .f32⟩
  | .hbm, ⟨12, _⟩ => ⟨S8192x512, .f32⟩
  | .hbm, ⟨13, _⟩ => ⟨S8192x1024, .f32⟩
  | .hbm, ⟨14, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MixIn.lean ====
abbrev S8192x1024 : Shape := ⟨2, ![8192, 1024]⟩
abbrev S1024x8192 : Shape := ⟨2, ![1024, 8192]⟩
abbrev S8192x8192 : Shape := ⟨2, ![8192, 8192]⟩
abbrev S1024x1024 : Shape := ⟨2, ![1024, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x8192, .f32⟩
  | .hbm, ⟨2, _⟩ => ⟨S8192x1024, .bf16⟩
  | .hbm, ⟨3, _⟩ => ⟨S1024x8192, .bf16⟩
  | .hbm, ⟨4, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8192, .f32⟩
  | .hbm, ⟨2, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AOut.lean ====
abbrev S8192x512 : Shape := ⟨2, ![8192, 512]⟩
abbrev S4x512x256 : Shape := ⟨3, ![4, 512, 256]⟩
abbrev S8192x1024 : Shape := ⟨2, ![8192, 1024]⟩
abbrev S1024x512 : Shape := ⟨2, ![1024, 512]⟩
abbrev S1x512x256 : Shape := ⟨3, ![1, 512, 256]⟩
abbrev S1024x256 : Shape := ⟨2, ![1024, 256]⟩
abbrev S512x256 : Shape := ⟨2, ![512, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S4x512x256, .f32⟩
  | .hbm, ⟨2, _⟩ => ⟨S8192x512, .bf16⟩
  | .hbm, ⟨3, _⟩ => ⟨S4x512x256, .bf16⟩
  | .hbm, ⟨4, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1024x256, .f32⟩
  | .local _ .vmem, ⟨5, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutRefIdeal.lean ====
abbrev S8192x512 : Shape := ⟨2, ![8192, 512]⟩
abbrev S4x512x256 : Shape := ⟨3, ![4, 512, 256]⟩
abbrev S1x512x256 : Shape := ⟨3, ![1, 512, 256]⟩
abbrev S512x256 : Shape := ⟨2, ![512, 256]⟩
abbrev S512x1024 : Shape := ⟨2, ![512, 1024]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x512x256, .f32⟩
  | .hbm, ⟨2, _⟩ => ⟨S1x512x256, .f32⟩
  | .hbm, ⟨3, _⟩ => ⟨S512x256, .f32⟩
  | .hbm, ⟨4, _⟩ => ⟨S1x512x256, .f32⟩
  | .hbm, ⟨5, _⟩ => ⟨S512x256, .f32⟩
  | .hbm, ⟨6, _⟩ => ⟨S1x512x256, .f32⟩
  | .hbm, ⟨7, _⟩ => ⟨S512x256, .f32⟩
  | .hbm, ⟨8, _⟩ => ⟨S1x512x256, .f32⟩
  | .hbm, ⟨9, _⟩ => ⟨S512x256, .f32⟩
  | .hbm, ⟨10, _⟩ => ⟨S512x1024, .f32⟩
  | .hbm, ⟨11, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Up.lean ====
abbrev S8192x1024 : Shape := ⟨2, ![8192, 1024]⟩
abbrev S4x1024x1408 : Shape := ⟨3, ![4, 1024, 1408]⟩
abbrev S8192x2816 : Shape := ⟨2, ![8192, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x1024x1408, .f32⟩
  | .hbm, ⟨2, _⟩ => ⟨S8192x1024, .bf16⟩
  | .hbm, ⟨3, _⟩ => ⟨S4x1024x1408, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x1024 : Shape := ⟨2, ![8192, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x1408, .f32⟩
  | .hbm, ⟨2, _⟩ => ⟨S1x1024x1408, .f32⟩
  | .hbm, ⟨3, _⟩ => ⟨S1024x1408, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1x1024x1408, .f32⟩
  | .hbm, ⟨9, _⟩ => ⟨S1024x1408, .f32⟩
  | .hbm, ⟨10, _⟩ => ⟨S1024x5632, .f32⟩
  | .hbm, ⟨11, _⟩ => ⟨S8192x5632, .f32⟩
  | .hbm, ⟨12, _⟩ => ⟨S8192x2816, .f32⟩
  | .hbm, ⟨13, _⟩ => ⟨S8192x2816, .f32⟩
  | .hbm, ⟨14, _⟩ => ⟨S8192x2816, .bf16⟩
  | .hbm, ⟨15, _⟩ => ⟨S8192x2816, .bf16⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutRefIdeal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== BOut.lean ====
abbrev S8192x1024 : Shape := ⟨2, ![8192, 1024]⟩
abbrev S1024x1024 : Shape := ⟨2, ![1024, 1024]⟩
abbrev S8192x8192 : Shape := ⟨2, ![8192, 8192]⟩
abbrev S512x1024 : Shape := ⟨2, ![512, 1024]⟩
abbrev S512x2048 : Shape := ⟨2, ![512, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x8192, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x2048, .f32⟩
  | .local _ .vmem, ⟨6, _⟩ => ⟨S512x2048, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BOutRefIdeal.lean ====
abbrev S8192x1024 : Shape := ⟨2, ![8192, 1024]⟩
abbrev S1024x1024 : Shape := ⟨2, ![1024, 1024]⟩
abbrev S8192x8192 : Shape := ⟨2, ![8192, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x8192, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S5x1024, .f32⟩
  | .hbm, ⟨69, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== ResidBwd.lean ====
abbrev S8192x1024 : Shape := ⟨2, ![8192, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S8192x1024, .bf16⟩
  | .hbm, ⟨5, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResidBwdRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S7x1024 : Shape := ⟨2, ![7, 1024]⟩
abbrev S8x1024 : Shape := ⟨2, ![8, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .bf16⟩
  | .hbm, ⟨18, _⟩ => ⟨S_, .f32⟩
  | .hbm, ⟨19, _⟩ => ⟨S7x1024, .f32⟩
  | .hbm, ⟨20, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== MergeBwd.lean ====
abbrev S8192x1024 : Shape := ⟨2, ![8192, 1024]⟩
abbrev S8192x8192 : Shape := ⟨2, ![8192, 8192]⟩
abbrev S512x1024 : Shape := ⟨2, ![512, 1024]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8192, .f32⟩
  | .hbm, ⟨4, _⟩ => ⟨S8192x1024, .bf16⟩
  | .hbm, ⟨5, _⟩ => ⟨S8192x1024, .bf16⟩
  | .hbm, ⟨6, _⟩ => ⟨S8192x8192, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeBwdRefIdeal.lean ====
abbrev S8192x1024 : Shape := ⟨2, ![8192, 1024]⟩
abbrev S8192x8192 : Shape := ⟨2, ![8192, 8192]⟩
abbrev S_ : Shape := ⟨0, ![]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8192, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x2048, .f32⟩
  | .hbm, ⟨44, _⟩ => ⟨S_, .i32⟩
  | .hbm, ⟨45, _⟩ => ⟨S_, .f32⟩
  | .hbm, ⟨46, _⟩ => ⟨S8192x8192, .f32⟩
  | .hbm, ⟨47, _⟩ => ⟨S8192x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== PrepA.lean ====
abbrev S8192x8192 : Shape := ⟨2, ![8192, 8192]⟩
abbrev S3x512 : Shape := ⟨2, ![3, 512]⟩
abbrev S8192x512 : Shape := ⟨2, ![8192, 512]⟩
abbrev S8x1536 : Shape := ⟨2, ![8, 1536]⟩
abbrev S256x1536 : Shape := ⟨2, ![256, 1536]⟩
abbrev S256x512 : Shape := ⟨2, ![256, 512]⟩
abbrev S272x1536 : Shape := ⟨2, ![272, 1536]⟩
abbrev S272x512 : Shape := ⟨2, ![272, 512]⟩
abbrev S1x512 : Shape := ⟨2, ![1, 512]⟩

abbrev nBuf : Space → Nat
  | .hbm => 3
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S3x512, .f32⟩
  | .hbm, ⟨2, _⟩ => ⟨S8192x512, .bf16⟩
  | .local _ .vmem, ⟨0, _⟩ => ⟨S8x1536, .f32⟩
  | .local _ .vmem, ⟨1, _⟩ => ⟨S8x1536, .f32⟩
  | .local _ .vmem, ⟨2, _⟩ => ⟨S256x1536, .f32⟩
  | .local _ .vmem, ⟨3, _⟩ => ⟨S256x1536, .f32⟩
  | .local _ .vmem, ⟨4, _⟩ => ⟨S8x1536, .f32⟩
  | .local _ .vmem, ⟨5, _⟩ => ⟨S8x1536, .f32⟩
  | .local _ .vmem, ⟨6, _⟩ => ⟨S3x512, .f32⟩
  | .local _ .vmem, ⟨7, _⟩ => ⟨S256x512, .bf16⟩
  | .local _ .vmem, ⟨8, _⟩ => ⟨S256x512, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c4_i32 : BitVec 32 := 4#32
  let c0_i32 : BitVec 32 := 0#32
  ![v2.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrepARefIdeal.lean ====
abbrev S8192x8192 : Shape := ⟨2, ![8192, 8192]⟩
abbrev S3x512 : Shape := ⟨2, ![3, 512]⟩
abbrev S8192x512 : Shape := ⟨2, ![8192, 512]⟩
abbrev S_ : Shape := ⟨0, ![]⟩
abbrev S8194x512 : Shape := ⟨2, ![8194, 512]⟩
abbrev S1x512 : Shape := ⟨2, ![1, 512]⟩
abbrev S512 : Shape := ⟨1, ![512]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S3x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S_, .i32⟩
  | .hbm, ⟨7, _⟩ => ⟨S_, .f32⟩
  | .hbm, ⟨8, _⟩ => ⟨S8194x512, .f32⟩
  | .hbm, ⟨9, _⟩ => ⟨S8192x512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Post.lean ====
abbrev S8192x1024 : Shape := ⟨2, ![8192, 1024]⟩
abbrev S8192x8192 : Shape := ⟨2, ![8192, 8192]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S1x128, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S256x1024, .bf16⟩
  | .local _ .vmem, ⟨8, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostRefIdeal.lean ====
abbrev S8192x1024 : Shape := ⟨2, ![8192, 1024]⟩
abbrev S8192x8192 : Shape := ⟨2, ![8192, 8192]⟩
abbrev S1x128 : Shape := ⟨2, ![1, 128]⟩
abbrev S8192x8x128 : Shape := ⟨3, ![8192, 8, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S1x128, .f32⟩
  | .hbm, ⟨4, _⟩ => ⟨S8192x1024, .f32⟩
  | .hbm, ⟨5, _⟩ => ⟨S8192x8x128, .f32⟩
  | .hbm, ⟨6, _⟩ => ⟨S128, .f32⟩
  | .hbm, ⟨7, _⟩ => ⟨S8192x8x128, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x128, .f32⟩
  | .hbm, ⟨19, _⟩ => ⟨S8192x8x128, .f32⟩
  | .hbm, ⟨20, _⟩ => ⟨S1x1x128, .f32⟩
  | .hbm, ⟨21, _⟩ => ⟨S8192x8x128, .f32⟩
  | .hbm, ⟨22, _⟩ => ⟨S8192x8x128, .f32⟩
  | .hbm, ⟨23, _⟩ => ⟨S8192x1024, .f32⟩
  | .hbm, ⟨24, _⟩ => ⟨S8192x8x128, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S_, .f32⟩
  | .hbm, ⟨31, _⟩ => ⟨S8192x8x128, .f32⟩
  | .hbm, ⟨32, _⟩ => ⟨S8192x8x128, .f32⟩
  | .hbm, ⟨33, _⟩ => ⟨S8192x8x128, .f32⟩
  | .hbm, ⟨34, _⟩ => ⟨S8192x8x128, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== PrepABwd.lean ====
abbrev S8192x512 : Shape := ⟨2, ![8192, 512]⟩
abbrev S8192x8192 : Shape := ⟨2, ![8192, 8192]⟩
abbrev S3x512 : Shape := ⟨2, ![3, 512]⟩
abbrev S8x512 : Shape := ⟨2, ![8, 512]⟩
abbrev S8x1536 : Shape := ⟨2, ![8, 1536]⟩
abbrev S256x1536 : Shape := ⟨2, ![256, 1536]⟩
abbrev S256x512 : Shape := ⟨2, ![256, 512]⟩
abbrev S272x1536 : Shape := ⟨2, ![272, 1536]⟩
abbrev S272x512 : Shape := ⟨2, ![272, 512]⟩
abbrev S1x512 : Shape := ⟨2, ![1, 512]⟩
abbrev S512 : Shape := ⟨1, ![512]⟩

abbrev nBuf : Space → Nat
  | .hbm => 7
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S3x512, .f32⟩
  | .hbm, ⟨3, _⟩ => ⟨S8192x8192, .f32⟩
  | .hbm, ⟨4, _⟩ => ⟨S8192x8192, .bf16⟩
  | .hbm, ⟨5, _⟩ => ⟨S8192x8192, .bf16⟩
  | .hbm, ⟨6, _⟩ => ⟨S8x512, .f32⟩
  | .local _ .vmem, ⟨0, _⟩ => ⟨S8x1536, .f32⟩
  | .local _ .vmem, ⟨1, _⟩ => ⟨S8x1536, .f32⟩
  | .local _ .vmem, ⟨2, _⟩ => ⟨S256x1536, .f32⟩
  | .local _ .vmem, ⟨3, _⟩ => ⟨S256x1536, .f32⟩
  | .local _ .vmem, ⟨4, _⟩ => ⟨S8x1536, .f32⟩
  | .local _ .vmem, ⟨5, _⟩ => ⟨S8x1536, .f32⟩
  | .local _ .vmem, ⟨6, _⟩ => ⟨S8x512, .f32⟩
  | .local _ .vmem, ⟨7, _⟩ => ⟨S8x512, .f32⟩
  | .local _ .vmem, ⟨8, _⟩ => ⟨S256x512, .f32⟩
  | .local _ .vmem, ⟨9, _⟩ => ⟨S256x512, .f32⟩
  | .local _ .vmem, ⟨10, _⟩ => ⟨S8x512, .f32⟩
  | .local _ .vmem, ⟨11, _⟩ => ⟨S8x512, .f32⟩
  | .local _ .vmem, ⟨12, _⟩ => ⟨S3x512, .f32⟩
  | .local _ .vmem, ⟨13, _⟩ => ⟨S256x1536, .bf16⟩
  | .local _ .vmem, ⟨14, _⟩ => ⟨S256x1536, .bf16⟩
  | .local _ .vmem, ⟨15, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c4_i32 : BitVec 32 := 4#32
  let c0_i32 : BitVec 32 := 0#32
  ![v2.toNat, c4_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PrepABwdRefIdeal.lean ====
abbrev S8192x512 : Shape := ⟨2, ![8192, 512]⟩
abbrev S8192x8192 : Shape := ⟨2, ![8192, 8192]⟩
abbrev S3x512 : Shape := ⟨2, ![3, 512]⟩
abbrev S_ : Shape := ⟨0, ![]⟩
abbrev S1x512 : Shape := ⟨2, ![1, 512]⟩
abbrev S8194x512 : Shape := ⟨2, ![8194, 512]⟩
abbrev S512 : Shape := ⟨1, ![512]⟩
abbrev S8192x6144 : Shape := ⟨2, ![8192, 6144]⟩
abbrev S5x512 : Shape := ⟨2, ![5, 512]⟩
abbrev S8x512 : Shape := ⟨2, ![8, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S3x512, .f32⟩
  | .hbm, ⟨3, _⟩ => ⟨S8192x8192, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S1x512, .f32⟩
  | .hbm, ⟨9, _⟩ => ⟨S8192x512, .f32⟩
  | .hbm, ⟨10, _⟩ => ⟨S_, .f32⟩
  | .hbm, ⟨11, _⟩ => ⟨S1x512, .f32⟩
  | .hbm, ⟨12, _⟩ => ⟨S8194x512, .f32⟩
  | .hbm, ⟨13, _⟩ => ⟨S_, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S8192x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S512, .f32⟩
  | .hbm, ⟨48, _⟩ => ⟨S1x512, .f32⟩
  | .hbm, ⟨49, _⟩ => ⟨S_, .f32⟩
  | .hbm, ⟨50, _⟩ => ⟨S3x512, .f32⟩
  | .hbm, ⟨51, _⟩ => ⟨S_, .f32⟩
  | .hbm, ⟨52, _⟩ => ⟨S8194x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S3x512, .f32⟩
  | .hbm, ⟨64, _⟩ => ⟨S3x512, .f32⟩
  | .hbm, ⟨65, _⟩ => ⟨S_, .f32⟩
  | .hbm, ⟨66, _⟩ => ⟨S8194x512, .f32⟩
  | .hbm, ⟨67, _⟩ => ⟨S8194x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S_, .f32⟩
  | .hbm, ⟨78, _⟩ => ⟨S3x512, .f32⟩
  | .hbm, ⟨79, _⟩ => ⟨S3x512, .f32⟩
  | .hbm, ⟨80, _⟩ => ⟨S_, .f32⟩
  | .hbm, ⟨81, _⟩ => ⟨S8194x512, .f32⟩
  | .hbm, ⟨82, _⟩ => ⟨S8194x512, .f32⟩
  | .hbm, ⟨83, _⟩ => ⟨S1x512, .f32⟩
  | .hbm, ⟨84, _⟩ => ⟨S8192x512, .f32⟩
  | .hbm, ⟨85, _⟩ => ⟨S1x512, .f32⟩
  | .hbm, ⟨86, _⟩ => ⟨S8192x512, .f32⟩
  | .hbm, ⟨87, _⟩ => ⟨S8192x512, .f32⟩
  | .hbm, ⟨88, _⟩ => ⟨S8192x8192, .bf16⟩
  | .hbm, ⟨89, _⟩ => ⟨S8192x6144, .bf16⟩
  | .hbm, ⟨90, _⟩ => ⟨S8192x512, .bf16⟩
  | .hbm, ⟨91, _⟩ => ⟨S8192x512, .bf16⟩
  | .hbm, ⟨92, _⟩ => ⟨S8192x512, .bf16⟩
  | .hbm, ⟨93, _⟩ => ⟨S8192x512, .bf16⟩
  | .hbm, ⟨94, _⟩ => ⟨S8192x8192, .bf16⟩
  | .hbm, ⟨95, _⟩ => ⟨S_, .f32⟩
  | .hbm, ⟨96, _⟩ => ⟨S5x512, .f32⟩
  | .hbm, ⟨97, _⟩ => ⟨S8x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_15 : Ref sig .tc := ⟨.hbm, 95, rfl⟩
abbrev main_v75 : Ref sig .tc := ⟨.hbm, 96, rfl⟩
abbrev main_v76 : Ref sig .tc := ⟨.hbm, 97, rfl⟩

abbrev nD : Nat := 1
abbrev τ : Topo := Topo.v7x

variable {F : FTy → Type} [FloatOps F]
-- ==== AdaMod.lean ====
abbrev S8x1024 : Shape := ⟨2, ![8, 1024]⟩
abbrev S1024x2304 : Shape := ⟨2, ![1024, 2304]⟩
abbrev S8x2304 : Shape := ⟨2, ![8, 2304]⟩
abbrev S1024x768 : Shape := ⟨2, ![1024, 768]⟩
abbrev S8x768 : Shape := ⟨2, ![8, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x2304, .f32⟩
  | .hbm, ⟨2, _⟩ => ⟨S8x2304, .f32⟩
  | .local _ .vmem, ⟨0, _⟩ => ⟨S8x1024, .f32⟩
  | .local _ .vmem, ⟨1, _⟩ => ⟨S1024x768, .f32⟩
  | .local _ .vmem, ⟨2, _⟩ => ⟨S1024x768, .f32⟩
  | .local _ .vmem, ⟨3, _⟩ => ⟨S8x768, .f32⟩
  | .local _ .vmem, ⟨4, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaModRefIdeal.lean ====
abbrev S8x1024 : Shape := ⟨2, ![8, 1024]⟩
abbrev S1024x2304 : Shape := ⟨2, ![1024, 2304]⟩
abbrev S8x2304 : Shape := ⟨2, ![8, 2304]⟩

abbrev nBuf : Space → Nat
  | .hbm => 3
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x2304, .f32⟩
  | .hbm, ⟨2, _⟩ => ⟨S8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaGrad.lean ====
abbrev S8x1024 : Shape := ⟨2, ![8, 1024]⟩
abbrev S8x2304 : Shape := ⟨2, ![8, 2304]⟩
abbrev S1024x2304 : Shape := ⟨2, ![1024, 2304]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x2304, .f32⟩
  | .local _ .vmem, ⟨0, _⟩ => ⟨S8x1024, .f32⟩
  | .local _ .vmem, ⟨1, _⟩ => ⟨S8x768, .f32⟩
  | .local _ .vmem, ⟨2, _⟩ => ⟨S8x768, .f32⟩
  | .local _ .vmem, ⟨3, _⟩ => ⟨S1024x768, .f32⟩
  | .local _ .vmem, ⟨4, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaGradRefIdeal.lean ====
abbrev S8x1024 : Shape := ⟨2, ![8, 1024]⟩
abbrev S8x2304 : Shape := ⟨2, ![8, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S_, .f32⟩
  | .hbm, ⟨3, _⟩ => ⟨S1024x2304, .f32⟩
  | .hbm, ⟨4, _⟩ => ⟨S8x2304, .f32⟩
  | .hbm, ⟨5, _⟩ => ⟨S2304x1024, .f32⟩
  | .hbm, ⟨6, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FinalLoss.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FinalLossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S6x1024, .f32⟩
  | .hbm, ⟨66, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamwAda.lean ====
abbrev S1024x2304 : Shape := ⟨2, ![1024, 2304]⟩
abbrev S256x2304 : Shape := ⟨2, ![256, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaIdeal.lean ====
abbrev S1024x2304 : Shape := ⟨2, ![1024, 2304]⟩
abbrev S256x2304 : Shape := ⟨2, ![256, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaRefIdeal.lean ====
abbrev S1024x2304 : Shape := ⟨2, ![1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S_, .f32⟩
  | .hbm, ⟨5, _⟩ => ⟨S1024x2304, .f32⟩
  | .hbm, ⟨6, _⟩ => ⟨S1024x2304, .f32⟩
  | .hbm, ⟨7, _⟩ => ⟨S_, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S_, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S_, .f32⟩
  | .hbm, ⟨16, _⟩ => ⟨S1024x2304, .f32⟩
  | .hbm, ⟨17, _⟩ => ⟨S1024x2304, .f32⟩
  | .hbm, ⟨18, _⟩ => ⟨S1024x2304, .f32⟩
  | .hbm, ⟨19, _⟩ => ⟨S_, .f32⟩
  | .hbm, ⟨20, _⟩ => ⟨S1024x2304, .f32⟩
  | .hbm, ⟨21, _⟩ => ⟨S1024x2304, .f32⟩
  | .hbm, ⟨22, _⟩ => ⟨S_, .f32⟩
  | .hbm, ⟨23, _⟩ => ⟨S1024x2304, .f32⟩
  | .hbm, ⟨24, _⟩ => ⟨S1024x2304, .f32⟩
  | .hbm, ⟨25, _⟩ => ⟨S1024x2304, .f32⟩
  | .hbm, ⟨26, _⟩ => ⟨S_, .f32⟩
  | .hbm, ⟨27, _⟩ => ⟨S1024x2304, .f32⟩
  | .hbm, ⟨28, _⟩ => ⟨S1024x2304, .f32⟩
  | .hbm, ⟨29, _⟩ => ⟨S1024x2304, .f32⟩
  | .hbm, ⟨30, _⟩ => ⟨S_, .f32⟩
  | .hbm, ⟨31, _⟩ => ⟨S1024x2304, .f32⟩
  | .hbm, ⟨32, _⟩ => ⟨S1024x2304, .f32⟩
  | .hbm, ⟨33, _⟩ => ⟨S1024x2304, .f32⟩
  | .hbm, ⟨34, _⟩ => ⟨S_, .f32⟩
  | .hbm, ⟨35, _⟩ => ⟨S1024x2304, .f32⟩
  | .hbm, ⟨36, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwUpIdeal.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDownIdeal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwIn.lean ====
abbrev S1024x1928 : Shape := ⟨2, ![1024, 1928]⟩
abbrev S256x1928 : Shape := ⟨2, ![256, 1928]⟩

abbrev nBuf : Space → Nat
  | .hbm => 7
  | .vmem => 14
  | .smem => 0
  | _ => 0

abbrev bufTy : (tb : Table) → Fin (tcTables nBuf tb) → BufTy
  | .hbm, ⟨0, _⟩ => ⟨S1024x1928, .f32⟩
  | .hbm, ⟨1, _⟩ => ⟨S1024x1928, .f32⟩
  | .hbm, ⟨2, _⟩ => ⟨S1024x1928, .f32⟩
  | .hbm, ⟨3, _⟩ => ⟨S1024x1928, .f32⟩
  | .hbm, ⟨4, _⟩ => ⟨S1024x1928, .f32⟩
  | .hbm, ⟨5, _⟩ => ⟨S1024x1928, .f32⟩
  | .hbm, ⟨6, _⟩ => ⟨S1024x1928, .f32⟩
  | .local _ .vmem, ⟨0, _⟩ => ⟨S256x1928, .f32⟩
  | .local _ .vmem, ⟨1, _⟩ => ⟨S256x1928, .f32⟩
  | .local _ .vmem, ⟨2, _⟩ => ⟨S256x1928, .f32⟩
  | .local _ .vmem, ⟨3, _⟩ => ⟨S256x1928, .f32⟩
  | .local _ .vmem, ⟨4, _⟩ => ⟨S256x1928, .f32⟩
  | .local _ .vmem, ⟨5, _⟩ => ⟨S256x1928, .f32⟩
  | .local _ .vmem, ⟨6, _⟩ => ⟨S256x1928, .f32⟩
  | .local _ .vmem, ⟨7, _⟩ => ⟨S256x1928, .f32⟩
  | .local _ .vmem, ⟨8, _⟩ => ⟨S256x1928, .f32⟩
  | .local _ .vmem, ⟨9, _⟩ => ⟨S256x1928, .f32⟩
  | .local _ .vmem, ⟨10, _⟩ => ⟨S256x1928, .f32⟩
  | .local _ .vmem, ⟨11, _⟩ => ⟨S256x1928, .f32⟩
  | .local _ .vmem, ⟨12, _⟩ => ⟨S256x1928, .f32⟩
  | .local _ .vmem, ⟨13, _⟩ => ⟨S256x1928, .f32⟩
  | _, _ => ⟨S1024x1928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1928 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1928 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1928 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1928 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1928 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1928 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1928 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInIdeal.lean ====
abbrev S1024x1928 : Shape := ⟨2, ![1024, 1928]⟩
abbrev S256x1928 : Shape := ⟨2, ![256, 1928]⟩

abbrev nBuf : Space → Nat
  | .hbm => 7
  | .vmem => 14
  | .smem => 0
  | _ => 0

abbrev bufTy : (tb : Table) → Fin (tcTables nBuf tb) → BufTy
  | .hbm, ⟨0, _⟩ => ⟨S1024x1928, .f32⟩
  | .hbm, ⟨1, _⟩ => ⟨S1024x1928, .f32⟩
  | .hbm, ⟨2, _⟩ => ⟨S1024x1928, .f32⟩
  | .hbm, ⟨3, _⟩ => ⟨S1024x1928, .f32⟩
  | .hbm, ⟨4, _⟩ => ⟨S1024x1928, .f32⟩
  | .hbm, ⟨5, _⟩ => ⟨S1024x1928, .f32⟩
  | .hbm, ⟨6, _⟩ => ⟨S1024x1928, .f32⟩
  | .local _ .vmem, ⟨0, _⟩ => ⟨S256x1928, .f32⟩
  | .local _ .vmem, ⟨1, _⟩ => ⟨S256x1928, .f32⟩
  | .local _ .vmem, ⟨2, _⟩ => ⟨S256x1928, .f32⟩
  | .local _ .vmem, ⟨3, _⟩ => ⟨S256x1928, .f32⟩
  | .local _ .vmem, ⟨4, _⟩ => ⟨S256x1928, .f32⟩
  | .local _ .vmem, ⟨5, _⟩ => ⟨S256x1928, .f32⟩
  | .local _ .vmem, ⟨6, _⟩ => ⟨S256x1928, .f32⟩
  | .local _ .vmem, ⟨7, _⟩ => ⟨S256x1928, .f32⟩
  | .local _ .vmem, ⟨8, _⟩ => ⟨S256x1928, .f32⟩
  | .local _ .vmem, ⟨9, _⟩ => ⟨S256x1928, .f32⟩
  | .local _ .vmem, ⟨10, _⟩ => ⟨S256x1928, .f32⟩
  | .local _ .vmem, ⟨11, _⟩ => ⟨S256x1928, .f32⟩
  | .local _ .vmem, ⟨12, _⟩ => ⟨S256x1928, .f32⟩
  | .local _ .vmem, ⟨13, _⟩ => ⟨S256x1928, .f32⟩
  | _, _ => ⟨S1024x1928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1928 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1928 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1928 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1928 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1928 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1928 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1928 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInRefIdeal.lean ====
abbrev S1024x1928 : Shape := ⟨2, ![1024, 1928]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1928, .f32⟩
  | .hbm, ⟨1, _⟩ => ⟨S1024x1928, .f32⟩
  | .hbm, ⟨2, _⟩ => ⟨S1024x1928, .f32⟩
  | .hbm, ⟨3, _⟩ => ⟨S1024x1928, .f32⟩
  | .hbm, ⟨4, _⟩ => ⟨S_, .f32⟩
  | .hbm, ⟨5, _⟩ => ⟨S1024x1928, .f32⟩
  | .hbm, ⟨6, _⟩ => ⟨S1024x1928, .f32⟩
  | .hbm, ⟨7, _⟩ => ⟨S_, .f32⟩
  | .hbm, ⟨8, _⟩ => ⟨S1024x1928, .f32⟩
  | .hbm, ⟨9, _⟩ => ⟨S1024x1928, .f32⟩
  | .hbm, ⟨10, _⟩ => ⟨S1024x1928, .f32⟩
  | .hbm, ⟨11, _⟩ => ⟨S_, .f32⟩
  | .hbm, ⟨12, _⟩ => ⟨S1024x1928, .f32⟩
  | .hbm, ⟨13, _⟩ => ⟨S1024x1928, .f32⟩
  | .hbm, ⟨14, _⟩ => ⟨S1024x1928, .f32⟩
  | .hbm, ⟨15, _⟩ => ⟨S_, .f32⟩
  | .hbm, ⟨16, _⟩ => ⟨S1024x1928, .f32⟩
  | .hbm, ⟨17, _⟩ => ⟨S1024x1928, .f32⟩
  | .hbm, ⟨18, _⟩ => ⟨S1024x1928, .f32⟩
  | .hbm, ⟨19, _⟩ => ⟨S_, .f32⟩
  | .hbm, ⟨20, _⟩ => ⟨S1024x1928, .f32⟩
  | .hbm, ⟨21, _⟩ => ⟨S1024x1928, .f32⟩
  | .hbm, ⟨22, _⟩ => ⟨S_, .f32⟩
  | .hbm, ⟨23, _⟩ => ⟨S1024x1928, .f32⟩
  | .hbm, ⟨24, _⟩ => ⟨S1024x1928, .f32⟩
  | .hbm, ⟨25, _⟩ => ⟨S1024x1928, .f32⟩
  | .hbm, ⟨26, _⟩ => ⟨S_, .f32⟩
  | .hbm, ⟨27, _⟩ => ⟨S1024x1928, .f32⟩
  | .hbm, ⟨28, _⟩ => ⟨S1024x1928, .f32⟩
  | .hbm, ⟨29, _⟩ => ⟨S1024x1928, .f32⟩
  | .hbm, ⟨30, _⟩ => ⟨S_, .f32⟩
  | .hbm, ⟨31, _⟩ => ⟨S1024x1928, .f32⟩
  | .hbm, ⟨32, _⟩ => ⟨S1024x1928, .f32⟩
  | .hbm, ⟨33, _⟩ => ⟨S1024x1928, .f32⟩
  | .hbm, ⟨34, _⟩ => ⟨S_, .f32⟩
  | .hbm, ⟨35, _⟩ => ⟨S1024x1928, .f32⟩
  | .hbm, ⟨36, _⟩ => ⟨S1024x1928, .f32⟩
  | _, _ => ⟨S1024x1928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwA.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAIdeal.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwARefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S136x128 : Shape := ⟨2, ![136, 128]⟩

abbrev nBuf : Space → Nat
  | .hbm => 7
  | .vmem => 7
  | .smem => 0
  | _ => 0

abbrev bufTy : (tb : Table) → Fin (tcTables nBuf tb) → BufTy
  | .hbm, ⟨0, _⟩ => ⟨S136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S136x128, .f32⟩
  | .hbm, ⟨5, _⟩ => ⟨S136x128, .f32⟩
  | .hbm, ⟨6, _⟩ => ⟨S136x128, .f32⟩
  | .local _ .vmem, ⟨0, _⟩ => ⟨S136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | _, _ => ⟨S136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwSmallRefIdeal.lean ====
abbrev S136x128 : Shape := ⟨2, ![136, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S_, .f32⟩
  | .hbm, ⟨5, _⟩ => ⟨S136x128, .f32⟩
  | .hbm, ⟨6, _⟩ => ⟨S136x128, .f32⟩
  | .hbm, ⟨7, _⟩ => ⟨S_, .f32⟩
  | .hbm, ⟨8, _⟩ => ⟨S136x128, .f32⟩
  | .hbm, ⟨9, _⟩ => ⟨S136x128, .f32⟩
  | .hbm, ⟨10, _⟩ => ⟨S136x128, .f32⟩
  | .hbm, ⟨11, _⟩ => ⟨S_, .f32⟩
  | .hbm, ⟨12, _⟩ => ⟨S136x128, .f32⟩
  | .hbm, ⟨13, _⟩ => ⟨S136x128, .f32⟩
  | .hbm, ⟨14, _⟩ => ⟨S136x128, .f32⟩
  | .hbm, ⟨15, _⟩ => ⟨S_, .f32⟩
  | .hbm, ⟨16, _⟩ => ⟨S136x128, .f32⟩
  | .hbm, ⟨17, _⟩ => ⟨S136x128, .f32⟩
  | .hbm, ⟨18, _⟩ => ⟨S136x128, .f32⟩
  | .hbm, ⟨19, _⟩ => ⟨S_, .f32⟩
  | .hbm, ⟨20, _⟩ => ⟨S136x128, .f32⟩
  | .hbm, ⟨21, _⟩ => ⟨S136x128, .f32⟩
  | .hbm, ⟨22, _⟩ => ⟨S_, .f32⟩
  | .hbm, ⟨23, _⟩ => ⟨S136x128, .f32⟩
  | .hbm, ⟨24, _⟩ => ⟨S136x128, .f32⟩
  | .hbm, ⟨25, _⟩ => ⟨S136x128, .f32⟩
  | .hbm, ⟨26, _⟩ => ⟨S_, .f32⟩
  | .hbm, ⟨27, _⟩ => ⟨S136x128, .f32⟩
  | .hbm, ⟨28, _⟩ => ⟨S136x128, .f32⟩
  | .hbm, ⟨29, _⟩ => ⟨S136x128, .f32⟩
  | .hbm, ⟨30, _⟩ => ⟨S_, .f32⟩
  | .hbm, ⟨31, _⟩ => ⟨S136x128, .f32⟩
  | .hbm, ⟨32, _⟩ => ⟨S136x128, .f32⟩
  | .hbm, ⟨33, _⟩ => ⟨S136x128, .f32⟩
  | .hbm, ⟨34, _⟩ => ⟨S_, .f32⟩
  | .hbm, ⟨35, _⟩ => ⟨S136x128, .f32⟩
  | .hbm, ⟨36, _⟩ => ⟨S136x128, .f32⟩
  | _, _ => ⟨S136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Sums.lean ====
/-
  Facts the value proofs share: a sum over an axis cut into four equal stretches, the way the accumulating products
  take it (the first stretch stored, the next two added, the last added on the way out), and the address of a
  buffer's origin.
-/
module

public import Idealize.ShloMosaic.Lib.Pointwise
public import Idealize.ShloMosaic.Lib.Tactic

@[expose] public section

namespace Cert.Sums

/-- The origin of a matrix. -/
theorem origin2 : (![0, 0] : Fin 2 → Nat) = fun _ => 0 := funext fun a => by fin_cases a <;> rfl

/-- The origin of an array of rank three. -/
theorem origin3 : (![0, 0, 0] : Fin 3 → Nat) = fun _ => 0 := funext fun a => by fin_cases a <;> rfl

/-- A sum over `4 * n` places is the sums over its four stretches of `n`, added from the first to the last. -/
theorem four_stretches {M : Type*} [AddCommMonoid M] (n N : ℕ) (h : N = 4 * n) (f : Fin N → M) :
    ((∑ k : Fin n, f ⟨0 * n + k.val, by omega⟩ + ∑ k : Fin n, f ⟨1 * n + k.val, by omega⟩)
        + ∑ k : Fin n, f ⟨2 * n + k.val, by omega⟩) + ∑ k : Fin n, f ⟨3 * n + k.val, by omega⟩
      = ∑ k : Fin N, f k := by
  obtain rfl : N = n + n + n + n := by omega
  rw [Fin.sum_univ_add, Fin.sum_univ_add, Fin.sum_univ_add]
  refine congrArg₂ (· + ·) (congrArg₂ (· + ·) (congrArg₂ (· + ·) ?_ ?_) ?_) ?_ <;>
    refine Finset.sum_congr rfl fun k _ => congrArg f (Fin.ext ?_) <;> simp <;> omega

open Idealize.ShloMosaic in
/-- A sum of two arrays at an index. -/
theorem addf_at {S : Shape} (a b : FVec Ideal S .f32) (i : S.Idx) : (addf a b i : EReal) = (a i : EReal) + b i := rfl

end Cert.Sums
-- ==== Proof.AOut.lean ====
/-
  The convolution branch's way out: eight blocks of tokens by the weight's four pieces, against the plain product with
  the pieces set side by side.
-/
module

public import proofs.«01_k».proof.Defs
public import proofs.«01_k».proof.Proof.Sums
public import proofs.«01_k».proof.Proof.Gen.AOutIdeal.Value
public import proofs.«01_k».proof.Proof.Gen.AOutRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.AOutIdeal.Product

open Cert.AOutIdeal Cert.AOutIdeal.Gen Cert.AOutIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val / 4 ∧ win0_0.index t (1 : Fin 2) = 0 :=
  (by decide +kernel : ∀ t : Fin grid0.N, _)

/-- Which block of its second operand point `t` is given. -/
theorem at1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

/-- Which block of the result point `t` writes. -/
theorem at2 : ∀ t : Fin cfg0.N, win0_2.index t (0 : Fin 2) = t.val / 4 ∧ win0_2.index t (1 : Fin 2) = t.val % 4 :=
  (by decide +kernel : ∀ t : Fin grid0.N, _)

/-- What a point leaves in its block of the result. -/
theorem out2 (x0 : Vec F S1024x512 .bf16) (x1 : Vec F S1x512x256 .bf16) :
    out0_2 (F := F) x0 x1 = k0_pay1 x0 x1 := by
  unfold out0_2
  rw [View.canon_unit_zero origin2]
  simp only [View.ld_unit_zero (S := S1024x512) origin2, View.ld_unit_zero (S := S1x512x256) origin3]

/-- The operand as the launch hands it over. -/
theorem v0_eq (c : Dev nD) :
    V m c main_v0 = truncf .bf16 (m ((c.tc : Thread nD τ).loc main_arg0)) bitsLt_bf16_f32 := by
  unfold V; after_results

/-- The operand as the launch hands it over. -/
theorem v1_eq (c : Dev nD) :
    V m c main_v1 = truncf .bf16 (m ((c.tc : Thread nD τ).loc main_arg1)) bitsLt_bf16_f32 := by
  unfold V; after_results

end

variable (m : (ℓ : Loc nD τ sig) → Buf (Elt Ideal) ℓ)

/-- An argument's entries. -/
abbrev arg0 (c : Dev nD) : S8192x512.Idx → EReal := m ((c.tc : Thread nD τ).loc main_arg0)

/-- An argument's entries. -/
abbrev arg1 (c : Dev nD) : S4x512x256.Idx → EReal := m ((c.tc : Thread nD τ).loc main_arg1)

/-- An element of point `t`'s block of the first operand. -/
theorem blk0_at (c : Dev nD) (t : Fin cfg0.N) (j : Fin 1024) (k : Fin 512) (p : S8192x512.Idx)
    (p0 : (p 0).val = (t.val / 4) * 1024 + j.val) (p1 : (p 1).val = (0) * 512 + k.val) :
    iblk m c 0 t (ValueIdx.ix2 j k) = arg0 m c p := by
  unfold iblk
  rw [View.read_apply]
  show V m c main_v0 _ = _
  rw [v0_eq]
  show m ((c.tc : Thread nD τ).loc main_arg0) _ = _
  congr 1
  obtain ⟨f0, f1⟩ := at0 t
  funext a; apply Fin.ext
  match a with
  | ⟨0, _⟩ => show win0_0.index t 0 * 1024 + 1 * j.val = (p 0).val; omega
  | ⟨1, _⟩ => show win0_0.index t 1 * 512 + 1 * k.val = (p 1).val; omega

/-- An element of point `t`'s block of the second operand. -/
theorem blk1_at (c : Dev nD) (t : Fin cfg0.N) (j : Fin 1) (k : Fin 512) (l : Fin 256) (p : S4x512x256.Idx)
    (p0 : (p 0).val = (t.val % 4) * 1 + j.val) (p1 : (p 1).val = (0) * 512 + k.val) (p2 : (p 2).val = (0) * 256 + l.val) :
    iblk m c 1 t (ValueIdx.ix3 j k l) = arg1 m c p := by
  unfold iblk
  rw [View.read_apply]
  show V m c main_v1 _ = _
  rw [v1_eq]
  show m ((c.tc : Thread nD τ).loc main_arg1) _ = _
  congr 1
  obtain ⟨f0, f1, f2⟩ := at1 t
  funext a; apply Fin.ext
  match a with
  | ⟨0, _⟩ => show win0_1.index t 0 * 1 + 1 * j.val = (p 0).val; omega
  | ⟨1, _⟩ => show win0_1.index t 1 * 512 + 1 * k.val = (p 1).val; omega
  | ⟨2, _⟩ => show win0_1.index t 2 * 256 + 1 * l.val = (p 2).val; omega

/-- The product of two blocks at an index. -/
theorem pay_at (x : Vec Ideal S1024x512 .bf16) (y : Vec Ideal S1x512x256 .bf16) (j : Fin 1024) (l : Fin 256) :
    (k0_pay1 x y : Vec Ideal S1024x256 .f32) (ValueIdx.ix2 j l)
      = ∑ k : Fin 512, (x (ValueIdx.ix2 j k) : EReal) * y (ValueIdx.ix3 0 k l) := by
  unfold k0_pay1
  pointwise
  try rfl

/-- The result, as one function of the arguments. -/
theorem result2 (c : Dev nD) : (dats m 0 c).arrAt 2 cfg0.N = (fun i => ∑ k : Fin 512, arg0 m c (ValueIdx.ix2 (i 0) k) * arg1 m c (ValueIdx.ix3 ⟨(i 1).val / 256, Nat.div_lt_of_lt_mul (i 1).isLt⟩ k ⟨(i 1).val % 256, Nat.mod_lt _ (by decide)⟩) : S8192x1024.Idx → EReal) := by
  refine (dats m 0 c).arrAt_eq_of_covers 2 _ (by decide +kernel) fun t hf y => ?_
  blk_simp
  rw [after0_2, out2]
  obtain ⟨f0, f1⟩ := at2 t
  idx_vars y
  have d0 : ((win0_2.blk t).view.emb (ValueIdx.ix2 y0 y1) 0).val = (t.val / 4) * 1024 + y0.val := by
    show win0_2.index t 0 * 1024 + 1 * y0.val = _; omega
  have d1 : ((win0_2.blk t).view.emb (ValueIdx.ix2 y0 y1) 1).val = (t.val % 4) * 256 + y1.val := by
    show win0_2.index t 1 * 256 + 1 * y1.val = _; omega
  refine (pay_at _ _ _ _).trans (Finset.sum_congr rfl fun k _ => congrArg₂ (· * ·) ?_ ?_)
  · exact blk0_at m c t _ k _ d0 (by show k.val = _; omega)
  · refine blk1_at m c t 0 k _ _ ?_ (by show k.val = _; omega) ?_
    · show (win0_2.index t 1 * 256 + y1.val) / 256 = (t.val % 4) * 1 + 0; omega
    · show (win0_2.index t 1 * 256 + y1.val) % 256 = _; omega

end Cert.AOutIdeal.Product

namespace Cert.AOut

/-- The launch and the plain product end with the same array. -/
theorem algebraic : Cert.algebraic_AOutIdeal_AOutRefIdeal := by
  intro m g m' g' _ ha
  refine ⟨fun c => (AOutIdeal.Gen.dats m 0 c).arrAt 2 AOutIdeal.cfg0.N, AOutIdeal.Value.run_blocks m g, ?_⟩
  refine (θ_run _ _ _).mono (fun r h c => ?_) (AOutRefIdeal.Value.run m' g')
  obtain ⟨h0, h1, h2⟩ := h c
  obtain ⟨a0, a1⟩ := ha c
  refine ⟨h0.trans ?_, h1, h2⟩
  rw [a0, a1]
  funext i
  have i1 : (i 1).val < 1024 := (i 1).isLt
  refine Eq.trans ?_ (congrFun (AOutIdeal.Product.result2 m c) i).symm
  clear a0 a1 h0 h1 h2 h ha
  idx_vars i
  rename_i p l
  pointwise
  split_ifs with b0 b1 b2
  all_goals refine Finset.sum_congr rfl fun k _ => congrArg₂ (· * ·) rfl ?_
  all_goals refine congrArg (AOutIdeal.Product.arg1 m c) (congrArg₂ (fun p q => ValueIdx.ix3 p k q) (Fin.ext ?_) (Fin.ext ?_))
  all_goals first | omega | (simp at * <;> omega)

end Cert.AOut

end
-- ==== Proof.AdaGrad.lean ====
/-
  The weight gradient of the conditioning: three blocks of columns, against the derivative of `c @ w` with respect to `w`.
-/
module

public import proofs.«01_k».proof.Defs
public import proofs.«01_k».proof.Proof.Sums
public import proofs.«01_k».proof.Proof.Gen.AdaGradIdeal.Value
public import proofs.«01_k».proof.Proof.Gen.AdaGradRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.AdaGradIdeal.Product

open Cert.AdaGradIdeal Cert.AdaGradIdeal.Gen Cert.AdaGradIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = 0 ∧ win0_0.index t (1 : Fin 2) = 0 :=
  (by decide +kernel : ∀ t : Fin grid0.N, _)

/-- Which block of its second operand point `t` is given. -/
theorem at1 : ∀ t : Fin cfg0.N, win0_1.index t (0 : Fin 2) = 0 ∧ win0_1.index t (1 : Fin 2) = t.val :=
  (by decide +kernel : ∀ t : Fin grid0.N, _)

/-- Which block of the result point `t` writes. -/
theorem at2 : ∀ t : Fin cfg0.N, win0_2.index t (0 : Fin 2) = 0 ∧ win0_2.index t (1 : Fin 2) = t.val :=
  (by decide +kernel : ∀ t : Fin grid0.N, _)

end

variable (m : (ℓ : Loc nD τ sig) → Buf (Elt Ideal) ℓ)

/-- An argument's entries. -/
abbrev arg0 (c : Dev nD) : S8x1024.Idx → EReal := m ((c.tc : Thread nD τ).loc main_arg0)

/-- An argument's entries. -/
abbrev arg1 (c : Dev nD) : S8x2304.Idx → EReal := m ((c.tc : Thread nD τ).loc main_arg1)

/-- An element of point `t`'s block of the first operand. -/
theorem blk0_at (c : Dev nD) (t : Fin cfg0.N) (j : S8x1024.Idx) (p : S8x1024.Idx)
    (p0 : (p 0).val = (0) * 8 + (j 0).val) (p1 : (p 1).val = (0) * 1024 + (j 1).val) :
    iblk m c 0 t j = arg0 m c p := by
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 8 + 1 * (j 0).val = (p 0).val; omega
  | ⟨1, _⟩ => show win0_0.index t 1 * 1024 + 1 * (j 1).val = (p 1).val; omega

/-- An element of point `t`'s block of the second operand. -/
theorem blk1_at (c : Dev nD) (t : Fin cfg0.N) (j : S8x768.Idx) (p : S8x2304.Idx)
    (p0 : (p 0).val = (0) * 8 + (j 0).val) (p1 : (p 1).val = (t.val) * 768 + (j 1).val) :
    iblk m c 1 t j = arg1 m c p := by
  unfold iblk
  rw [View.read_apply]
  show m ((c.tc : Thread nD τ).loc main_arg1) _ = _
  congr 1
  obtain ⟨f0, f1⟩ := at1 t
  funext a; apply Fin.ext
  match a with
  | ⟨0, _⟩ => show win0_1.index t 0 * 8 + 1 * (j 0).val = (p 0).val; omega
  | ⟨1, _⟩ => show win0_1.index t 1 * 768 + 1 * (j 1).val = (p 1).val; omega

/-- The product of two blocks at an index. -/
theorem pay_at (x : Vec Ideal S8x1024 .f32) (y : Vec Ideal S8x768 .f32) (j : Fin 1024) (l : Fin 768) :
    (k0_pay1 x y : Vec Ideal S1024x768 .f32) (ValueIdx.ix2 j l)
      = ∑ k : Fin 8, (x (ValueIdx.ix2 k j) : EReal) * y (ValueIdx.ix2 k l) := by
  unfold k0_pay1
  pointwise
  try rfl

/-- The result, as one function of the arguments. -/
theorem result2 (c : Dev nD) : (dats m 0 c).arrAt 2 cfg0.N = (fun i => ∑ k : Fin 8, arg0 m c (ValueIdx.ix2 k (i 0)) * arg1 m c (ValueIdx.ix2 k (i 1)) : S1024x2304.Idx → EReal) := by
  refine (dats m 0 c).arrAt_eq_of_covers 2 _ (by decide +kernel) fun t hf y => ?_
  blk_simp
  rw [after0_2]
  obtain ⟨f0, f1⟩ := at2 t
  idx_vars y
  have d0 : ((win0_2.blk t).view.emb (ValueIdx.ix2 y0 y1) 0).val = y0.val := by
    show win0_2.index t 0 * 1024 + 1 * y0.val = _; omega
  have d1 : ((win0_2.blk t).view.emb (ValueIdx.ix2 y0 y1) 1).val = t.val * 768 + y1.val := by
    show win0_2.index t 1 * 768 + 1 * y1.val = _; omega
  unfold out0_2
  rw [View.canon_unit_zero origin2]
  simp only [View.ld_unit_zero (S := S8x1024) origin2, View.ld_unit_zero (S := S8x768) origin2]
  refine (pay_at _ _ _ _).trans (Finset.sum_congr rfl fun k _ => congrArg₂ (· * ·) ?_ ?_)
  · exact blk0_at m c t _ _ (by show k.val = 0 * 8 + k.val; omega) (d0.trans (by show y0.val = 0 * 1024 + y0.val; omega))
  · exact blk1_at m c t _ _ (by show k.val = 0 * 8 + k.val; omega) d1

end Cert.AdaGradIdeal.Product

namespace Cert.AdaGrad

/-- The launch and the plain product end with the same array. -/
theorem algebraic : Cert.algebraic_AdaGradIdeal_AdaGradRefIdeal := by
  intro m g m' g' _ ha
  refine ⟨fun c => (AdaGradIdeal.Gen.dats m 0 c).arrAt 2 AdaGradIdeal.cfg0.N, AdaGradIdeal.Value.run_blocks m g, ?_⟩
  refine (θ_run _ _ _).mono (fun r h c => ?_) (AdaGradRefIdeal.Value.run m' g')
  obtain ⟨h0, h1, h2⟩ := h c
  obtain ⟨a0, a1⟩ := ha c
  refine ⟨h0.trans ?_, h1, h2⟩
  rw [a0, a1]
  funext i
  refine Eq.trans ?_ (congrFun (AdaGradIdeal.Product.result2 m c) i).symm
  idx_vars i
  pointwise
  exact Finset.sum_congr rfl fun k _ => mul_comm _ _

end Cert.AdaGrad

end
-- ==== Proof.AdaMod.lean ====
/-
  The product of the conditioning with its weight: three blocks of columns, against the plain product.
-/
module

public import proofs.«01_k».proof.Defs
public import proofs.«01_k».proof.Proof.Sums
public import proofs.«01_k».proof.Proof.Gen.AdaModIdeal.Value
public import proofs.«01_k».proof.Proof.Gen.AdaModRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.AdaModIdeal.Product

open Cert.AdaModIdeal Cert.AdaModIdeal.Gen Cert.AdaModIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = 0 ∧ win0_0.index t (1 : Fin 2) = 0 :=
  (by decide +kernel : ∀ t : Fin grid0.N, _)

/-- Which block of its second operand point `t` is given. -/
theorem at1 : ∀ t : Fin cfg0.N, win0_1.index t (0 : Fin 2) = 0 ∧ win0_1.index t (1 : Fin 2) = t.val :=
  (by decide +kernel : ∀ t : Fin grid0.N, _)

/-- Which block of the result point `t` writes. -/
theorem at2 : ∀ t : Fin cfg0.N, win0_2.index t (0 : Fin 2) = 0 ∧ win0_2.index t (1 : Fin 2) = t.val :=
  (by decide +kernel : ∀ t : Fin grid0.N, _)

end

variable (m : (ℓ : Loc nD τ sig) → Buf (Elt Ideal) ℓ)

/-- An argument's entries. -/
abbrev arg0 (c : Dev nD) : S8x1024.Idx → EReal := m ((c.tc : Thread nD τ).loc main_arg0)

/-- An argument's entries. -/
abbrev arg1 (c : Dev nD) : S1024x2304.Idx → EReal := m ((c.tc : Thread nD τ).loc main_arg1)

/-- An element of point `t`'s block of the first operand. -/
theorem blk0_at (c : Dev nD) (t : Fin cfg0.N) (j : S8x1024.Idx) (p : S8x1024.Idx)
    (p0 : (p 0).val = (0) * 8 + (j 0).val) (p1 : (p 1).val = (0) * 1024 + (j 1).val) :
    iblk m c 0 t j = arg0 m c p := by
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 8 + 1 * (j 0).val = (p 0).val; omega
  | ⟨1, _⟩ => show win0_0.index t 1 * 1024 + 1 * (j 1).val = (p 1).val; omega

/-- An element of point `t`'s block of the second operand. -/
theorem blk1_at (c : Dev nD) (t : Fin cfg0.N) (j : S1024x768.Idx) (p : S1024x2304.Idx)
    (p0 : (p 0).val = (0) * 1024 + (j 0).val) (p1 : (p 1).val = (t.val) * 768 + (j 1).val) :
    iblk m c 1 t j = arg1 m c p := by
  unfold iblk
  rw [View.read_apply]
  show m ((c.tc : Thread nD τ).loc main_arg1) _ = _
  congr 1
  obtain ⟨f0, f1⟩ := at1 t
  funext a; apply Fin.ext
  match a with
  | ⟨0, _⟩ => show win0_1.index t 0 * 1024 + 1 * (j 0).val = (p 0).val; omega
  | ⟨1, _⟩ => show win0_1.index t 1 * 768 + 1 * (j 1).val = (p 1).val; omega

/-- The product of two blocks at an index. -/
theorem pay_at (x : Vec Ideal S8x1024 .f32) (y : Vec Ideal S1024x768 .f32) (j : Fin 8) (l : Fin 768) :
    (k0_pay1 x y : Vec Ideal S8x768 .f32) (ValueIdx.ix2 j l)
      = ∑ k : Fin 1024, (x (ValueIdx.ix2 j k) : EReal) * y (ValueIdx.ix2 k l) := by
  unfold k0_pay1
  pointwise
  try rfl

/-- The result, as one function of the arguments. -/
theorem result2 (c : Dev nD) : (dats m 0 c).arrAt 2 cfg0.N = (fun i => ∑ k : Fin 1024, arg0 m c (ValueIdx.ix2 (i 0) k) * arg1 m c (ValueIdx.ix2 k (i 1)) : S8x2304.Idx → EReal) := by
  refine (dats m 0 c).arrAt_eq_of_covers 2 _ (by decide +kernel) fun t hf y => ?_
  blk_simp
  rw [after0_2]
  obtain ⟨f0, f1⟩ := at2 t
  idx_vars y
  have d0 : ((win0_2.blk t).view.emb (ValueIdx.ix2 y0 y1) 0).val = y0.val := by
    show win0_2.index t 0 * 8 + 1 * y0.val = _; omega
  have d1 : ((win0_2.blk t).view.emb (ValueIdx.ix2 y0 y1) 1).val = t.val * 768 + y1.val := by
    show win0_2.index t 1 * 768 + 1 * y1.val = _; omega
  unfold out0_2
  rw [View.canon_unit_zero origin2]
  simp only [View.ld_unit_zero (S := S8x1024) origin2, View.ld_unit_zero (S := S1024x768) origin2]
  refine (pay_at _ _ _ _).trans (Finset.sum_congr rfl fun k _ => congrArg₂ (· * ·) ?_ ?_)
  · exact blk0_at m c t _ _ (d0.trans (by show y0.val = 0 * 8 + y0.val; omega)) (by show k.val = 0 * 1024 + k.val; omega)
  · exact blk1_at m c t _ _ (by show k.val = 0 * 1024 + k.val; omega) d1

end Cert.AdaModIdeal.Product

namespace Cert.AdaMod

/-- The launch and the plain product end with the same array. -/
theorem algebraic : Cert.algebraic_AdaModIdeal_AdaModRefIdeal := by
  intro m g m' g' _ ha
  refine ⟨fun c => (AdaModIdeal.Gen.dats m 0 c).arrAt 2 AdaModIdeal.cfg0.N, AdaModIdeal.Value.run_blocks m g, ?_⟩
  refine (θ_run _ _ _).mono (fun r h c => ?_) (AdaModRefIdeal.Value.run m' g')
  obtain ⟨h0, h1, h2⟩ := h c
  obtain ⟨a0, a1⟩ := ha c
  refine ⟨h0.trans ?_, h1, h2⟩
  rw [a0, a1]
  funext i
  refine Eq.trans ?_ (congrFun (AdaModIdeal.Product.result2 m c) i).symm
  idx_vars i
  pointwise
  rfl

end Cert.AdaMod

end
-- ==== Proof.AdamwA.lean ====
/-
  The optimiser's step for a device's columns of the convolution branch's way out: blocks of rows, each with its change and its two running means, against the same
  lines on the whole arrays.
-/
module

public import proofs.«01_k».proof.Defs
public import proofs.«01_k».proof.Proof.Gen.AdamwAIdeal.Value
public import proofs.«01_k».proof.Proof.Gen.AdamwARefIdeal.Run

@[expose] public section

set_option maxRecDepth 16384

noncomputable section

open Idealize.ShloMosaic Idealize.ShloMosaic.TcCoe Idealize.SL.Sem

namespace Cert.AdamwA

/-- The launch and the lines on the whole arrays end with the same three arrays. -/
theorem algebraic : Cert.algebraic_AdamwAIdeal_AdamwARefIdeal := by
  intro m g m' g' _ ha
  refine ⟨fun c => _, fun c => _, fun c => _, AdamwAIdeal.Value.run m g, ?_⟩
  refine (θ_run _ _ _).mono (fun r h c => ?_) (AdamwARefIdeal.Value.run m' g')
  obtain ⟨h0, h1, h2, hk⟩ := h c
  obtain ⟨a0, a1, a2, a3⟩ := ha c
  refine ⟨h0.trans ?_, h1.trans ?_, h2.trans ?_, hk⟩ <;> clear h0 h1 h2 hk h ha
  · dsimp only
    rw [a0, a1, a2, a3]
    funext i
    rfl
  · dsimp only
    rw [a1, a2]
    funext i
    rfl
  · dsimp only
    rw [a1, a3]
    funext i
    rfl

end Cert.AdamwA

end
-- ==== Proof.AdamwAda.lean ====
/-
  The optimiser's step for the weight of the conditioning: blocks of rows, each with its change and its two running means, against the same
  lines on the whole arrays.
-/
module

public import proofs.«01_k».proof.Defs
public import proofs.«01_k».proof.Proof.Gen.AdamwAdaIdeal.Value
public import proofs.«01_k».proof.Proof.Gen.AdamwAdaRefIdeal.Run

@[expose] public section

set_option maxRecDepth 16384

noncomputable section

open Idealize.ShloMosaic Idealize.ShloMosaic.TcCoe Idealize.SL.Sem

namespace Cert.AdamwAda

/-- The launch and the lines on the whole arrays end with the same three arrays. -/
theorem algebraic : Cert.algebraic_AdamwAdaIdeal_AdamwAdaRefIdeal := by
  intro m g m' g' _ ha
  refine ⟨fun c => _, fun c => _, fun c => _, AdamwAdaIdeal.Value.run m g, ?_⟩
  refine (θ_run _ _ _).mono (fun r h c => ?_) (AdamwAdaRefIdeal.Value.run m' g')
  obtain ⟨h0, h1, h2, hk⟩ := h c
  obtain ⟨a0, a1, a2, a3⟩ := ha c
  refine ⟨h0.trans ?_, h1.trans ?_, h2.trans ?_, hk⟩ <;> clear h0 h1 h2 hk h ha
  · dsimp only
    rw [a0, a1, a2, a3]
    funext i
    rfl
  · dsimp only
    rw [a1, a2]
    funext i
    rfl
  · dsimp only
    rw [a1, a3]
    funext i
    rfl

end Cert.AdamwAda

end
-- ==== Proof.AdamwDown.lean ====
/-
  The optimiser's step for a device's rows of a narrow product's weight: blocks of rows, each with its change and its two running means, against the same
  lines on the whole arrays.
-/
module

public import proofs.«01_k».proof.Defs
public import proofs.«01_k».proof.Proof.Gen.AdamwDownIdeal.Value
public import proofs.«01_k».proof.Proof.Gen.AdamwDownRefIdeal.Run

@[expose] public section

set_option maxRecDepth 16384

noncomputable section

open Idealize.ShloMosaic Idealize.ShloMosaic.TcCoe Idealize.SL.Sem

namespace Cert.AdamwDown

/-- The launch and the lines on the whole arrays end with the same three arrays. -/
theorem algebraic : Cert.algebraic_AdamwDownIdeal_AdamwDownRefIdeal := by
  intro m g m' g' _ ha
  refine ⟨fun c => _, fun c => _, fun c => _, AdamwDownIdeal.Value.run m g, ?_⟩
  refine (θ_run _ _ _).mono (fun r h c => ?_) (AdamwDownRefIdeal.Value.run m' g')
  obtain ⟨h0, h1, h2, hk⟩ := h c
  obtain ⟨a0, a1, a2, a3⟩ := ha c
  refine ⟨h0.trans ?_, h1.trans ?_, h2.trans ?_, hk⟩ <;> clear h0 h1 h2 hk h ha
  · dsimp only
    rw [a0, a1, a2, a3]
    funext i
    rfl
  · dsimp only
    rw [a1, a2]
    funext i
    rfl
  · dsimp only
    rw [a1, a3]
    funext i
    rfl

end Cert.AdamwDown

end
-- ==== Proof.AdamwIn.lean ====
/-
  The optimiser's step for a device's columns of the mixer's way in: blocks of rows, each with its change and its two running means, against the same
  lines on the whole arrays.
-/
module

public import proofs.«01_k».proof.Defs
public import proofs.«01_k».proof.Proof.Gen.AdamwInIdeal.Value
public import proofs.«01_k».proof.Proof.Gen.AdamwInRefIdeal.Run

@[expose] public section

set_option maxRecDepth 16384

noncomputable section

open Idealize.ShloMosaic Idealize.ShloMosaic.TcCoe Idealize.SL.Sem

namespace Cert.AdamwIn

/-- The launch and the lines on the whole arrays end with the same three arrays. -/
theorem algebraic : Cert.algebraic_AdamwInIdeal_AdamwInRefIdeal := by
  intro m g m' g' _ ha
  refine ⟨fun c => _, fun c => _, fun c => _, AdamwInIdeal.Value.run m g, ?_⟩
  refine (θ_run _ _ _).mono (fun r h c => ?_) (AdamwInRefIdeal.Value.run m' g')
  obtain ⟨h0, h1, h2, hk⟩ := h c
  obtain ⟨a0, a1, a2, a3⟩ := ha c
  refine ⟨h0.trans ?_, h1.trans ?_, h2.trans ?_, hk⟩ <;> clear h0 h1 h2 hk h ha
  · dsimp only
    rw [a0, a1, a2, a3]
    funext i
    rfl
  · dsimp only
    rw [a1, a2]
    funext i
    rfl
  · dsimp only
    rw [a1, a3]
    funext i
    rfl

end Cert.AdamwIn

end
-- ==== Proof.AdamwOut.lean ====
/-
  The optimiser's step for a device's rows of the mixer's way out (and of the attention branch's): blocks of rows, each with its change and its two running means, against the same
  lines on the whole arrays.
-/
module

public import proofs.«01_k».proof.Defs
public import proofs.«01_k».proof.Proof.Gen.AdamwOutIdeal.Value
public import proofs.«01_k».proof.Proof.Gen.AdamwOutRefIdeal.Run

@[expose] public section

set_option maxRecDepth 16384

noncomputable section

open Idealize.ShloMosaic Idealize.ShloMosaic.TcCoe Idealize.SL.Sem

namespace Cert.AdamwOut

/-- The launch and the lines on the whole arrays end with the same three arrays. -/
theorem algebraic : Cert.algebraic_AdamwOutIdeal_AdamwOutRefIdeal := by
  intro m g m' g' _ ha
  refine ⟨fun c => _, fun c => _, fun c => _, AdamwOutIdeal.Value.run m g, ?_⟩
  refine (θ_run _ _ _).mono (fun r h c => ?_) (AdamwOutRefIdeal.Value.run m' g')
  obtain ⟨h0, h1, h2, hk⟩ := h c
  obtain ⟨a0, a1, a2, a3⟩ := ha c
  refine ⟨h0.trans ?_, h1.trans ?_, h2.trans ?_, hk⟩ <;> clear h0 h1 h2 hk h ha
  · dsimp only
    rw [a0, a1, a2, a3]
    funext i
    rfl
  · dsimp only
    rw [a1, a2]
    funext i
    rfl
  · dsimp only
    rw [a1, a3]
    funext i
    rfl

end Cert.AdamwOut

end
-- ==== Proof.AdamwSmall.lean ====
/-
  The optimiser's step for the small weights, packed beside each other: blocks of rows, each with its change and its two running means, against the same
  lines on the whole arrays.
-/
module

public import proofs.«01_k».proof.Defs
public import proofs.«01_k».proof.Proof.Gen.AdamwSmallIdeal.Value
public import proofs.«01_k».proof.Proof.Gen.AdamwSmallRefIdeal.Run

@[expose] public section

set_option maxRecDepth 16384

noncomputable section

open Idealize.ShloMosaic Idealize.ShloMosaic.TcCoe Idealize.SL.Sem

namespace Cert.AdamwSmall

/-- The launch and the lines on the whole arrays end with the same three arrays. -/
theorem algebraic : Cert.algebraic_AdamwSmallIdeal_AdamwSmallRefIdeal := by
  intro m g m' g' _ ha
  refine ⟨fun c => _, fun c => _, fun c => _, AdamwSmallIdeal.Value.run m g, ?_⟩
  refine (θ_run _ _ _).mono (fun r h c => ?_) (AdamwSmallRefIdeal.Value.run m' g')
  obtain ⟨h0, h1, h2, hk⟩ := h c
  obtain ⟨a0, a1, a2, a3⟩ := ha c
  refine ⟨h0.trans ?_, h1.trans ?_, h2.trans ?_, hk⟩ <;> clear h0 h1 h2 hk h ha
  · dsimp only
    rw [a0, a1, a2, a3]
    funext i
    rfl
  · dsimp only
    rw [a1, a2]
    funext i
    rfl
  · dsimp only
    rw [a1, a3]
    funext i
    rfl

end Cert.AdamwSmall

end
-- ==== Proof.AdamwUp.lean ====
/-
  The optimiser's step for a device's columns of a wide product's weight: blocks of rows, each with its change and its two running means, against the same
  lines on the whole arrays.
-/
module

public import proofs.«01_k».proof.Defs
public import proofs.«01_k».proof.Proof.Gen.AdamwUpIdeal.Value
public import proofs.«01_k».proof.Proof.Gen.AdamwUpRefIdeal.Run

@[expose] public section

set_option maxRecDepth 16384

noncomputable section

open Idealize.ShloMosaic Idealize.ShloMosaic.TcCoe Idealize.SL.Sem

namespace Cert.AdamwUp

/-- The launch and the lines on the whole arrays end with the same three arrays. -/
theorem algebraic : Cert.algebraic_AdamwUpIdeal_AdamwUpRefIdeal := by
  intro m g m' g' _ ha
  refine ⟨fun c => _, fun c => _, fun c => _, AdamwUpIdeal.Value.run m g, ?_⟩
  refine (θ_run _ _ _).mono (fun r h c => ?_) (AdamwUpRefIdeal.Value.run m' g')
  obtain ⟨h0, h1, h2, hk⟩ := h c
  obtain ⟨a0, a1, a2, a3⟩ := ha c
  refine ⟨h0.trans ?_, h1.trans ?_, h2.trans ?_, hk⟩ <;> clear h0 h1 h2 hk h ha
  · dsimp only
    rw [a0, a1, a2, a3]
    funext i
    rfl
  · dsimp only
    rw [a1, a2]
    funext i
    rfl
  · dsimp only
    rw [a1, a3]
    funext i
    rfl

end Cert.AdamwUp

end
-- ==== Proof.BOut.lean ====
/-
  The delta branch's way out merged with the convolution's: sixteen blocks of tokens, each the product with the whole
  weight and both branches under their gates, against the same lines over the whole arrays.
-/
module

public import proofs.«01_k».proof.Defs
public import proofs.«01_k».proof.Proof.Sums
public import proofs.«01_k».proof.Proof.Gen.BOutIdeal.Value
public import proofs.«01_k».proof.Proof.Gen.BOutRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.BOutIdeal.Product

open Cert.BOutIdeal Cert.BOutIdeal.Gen Cert.BOutIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = 0 ∧ win0_1.index t (1 : Fin 2) = 0 :=
  (by decide +kernel : ∀ t : Fin grid0.N, _)

/-- Which block of its third operand point `t` is given. -/
theorem at2 : ∀ t : Fin cfg0.N, win0_2.index t (0 : Fin 2) = t.val ∧ win0_2.index t (1 : Fin 2) = 0 :=
  (by decide +kernel : ∀ t : Fin grid0.N, _)

/-- Which block of its fourth operand point `t` is given. -/
theorem at3 : ∀ t : Fin cfg0.N, win0_3.index t (0 : Fin 2) = t.val ∧ win0_3.index t (1 : Fin 2) = 2 :=
  (by decide +kernel : ∀ t : Fin grid0.N, _)

/-- Which block of the result point `t` writes. -/
theorem at4 : ∀ t : Fin cfg0.N, win0_4.index t (0 : Fin 2) = t.val ∧ win0_4.index t (1 : Fin 2) = 0 :=
  (by decide +kernel : ∀ t : Fin grid0.N, _)

/-- Which block of the result point `t` writes. -/
theorem at5 : ∀ t : Fin cfg0.N, win0_5.index t (0 : Fin 2) = t.val ∧ win0_5.index t (1 : Fin 2) = 0 :=
  (by decide +kernel : ∀ t : Fin grid0.N, _)

/-- What a point leaves in its block of the result. -/
theorem out4 (x0 : Vec F S512x1024 .bf16) (x1 : Vec F S1024x1024 .bf16) (x2 : Vec F S512x1024 .f32) (x3 : Vec F S512x2048 .f32) :
    out0_4 (F := F) x0 x1 x2 x3 = k0_pay1 x0 x1 := by
  unfold out0_4
  rw [View.canon_unit_zero origin2]
  simp only [View.ld_unit_zero (S := S1024x1024) origin2, View.ld_unit_zero (S := S512x1024) origin2]

/-- What a point leaves in its block of the result. -/
theorem out5 (x0 : Vec F S512x1024 .bf16) (x1 : Vec F S1024x1024 .bf16) (x2 : Vec F S512x1024 .f32) (x3 : Vec F S512x2048 .f32) :
    out0_5 (F := F) x0 x1 x2 x3 = k0_pay2 x0 x1 (View.ld x3 r0_2) x2 (View.ld x3 r0_3) := by
  unfold out0_5
  rw [View.canon_unit_zero origin2]
  simp only [View.ld_unit_zero (S := S1024x1024) origin2, View.ld_unit_zero (S := S512x1024) origin2]

/-- The operand as the launch hands it over. -/
theorem v0_eq (c : Dev nD) :
    V m c main_v0 = truncf .bf16 (m ((c.tc : Thread nD τ).loc main_arg0)) bitsLt_bf16_f32 := by
  unfold V; after_results

/-- The operand as the launch hands it over. -/
theorem v1_eq (c : Dev nD) :
    V m c main_v1 = truncf .bf16 (m ((c.tc : Thread nD τ).loc main_arg1)) bitsLt_bf16_f32 := by
  unfold V; after_results

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S1024x1024.Idx → EReal := m ((c.tc : Thread nD τ).loc main_arg1)

/-- An argument's entries. -/
abbrev arg2 (c : Dev nD) : S8192x1024.Idx → EReal := m ((c.tc : Thread nD τ).loc main_arg2)

/-- An argument's entries. -/
abbrev arg3 (c : Dev nD) : S8192x8192.Idx → EReal := m ((c.tc : Thread nD τ).loc main_arg3)

/-- An element of point `t`'s block of the first operand. -/
theorem blk0_at (c : Dev nD) (t : Fin cfg0.N) (j : Fin 512) (k : Fin 1024) (p : S8192x1024.Idx)
    (p0 : (p 0).val = (t.val) * 512 + j.val) (p1 : (p 1).val = (0) * 1024 + k.val) :
    iblk m c 0 t (ValueIdx.ix2 j k) = arg0 m c p := by
  unfold iblk
  rw [View.read_apply]
  show V m c main_v0 _ = _
  rw [v0_eq]
  show m ((c.tc : Thread nD τ).loc main_arg0) _ = _
  congr 1
  obtain ⟨f0, f1⟩ := at0 t
  funext a; apply Fin.ext
  match a with
  | ⟨0, _⟩ => show win0_0.index t 0 * 512 + 1 * j.val = (p 0).val; omega
  | ⟨1, _⟩ => show win0_0.index t 1 * 1024 + 1 * k.val = (p 1).val; omega

/-- An element of point `t`'s block of the second operand. -/
theorem blk1_at (c : Dev nD) (t : Fin cfg0.N) (j : Fin 1024) (k : Fin 1024) (p : S1024x1024.Idx)
    (p0 : (p 0).val = (0) * 1024 + j.val) (p1 : (p 1).val = (0) * 1024 + k.val) :
    iblk m c 1 t (ValueIdx.ix2 j k) = arg1 m c p := by
  unfold iblk
  rw [View.read_apply]
  show V m c main_v1 _ = _
  rw [v1_eq]
  show m ((c.tc : Thread nD τ).loc main_arg1) _ = _
  congr 1
  obtain ⟨f0, f1⟩ := at1 t
  funext a; apply Fin.ext
  match a with
  | ⟨0, _⟩ => show win0_1.index t 0 * 1024 + 1 * j.val = (p 0).val; omega
  | ⟨1, _⟩ => show win0_1.index t 1 * 1024 + 1 * k.val = (p 1).val; omega

/-- An element of point `t`'s block of the third operand. -/
theorem blk2_at (c : Dev nD) (t : Fin cfg0.N) (j : Fin 512) (k : Fin 1024) (p : S8192x1024.Idx)
    (p0 : (p 0).val = (t.val) * 512 + j.val) (p1 : (p 1).val = (0) * 1024 + k.val) :
    iblk m c 2 t (ValueIdx.ix2 j k) = arg2 m c p := by
  unfold iblk
  rw [View.read_apply]
  show V m c main_arg2 _ = _
  rw [V_main_arg2]
  show m ((c.tc : Thread nD τ).loc main_arg2) _ = _
  congr 1
  obtain ⟨f0, f1⟩ := at2 t
  funext a; apply Fin.ext
  match a with
  | ⟨0, _⟩ => show win0_2.index t 0 * 512 + 1 * j.val = (p 0).val; omega
  | ⟨1, _⟩ => show win0_2.index t 1 * 1024 + 1 * k.val = (p 1).val; omega

/-- An element of point `t`'s block of the fourth operand. -/
theorem blk3_at (c : Dev nD) (t : Fin cfg0.N) (j : Fin 512) (k : Fin 2048) (p : S8192x8192.Idx)
    (p0 : (p 0).val = (t.val) * 512 + j.val) (p1 : (p 1).val = (2) * 2048 + k.val) :
    iblk m c 3 t (ValueIdx.ix2 j k) = arg3 m c p := by
  unfold iblk
  rw [View.read_apply]
  show V m c main_arg3 _ = _
  rw [V_main_arg3]
  show m ((c.tc : Thread nD τ).loc main_arg3) _ = _
  congr 1
  obtain ⟨f0, f1⟩ := at3 t
  funext a; apply Fin.ext
  match a with
  | ⟨0, _⟩ => show win0_3.index t 0 * 512 + 1 * j.val = (p 0).val; omega
  | ⟨1, _⟩ => show win0_3.index t 1 * 2048 + 1 * k.val = (p 1).val; omega

/-- The product of two blocks at an index. -/
theorem pay_at (x : Vec Ideal S512x1024 .bf16) (y : Vec Ideal S1024x1024 .bf16) (j : Fin 512) (l : Fin 1024) :
    (k0_pay1 x y : Vec Ideal S512x1024 .f32) (ValueIdx.ix2 j l)
      = ∑ k : Fin 1024, (x (ValueIdx.ix2 j k) : EReal) * y (ValueIdx.ix2 k l) := by
  unfold k0_pay1
  pointwise
  try rfl

/-- Two branches merged, each under its gate. -/
abbrev _root_.Cert.BOut.merged (ga ya gb yb : EReal) : EReal := Ideal.logistic ga * ya + Ideal.logistic gb * yb
open Cert.BOut (merged)

/-- The merged block at an index. -/
theorem merged_at (x : Vec Ideal S512x1024 .bf16) (y : Vec Ideal S1024x1024 .bf16) (ga ya gb : Vec Ideal S512x1024 .f32) (j : Fin 512) (l : Fin 1024) :
    (k0_pay2 x y ga ya gb : Vec Ideal S512x1024 .bf16) (ValueIdx.ix2 j l)
      = merged (ga (ValueIdx.ix2 j l)) (ya (ValueIdx.ix2 j l)) (gb (ValueIdx.ix2 j l))
          (∑ k : Fin 1024, (x (ValueIdx.ix2 j k) : EReal) * y (ValueIdx.ix2 k l)) := by
  refine Eq.trans ?_ (congrArg (merged _ _ _) (pay_at x y j l))
  unfold k0_pay2 merged
  generalize k0_pay1 x y = w
  pointwise
  try rfl

/-- The result, as one function of the arguments. -/
theorem result4 (c : Dev nD) : (dats m 0 c).arrAt 4 cfg0.N = (fun i => ∑ k : Fin 1024, arg0 m c (ValueIdx.ix2 (i 0) k) * arg1 m c (ValueIdx.ix2 k (i 1)) : S8192x1024.Idx → EReal) := by
  refine (dats m 0 c).arrAt_eq_of_covers 4 _ (by decide +kernel) fun t hf y => ?_
  blk_simp
  rw [after0_4, out4]
  obtain ⟨f0, f1⟩ := at4 t
  idx_vars y
  have d0 : ((win0_4.blk t).view.emb (ValueIdx.ix2 y0 y1) 0).val = (t.val) * 512 + y0.val := by
    show win0_4.index t 0 * 512 + 1 * y0.val = _; omega
  have d1 : ((win0_4.blk t).view.emb (ValueIdx.ix2 y0 y1) 1).val = (0) * 1024 + y1.val := by
    show win0_4.index t 1 * 1024 + 1 * y1.val = _; omega
  exact (pay_at _ _ _ _).trans (Finset.sum_congr rfl fun k _ => congrArg₂ (· * ·)
    (blk0_at m c t _ k _ d0 (by show k.val = _; omega)) (blk1_at m c t k _ _ (by show k.val = _; omega) d1))

/-- The result, as one function of the arguments. -/
theorem result5 (c : Dev nD) : (dats m 0 c).arrAt 5 cfg0.N = (fun i => merged (arg3 m c (ValueIdx.ix2 (i 0) ⟨4096 + (i 1).val, by have : (i 1).val < 1024 := (i 1).isLt; omega⟩)) (arg2 m c i) (arg3 m c (ValueIdx.ix2 (i 0) ⟨5120 + (i 1).val, by have : (i 1).val < 1024 := (i 1).isLt; omega⟩)) (∑ k : Fin 1024, arg0 m c (ValueIdx.ix2 (i 0) k) * arg1 m c (ValueIdx.ix2 k (i 1))) : S8192x1024.Idx → EReal) := by
  refine (dats m 0 c).arrAt_eq_of_covers 5 _ (by decide +kernel) fun t hf y => ?_
  blk_simp
  rw [after0_5, out5]
  obtain ⟨f0, f1⟩ := at5 t
  idx_vars y
  have d0 : ((win0_5.blk t).view.emb (ValueIdx.ix2 y0 y1) 0).val = (t.val) * 512 + y0.val := by
    show win0_5.index t 0 * 512 + 1 * y0.val = _; omega
  have d1 : ((win0_5.blk t).view.emb (ValueIdx.ix2 y0 y1) 1).val = (0) * 1024 + y1.val := by
    show win0_5.index t 1 * 1024 + 1 * y1.val = _; omega
  refine (merged_at _ _ _ _ _ _ _).trans ?_
  have s : ∀ q : ℕ, True := fun _ => trivial
  refine congr (congr (congr (congrArg merged ?_) ?_) ?_) (Finset.sum_congr rfl fun k _ => congrArg₂ (· * ·)
    (blk0_at m c t _ k _ d0 (by show k.val = _; omega)) (blk1_at m c t k _ _ (by show k.val = _; omega) d1))
  · refine Eq.trans ?_ (blk3_at m c t y0 ⟨y1.val, by omega⟩ _ d0 (by show 4096 + (win0_5.index t 1 * 1024 + y1.val) = 2 * 2048 + y1.val; omega))
    refine congrArg (iblk m c 3 t) (funext fun a => Fin.ext ?_)
    match a with
    | ⟨0, _⟩ => show 0 + 1 * y0.val = y0.val; omega
    | ⟨1, _⟩ => show 0 + 1 * y1.val = y1.val; omega
  · exact blk2_at m c t _ _ _ d0 d1
  · refine Eq.trans ?_ (blk3_at m c t y0 ⟨1024 + y1.val, by omega⟩ _ d0 (by show 5120 + (win0_5.index t 1 * 1024 + y1.val) = 2 * 2048 + (1024 + y1.val); omega))
    refine congrArg (iblk m c 3 t) (funext fun a => Fin.ext ?_)
    match a with
    | ⟨0, _⟩ => show 0 + 1 * y0.val = y0.val; omega
    | ⟨1, _⟩ => show 1024 + 1 * y1.val = 1024 + y1.val; omega

end Cert.BOutIdeal.Product

namespace Cert.BOut

/-- The launch and the plain lines end with the same two arrays. -/
theorem algebraic : Cert.algebraic_BOutIdeal_BOutRefIdeal := by
  intro m g m' g' _ ha
  refine ⟨fun c => (BOutIdeal.Gen.dats m 0 c).arrAt 4 BOutIdeal.cfg0.N, fun c => (BOutIdeal.Gen.dats m 0 c).arrAt 5 BOutIdeal.cfg0.N,
    BOutIdeal.Value.run_blocks m g, ?_⟩
  refine (θ_run _ _ _).mono (fun r h c => ?_) (BOutRefIdeal.Value.run m' g')
  obtain ⟨h0, h1, h2⟩ := h c
  obtain ⟨a0, a1, a2, a3⟩ := ha c
  refine ⟨h0.trans ?_, h1.trans ?_, h2⟩
  · rw [a0, a1]
    funext i
    refine Eq.trans ?_ (congrFun (BOutIdeal.Product.result4 m c) i).symm
    idx_vars i
    pointwise
    rfl
  · rw [a0, a1, a2, a3]
    funext i
    refine Eq.trans ?_ (congrFun (BOutIdeal.Product.result5 m c) i).symm
    clear a0 a1 a2 a3 h0 h1 h2 h ha
    idx_vars i
    pointwise
    rfl

end Cert.BOut

end
-- ==== Proof.Dmg.lean ====
/-
  The gradient of the mixer's merged branches: eight blocks of tokens, each multiplied by the whole weight, against the
  derivative of `m @ w` with respect to `m`.
-/
module

public import proofs.«01_k».proof.Defs
public import proofs.«01_k».proof.Proof.Sums
public import proofs.«01_k».proof.Proof.Gen.DmgIdeal.Value
public import proofs.«01_k».proof.Proof.Gen.DmgRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.DmgIdeal.Product

open Cert.DmgIdeal Cert.DmgIdeal.Gen Cert.DmgIdeal.Value Cert.Sums

section
variable {F : FTy → Type} [FloatOps F]
variable (m : (ℓ : Loc nD τ sig) → Buf (Elt F) ℓ)

/-- Which blocks point `t` is given and which it writes. -/
theorem given : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A point's block of the result: the product of the blocks it is given. -/
theorem out2 (x : Vec F S1024x1024 .bf16) (y : Vec F S1024x1024 .bf16) : out0_2 (F := F) x y = k0_pay1 x y := by
  unfold out0_2
  rw [View.canon_unit_zero origin2]
  simp only [View.ld_unit_zero (S := S1024x1024) origin2]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

end

variable (m : (ℓ : Loc nD τ sig) → Buf (Elt Ideal) ℓ)

/-- The first operand's entries. -/
abbrev lhs (c : Dev nD) : S8192x1024.Idx → EReal := m ((c.tc : Thread nD τ).loc main_arg0)
/-- The second operand's entries. -/
abbrev rhs (c : Dev nD) : S1024x1024.Idx → EReal := m ((c.tc : Thread nD τ).loc main_arg1)

/-- An element of point `t`'s first block. -/
theorem lhs_at (c : Dev nD) (t : Fin cfg0.N) (j : Fin 1024) (k : Fin 1024) (p : S8192x1024.Idx)
    (p0 : (p 0).val = t.val * 1024 + j.val) (p1 : (p 1).val = 0 * 1024 + k.val) :
    iblk m c 0 t (ValueIdx.ix2 j k) = lhs m c p := by
  unfold iblk
  rw [View.read_apply]
  show V m c main_v0 _ = _
  rw [lhs_eq]
  show m ((c.tc : Thread nD τ).loc main_arg0) _ = _
  congr 1
  obtain ⟨f0, f1, _⟩ := given t
  funext a; apply Fin.ext
  match a with
  | ⟨0, _⟩ => show win0_0.index t 0 * 1024 + 1 * j.val = (p 0).val; omega
  | ⟨1, _⟩ => show win0_0.index t 1 * 1024 + 1 * k.val = (p 1).val; omega

/-- An element of point `t`'s second block. -/
theorem rhs_at (c : Dev nD) (t : Fin cfg0.N) (l : Fin 1024) (k : Fin 1024) (p : S1024x1024.Idx)
    (p0 : (p 0).val = 0 * 1024 + l.val) (p1 : (p 1).val = 0 * 1024 + k.val) :
    iblk m c 1 t (ValueIdx.ix2 l k) = rhs m c p := by
  unfold iblk
  rw [View.read_apply]
  show V m c main_v1 _ = _
  rw [rhs_eq]
  show m ((c.tc : Thread nD τ).loc main_arg1) _ = _
  congr 1
  obtain ⟨_, _, f2, f3, _⟩ := given t
  funext a; apply Fin.ext
  match a with
  | ⟨0, _⟩ => show win0_1.index t 0 * 1024 + 1 * l.val = (p 0).val; omega
  | ⟨1, _⟩ => show win0_1.index t 1 * 1024 + 1 * k.val = (p 1).val; omega

/-- The product of two blocks at an index. -/
theorem pay_at (x : Vec Ideal S1024x1024 .bf16) (y : Vec Ideal S1024x1024 .bf16) (j : Fin 1024) (l : Fin 1024) :
    (k0_pay1 x y : Vec Ideal S1024x1024 .f32) (ValueIdx.ix2 j l)
      = ∑ k : Fin 1024, (x (ValueIdx.ix2 j k) : EReal) * y (ValueIdx.ix2 l k) := by
  unfold k0_pay1
  pointwise
  try rfl

/-- The result: the whole sum at every index. -/
theorem result_eq (c : Dev nD) : (dats m 0 c).arrAt 2 cfg0.N
    = (fun i => ∑ k : Fin 1024, lhs m c (ValueIdx.ix2 (i 0) k) * rhs m c (ValueIdx.ix2 (i 1) k) : S8192x1024.Idx → EReal) := by
  refine (dats m 0 c).arrAt_eq_of_covers 2 _ (by decide +kernel) fun t hf y => ?_
  blk_simp
  rw [after0_2, out2]
  obtain ⟨_, _, _, _, f0, f1⟩ := given t
  idx_vars y
  refine (pay_at _ _ _ _).trans (Finset.sum_congr rfl fun k _ => congrArg₂ (· * ·) ?_ ?_)
  · refine lhs_at m c t _ k _ ?_ ?_
    · show win0_2.index t 0 * 1024 + 1 * y0.val = _; omega
    · show k.val = _; omega
  · refine rhs_at m c t _ k _ ?_ ?_
    · show win0_2.index t 1 * 1024 + 1 * y1.val = _; omega
    · show k.val = _; omega

end Cert.DmgIdeal.Product

namespace Cert.Dmg

/-- The launch and the derivative of the plain product end with the same array. -/
theorem algebraic : Cert.algebraic_DmgIdeal_DmgRefIdeal := by
  intro m g m' g' _ ha
  refine ⟨fun c => (DmgIdeal.Gen.dats m 0 c).arrAt 2 DmgIdeal.cfg0.N, DmgIdeal.Value.run_blocks m g, ?_⟩
  refine (θ_run _ _ _).mono (fun r h c => ?_) (DmgRefIdeal.Value.run m' g')
  obtain ⟨h0, h1, h2⟩ := h c
  obtain ⟨a0, a1⟩ := ha c
  refine ⟨h0.trans ?_, h1, h2⟩
  rw [a0, a1]
  funext i
  refine Eq.trans ?_ (congrFun (DmgIdeal.Product.result_eq m c) i).symm
  idx_vars i
  pointwise
  rfl

end Cert.Dmg

end
-- ==== Proof.Down.lean ====
/-
  The feed-forward's way down, added to the stream: eight blocks of tokens, each the product with the whole weight, half
  of it times the scale added to the stream, against the same lines over the whole arrays.
-/
module

public import proofs.«01_k».proof.Defs
public import proofs.«01_k».proof.Proof.Sums
public import proofs.«01_k».proof.Proof.Gen.DownIdeal.Value
public import proofs.«01_k».proof.Proof.Gen.DownRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.DownIdeal.Product

open Cert.DownIdeal Cert.DownIdeal.Gen Cert.DownIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = 0 ∧ win0_1.index t (1 : Fin 2) = 0 :=
  (by decide +kernel : ∀ t : Fin grid0.N, _)

/-- Which block of its third operand point `t` is given. -/
theorem at2 : ∀ t : Fin cfg0.N, win0_2.index t (0 : Fin 2) = t.val ∧ win0_2.index t (1 : Fin 2) = 0 :=
  (by decide +kernel : ∀ t : Fin grid0.N, _)

/-- Which block of its fourth operand point `t` is given. -/
theorem at3 : ∀ t : Fin cfg0.N, win0_3.index t (0 : Fin 2) = 0 ∧ win0_3.index t (1 : Fin 2) = 0 :=
  (by decide +kernel : ∀ t : Fin grid0.N, _)

/-- Which block of the result point `t` writes. -/
theorem at4 : ∀ t : Fin cfg0.N, win0_4.index t (0 : Fin 2) = t.val ∧ win0_4.index t (1 : Fin 2) = 0 :=
  (by decide +kernel : ∀ t : Fin grid0.N, _)

/-- Which block of the result point `t` writes. -/
theorem at5 : ∀ t : Fin cfg0.N, win0_5.index t (0 : Fin 2) = t.val ∧ win0_5.index t (1 : Fin 2) = 0 :=
  (by decide +kernel : ∀ t : Fin grid0.N, _)

/-- What a point leaves in its block of the result. -/
theorem out4 (x0 : Vec F S1024x2816 .bf16) (x1 : Vec F S2816x1024 .bf16) (x2 : Vec F S1024x1024 .f32) (x3 : Vec F S1x1024 .f32) :
    out0_4 (F := F) x0 x1 x2 x3 = k0_pay3 x0 x1 x2 x3 := by
  unfold out0_4
  rw [View.canon_unit_zero origin2]
  simp only [View.ld_unit_zero (S := S1024x1024) origin2, View.ld_unit_zero (S := S1024x2816) origin2, View.ld_unit_zero (S := S1x1024) origin2, View.ld_unit_zero (S := S2816x1024) origin2]

/-- What a point leaves in its block of the result. -/
theorem out5 (x0 : Vec F S1024x2816 .bf16) (x1 : Vec F S2816x1024 .bf16) (x2 : Vec F S1024x1024 .f32) (x3 : Vec F S1x1024 .f32) :
    out0_5 (F := F) x0 x1 x2 x3 = k0_pay2 x0 x1 := by
  unfold out0_5
  rw [View.canon_unit_zero origin2]
  simp only [View.ld_unit_zero (S := S1024x1024) origin2, View.ld_unit_zero (S := S1024x2816) origin2, View.ld_unit_zero (S := S1x1024) origin2, View.ld_unit_zero (S := S2816x1024) origin2]

/-- The operand as the launch hands it over. -/
theorem v0_eq (c : Dev nD) :
    V m c main_v0 = truncf .bf16 (m ((c.tc : Thread nD τ).loc main_arg0)) bitsLt_bf16_f32 := by
  unfold V; after_results

/-- The operand as the launch hands it over. -/
theorem v1_eq (c : Dev nD) :
    V m c main_v1 = truncf .bf16 (m ((c.tc : Thread nD τ).loc main_arg1)) bitsLt_bf16_f32 := by
  unfold V; after_results

end

variable (m : (ℓ : Loc nD τ sig) → Buf (Elt Ideal) ℓ)

/-- An argument's entries. -/
abbrev arg0 (c : Dev nD) : S8192x2816.Idx → EReal := m ((c.tc : Thread nD τ).loc main_arg0)

/-- An argument's entries. -/
abbrev arg1 (c : Dev nD) : S2816x1024.Idx → EReal := m ((c.tc : Thread nD τ).loc main_arg1)

/-- An argument's entries. -/
abbrev arg2 (c : Dev nD) : S8192x1024.Idx → EReal := m ((c.tc : Thread nD τ).loc main_arg2)

/-- An argument's entries. -/
abbrev arg3 (c : Dev nD) : S1x1024.Idx → EReal := m ((c.tc : Thread nD τ).loc main_arg3)

/-- An element of point `t`'s block of the first operand. -/
theorem blk0_at (c : Dev nD) (t : Fin cfg0.N) (j : Fin 1024) (k : Fin 2816) (p : S8192x2816.Idx)
    (p0 : (p 0).val = (t.val) * 1024 + j.val) (p1 : (p 1).val = (0) * 2816 + k.val) :
    iblk m c 0 t (ValueIdx.ix2 j k) = arg0 m c p := by
  unfold iblk
  rw [View.read_apply]
  show V m c main_v0 _ = _
  rw [v0_eq]
  show m ((c.tc : Thread nD τ).loc main_arg0) _ = _
  congr 1
  obtain ⟨f0, f1⟩ := at0 t
  funext a; apply Fin.ext
  match a with
  | ⟨0, _⟩ => show win0_0.index t 0 * 1024 + 1 * j.val = (p 0).val; omega
  | ⟨1, _⟩ => show win0_0.index t 1 * 2816 + 1 * k.val = (p 1).val; omega

/-- An element of point `t`'s block of the second operand. -/
theorem blk1_at (c : Dev nD) (t : Fin cfg0.N) (j : Fin 2816) (k : Fin 1024) (p : S2816x1024.Idx)
    (p0 : (p 0).val = (0) * 2816 + j.val) (p1 : (p 1).val = (0) * 1024 + k.val) :
    iblk m c 1 t (ValueIdx.ix2 j k) = arg1 m c p := by
  unfold iblk
  rw [View.read_apply]
  show V m c main_v1 _ = _
  rw [v1_eq]
  show m ((c.tc : Thread nD τ).loc main_arg1) _ = _
  congr 1
  obtain ⟨f0, f1⟩ := at1 t
  funext a; apply Fin.ext
  match a with
  | ⟨0, _⟩ => show win0_1.index t 0 * 2816 + 1 * j.val = (p 0).val; omega
  | ⟨1, _⟩ => show win0_1.index t 1 * 1024 + 1 * k.val = (p 1).val; omega

/-- An element of point `t`'s block of the third operand. -/
theorem blk2_at (c : Dev nD) (t : Fin cfg0.N) (j : Fin 1024) (k : Fin 1024) (p : S8192x1024.Idx)
    (p0 : (p 0).val = (t.val) * 1024 + j.val) (p1 : (p 1).val = (0) * 1024 + k.val) :
    iblk m c 2 t (ValueIdx.ix2 j k) = arg2 m c p := by
  unfold iblk
  rw [View.read_apply]
  show V m c main_arg2 _ = _
  rw [V_main_arg2]
  show m ((c.tc : Thread nD τ).loc main_arg2) _ = _
  congr 1
  obtain ⟨f0, f1⟩ := at2 t
  funext a; apply Fin.ext
  match a with
  | ⟨0, _⟩ => show win0_2.index t 0 * 1024 + 1 * j.val = (p 0).val; omega
  | ⟨1, _⟩ => show win0_2.index t 1 * 1024 + 1 * k.val = (p 1).val; omega

/-- An element of point `t`'s block of the fourth operand. -/
theorem blk3_at (c : Dev nD) (t : Fin cfg0.N) (j : Fin 1) (k : Fin 1024) (p : S1x1024.Idx)
    (p0 : (p 0).val = (0) * 1 + j.val) (p1 : (p 1).val = (0) * 1024 + k.val) :
    iblk m c 3 t (ValueIdx.ix2 j k) = arg3 m c p := by
  unfold iblk
  rw [View.read_apply]
  show V m c main_arg3 _ = _
  rw [V_main_arg3]
  show m ((c.tc : Thread nD τ).loc main_arg3) _ = _
  congr 1
  obtain ⟨f0, f1⟩ := at3 t
  funext a; apply Fin.ext
  match a with
  | ⟨0, _⟩ => show win0_3.index t 0 * 1 + 1 * j.val = (p 0).val; omega
  | ⟨1, _⟩ => show win0_3.index t 1 * 1024 + 1 * k.val = (p 1).val; omega

/-- The product of two blocks at an index. -/
theorem pay_at (x : Vec Ideal S1024x2816 .bf16) (y : Vec Ideal S2816x1024 .bf16) (j : Fin 1024) (l : Fin 1024) :
    (k0_pay1 x y : Vec Ideal S1024x1024 .f32) (ValueIdx.ix2 j l)
      = ∑ k : Fin 2816, (x (ValueIdx.ix2 j k) : EReal) * y (ValueIdx.ix2 k l) := by
  unfold k0_pay1
  pointwise
  try rfl

/-- The block of the stream, at an index. -/
theorem pay3_at (x : Vec Ideal S1024x2816 .bf16) (y : Vec Ideal S2816x1024 .bf16) (h : Vec Ideal S1024x1024 .f32)
    (s : Vec Ideal S1x1024 .f32) (j : Fin 1024) (l : Fin 1024) :
    (k0_pay3 x y h s : Vec Ideal S1024x1024 .f32) (ValueIdx.ix2 j l)
      = (h (ValueIdx.ix2 j l) : EReal) + (Ideal.ofBits .f32 0x3F000000#32 * (s (ValueIdx.ix2 0 l) : EReal))
          * ∑ k : Fin 2816, (x (ValueIdx.ix2 j k) : EReal) * y (ValueIdx.ix2 k l) := by
  unfold k0_pay3
  refine Eq.trans ?_ (congrArg (fun q : EReal => (h (ValueIdx.ix2 j l) : EReal) + (Ideal.ofBits .f32 0x3F000000#32 * (s (ValueIdx.ix2 0 l) : EReal)) * q) (pay_at x y j l))
  generalize k0_pay1 x y = w
  pointwise
  try rfl

/-- The result, as one function of the arguments. -/
theorem result4 (c : Dev nD) : (dats m 0 c).arrAt 4 cfg0.N = (fun i => arg2 m c i + (Ideal.ofBits .f32 0x3F000000#32 * arg3 m c (ValueIdx.ix2 0 (i 1))) * ∑ k : Fin 2816, arg0 m c (ValueIdx.ix2 (i 0) k) * arg1 m c (ValueIdx.ix2 k (i 1)) : S8192x1024.Idx → EReal) := by
  refine (dats m 0 c).arrAt_eq_of_covers 4 _ (by decide +kernel) fun t hf y => ?_
  blk_simp
  rw [after0_4, out4]
  obtain ⟨f0, f1⟩ := at4 t
  idx_vars y
  have d0 : ((win0_4.blk t).view.emb (ValueIdx.ix2 y0 y1) 0).val = (t.val) * 1024 + y0.val := by
    show win0_4.index t 0 * 1024 + 1 * y0.val = _; omega
  have d1 : ((win0_4.blk t).view.emb (ValueIdx.ix2 y0 y1) 1).val = (0) * 1024 + y1.val := by
    show win0_4.index t 1 * 1024 + 1 * y1.val = _; omega
  refine (pay3_at _ _ _ _ _ _).trans (congrArg₂ (· + ·) ?_ (congrArg₂ (· * ·) (congrArg _ ?_)
    (Finset.sum_congr rfl fun k _ => congrArg₂ (· * ·) ?_ ?_)))
  · exact blk2_at m c t _ _ _ d0 d1
  · exact blk3_at m c t _ _ _ (by show (0 : ℕ) = _; omega) d1
  · exact blk0_at m c t _ k _ d0 (by show k.val = _; omega)
  · exact blk1_at m c t k _ _ (by show k.val = _; omega) d1

/-- The result, as one function of the arguments. -/
theorem result5 (c : Dev nD) : (dats m 0 c).arrAt 5 cfg0.N = (fun i => ∑ k : Fin 2816, arg0 m c (ValueIdx.ix2 (i 0) k) * arg1 m c (ValueIdx.ix2 k (i 1)) : S8192x1024.Idx → EReal) := by
  refine (dats m 0 c).arrAt_eq_of_covers 5 _ (by decide +kernel) fun t hf y => ?_
  blk_simp
  rw [after0_5, out5]
  obtain ⟨f0, f1⟩ := at5 t
  idx_vars y
  have d0 : ((win0_5.blk t).view.emb (ValueIdx.ix2 y0 y1) 0).val = (t.val) * 1024 + y0.val := by
    show win0_5.index t 0 * 1024 + 1 * y0.val = _; omega
  have d1 : ((win0_5.blk t).view.emb (ValueIdx.ix2 y0 y1) 1).val = (0) * 1024 + y1.val := by
    show win0_5.index t 1 * 1024 + 1 * y1.val = _; omega
  refine (pay_at _ _ _ _).trans (Finset.sum_congr rfl fun k _ => congrArg₂ (· * ·) ?_ ?_)
  · exact blk0_at m c t _ k _ d0 (by show k.val = _; omega)
  · exact blk1_at m c t k _ _ (by show k.val = _; omega) d1

end Cert.DownIdeal.Product

namespace Cert.Down

/-- The launch and the plain lines end with the same two arrays. -/
theorem algebraic : Cert.algebraic_DownIdeal_DownRefIdeal := by
  intro m g m' g' _ ha
  refine ⟨fun c => (DownIdeal.Gen.dats m 0 c).arrAt 4 DownIdeal.cfg0.N, fun c => (DownIdeal.Gen.dats m 0 c).arrAt 5 DownIdeal.cfg0.N,
    DownIdeal.Value.run_blocks m g, ?_⟩
  refine (θ_run _ _ _).mono (fun r h c => ?_) (DownRefIdeal.Value.run m' g')
  obtain ⟨h0, h1, h2⟩ := h c
  obtain ⟨a0, a1, a2, a3⟩ := ha c
  refine ⟨h0.trans ?_, h1.trans ?_, h2⟩
  · rw [a0, a1, a2, a3]
    funext i
    refine Eq.trans ?_ (congrFun (DownIdeal.Product.result4 m c) i).symm
    idx_vars i
    pointwise
    rfl
  · rw [a0, a1]
    funext i
    refine Eq.trans ?_ (congrFun (DownIdeal.Product.result5 m c) i).symm
    idx_vars i
    pointwise
    rfl

end Cert.Down

end
-- ==== Proof.Du.lean ====
/-
  The input gradient of the second feed-forward's way up: its four weight pieces multiplied in turn, each product added
  to what the earlier ones left, against the derivative of `u @ w` with respect to `u`, the pieces set side by side.
-/
module

public import proofs.«01_k».proof.Defs
public import proofs.«01_k».proof.Proof.Sums
public import proofs.«01_k».proof.Proof.Gen.DuIdeal.Value
public import proofs.«01_k».proof.Proof.Gen.DuRefIdeal.Run

@[expose] public section

set_option maxRecDepth 16384

noncomputable section

open Idealize.ShloMosaic Idealize.ShloMosaic.TcCoe Idealize.SL.Sem

namespace Cert.DuIdeal.Product

open Cert.DuIdeal Cert.DuIdeal.Gen Cert.DuIdeal.Value Cert.Sums

variable {F : FTy → Type} [FloatOps F]
variable (m : (ℓ : Loc nD τ sig) → Buf (Elt F) ℓ)

/-- What the first block leaves in the accumulator: its product. -/
theorem first (c : Dev nD) (i : grid0.Coords) (a3 h3 a4 h4 a5 h5 a6 h6 c0 c1 c2 x y) :
    sout0_A_0 (F := F) c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero origin2]
  unfold k0_pay2
  simp only [View.readAt_eq_ld, h3.read_unread, h4.read_unread, View.ld_unit_zero (S := S1024x1408) origin2,
    View.ld_unit_zero (S := S1x1024x1408) origin3, shapeCast_self]

/-- A block in the middle adds its product to what the accumulator holds. -/
theorem middle (c : Dev nD) (i : grid0.Coords) (a3 h3 a4 h4 a5 h5 a6 h6 c0 c1 c2 x y s) :
    sout0_B_0 (F := F) c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero origin2]
  unfold k0_pay3
  simp only [View.readAt_eq_ld, h3.read_unread, h4.read_unread, h6.read_unread, View.ld_unit_zero (S := S1024x1408) origin2,
    View.ld_unit_zero (S := S1x1024x1408) origin3,
    View.ld_unit_zero (S := S1024x1024) origin2, shapeCast_self]

/-- The last block writes the whole sum out. -/
theorem last (c : Dev nD) (i : grid0.Coords) (a3 h3 a4 h4 a5 h5 a6 h6 c0 c1 c2 x y s) :
    out0_C_2 (F := F) c i a3 h3 a4 h4 a5 h5 a6 h6 c0 c1 c2 x y s = k0_pay4 x y s := by
  unfold out0_C_2
  rw [View.read_writes_eq_canon _ _ _ (cover0_C_2 c i a3 h3 a4 h4 a5 h5 a6 h6 c0 c1 c2 x y s)]
  unfold kernelRun0_C
  dsimp only
  rw [View.canon_unit_zero origin2]
  simp only [View.readAt_eq_ld, h3.read_unread, h4.read_unread, h6.read_unread, View.ld_unit_zero (S := S1024x1408) origin2,
    View.ld_unit_zero (S := S1x1024x1408) origin3,
    View.ld_unit_zero (S := S1024x1024) origin2]

/-- The product of point `t`'s blocks. -/
abbrev part (c : Dev nD) (t : Fin cfg0.N) := k0_pay1 (iblk m c 0 t) (iblk m c 1 t)

/-- The accumulator after a run's first point. -/
theorem acc_first (c : Dev nD) (t : Fin cfg0.N) (e : t.val % 4 = 0) :
    (outsAt0 m c t.val t.isLt).2 = part m c t := by
  have e1 : ¬(1 ≤ t.val % 4 ∧ t.val % 4 ≤ 2) := by omega
  have e2 : ¬t.val % 4 = 3 := by omega
  simp only [outsAt0_A m c t e e1 e2, first]

/-- The accumulator after a point in the middle. -/
theorem acc_middle (c : Dev nD) (t : Fin cfg0.N) (s : Vec F S1024x1024 .f32 × Vec F S1024x1024 .f32)
    (e : 1 ≤ t.val % 4 ∧ t.val % 4 ≤ 2) :
    (stAt0 m c t.val t.isLt s).2 = addf s.2 (part m c t) := by
  have e0 : ¬t.val % 4 = 0 := by omega
  have e2 : ¬t.val % 4 = 3 := by omega
  simp only [stAt0_B m c t s e0 e e2, middle]

/-- The block written at a run's last point. -/
theorem out_last (c : Dev nD) (t : Fin cfg0.N) (s : Vec F S1024x1024 .f32 × Vec F S1024x1024 .f32)
    (e : t.val % 4 = 3) :
    (stAt0 m c t.val t.isLt s).1 = k0_pay4 (iblk m c 0 t) (iblk m c 1 t) s.2 := by
  have e0 : ¬t.val % 4 = 0 := by omega
  have e1 : ¬(1 ≤ t.val % 4 ∧ t.val % 4 ≤ 2) := by omega
  simp only [stAt0_C m c t s e0 e1 e, last]

/-- The block written back after four points: their products added in order. -/
theorem swept (c : Dev nD) (n : ℕ) (h3 : n + 3 < cfg0.N) (e0 : n % 4 = 0) :
    (outsAt0 m c (n + 3) h3).1
      = k0_pay4 (iblk m c 0 ⟨n + 3, h3⟩) (iblk m c 1 ⟨n + 3, h3⟩)
          (addf (addf (part m c ⟨n, by omega⟩) (part m c ⟨n + 1, by omega⟩)) (part m c ⟨n + 2, by omega⟩)) := by
  rw [outsAt0_succ m c (n + 2) h3]
  refine (out_last m c ⟨n + 3, h3⟩ _ (by dsimp only; omega)).trans ?_
  rw [outsAt0_succ m c (n + 1) (by omega), acc_middle m c ⟨n + 2, by omega⟩ _ (by dsimp only; omega),
    outsAt0_succ m c n (by omega), acc_middle m c ⟨n + 1, by omega⟩ _ (by dsimp only; omega),
    acc_first m c ⟨n, by omega⟩ (by dsimp only; omega)]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

/-- Which blocks point `t` is given. -/
theorem given : ∀ t : Fin cfg0.N, win0_0.index t (0 : Fin 2) = t.val / 4 ∧ win0_0.index t (1 : Fin 2) = t.val % 4 ∧ win0_1.index t (0 : Fin 3) = t.val % 4 ∧ win0_1.index t (1 : Fin 3) = 0 ∧ win0_1.index t (2 : Fin 3) = 0 :=
  (by decide +kernel : ∀ t : Fin grid0.N, _)

end Cert.DuIdeal.Product

namespace Cert.DuIdeal.Product

open Cert.DuIdeal Cert.DuIdeal.Gen Cert.DuIdeal.Value Cert.Sums

variable (m : (ℓ : Loc nD τ sig) → Buf (Elt Ideal) ℓ)

/-- The first operand's entries. -/
abbrev lhs (c : Dev nD) : S8192x5632.Idx → EReal := m ((c.tc : Thread nD τ).loc main_arg0)
/-- The second operand's entries. -/
abbrev rhs (c : Dev nD) : S4x1024x1408.Idx → EReal := m ((c.tc : Thread nD τ).loc main_arg1)

/-- An element of point `t`'s first block. -/
theorem lhs_at (c : Dev nD) (t : Fin cfg0.N) (k : Fin 1408) (j : Fin 1024) (p : S8192x5632.Idx)
    (p0 : (p 0).val = t.val / 4 * 1024 + j.val) (p1 : (p 1).val = t.val % 4 * 1408 + k.val) :
    iblk m c 0 t (ValueIdx.ix2 j k) = lhs m c p := by
  unfold iblk
  rw [View.read_apply]
  show V m c main_v0 _ = _
  rw [lhs_eq]
  show m ((c.tc : Thread nD τ).loc main_arg0) _ = _
  congr 1
  obtain ⟨f0, f1, f2, f3, f4⟩ := given t
  funext a; apply Fin.ext
  match a with
  | ⟨0, _⟩ => show win0_0.index t 0 * 1024 + 1 * j.val = (p 0).val; omega
  | ⟨1, _⟩ => show win0_0.index t 1 * 1408 + 1 * k.val = (p 1).val; omega

/-- An element of point `t`'s second block. -/
theorem rhs_at (c : Dev nD) (t : Fin cfg0.N) (k : Fin 1408) (l : Fin 1024) (p : S4x1024x1408.Idx)
    (p0 : (p 0).val = t.val % 4 * 1 + 0) (p1 : (p 1).val = 0 * 1024 + l.val) (p2 : (p 2).val = 0 * 1408 + k.val) :
    iblk m c 1 t (ValueIdx.ix3 (0 : Fin 1) l k) = rhs m c p := by
  unfold iblk
  rw [View.read_apply]
  show V m c main_v1 _ = _
  rw [rhs_eq]
  show m ((c.tc : Thread nD τ).loc main_arg1) _ = _
  congr 1
  obtain ⟨f0, f1, f2, f3, f4⟩ := given t
  funext a; apply Fin.ext
  match a with
  | ⟨0, _⟩ => show win0_1.index t 0 * 1 + 1 * (0 : Fin 1).val = (p 0).val; have : (0 : Fin 1).val = 0 := rfl; omega
  | ⟨1, _⟩ => show win0_1.index t 1 * 1024 + 1 * l.val = (p 1).val; omega
  | ⟨2, _⟩ => show win0_1.index t 2 * 1408 + 1 * k.val = (p 2).val; omega

/-- The product of two blocks at an index. -/
theorem pay_at (x : Vec Ideal S1024x1408 .bf16) (y : Vec Ideal S1x1024x1408 .bf16) (j : Fin 1024) (l : Fin 1024) :
    (k0_pay1 x y : Vec Ideal S1024x1024 .f32) (ValueIdx.ix2 j l)
      = ∑ k : Fin 1408, x (ValueIdx.ix2 j k) * y (ValueIdx.ix3 (0 : Fin 1) l k) := by
  unfold k0_pay1
  pointwise
  rfl

/-- The block written back, at an index. -/
theorem out_at (x : Vec Ideal S1024x1408 .bf16) (y : Vec Ideal S1x1024x1408 .bf16) (s : Vec Ideal S1024x1024 .f32) (j : Fin 1024) (l : Fin 1024) :
    (k0_pay4 x y s : Vec Ideal S1024x1024 .f32) (ValueIdx.ix2 j l)
      = ((s (ValueIdx.ix2 j l) : EReal) + (k0_pay1 x y : Vec Ideal S1024x1024 .f32) (ValueIdx.ix2 j l)) := by
  unfold k0_pay4
  generalize k0_pay1 x y = w
  pointwise
  try rfl

/-- The product of point `t`'s blocks is one of the four stretches of the whole sum. -/
theorem part_at (c : Dev nD) (t : Fin cfg0.N) (j : Fin 1024) (l : Fin 1024) (q : ℕ) (hq : q < 4) (J : Fin 8192)
    (L : Fin 1024) (eq : t.val % 4 = q) (eJ : J.val = t.val / 4 * 1024 + j.val) (eL : L.val = 0 * 1024 + l.val) :
    (part m c t (ValueIdx.ix2 j l) : EReal)
      = ∑ k : Fin 1408, lhs m c (ValueIdx.ix2 J ⟨q * 1408 + k.val, by omega⟩) * rhs m c (ValueIdx.ix3 ⟨(q * 1408 + k.val) / 1408, by omega⟩ L ⟨(q * 1408 + k.val) % 1408, Nat.mod_lt _ (by decide)⟩) := by
  subst eq
  refine (pay_at _ _ _ _).trans (Finset.sum_congr rfl fun k _ => congrArg₂ (· * ·) ?_ ?_)
  · exact lhs_at m c t k j _ (by show J.val = _; omega) (by show t.val % 4 * 1408 + k.val = _; omega)
  · exact rhs_at m c t k l _ (by show (t.val % 4 * 1408 + k.val) / 1408 = _; omega) (by show L.val = _; omega) (by show (t.val % 4 * 1408 + k.val) % 1408 = _; omega)

/-- What the launch leaves at an index of the result, in the block's own coordinates. -/
theorem block_at (c : Dev nD) (i : S8192x1024.Idx) (n : ℕ) (hn : n + 3 < cfg0.N) (e : n = 4 * ((i 0).val / 1024)) :
    (G2 m c i : EReal) = (outsAt0 m c (n + 3) hn).1 (ValueIdx.ix2 (⟨(i 0).val % 1024, Nat.mod_lt _ (by decide)⟩ : Fin 1024) (⟨(i 1).val % 1024, Nat.mod_lt _ (by decide)⟩ : Fin 1024)) := by
  have i0 : (i 0).val < 8192 := (i 0).isLt
  have i1 : (i 1).val < 1024 := (i 1).isLt
  have hq : n + 3 = pt2Of i := by unfold pt2Of run2Of; omega
  have hl : loc2Of i = ValueIdx.ix2 (⟨(i 0).val % 1024, Nat.mod_lt _ (by decide)⟩ : Fin 1024) (⟨(i 1).val % 1024, Nat.mod_lt _ (by decide)⟩ : Fin 1024) := by
    funext a; match a with | ⟨0, _⟩ => rfl | ⟨1, _⟩ => rfl
  unfold G2
  rw [dif_pos (hq ▸ hn), ← outsAt0_sweep m c (pt2Of i) (hq ▸ hn), hl]
  simp only [hq]

/-- What the launch leaves at an index of the result: the whole sum. -/
theorem result_at (c : Dev nD) (i : S8192x1024.Idx) :
    (G2 m c i : EReal) = ∑ k : Fin 5632, lhs m c (ValueIdx.ix2 (i 0) ⟨k.val, by omega⟩) * rhs m c (ValueIdx.ix3 ⟨(k.val) / 1408, by omega⟩ (i 1) ⟨(k.val) % 1408, Nat.mod_lt _ (by decide)⟩) := by
  have i0 : (i 0).val < 8192 := (i 0).isLt
  have i1 : (i 1).val < 1024 := (i 1).isLt
  have hN : cfg0.N = 32 := N_0
  obtain ⟨n, e⟩ : ∃ n, n = 4 * ((i 0).val / 1024) := ⟨_, rfl⟩
  have hn : n + 3 < cfg0.N := by rw [hN]; omega
  rw [block_at m c i n hn e, swept m c n hn (by omega), out_at, addf_at, addf_at]
  have q0 := part_at m c ⟨n, by omega⟩ ⟨(i 0).val % 1024, Nat.mod_lt _ (by decide)⟩ ⟨(i 1).val % 1024, Nat.mod_lt _ (by decide)⟩ 0 (by omega) (i 0) (i 1)
    (by dsimp only; omega) (by dsimp only; omega) (by dsimp only; omega)
  have q1 := part_at m c ⟨n + 1, by omega⟩ ⟨(i 0).val % 1024, Nat.mod_lt _ (by decide)⟩ ⟨(i 1).val % 1024, Nat.mod_lt _ (by decide)⟩ 1 (by omega) (i 0) (i 1)
    (by dsimp only; omega) (by dsimp only; omega) (by dsimp only; omega)
  have q2 := part_at m c ⟨n + 2, by omega⟩ ⟨(i 0).val % 1024, Nat.mod_lt _ (by decide)⟩ ⟨(i 1).val % 1024, Nat.mod_lt _ (by decide)⟩ 2 (by omega) (i 0) (i 1)
    (by dsimp only; omega) (by dsimp only; omega) (by dsimp only; omega)
  have q3 := part_at m c ⟨n + 3, hn⟩ ⟨(i 0).val % 1024, Nat.mod_lt _ (by decide)⟩ ⟨(i 1).val % 1024, Nat.mod_lt _ (by decide)⟩ 3 (by omega) (i 0) (i 1)
    (by dsimp only; omega) (by dsimp only; omega) (by dsimp only; omega)
  refine (congrArg₂ (· + ·) (congrArg₂ (· + ·) (congrArg₂ (· + ·) q0 q1) q2) q3).trans ?_
  exact four_stretches 1408 5632 rfl fun k => lhs m c (ValueIdx.ix2 (i 0) ⟨k.val, by omega⟩) * rhs m c (ValueIdx.ix3 ⟨(k.val) / 1408, by omega⟩ (i 1) ⟨(k.val) % 1408, Nat.mod_lt _ (by decide)⟩)

end Cert.DuIdeal.Product

namespace Cert.Du

/-- The launch and the derivative of the plain product end with the same array. -/
theorem algebraic : Cert.algebraic_DuIdeal_DuRefIdeal := by
  intro m g m' g' _ ha
  refine ⟨fun c => DuIdeal.Value.G2 m c, DuIdeal.Value.run m g, ?_⟩
  refine (θ_run _ _ _).mono (fun r h c => ?_) (DuRefIdeal.Value.run m' g')
  obtain ⟨h0, h1, h2⟩ := h c
  obtain ⟨a0, a1⟩ := ha c
  refine ⟨h0.trans ?_, h1, h2⟩
  rw [a0, a1]
  funext i
  refine Eq.trans ?_ (DuIdeal.Product.result_at m c i).symm
  idx_vars i
  pointwise
  refine Finset.sum_congr rfl fun k _ => congrArg₂ (· * ·) rfl ?_
  have hk : k.val < 5632 := k.isLt
  have key : ∀ (q : Fin 4) (r : Fin 1408), q.val = k.val / 1408 → r.val = k.val % 1408 →
      ValueIdx.ix3 q i1 r = ValueIdx.ix3 (⟨k.val / 1408, by omega⟩ : Fin 4) i1 (⟨k.val % 1408, Nat.mod_lt _ (by decide)⟩ : Fin 1408) := by
    intro q r e f
    exact congrArg₂ (fun a b => ValueIdx.ix3 a i1 b) (Fin.ext e) (Fin.ext f)
  by_cases b0 : k.val < 1408
  · refine (dif_pos b0).trans ?_
    exact congrArg (DuIdeal.Product.rhs m c) (key _ _ (by show 0 = k.val / 1408; omega) (by show k.val = k.val % 1408; omega))
  refine (dif_neg b0).trans ?_
  by_cases b1 : k.val - 1408 < 1408
  · refine (dif_pos b1).trans ?_
    exact congrArg (DuIdeal.Product.rhs m c) (key _ _ (by show 1 = k.val / 1408; omega) (by show k.val - 1408 = k.val % 1408; omega))
  refine (dif_neg b1).trans ?_
  by_cases b2 : k.val - 1408 - 1408 < 1408
  · refine (dif_pos b2).trans ?_
    exact congrArg (DuIdeal.Product.rhs m c) (key _ _ (by show 2 = k.val / 1408; omega) (by show k.val - 1408 - 1408 = k.val % 1408; omega))
  refine (dif_neg b2).trans ?_
  exact congrArg (DuIdeal.Product.rhs m c) (key _ _ (by show 3 = k.val / 1408; omega) (by show k.val - 1408 - 1408 - 1408 = k.val % 1408; omega))

end Cert.Du

end
-- ==== Proof.Dya.lean ====
/-
  The input gradient of the convolution branch's way out: its four weight pieces multiplied in turn, each product added
  to what the earlier ones left, against the derivative of `y @ w` with respect to `y`, the pieces set side by side.
-/
module

public import proofs.«01_k».proof.Defs
public import proofs.«01_k».proof.Proof.Sums
public import proofs.«01_k».proof.Proof.Gen.DyaIdeal.Value
public import proofs.«01_k».proof.Proof.Gen.DyaRefIdeal.Run

@[expose] public section

set_option maxRecDepth 16384

noncomputable section

open Idealize.ShloMosaic Idealize.ShloMosaic.TcCoe Idealize.SL.Sem

namespace Cert.DyaIdeal.Product

open Cert.DyaIdeal Cert.DyaIdeal.Gen Cert.DyaIdeal.Value Cert.Sums

variable {F : FTy → Type} [FloatOps F]
variable (m : (ℓ : Loc nD τ sig) → Buf (Elt F) ℓ)

/-- What the first block leaves in the accumulator: its product. -/
theorem first (c : Dev nD) (i : grid0.Coords) (a3 h3 a4 h4 a5 h5 a6 h6 c0 c1 c2 x y) :
    sout0_A_0 (F := F) c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero origin2]
  unfold k0_pay2
  simp only [View.readAt_eq_ld, h3.read_unread, h4.read_unread, View.ld_unit_zero (S := S1024x256) origin2,
    View.ld_unit_zero (S := S1x512x256) origin3, shapeCast_self]

/-- A block in the middle adds its product to what the accumulator holds. -/
theorem middle (c : Dev nD) (i : grid0.Coords) (a3 h3 a4 h4 a5 h5 a6 h6 c0 c1 c2 x y s) :
    sout0_B_0 (F := F) c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero origin2]
  unfold k0_pay3
  simp only [View.readAt_eq_ld, h3.read_unread, h4.read_unread, h6.read_unread, View.ld_unit_zero (S := S1024x256) origin2,
    View.ld_unit_zero (S := S1x512x256) origin3,
    View.ld_unit_zero (S := S1024x512) origin2, shapeCast_self]

/-- The last block writes the whole sum out. -/
theorem last (c : Dev nD) (i : grid0.Coords) (a3 h3 a4 h4 a5 h5 a6 h6 c0 c1 c2 x y s) :
    out0_C_2 (F := F) c i a3 h3 a4 h4 a5 h5 a6 h6 c0 c1 c2 x y s = k0_pay4 x y s := by
  unfold out0_C_2
  rw [View.read_writes_eq_canon _ _ _ (cover0_C_2 c i a3 h3 a4 h4 a5 h5 a6 h6 c0 c1 c2 x y s)]
  unfold kernelRun0_C
  dsimp only
  rw [View.canon_unit_zero origin2]
  simp only [View.readAt_eq_ld, h3.read_unread, h4.read_unread, h6.read_unread, View.ld_unit_zero (S := S1024x256) origin2,
    View.ld_unit_zero (S := S1x512x256) origin3,
    View.ld_unit_zero (S := S1024x512) origin2]

/-- The product of point `t`'s blocks. -/
abbrev part (c : Dev nD) (t : Fin cfg0.N) := k0_pay1 (iblk m c 0 t) (iblk m c 1 t)

/-- The accumulator after a run's first point. -/
theorem acc_first (c : Dev nD) (t : Fin cfg0.N) (e : t.val % 4 = 0) :
    (outsAt0 m c t.val t.isLt).2 = part m c t := by
  have e1 : ¬(1 ≤ t.val % 4 ∧ t.val % 4 ≤ 2) := by omega
  have e2 : ¬t.val % 4 = 3 := by omega
  simp only [outsAt0_A m c t e e1 e2, first]

/-- The accumulator after a point in the middle. -/
theorem acc_middle (c : Dev nD) (t : Fin cfg0.N) (s : Vec F S1024x512 .f32 × Vec F S1024x512 .f32)
    (e : 1 ≤ t.val % 4 ∧ t.val % 4 ≤ 2) :
    (stAt0 m c t.val t.isLt s).2 = addf s.2 (part m c t) := by
  have e0 : ¬t.val % 4 = 0 := by omega
  have e2 : ¬t.val % 4 = 3 := by omega
  simp only [stAt0_B m c t s e0 e e2, middle]

/-- The block written at a run's last point. -/
theorem out_last (c : Dev nD) (t : Fin cfg0.N) (s : Vec F S1024x512 .f32 × Vec F S1024x512 .f32)
    (e : t.val % 4 = 3) :
    (stAt0 m c t.val t.isLt s).1 = k0_pay4 (iblk m c 0 t) (iblk m c 1 t) s.2 := by
  have e0 : ¬t.val % 4 = 0 := by omega
  have e1 : ¬(1 ≤ t.val % 4 ∧ t.val % 4 ≤ 2) := by omega
  simp only [stAt0_C m c t s e0 e1 e, last]

/-- The block written back after four points: their products added in order. -/
theorem swept (c : Dev nD) (n : ℕ) (h3 : n + 3 < cfg0.N) (e0 : n % 4 = 0) :
    (outsAt0 m c (n + 3) h3).1
      = k0_pay4 (iblk m c 0 ⟨n + 3, h3⟩) (iblk m c 1 ⟨n + 3, h3⟩)
          (addf (addf (part m c ⟨n, by omega⟩) (part m c ⟨n + 1, by omega⟩)) (part m c ⟨n + 2, by omega⟩)) := by
  rw [outsAt0_succ m c (n + 2) h3]
  refine (out_last m c ⟨n + 3, h3⟩ _ (by dsimp only; omega)).trans ?_
  rw [outsAt0_succ m c (n + 1) (by omega), acc_middle m c ⟨n + 2, by omega⟩ _ (by dsimp only; omega),
    outsAt0_succ m c n (by omega), acc_middle m c ⟨n + 1, by omega⟩ _ (by dsimp only; omega),
    acc_first m c ⟨n, by omega⟩ (by dsimp only; omega)]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

/-- Which blocks point `t` is given. -/
theorem given : ∀ t : Fin cfg0.N, win0_0.index t (0 : Fin 2) = t.val / 4 ∧ win0_0.index t (1 : Fin 2) = t.val % 4 ∧ win0_1.index t (0 : Fin 3) = t.val % 4 ∧ win0_1.index t (1 : Fin 3) = 0 ∧ win0_1.index t (2 : Fin 3) = 0 :=
  (by decide +kernel : ∀ t : Fin grid0.N, _)

end Cert.DyaIdeal.Product

namespace Cert.DyaIdeal.Product

open Cert.DyaIdeal Cert.DyaIdeal.Gen Cert.DyaIdeal.Value Cert.Sums

variable (m : (ℓ : Loc nD τ sig) → Buf (Elt Ideal) ℓ)

/-- The first operand's entries. -/
abbrev lhs (c : Dev nD) : S8192x1024.Idx → EReal := m ((c.tc : Thread nD τ).loc main_arg0)
/-- The second operand's entries. -/
abbrev rhs (c : Dev nD) : S4x512x256.Idx → EReal := m ((c.tc : Thread nD τ).loc main_arg1)

/-- An element of point `t`'s first block. -/
theorem lhs_at (c : Dev nD) (t : Fin cfg0.N) (k : Fin 256) (j : Fin 1024) (p : S8192x1024.Idx)
    (p0 : (p 0).val = t.val / 4 * 1024 + j.val) (p1 : (p 1).val = t.val % 4 * 256 + k.val) :
    iblk m c 0 t (ValueIdx.ix2 j k) = lhs m c p := by
  unfold iblk
  rw [View.read_apply]
  show V m c main_v0 _ = _
  rw [lhs_eq]
  show m ((c.tc : Thread nD τ).loc main_arg0) _ = _
  congr 1
  obtain ⟨f0, f1, f2, f3, f4⟩ := given t
  funext a; apply Fin.ext
  match a with
  | ⟨0, _⟩ => show win0_0.index t 0 * 1024 + 1 * j.val = (p 0).val; omega
  | ⟨1, _⟩ => show win0_0.index t 1 * 256 + 1 * k.val = (p 1).val; omega

/-- An element of point `t`'s second block. -/
theorem rhs_at (c : Dev nD) (t : Fin cfg0.N) (k : Fin 256) (l : Fin 512) (p : S4x512x256.Idx)
    (p0 : (p 0).val = t.val % 4 * 1 + 0) (p1 : (p 1).val = 0 * 512 + l.val) (p2 : (p 2).val = 0 * 256 + k.val) :
    iblk m c 1 t (ValueIdx.ix3 (0 : Fin 1) l k) = rhs m c p := by
  unfold iblk
  rw [View.read_apply]
  show V m c main_v1 _ = _
  rw [rhs_eq]
  show m ((c.tc : Thread nD τ).loc main_arg1) _ = _
  congr 1
  obtain ⟨f0, f1, f2, f3, f4⟩ := given t
  funext a; apply Fin.ext
  match a with
  | ⟨0, _⟩ => show win0_1.index t 0 * 1 + 1 * (0 : Fin 1).val = (p 0).val; have : (0 : Fin 1).val = 0 := rfl; omega
  | ⟨1, _⟩ => show win0_1.index t 1 * 512 + 1 * l.val = (p 1).val; omega
  | ⟨2, _⟩ => show win0_1.index t 2 * 256 + 1 * k.val = (p 2).val; omega

/-- The product of two blocks at an index. -/
theorem pay_at (x : Vec Ideal S1024x256 .bf16) (y : Vec Ideal S1x512x256 .bf16) (j : Fin 1024) (l : Fin 512) :
    (k0_pay1 x y : Vec Ideal S1024x512 .f32) (ValueIdx.ix2 j l)
      = ∑ k : Fin 256, x (ValueIdx.ix2 j k) * y (ValueIdx.ix3 (0 : Fin 1) l k) := by
  unfold k0_pay1
  pointwise
  rfl

/-- The block written back, at an index. -/
theorem out_at (x : Vec Ideal S1024x256 .bf16) (y : Vec Ideal S1x512x256 .bf16) (s : Vec Ideal S1024x512 .f32) (j : Fin 1024) (l : Fin 512) :
    (k0_pay4 x y s : Vec Ideal S1024x512 .f32) (ValueIdx.ix2 j l)
      = ((s (ValueIdx.ix2 j l) : EReal) + (k0_pay1 x y : Vec Ideal S1024x512 .f32) (ValueIdx.ix2 j l)) := by
  unfold k0_pay4
  generalize k0_pay1 x y = w
  pointwise
  try rfl

/-- The product of point `t`'s blocks is one of the four stretches of the whole sum. -/
theorem part_at (c : Dev nD) (t : Fin cfg0.N) (j : Fin 1024) (l : Fin 512) (q : ℕ) (hq : q < 4) (J : Fin 8192)
    (L : Fin 512) (eq : t.val % 4 = q) (eJ : J.val = t.val / 4 * 1024 + j.val) (eL : L.val = 0 * 512 + l.val) :
    (part m c t (ValueIdx.ix2 j l) : EReal)
      = ∑ k : Fin 256, lhs m c (ValueIdx.ix2 J ⟨q * 256 + k.val, by omega⟩) * rhs m c (ValueIdx.ix3 ⟨(q * 256 + k.val) / 256, by omega⟩ L ⟨(q * 256 + k.val) % 256, Nat.mod_lt _ (by decide)⟩) := by
  subst eq
  refine (pay_at _ _ _ _).trans (Finset.sum_congr rfl fun k _ => congrArg₂ (· * ·) ?_ ?_)
  · exact lhs_at m c t k j _ (by show J.val = _; omega) (by show t.val % 4 * 256 + k.val = _; omega)
  · exact rhs_at m c t k l _ (by show (t.val % 4 * 256 + k.val) / 256 = _; omega) (by show L.val = _; omega) (by show (t.val % 4 * 256 + k.val) % 256 = _; omega)

/-- What the launch leaves at an index of the result, in the block's own coordinates. -/
theorem block_at (c : Dev nD) (i : S8192x512.Idx) (n : ℕ) (hn : n + 3 < cfg0.N) (e : n = 4 * ((i 0).val / 1024)) :
    (G2 m c i : EReal) = (outsAt0 m c (n + 3) hn).1 (ValueIdx.ix2 (⟨(i 0).val % 1024, Nat.mod_lt _ (by decide)⟩ : Fin 1024) (⟨(i 1).val % 512, Nat.mod_lt _ (by decide)⟩ : Fin 512)) := by
  have i0 : (i 0).val < 8192 := (i 0).isLt
  have i1 : (i 1).val < 512 := (i 1).isLt
  have hq : n + 3 = pt2Of i := by unfold pt2Of run2Of; omega
  have hl : loc2Of i = ValueIdx.ix2 (⟨(i 0).val % 1024, Nat.mod_lt _ (by decide)⟩ : Fin 1024) (⟨(i 1).val % 512, Nat.mod_lt _ (by decide)⟩ : Fin 512) := by
    funext a; match a with | ⟨0, _⟩ => rfl | ⟨1, _⟩ => rfl
  unfold G2
  rw [dif_pos (hq ▸ hn), ← outsAt0_sweep m c (pt2Of i) (hq ▸ hn), hl]
  simp only [hq]

/-- What the launch leaves at an index of the result: the whole sum. -/
theorem result_at (c : Dev nD) (i : S8192x512.Idx) :
    (G2 m c i : EReal) = ∑ k : Fin 1024, lhs m c (ValueIdx.ix2 (i 0) ⟨k.val, by omega⟩) * rhs m c (ValueIdx.ix3 ⟨(k.val) / 256, by omega⟩ (i 1) ⟨(k.val) % 256, Nat.mod_lt _ (by decide)⟩) := by
  have i0 : (i 0).val < 8192 := (i 0).isLt
  have i1 : (i 1).val < 512 := (i 1).isLt
  have hN : cfg0.N = 32 := N_0
  obtain ⟨n, e⟩ : ∃ n, n = 4 * ((i 0).val / 1024) := ⟨_, rfl⟩
  have hn : n + 3 < cfg0.N := by rw [hN]; omega
  rw [block_at m c i n hn e, swept m c n hn (by omega), out_at, addf_at, addf_at]
  have q0 := part_at m c ⟨n, by omega⟩ ⟨(i 0).val % 1024, Nat.mod_lt _ (by decide)⟩ ⟨(i 1).val % 512, Nat.mod_lt _ (by decide)⟩ 0 (by omega) (i 0) (i 1)
    (by dsimp only; omega) (by dsimp only; omega) (by dsimp only; omega)
  have q1 := part_at m c ⟨n + 1, by omega⟩ ⟨(i 0).val % 1024, Nat.mod_lt _ (by decide)⟩ ⟨(i 1).val % 512, Nat.mod_lt _ (by decide)⟩ 1 (by omega) (i 0) (i 1)
    (by dsimp only; omega) (by dsimp only; omega) (by dsimp only; omega)
  have q2 := part_at m c ⟨n + 2, by omega⟩ ⟨(i 0).val % 1024, Nat.mod_lt _ (by decide)⟩ ⟨(i 1).val % 512, Nat.mod_lt _ (by decide)⟩ 2 (by omega) (i 0) (i 1)
    (by dsimp only; omega) (by dsimp only; omega) (by dsimp only; omega)
  have q3 := part_at m c ⟨n + 3, hn⟩ ⟨(i 0).val % 1024, Nat.mod_lt _ (by decide)⟩ ⟨(i 1).val % 512, Nat.mod_lt _ (by decide)⟩ 3 (by omega) (i 0) (i 1)
    (by dsimp only; omega) (by dsimp only; omega) (by dsimp only; omega)
  refine (congrArg₂ (· + ·) (congrArg₂ (· + ·) (congrArg₂ (· + ·) q0 q1) q2) q3).trans ?_
  exact four_stretches 256 1024 rfl fun k => lhs m c (ValueIdx.ix2 (i 0) ⟨k.val, by omega⟩) * rhs m c (ValueIdx.ix3 ⟨(k.val) / 256, by omega⟩ (i 1) ⟨(k.val) % 256, Nat.mod_lt _ (by decide)⟩)

end Cert.DyaIdeal.Product

namespace Cert.Dya

/-- The launch and the derivative of the plain product end with the same array. -/
theorem algebraic : Cert.algebraic_DyaIdeal_DyaRefIdeal := by
  intro m g m' g' _ ha
  refine ⟨fun c => DyaIdeal.Value.G2 m c, DyaIdeal.Value.run m g, ?_⟩
  refine (θ_run _ _ _).mono (fun r h c => ?_) (DyaRefIdeal.Value.run m' g')
  obtain ⟨h0, h1, h2⟩ := h c
  obtain ⟨a0, a1⟩ := ha c
  refine ⟨h0.trans ?_, h1, h2⟩
  rw [a0, a1]
  funext i
  refine Eq.trans ?_ (DyaIdeal.Product.result_at m c i).symm
  idx_vars i
  pointwise
  refine Finset.sum_congr rfl fun k _ => congrArg₂ (· * ·) rfl ?_
  have hk : k.val < 1024 := k.isLt
  have key : ∀ (q : Fin 4) (r : Fin 256), q.val = k.val / 256 → r.val = k.val % 256 →
      ValueIdx.ix3 q i1 r = ValueIdx.ix3 (⟨k.val / 256, by omega⟩ : Fin 4) i1 (⟨k.val % 256, Nat.mod_lt _ (by decide)⟩ : Fin 256) := by
    intro q r e f
    exact congrArg₂ (fun a b => ValueIdx.ix3 a i1 b) (Fin.ext e) (Fin.ext f)
  by_cases b0 : k.val < 256
  · refine (dif_pos b0).trans ?_
    exact congrArg (DyaIdeal.Product.rhs m c) (key _ _ (by show 0 = k.val / 256; omega) (by show k.val = k.val % 256; omega))
  refine (dif_neg b0).trans ?_
  by_cases b1 : k.val - 256 < 256
  · refine (dif_pos b1).trans ?_
    exact congrArg (DyaIdeal.Product.rhs m c) (key _ _ (by show 1 = k.val / 256; omega) (by show k.val - 256 = k.val % 256; omega))
  refine (dif_neg b1).trans ?_
  by_cases b2 : k.val - 256 - 256 < 256
  · refine (dif_pos b2).trans ?_
    exact congrArg (DyaIdeal.Product.rhs m c) (key _ _ (by show 2 = k.val / 256; omega) (by show k.val - 256 - 256 = k.val % 256; omega))
  refine (dif_neg b2).trans ?_
  exact congrArg (DyaIdeal.Product.rhs m c) (key _ _ (by show 3 = k.val / 256; omega) (by show k.val - 256 - 256 - 256 = k.val % 256; omega))

end Cert.Dya

end
-- ==== Proof.Rows.lean ====
/-
  Single rows written into a small array one after the other, read back at an index; a sum taken in stretches; a constant
  factor taken out of a sum.
-/
module

public import proofs.«01_k».proof.Defs
public import proofs.«01_k».proof.Proof.Sums
public import Idealize.ShloMosaic.Lib.Pipeline.ValueKit.Geometry
public import Idealize.ShloMosaic.Lib.Pipeline.ValueKit.Tiles
public import Idealize.ShloMosaic.Lib.Pipeline.ValueKit.Acc

@[expose] public section

noncomputable section

open Idealize.ShloMosaic

namespace Cert.Rows

variable {R C : ℕ} {e : EltTy} {Val : EltTy → Type} [∀ e, Nonempty (Val e)]

/-- The row written last, read back. -/
theorem hit (r : ℕ) (inb : ∀ a : Fin 2, (![r, 0] : Fin 2 → ℕ) a + (![1, C] : Fin 2 → ℕ) a ≤ (⟨2, ![R, C]⟩ : Shape).size a)
    (w : (⟨2, ![1, C]⟩ : Shape).Idx → Val e) (L : List (View.Piece Val (⟨2, ![R, C]⟩ : Shape) e))
    (y : (⟨2, ![R, C]⟩ : Shape).Idx) (h : (y (0 : Fin 2)).val = r) :
    View.canon ((⟨Rect.unit (s := (⟨2, ![R, C]⟩ : Shape)) ![r, 0] ![1, C] inb, w⟩ : View.Piece Val (⟨2, ![R, C]⟩ : Shape) e) :: L) y
      = w (ValueIdx.ix2 (0 : Fin 1) (y (1 : Fin 2))) := by
  have hy : (Rect.unit (s := (⟨2, ![R, C]⟩ : Shape)) ![r, 0] ![1, C] inb).emb (ValueIdx.ix2 (0 : Fin 1) (y (1 : Fin 2)) : (⟨2, ![1, C]⟩ : Shape).Idx) = y := by
    funext a
    apply Fin.ext
    match a with
    | ⟨0, _⟩ => show r + 1 * 0 = (y (0 : Fin 2)).val; omega
    | ⟨1, _⟩ => show 0 + 1 * (y (1 : Fin 2)).val = (y (1 : Fin 2)).val; omega
  exact (congrArg _ hy.symm).trans (View.canon_cons_emb (Rect.unit (s := (⟨2, ![R, C]⟩ : Shape)) ![r, 0] ![1, C] inb) w L (ValueIdx.ix2 (0 : Fin 1) (y (1 : Fin 2)) : (⟨2, ![1, C]⟩ : Shape).Idx))

/-- Another row, read past the row written last. -/
theorem miss (r : ℕ) (inb : ∀ a : Fin 2, (![r, 0] : Fin 2 → ℕ) a + (![1, C] : Fin 2 → ℕ) a ≤ (⟨2, ![R, C]⟩ : Shape).size a)
    (w : (⟨2, ![1, C]⟩ : Shape).Idx → Val e) (L : List (View.Piece Val (⟨2, ![R, C]⟩ : Shape) e))
    (y : (⟨2, ![R, C]⟩ : Shape).Idx) (h : (y (0 : Fin 2)).val ≠ r) :
    View.canon ((⟨Rect.unit (s := (⟨2, ![R, C]⟩ : Shape)) ![r, 0] ![1, C] inb, w⟩ : View.Piece Val (⟨2, ![R, C]⟩ : Shape) e) :: L) y
      = View.canon L y := by
  refine View.canon_cons_of_not_mem _ L ?_
  show y ∉ (Rect.unit (s := (⟨2, ![R, C]⟩ : Shape)) ![r, 0] ![1, C] inb).set
  rw [Rect.mem_set_unit]
  intro hall
  have k := hall (0 : Fin 2)
  have k1 : r ≤ (y (0 : Fin 2)).val := k.1
  have k2 : (y (0 : Fin 2)).val < r + 1 := k.2
  omega

/-- A row of an array, loaded. -/
theorem row (r : ℕ) (hr : r < R) (inb : ∀ a : Fin 2, (![r, 0] : Fin 2 → ℕ) a + (![1, C] : Fin 2 → ℕ) a ≤ (⟨2, ![R, C]⟩ : Shape).size a)
    (X : (⟨2, ![R, C]⟩ : Shape).Idx → Val e) (l : Fin C) :
    View.ld X (Rect.unit (s := (⟨2, ![R, C]⟩ : Shape)) ![r, 0] ![1, C] inb) (ValueIdx.ix2 (0 : Fin 1) l : (⟨2, ![1, C]⟩ : Shape).Idx)
      = X (ValueIdx.ix2 ⟨r, hr⟩ l) := by
  refine View.ld_unit_apply_of X _ _ inb _ _ fun a => ?_
  match a with
  | ⟨0, _⟩ => show r = r + 0; omega
  | ⟨1, _⟩ => show l.val = 0 + l.val; omega

/-- A finite constant that is not negative, taken out of a sum. -/
theorem factor {n : ℕ} (a : EReal) (h0 : 0 ≤ a) (h1 : a ≠ ⊤) (f : Fin n → EReal) : a * ∑ k : Fin n, f k = ∑ k : Fin n, a * f k := by
  classical
  have key : ∀ s : Finset (Fin n), a * ∑ k ∈ s, f k = ∑ k ∈ s, a * f k := by
    intro s
    induction s using Finset.induction_on with
    | empty => simp
    | insert k s hk ih => rw [Finset.sum_insert hk, Finset.sum_insert hk, EReal.left_distrib_of_nonneg_of_ne_top h0 h1, ih]
  exact key Finset.univ

end Cert.Rows

end
-- ==== Proof.NormMath.lean ====
/-
  The derivative of a root mean square norm, row by row: the form the derivative of the forward line takes, and the
  form with the mean of the product already divided out, are one value — whatever the row holds.
-/
module

public import proofs.«01_k».proof.Proof.Rows

@[expose] public section

namespace Cert.NormMath

open Idealize.ShloMosaic

/-- Twice a multiple. -/
theorem twice (a : ℝ) (s : EReal) : (a : EReal) * s + (a : EReal) * s = ((a + a : ℝ) : EReal) * s := by
  rcases le_total 0 a with h | h
  · rw [EReal.coe_add, EReal.right_distrib_of_nonneg (EReal.coe_nonneg.2 h) (EReal.coe_nonneg.2 h)]
  · have e := EReal.right_distrib_of_nonneg (a := ((-a : ℝ) : EReal)) (b := ((-a : ℝ) : EReal)) (c := -s)
      (EReal.coe_nonneg.2 (by linarith)) (EReal.coe_nonneg.2 (by linarith))
    rw [← EReal.coe_add, EReal.coe_neg, show (-a + -a : ℝ) = -(a + a) by ring, EReal.coe_neg, neg_mul_neg, neg_mul_neg] at e
    exact e.symm

/-- A sum of squares of real numbers is a real number, at least zero. -/
theorem squares {n : ℕ} (h : Fin n → EReal) (hr : ∀ k, ∃ x : ℝ, h k = (x : EReal)) :
    ∃ q : ℝ, 0 ≤ q ∧ ∑ k, h k * h k = (q : EReal) := by
  classical
  have key : ∀ s : Finset (Fin n), ∃ q : ℝ, 0 ≤ q ∧ ∑ k ∈ s, h k * h k = (q : EReal) := by
    intro s
    induction s using Finset.induction_on with
    | empty => exact ⟨0, le_refl _, by simp⟩
    | insert k s hk ih =>
      obtain ⟨q, h0, hq⟩ := ih
      obtain ⟨x, hx⟩ := hr k
      refine ⟨x * x + q, by nlinarith [mul_self_nonneg x], ?_⟩
      rw [Finset.sum_insert hk, hq, hx]
      push_cast; rfl
  exact key Finset.univ

/-- A square is at least zero. -/
theorem sq_nonneg' (x : EReal) : 0 ≤ x * x := by
  induction x using EReal.rec with
  | bot => simp
  | top => simp
  | coe r => rw [← EReal.coe_mul]; exact EReal.coe_nonneg.2 (mul_self_nonneg r)

/-- A sum of squares with an infinite term is infinite. -/
theorem squares_top {n : ℕ} (h : Fin n → EReal) (hr : ¬∀ k, ∃ x : ℝ, h k = (x : EReal)) : ∑ k, h k * h k = ⊤ := by
  obtain ⟨k, hk⟩ := not_forall.1 hr
  have e : h k * h k = ⊤ := by
    generalize h k = y at hk
    induction y using EReal.rec with
    | bot => simp
    | top => simp
    | coe r => exact (hk ⟨r, rfl⟩).elim
  refine top_le_iff.1 (e ▸ ?_)
  exact Finset.single_le_sum (f := fun k => h k * h k) (fun i _ => sq_nonneg' (h i)) (Finset.mem_univ k)

/-- The two forms of the derivative. -/
theorem forms {n : ℕ} (h d : Fin n → EReal) (l : Fin n) (C E M : EReal) (hC : C = ((1024 : ℝ) : EReal)) (ε : ℝ) (he : 0 < ε)
    (hE : E = (ε : EReal)) (hM : M = ((-(1 / 2) : ℝ) : EReal)) :
    d l * Ideal.rsqrt (Ideal.div (∑ k, h k * h k) C + E)
        + h l * Ideal.div ((∑ k, h k * d k) * (M * Ideal.div (Ideal.rsqrt (Ideal.div (∑ k, h k * h k) C + E)) (Ideal.div (∑ k, h k * h k) C + E))) C
        + Ideal.div ((∑ k, h k * d k) * (M * Ideal.div (Ideal.rsqrt (Ideal.div (∑ k, h k * h k) C + E)) (Ideal.div (∑ k, h k * h k) C + E))) C * h l
      = Ideal.rsqrt (Ideal.div (∑ k, h k * h k) C + E)
          * (d l - h l * Ideal.rsqrt (Ideal.div (∑ k, h k * h k) C + E)
              * Ideal.div (∑ k, d k * (h k * Ideal.rsqrt (Ideal.div (∑ k, h k * h k) C + E))) C) := by
  subst hC hE hM
  have n0 : (1024 : ℝ) ≠ 0 := by norm_num
  simp only [Ideal.div_coe n0]
  by_cases hr : ∀ k, ∃ x : ℝ, h k = (x : EReal)
  · obtain ⟨q, q0, hq⟩ := squares h hr
    obtain ⟨x, hx⟩ := hr l
    rw [hq, hx, ← EReal.coe_mul, ← EReal.coe_add]
    have w0 : 0 < q * (1 / 1024) + ε := by positivity
    generalize q * (1 / 1024) + ε = w at w0
    have er : Ideal.rsqrt (w : EReal) = (((Real.sqrt w)⁻¹ : ℝ) : EReal) := by
      rw [Ideal.rsqrt_coe, if_neg (not_lt.2 w0.le), if_neg w0.ne']
    rw [er, Ideal.div_coe w0.ne']
    have r0 : 0 < (Real.sqrt w)⁻¹ := inv_pos.2 (Real.sqrt_pos.2 w0)
    have e1 : 1 / w = (Real.sqrt w)⁻¹ * (Real.sqrt w)⁻¹ := by
      rw [← mul_inv, Real.mul_self_sqrt w0.le, one_div]
    rw [e1]
    generalize (Real.sqrt w)⁻¹ = r at r0
    have es : ∑ k, d k * (h k * (r : EReal)) = (r : EReal) * ∑ k, h k * d k := by
      rw [Rows.factor (r : EReal) (EReal.coe_nonneg.2 r0.le) (EReal.coe_ne_top _)]
      refine Finset.sum_congr rfl fun k _ => ?_
      ac_rfl
    rw [es]
    generalize (∑ k, h k * d k) = s
    rw [sub_eq_add_neg, EReal.left_distrib_of_nonneg_of_ne_top (EReal.coe_nonneg.2 r0.le) (EReal.coe_ne_top _), add_assoc]
    refine congrArg₂ (· + ·) (mul_comm _ _) ?_
    have a1 : (x : EReal) * (s * (((-(1 / 2) : ℝ) : EReal) * ((r : EReal) * ((r * r : ℝ) : EReal))) * ((1 / 1024 : ℝ) : EReal))
        = ((x * (-(1 / 2) * (r * (r * r))) * (1 / 1024) : ℝ) : EReal) * s := by push_cast; ac_rfl
    have a2 : (s * (((-(1 / 2) : ℝ) : EReal) * ((r : EReal) * ((r * r : ℝ) : EReal))) * ((1 / 1024 : ℝ) : EReal)) * (x : EReal)
        = ((x * (-(1 / 2) * (r * (r * r))) * (1 / 1024) : ℝ) : EReal) * s := by rw [mul_comm, a1]
    rw [a1, a2, twice, mul_comm (r : EReal) (-_), neg_mul, ← neg_mul, ← neg_mul]
    rw [show (x * (-(1 / 2) * (r * (r * r))) * (1 / 1024) + x * (-(1 / 2) * (r * (r * r))) * (1 / 1024) : ℝ)
      = -(x * r * (r * (1 / 1024)) * r) by ring, EReal.coe_neg, neg_mul, neg_mul, neg_mul]
    refine congrArg Neg.neg ?_
    push_cast
    ac_rfl
  · rw [squares_top h hr]
    have e : (⊤ : EReal) * ((1 / 1024 : ℝ) : EReal) + (ε : EReal) = ⊤ := by
      rw [EReal.top_mul_coe_of_pos (by norm_num), EReal.top_add_coe]
    rw [e, Ideal.rsqrt_top]
    have z : Ideal.div (0 : EReal) ⊤ = 0 := by simp [Ideal.div]
    rw [z]
    simp

end Cert.NormMath
-- ==== Proof.FinalLoss.lean ====
/-
  The loss behind the last norm and its gradient: the gradient of the stream, the gradient of the norm's weight and the
  columns of the loss added up over the rows, against the forward lines and their derivative. The launch adds the sums up
  block after block.
-/
module

public import proofs.«01_k».proof.Defs
public import proofs.«01_k».proof.Proof.Sums
public import proofs.«01_k».proof.Proof.Gen.FinalLossIdeal.Value
public import proofs.«01_k».proof.Proof.Gen.FinalLossRefIdeal.Run
public import proofs.«01_k».proof.Proof.NormMath
public import Idealize.ShloMosaic.Lib.Pipeline.ValueKit.Geometry
public import Idealize.ShloMosaic.Lib.Pipeline.ValueKit.Acc
public import Idealize.ShloMosaic.Lib.WritesUnit

@[expose] public section

set_option maxRecDepth 16384

noncomputable section

open Idealize.ShloMosaic Idealize.ShloMosaic.TcCoe Idealize.SL.Sem

namespace Cert.FinalLossIdeal.Product

open Cert.FinalLossIdeal Cert.FinalLossIdeal.Gen Cert.FinalLossIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = t.val ∧ win0_1.index t (1 : Fin 2) = 0 :=
  (by decide +kernel : ∀ t : Fin grid0.N, _)

/-- Which block of its third operand point `t` is given. -/
theorem at2 : ∀ t : Fin cfg0.N, win0_2.index t (0 : Fin 2) = 0 ∧ win0_2.index t (1 : Fin 2) = 0 :=
  (by decide +kernel : ∀ t : Fin grid0.N, _)

/-- Which block of the result point `t` writes. -/
theorem at3 : ∀ t : Fin cfg0.N, win0_3.index t (0 : Fin 2) = t.val ∧ win0_3.index t (1 : Fin 2) = 0 :=
  (by decide +kernel : ∀ t : Fin grid0.N, _)

/-- Which block of the result point `t` writes. -/
theorem at4 : ∀ t : Fin cfg0.N, win0_4.index t (0 : Fin 2) = 0 ∧ win0_4.index t (1 : Fin 2) = 0 :=
  (by decide +kernel : ∀ t : Fin grid0.N, _)

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S8192x1024.Idx → EReal := m ((c.tc : Thread nD τ).loc main_arg1)

/-- An argument's entries. -/
abbrev arg2 (c : Dev nD) : S1x1024.Idx → EReal := m ((c.tc : Thread nD τ).loc main_arg2)

/-- An element of point `t`'s block of the first operand. -/
theorem blk0_at (c : Dev nD) (t : Fin cfg0.N) (j : S512x1024.Idx) (p : S8192x1024.Idx)
    (p0 : (p 0).val = (t.val) * 512 + (j 0).val) (p1 : (p 1).val = (0) * 1024 + (j 1).val) :
    iblk m c 0 t j = arg0 m c p := by
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 512 + 1 * (j 0).val = (p 0).val; omega
  | ⟨1, _⟩ => show win0_0.index t 1 * 1024 + 1 * (j 1).val = (p 1).val; omega

/-- An element of point `t`'s block of the second operand. -/
theorem blk1_at (c : Dev nD) (t : Fin cfg0.N) (j : S512x1024.Idx) (p : S8192x1024.Idx)
    (p0 : (p 0).val = (t.val) * 512 + (j 0).val) (p1 : (p 1).val = (0) * 1024 + (j 1).val) :
    iblk m c 1 t j = arg1 m c p := by
  unfold iblk
  rw [View.read_apply]
  show m ((c.tc : Thread nD τ).loc main_arg1) _ = _
  congr 1
  obtain ⟨f0, f1⟩ := at1 t
  funext a; apply Fin.ext
  match a with
  | ⟨0, _⟩ => show win0_1.index t 0 * 512 + 1 * (j 0).val = (p 0).val; omega
  | ⟨1, _⟩ => show win0_1.index t 1 * 1024 + 1 * (j 1).val = (p 1).val; omega

/-- An element of point `t`'s block of the third operand. -/
theorem blk2_at (c : Dev nD) (t : Fin cfg0.N) (j : S1x1024.Idx) (p : S1x1024.Idx)
    (p0 : (p 0).val = (0) * 1 + (j 0).val) (p1 : (p 1).val = (0) * 1024 + (j 1).val) :
    iblk m c 2 t j = arg2 m c p := by
  unfold iblk
  rw [View.read_apply]
  show m ((c.tc : Thread nD τ).loc main_arg2) _ = _
  congr 1
  obtain ⟨f0, f1⟩ := at2 t
  funext a; apply Fin.ext
  match a with
  | ⟨0, _⟩ => show win0_2.index t 0 * 1 + 1 * (j 0).val = (p 0).val; omega
  | ⟨1, _⟩ => show win0_2.index t 1 * 1024 + 1 * (j 1).val = (p 1).val; omega

/-- The number the norm divides by. -/
abbrev rows : EReal := Ideal.ofBits .f32 0x44800000#32
/-- The number the norm adds under the root. -/
abbrev eps : EReal := Ideal.ofBits .f32 0x358637BD#32
/-- What the launch multiplies the difference by. -/
abbrev part : EReal := Ideal.ofBits .f32 0x3A800000#32
/-- What the loss multiplies the squares by. -/
abbrev half : EReal := Ideal.ofBits .f32 0x3A000000#32

/-- The reciprocal root of a row's mean square. -/
def inv (h : Fin 1024 → EReal) : EReal := Ideal.rsqrt (Ideal.div (∑ k : Fin 1024, h k * h k) rows + eps)

/-- What a row misses its target by. -/
def miss (h w t : Fin 1024 → EReal) (l : Fin 1024) : EReal := h l * inv h * w l - t l

/-- What a row of the stream's gradient is, from the rows it comes from. -/
def form (h w t : Fin 1024 → EReal) (l : Fin 1024) : EReal :=
  inv h * (miss h w t l * part * w l - h l * inv h * Ideal.div (∑ k : Fin 1024, miss h w t k * part * w k * (h k * inv h)) rows)

/-- A row of a block. -/
abbrev ln (h : Vec Ideal S512x1024 .f32) (j : Fin 512) : Fin 1024 → EReal := fun k => h (ValueIdx.ix2 j k)
/-- The row of a vector. -/
abbrev vc (w : Vec Ideal S1x1024 .f32) : Fin 1024 → EReal := fun k => w (ValueIdx.ix2 (0 : Fin 1) k)

/-- The reciprocal root, at an index. -/
theorem pay4_at (h : Vec Ideal S512x1024 .f32) (j : Fin 512) :
    (k0_pay4 h : Vec Ideal S512x1 .f32) (ValueIdx.ix2 j (0 : Fin 1)) = inv (ln h j) := by
  unfold k0_pay4
  pointwise
  rfl

/-- The normalised row, at an index. -/
theorem pay5_at (h : Vec Ideal S512x1024 .f32) (j : Fin 512) (l : Fin 1024) :
    (k0_pay5 h : Vec Ideal S512x1024 .f32) (ValueIdx.ix2 j l) = ln h j l * inv (ln h j) := by
  refine Eq.trans ?_ (congrArg _ (pay4_at h j))
  unfold k0_pay5
  generalize (k0_pay4 h : Vec Ideal S512x1 .f32) = q
  pointwise
  rfl

/-- The difference, at an index. -/
theorem pay6_at (h : Vec Ideal S512x1024 .f32) (w : Vec Ideal S1x1024 .f32) (t : Vec Ideal S512x1024 .f32) (j : Fin 512) (l : Fin 1024) :
    (k0_pay6 h w t : Vec Ideal S512x1024 .f32) (ValueIdx.ix2 j l) = miss (ln h j) (vc w) (ln t j) l := by
  unfold miss
  refine Eq.trans ?_ (congrArg (fun q : EReal => q * vc w l - ln t j l) (pay5_at h j l))
  unfold k0_pay6
  generalize (k0_pay5 h : Vec Ideal S512x1024 .f32) = q
  pointwise
  try rfl

/-- The difference's share, at an index. -/
theorem pay7_at (h : Vec Ideal S512x1024 .f32) (w : Vec Ideal S1x1024 .f32) (t : Vec Ideal S512x1024 .f32) (j : Fin 512) (l : Fin 1024) :
    (k0_pay7 h w t : Vec Ideal S512x1024 .f32) (ValueIdx.ix2 j l) = miss (ln h j) (vc w) (ln t j) l * part := by
  refine Eq.trans ?_ (congrArg (fun q : EReal => q * part) (pay6_at h w t j l))
  unfold k0_pay7
  generalize (k0_pay6 h w t : Vec Ideal S512x1024 .f32) = q
  pointwise
  try rfl

/-- The stream's gradient in a block, at an index. -/
theorem pay8_at (h : Vec Ideal S512x1024 .f32) (w : Vec Ideal S1x1024 .f32) (t : Vec Ideal S512x1024 .f32) (j : Fin 512) (l : Fin 1024) :
    (k0_pay8 h w t : Vec Ideal S512x1024 .f32) (ValueIdx.ix2 j l) = form (ln h j) (vc w) (ln t j) l := by
  unfold form
  simp only [← pay5_at h]
  simp only [← pay4_at h]
  simp only [← pay7_at h w t]
  unfold k0_pay8
  generalize (k0_pay4 h : Vec Ideal S512x1 .f32) = q4
  generalize (k0_pay5 h : Vec Ideal S512x1024 .f32) = q5
  generalize (k0_pay7 h w t : Vec Ideal S512x1024 .f32) = q7
  pointwise
  rfl

/-- What a block adds to the weight's gradient, at an index. -/
theorem pay10_at (h : Vec Ideal S512x1024 .f32) (w : Vec Ideal S1x1024 .f32) (t : Vec Ideal S512x1024 .f32) (l : Fin 1024) :
    (k0_pay10 h w t : Vec Ideal S1024 .f32) (ValueIdx.ix1 l)
      = ∑ k : Fin 512, miss (ln h k) (vc w) (ln t k) l * part * (ln h k l * inv (ln h k)) := by
  refine Eq.trans ?_ (Finset.sum_congr rfl fun k _ => congrArg₂ (· * ·) (pay7_at h w t k l) (pay5_at h k l))
  unfold k0_pay10
  generalize (k0_pay5 h : Vec Ideal S512x1024 .f32) = q5
  generalize (k0_pay7 h w t : Vec Ideal S512x1024 .f32) = q7
  pointwise
  try rfl

/-- The weight's gradient after a block, at an index. -/
theorem row0 (h : Vec Ideal S512x1024 .f32) (w : Vec Ideal S1x1024 .f32) (t : Vec Ideal S512x1024 .f32) (a : Vec Ideal S1x1024 .f32) (b : EReal) (l : Fin 1024)
    (e : (a (ValueIdx.ix2 (0 : Fin 1) l) : EReal) = b) :
    (k0_pay1 (k0_pay9 a) (k0_pay10 h w t) : Vec Ideal S1x1024 .f32) (ValueIdx.ix2 (0 : Fin 1) l)
      = b + ∑ k : Fin 512, miss (ln h k) (vc w) (ln t k) l * part * (ln h k l * inv (ln h k)) := by
  refine Eq.trans ?_ (congrArg₂ (· + ·) e (pay10_at h w t l))
  unfold k0_pay1 k0_pay9
  generalize (k0_pay10 h w t : Vec Ideal S1024 .f32) = q
  pointwise
  try rfl

/-- The loss's column after a block, at an index. -/
theorem row1 (h : Vec Ideal S512x1024 .f32) (w : Vec Ideal S1x1024 .f32) (t : Vec Ideal S512x1024 .f32) (a : Vec Ideal S1x1024 .f32) (b : EReal) (l : Fin 1024)
    (e : (a (ValueIdx.ix2 (0 : Fin 1) l) : EReal) = b) :
    (k0_pay2 (k0_pay6 h w t) a : Vec Ideal S1x1024 .f32) (ValueIdx.ix2 (0 : Fin 1) l)
      = b + (∑ k : Fin 512, miss (ln h k) (vc w) (ln t k) l * miss (ln h k) (vc w) (ln t k) l) * half := by
  refine Eq.trans ?_ (congrArg₂ (· + ·) e (congrArg (· * half) (Finset.sum_congr rfl fun k _ => congrArg₂ (· * ·) (pay6_at h w t k l) (pay6_at h w t k l))))
  unfold k0_pay2
  generalize (k0_pay6 h w t : Vec Ideal S512x1024 .f32) = q
  pointwise
  try rfl

/-- The array the accumulator starts from. -/
theorem pay3_at (y : S8x1024.Idx) : (k0_pay3 (F := Ideal) y : EReal) = 0 := by
  unfold k0_pay3
  idx_vars y
  pointwise

/-- What point `t` adds to the accumulator, from its blocks. -/
def add (h : Vec Ideal S512x1024 .f32) (w : Vec Ideal S1x1024 .f32) (t : Vec Ideal S512x1024 .f32) (y : S8x1024.Idx) : EReal :=
  if (y (0 : Fin 2)).val = 1 then
    (∑ k : Fin 512, miss (ln h k) (vc w) (ln t k) (y 1) * miss (ln h k) (vc w) (ln t k) (y 1)) * half
  else if (y (0 : Fin 2)).val = 0 then
    ∑ k : Fin 512, miss (ln h k) (vc w) (ln t k) (y 1) * part * (ln h k (y 1) * inv (ln h k))
  else 0

/-- What point `t` adds to the accumulator. -/
def term (c : Dev nD) (t : Fin cfg0.N) (y : S8x1024.Idx) : EReal :=
  add (iblk m c 0 t) (iblk m c 2 t) (iblk m c 1 t) y

/-- The accumulator after the first point. -/
theorem acc_first (c : Dev nD) (t : Fin cfg0.N) (h0 : t.val % 16 = 0) (y : S8x1024.Idx) :
    ((outsAt0 m c t.val t.isLt).2 y : EReal) = 0 + term m c t y := by
  rw [outsAt0_A m c t h0]; frame_out
  unfold term add
  generalize iblk m c 0 t = h
  generalize iblk m c 1 t = d
  generalize iblk m c 2 t = w
  by_cases b1 : (y (0 : Fin 2)).val = 1
  · rw [if_pos b1]
    refine (Rows.hit 1 _ _ _ y b1).trans (row1 _ _ _ _ _ _ ?_)
    rw [View.readCov_eq_canon']
    refine (Rows.miss 0 _ _ _ _ (by show ¬(1 + 1 * 0 = 0); omega)).trans ?_
    exact (congrFun (View.canon_unit_zero origin2 ..) _).trans (pay3_at _)
  rw [if_neg b1]
  refine (Rows.miss 1 _ _ _ y b1).trans ?_
  by_cases b : (y (0 : Fin 2)).val = 0
  · rw [if_pos b]
    refine (Rows.hit 0 _ _ _ y b).trans (row0 _ _ _ _ _ _ ?_)
    rw [View.readCov_eq_canon']
    exact (congrFun (View.canon_unit_zero origin2 ..) _).trans (pay3_at _)
  · rw [if_neg b]
    refine (Rows.miss 0 _ _ _ y b).trans ?_
    exact (congrFun (View.canon_unit_zero origin2 ..) _).trans ((pay3_at _).trans (add_zero _).symm)

/-- An index, from its row. -/
theorem at_row (y : S8x1024.Idx) (r : ℕ) (hr : r < 8) (b : (y (0 : Fin 2)).val = r) :
    (ValueIdx.ix2 (⟨r, hr⟩ : Fin 8) (y 1 : Fin 1024) : S8x1024.Idx) = y := by
  funext a
  apply Fin.ext
  match a with
  | ⟨0, _⟩ => exact b.symm
  | ⟨1, _⟩ => rfl

/-- The accumulator after a later point. -/
theorem acc_next (c : Dev nD) (t : Fin cfg0.N) (h0 : ¬t.val % 16 = 0) (y : S8x1024.Idx) :
    ((outsAt0 m c t.val t.isLt).2 y : EReal)
      = (outsAt0 m c (t.val - 1) (Nat.lt_of_le_of_lt (Nat.sub_le _ _) t.isLt)).2 y + term m c t y := by
  rw [outsAt0_B m c t h0]; frame_out
  generalize (outsAt0 m c (t.val - 1) (Nat.lt_of_le_of_lt (Nat.sub_le _ _) t.isLt)).2 = X
  unfold term add
  generalize iblk m c 0 t = h
  generalize iblk m c 1 t = d
  generalize iblk m c 2 t = w
  by_cases b1 : (y (0 : Fin 2)).val = 1
  · rw [if_pos b1]
    refine (View.read_writes_cons_rows_of_mem _ _ _ _ _ y (ValueIdx.ix2 (0 : Fin 1) (y 1)) rfl (by show (y 0).val = 1 + 0; omega) rfl).trans (row1 _ _ _ _ _ _ ?_)
    exact (Rows.row 1 (by decide) _ X _).trans (congrArg X (at_row y 1 (by decide) b1))
  rw [if_neg b1]
  refine (View.read_writes_cons_rows_of_not_mem (W := 1) _ _ _ _ _ y rfl rfl (by show (y 0).val < 1 ∨ 1 + 1 ≤ (y 0).val; have : (y 0).val ≠ 1 := b1; omega)).trans ?_
  by_cases b : (y (0 : Fin 2)).val = 0
  · rw [if_pos b]
    refine (View.read_writes_cons_rows_of_mem _ _ _ _ _ y (ValueIdx.ix2 (0 : Fin 1) (y 1)) rfl (by show (y 0).val = 0 + 0; omega) rfl).trans (row0 _ _ _ _ _ _ ?_)
    exact (Rows.row 0 (by decide) _ X _).trans (congrArg X (at_row y 0 (by decide) b))
  · rw [if_neg b]
    refine (View.read_writes_cons_rows_of_not_mem (W := 1) _ _ _ _ _ y rfl rfl (by show (y 0).val < 0 ∨ 0 + 1 ≤ (y 0).val; have : (y 0).val ≠ 0 := b; omega)).trans ?_
    refine Eq.trans ?_ (add_zero _).symm
    exact congrFun ((hs0_4 t).read_unread X) y

/-- The accumulator after the last point. -/
theorem acc_last (c : Dev nD) (t : Fin cfg0.N) (ht : t.val + 1 = cfg0.N) (y : S8x1024.Idx) :
    ((outsAt0 m c t.val t.isLt).2 y : EReal) = 0 + ∑ p : Fin cfg0.N, term m c p y :=
  Pipeline.eq_sum_fin_of_reset_step_apply_last (fun n h => (outsAt0 m c n h).2) 16 (fun _ => (0 : EReal)) (term m c)
    (acc_first m c) (acc_next m c) (by rw [show cfg0.N = 16 from N_0]) t ht y

/-- A row of the stream. -/
abbrev hr (c : Dev nD) (j : Fin 8192) : Fin 1024 → EReal := fun k => arg0 m c (ValueIdx.ix2 j k)
/-- A row of the target. -/
abbrev tr (c : Dev nD) (j : Fin 8192) : Fin 1024 → EReal := fun k => arg1 m c (ValueIdx.ix2 j k)
/-- The norm's weight. -/
abbrev wr (c : Dev nD) : Fin 1024 → EReal := fun k => arg2 m c (ValueIdx.ix2 (0 : Fin 1) k)

/-- A block's row of the stream. -/
theorem ln0 (c : Dev nD) (t : Fin cfg0.N) (k : Fin 512) (j : Fin 8192) (e : j.val = t.val * 512 + k.val) : ln (iblk m c 0 t) k = hr m c j :=
  funext fun q => blk0_at m c t _ _ e (by show q.val = 0 * 1024 + q.val; omega)
/-- A block's row of the target. -/
theorem ln1 (c : Dev nD) (t : Fin cfg0.N) (k : Fin 512) (j : Fin 8192) (e : j.val = t.val * 512 + k.val) : ln (iblk m c 1 t) k = tr m c j :=
  funext fun q => blk1_at m c t _ _ e (by show q.val = 0 * 1024 + q.val; omega)
/-- A block's weight. -/
theorem ln2 (c : Dev nD) (t : Fin cfg0.N) : vc (iblk m c 2 t) = wr m c :=
  funext fun q => blk2_at m c t _ _ (by show (0 : ℕ) = 0 * 1 + 0; omega) (by show q.val = 0 * 1024 + q.val; omega)

/-- The stream's gradient, as one function of the arguments. -/
def res3 (c : Dev nD) (i : S8192x1024.Idx) : EReal := form (hr m c (i 0)) (wr m c) (tr m c (i 0)) (i 1)

/-- What a point writes of the stream's gradient. -/
theorem piece3 (c : Dev nD) (t : Fin cfg0.N) (y : S512x1024.Idx) (z : S8192x1024.Idx)
    (z0 : (z 0).val = t.val * 512 + (y 0).val) (z1 : (z 1).val = (y 1).val) :
    ((outsAt0 m c t.val t.isLt).1 y : EReal) = res3 m c z := by
  have e : (outsAt0 m c t.val t.isLt).1 = k0_pay8 (iblk m c 0 t) (iblk m c 2 t) (iblk m c 1 t) := by
    by_cases h0 : t.val % 16 = 0
    · rw [outsAt0_A m c t h0]; frame_out
    · rw [outsAt0_B m c t h0]; frame_out
  rw [e]
  unfold res3
  have l1 : (y 1 : Fin 1024) = z 1 := Fin.ext z1.symm
  rw [← ln0 m c t (y 0) (z 0) z0, ← ln1 m c t (y 0) (z 0) z0, ← ln2 m c t, ← l1]
  clear l1 z0 z1
  idx_vars y
  exact pay8_at _ _ _ _ _

/-- The first array the launch leaves. -/
theorem result3 (c : Dev nD) : (dats m 0 c).arrAt 3 cfg0.N = (res3 m c : S8192x1024.Idx → EReal) := by
  refine (dats m 0 c).arrAt_eq_of_covers 3 _ (by decide +kernel) fun t hf y => ?_
  blk_simp
  rw [after0_3]
  obtain ⟨f0, f1⟩ := at3 t
  have d0 : ((win0_3.blk t).view.emb y 0).val = t.val * 512 + (y 0).val := by
    show win0_3.index t 0 * 512 + 1 * (y 0).val = _; omega
  have d1 : ((win0_3.blk t).view.emb y 1).val = (y 1).val := by
    show win0_3.index t 1 * 1024 + 1 * (y 1).val = _; omega
  exact piece3 m c t y _ d0 d1

/-- The second array the launch leaves. -/
theorem result4 (c : Dev nD) : (dats m 0 c).arrAt 4 cfg0.N = (fun i => 0 + ∑ p : Fin cfg0.N, term m c p i : S8x1024.Idx → EReal) := by
  refine (dats m 0 c).arrAt_eq_of_covers 4 _ (by decide +kernel) fun t hf y => ?_
  blk_simp
  rw [after0_4]
  obtain ⟨f0, f1⟩ := at4 t
  have e : (win0_4.blk t).view.emb y = y := by
    funext a
    apply Fin.ext
    match a with
    | ⟨0, _⟩ => show win0_4.index t 0 * 8 + 1 * (y 0).val = (y 0).val; omega
    | ⟨1, _⟩ => show win0_4.index t 1 * 1024 + 1 * (y 1).val = (y 1).val; omega
  rw [e]
  have hN : cfg0.N = 16 := N_0
  have ht := (flush0_4 t).mp hf
  exact acc_last m c t (by have := t.isLt; omega) y

/-- The sums over the blocks are sums over all rows. -/
theorem sums (f : Fin 8192 → EReal) (g : Fin cfg0.N → EReal)
    (hf : ∀ (p : Fin cfg0.N) (hp : p.val < 16), g p = ∑ k : Fin 512, f ⟨p.val * 512 + k.val, by omega⟩) :
    ∑ p : Fin cfg0.N, g p = ∑ k : Fin 8192, f k := by
  have hN : cfg0.N = 16 := N_0
  refine Eq.trans ?_ (Fin.sum_mul_add_fin 16 512 _)
  refine Fin.sum_congr' _ hN |>.symm.trans ?_
  exact Finset.sum_congr rfl fun p _ => hf _ p.isLt

/-- What the loss multiplies the squares by is 1/2048. -/
theorem half_eq : half = ((1 / 2048 : ℝ) : EReal) := by
  have e : half = ((8388608 * (2 ^ 34)⁻¹ : ℝ) : EReal) := by simp [half, Ideal.ofBits, Ideal.ieee]
  rw [e]; norm_num

/-- What the launch multiplies the difference by is 1/1024. -/
theorem part_eq : part = ((1 / 1024 : ℝ) : EReal) := by
  have e : part = ((8388608 * (2 ^ 33)⁻¹ : ℝ) : EReal) := by simp [part, Ideal.ofBits, Ideal.ieee]
  rw [e]; norm_num

/-- The derivative of a square, twice over, is the launch's multiple. -/
theorem both (x : EReal) : x * half + half * x = x * part := by
  rw [half_eq, part_eq, mul_comm x, NormMath.twice, mul_comm x]
  norm_num

/-- The rows of the second array. -/
theorem row_weight (c : Dev nD) (y : S8x1024.Idx) (b : (y (0 : Fin 2)).val = 0) :
    0 + ∑ p : Fin cfg0.N, term m c p y
      = ∑ k : Fin 8192, hr m c k (y 1) * inv (hr m c k) * (miss (hr m c k) (wr m c) (tr m c k) (y 1) * part) := by
  rw [zero_add]
  refine sums _ _ fun p hp => ?_
  unfold term add
  rw [if_neg (by omega), if_pos b]
  refine Finset.sum_congr rfl fun k _ => ?_
  rw [ln0 m c p k ⟨p.val * 512 + k.val, by omega⟩ rfl, ln1 m c p k ⟨p.val * 512 + k.val, by omega⟩ rfl, ln2 m c p]
  exact mul_comm _ _

/-- The rows of the second array. -/
theorem row_loss (c : Dev nD) (y : S8x1024.Idx) (b : (y (0 : Fin 2)).val = 1) :
    0 + ∑ p : Fin cfg0.N, term m c p y
      = half * ∑ k : Fin 8192, miss (hr m c k) (wr m c) (tr m c k) (y 1) * miss (hr m c k) (wr m c) (tr m c k) (y 1) := by
  have n0 : (0 : EReal) ≤ half := by rw [half_eq]; exact EReal.coe_nonneg.2 (by norm_num)
  have n1 : half ≠ ⊤ := by rw [half_eq]; exact EReal.coe_ne_top _
  rw [zero_add, Rows.factor half n0 n1]
  refine sums _ _ fun p hp => ?_
  rw [← Rows.factor half n0 n1]
  unfold term add
  rw [if_pos b, mul_comm]
  refine congrArg (half * ·) (Finset.sum_congr rfl fun k _ => ?_)
  rw [ln0 m c p k ⟨p.val * 512 + k.val, by omega⟩ rfl, ln1 m c p k ⟨p.val * 512 + k.val, by omega⟩ rfl, ln2 m c p]

/-- The number the norm divides by is 1024. -/
theorem rows_eq : rows = ((1024 : ℝ) : EReal) := by
  have e : rows = ((8388608 * (2 ^ 13)⁻¹ : ℝ) : EReal) := by simp [rows, Ideal.ofBits, Ideal.ieee]
  rw [e]; norm_num

/-- The number added under the root is a real number above zero. -/
theorem eps_eq : ∃ ε : ℝ, 0 < ε ∧ eps = (ε : EReal) := by
  refine ⟨8796093 * (2 ^ 43)⁻¹, by positivity, ?_⟩
  simp [eps, Ideal.ofBits, Ideal.ieee]

/-- The factor the derivative of the reciprocal root takes is minus one half. -/
theorem minus_half : Ideal.ofBits .f32 0xBF000000#32 = ((-(1 / 2) : ℝ) : EReal) := by
  have e : Ideal.ofBits .f32 0xBF000000#32 = ((-(8388608 * (2 ^ 24)⁻¹) : ℝ) : EReal) := by simp [Ideal.ofBits, Ideal.ieee]
  rw [e]; norm_num

/-- What comes in from the loss, as the derivative writes it. -/
def inc (h w t : Fin 1024 → EReal) (k : Fin 1024) : EReal :=
  miss h w t k * half + half * miss h w t k

/-- The derivative of the forward lines is the form the launch computes. -/
theorem form_eq (h w t : Fin 1024 → EReal) (l : Fin 1024) :
    inc h w t l * w l * inv h
        + h l * Ideal.div ((∑ k : Fin 1024, h k * (inc h w t k * w k)) * (Ideal.ofBits .f32 0xBF000000#32 * Ideal.div (inv h) (Ideal.div (∑ k : Fin 1024, h k * h k) rows + eps))) rows
        + Ideal.div ((∑ k : Fin 1024, h k * (inc h w t k * w k)) * (Ideal.ofBits .f32 0xBF000000#32 * Ideal.div (inv h) (Ideal.div (∑ k : Fin 1024, h k * h k) rows + eps))) rows * h l
      = form h w t l := by
  have e : inc h w t = fun k => miss h w t k * part := funext fun k => both _
  rw [e]
  obtain ⟨ε, h0, h1⟩ := eps_eq
  exact NormMath.forms h (fun k => miss h w t k * part * w k) l rows eps _ rows_eq ε h0 h1 minus_half

end Cert.FinalLossIdeal.Product

namespace Cert.FinalLoss

/-- The launch and the derivative of the loss end with the same arrays. -/
theorem algebraic : Cert.algebraic_FinalLossIdeal_FinalLossRefIdeal := by
  intro m g m' g' _ ha
  refine ⟨fun c => (FinalLossIdeal.Gen.dats m 0 c).arrAt 3 FinalLossIdeal.cfg0.N, fun c => (FinalLossIdeal.Gen.dats m 0 c).arrAt 4 FinalLossIdeal.cfg0.N,
    FinalLossIdeal.Value.run_blocks m g, ?_⟩
  refine (θ_run _ _ _).mono (fun r h c => ?_) (FinalLossRefIdeal.Value.run m' g')
  obtain ⟨h0, h1, h2⟩ := h c
  obtain ⟨a0, a1, a2⟩ := ha c
  refine ⟨h0.trans ?_, h1.trans ?_, h2⟩
  · unfold FinalLossRefIdeal.Value.res_main_v47
    rw [a0, a1, a2]
    funext i
    refine Eq.trans ?_ (congrFun (FinalLossIdeal.Product.result3 m c) i).symm
    unfold FinalLossIdeal.Product.res3
    refine Eq.trans ?_ (FinalLossIdeal.Product.form_eq _ _ _ _)
    clear a0 a1 a2 h0 h1 h2 h ha
    idx_vars i
    pointwise
    simp only [Fin.sum_univ_one]
    rfl
  · unfold FinalLossRefIdeal.Value.res_main_v49
    rw [a0, a1, a2]
    funext i
    refine Eq.trans ?_ (congrFun (FinalLossIdeal.Product.result4 m c) i).symm
    show _ = 0 + ∑ p : Fin FinalLossIdeal.cfg0.N, FinalLossIdeal.Product.term m c p i
    by_cases b1 : (i (0 : Fin 2)).val = 1
    · refine Eq.trans ?_ (FinalLossIdeal.Product.row_loss m c i b1).symm
      clear a0 a1 a2 h0 h1 h2 h ha
      idx_vars i
      pointwise
      have e : i0.val = 1 := b1
      rw [dif_neg (show ¬i0.val < 1 by omega), dif_pos (show i0.val - 1 < 1 by omega)]
      rfl
    by_cases b : (i (0 : Fin 2)).val = 0
    · refine Eq.trans ?_ (FinalLossIdeal.Product.row_weight m c i b).symm
      simp only [← FinalLossIdeal.Product.both]
      clear a0 a1 a2 h0 h1 h2 h ha
      idx_vars i
      pointwise
      have e : i0.val = 0 := b
      rw [dif_pos (show i0.val < 1 by omega)]
      simp only [Fin.sum_univ_one]
      rfl
    have z : ∑ p : Fin FinalLossIdeal.cfg0.N, FinalLossIdeal.Product.term m c p i = 0 :=
      Finset.sum_eq_zero fun p _ => by unfold FinalLossIdeal.Product.term FinalLossIdeal.Product.add; rw [if_neg b1, if_neg b]
    rw [z]
    clear a0 a1 a2 h0 h1 h2 h ha z
    idx_vars i
    pointwise
    have e : i0.val ≠ 0 := b
    have e1 : i0.val ≠ 1 := b1
    rw [dif_neg (show ¬i0.val < 1 by omega), dif_neg (show ¬i0.val - 1 < 1 by omega)]

end Cert.FinalLoss

end
-- ==== Proof.GwA.lean ====
/-
  The weight gradient of the convolution branch's way out: four blocks of tokens multiplied in turn, each product added
  to what the earlier ones left, written as four pieces, against the derivative of `y @ w` with respect to `w`, cut the
  same way.
-/
module

public import proofs.«01_k».proof.Defs
public import proofs.«01_k».proof.Proof.Sums
public import proofs.«01_k».proof.Proof.Gen.GwAIdeal.Value
public import proofs.«01_k».proof.Proof.Gen.GwARefIdeal.Run

@[expose] public section

set_option maxRecDepth 16384

noncomputable section

open Idealize.ShloMosaic Idealize.ShloMosaic.TcCoe Idealize.SL.Sem

namespace Cert.GwAIdeal.Product

open Cert.GwAIdeal Cert.GwAIdeal.Gen Cert.GwAIdeal.Value Cert.Sums

variable {F : FTy → Type} [FloatOps F]
variable (m : (ℓ : Loc nD τ sig) → Buf (Elt F) ℓ)

/-- What the first block leaves in the accumulator: its product. -/
theorem first (c : Dev nD) (i : grid0.Coords) (a3 h3 a4 h4 a5 h5 a6 h6 c0 c1 c2 x y) :
    sout0_A_0 (F := F) c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero origin2]
  unfold k0_pay2
  simp only [View.readAt_eq_ld, h3.read_unread, h4.read_unread, View.ld_unit_zero (S := S2048x512) origin2,
    View.ld_unit_zero (S := S2048x256) origin2, shapeCast_self]

/-- A block in the middle adds its product to what the accumulator holds. -/
theorem middle (c : Dev nD) (i : grid0.Coords) (a3 h3 a4 h4 a5 h5 a6 h6 c0 c1 c2 x y s) :
    sout0_B_0 (F := F) c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero origin2]
  unfold k0_pay3
  simp only [View.readAt_eq_ld, h3.read_unread, h4.read_unread, h6.read_unread, View.ld_unit_zero (S := S2048x512) origin2,
    View.ld_unit_zero (S := S2048x256) origin2,
    View.ld_unit_zero (S := S512x256) origin2, shapeCast_self]

/-- The last block writes the whole sum out. -/
theorem last (c : Dev nD) (i : grid0.Coords) (a3 h3 a4 h4 a5 h5 a6 h6 c0 c1 c2 x y s) :
    out0_C_2 (F := F) c i a3 h3 a4 h4 a5 h5 a6 h6 c0 c1 c2 x y s = k0_pay4 x y s := by
  unfold out0_C_2
  rw [View.read_writes_eq_canon _ _ _ (cover0_C_2 c i a3 h3 a4 h4 a5 h5 a6 h6 c0 c1 c2 x y s)]
  unfold kernelRun0_C
  dsimp only
  rw [View.canon_unit_zero origin3]
  simp only [View.readAt_eq_ld, h3.read_unread, h4.read_unread, h6.read_unread, View.ld_unit_zero (S := S2048x512) origin2,
    View.ld_unit_zero (S := S2048x256) origin2,
    View.ld_unit_zero (S := S512x256) origin2]

/-- The product of point `t`'s blocks. -/
abbrev part (c : Dev nD) (t : Fin cfg0.N) := k0_pay1 (iblk m c 0 t) (iblk m c 1 t)

/-- The accumulator after a run's first point. -/
theorem acc_first (c : Dev nD) (t : Fin cfg0.N) (e : t.val % 4 = 0) :
    (outsAt0 m c t.val t.isLt).2 = part m c t := by
  have e1 : ¬(1 ≤ t.val % 4 ∧ t.val % 4 ≤ 2) := by omega
  have e2 : ¬t.val % 4 = 3 := by omega
  simp only [outsAt0_A m c t e e1 e2, first]

/-- The accumulator after a point in the middle. -/
theorem acc_middle (c : Dev nD) (t : Fin cfg0.N) (s : Vec F S1x512x256 .bf16 × Vec F S512x256 .f32)
    (e : 1 ≤ t.val % 4 ∧ t.val % 4 ≤ 2) :
    (stAt0 m c t.val t.isLt s).2 = addf s.2 (part m c t) := by
  have e0 : ¬t.val % 4 = 0 := by omega
  have e2 : ¬t.val % 4 = 3 := by omega
  simp only [stAt0_B m c t s e0 e e2, middle]

/-- The block written at a run's last point. -/
theorem out_last (c : Dev nD) (t : Fin cfg0.N) (s : Vec F S1x512x256 .bf16 × Vec F S512x256 .f32)
    (e : t.val % 4 = 3) :
    (stAt0 m c t.val t.isLt s).1 = k0_pay4 (iblk m c 0 t) (iblk m c 1 t) s.2 := by
  have e0 : ¬t.val % 4 = 0 := by omega
  have e1 : ¬(1 ≤ t.val % 4 ∧ t.val % 4 ≤ 2) := by omega
  simp only [stAt0_C m c t s e0 e1 e, last]

/-- The block written back after four points: their products added in order. -/
theorem swept (c : Dev nD) (n : ℕ) (h3 : n + 3 < cfg0.N) (e0 : n % 4 = 0) :
    (outsAt0 m c (n + 3) h3).1
      = k0_pay4 (iblk m c 0 ⟨n + 3, h3⟩) (iblk m c 1 ⟨n + 3, h3⟩)
          (addf (addf (part m c ⟨n, by omega⟩) (part m c ⟨n + 1, by omega⟩)) (part m c ⟨n + 2, by omega⟩)) := by
  rw [outsAt0_succ m c (n + 2) h3]
  refine (out_last m c ⟨n + 3, h3⟩ _ (by dsimp only; omega)).trans ?_
  rw [outsAt0_succ m c (n + 1) (by omega), acc_middle m c ⟨n + 2, by omega⟩ _ (by dsimp only; omega),
    outsAt0_succ m c n (by omega), acc_middle m c ⟨n + 1, by omega⟩ _ (by dsimp only; omega),
    acc_first m c ⟨n, by omega⟩ (by dsimp only; omega)]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

/-- Which blocks point `t` is given. -/
theorem given : ∀ t : Fin cfg0.N, win0_0.index t (0 : Fin 2) = t.val % 4 ∧ win0_0.index t (1 : Fin 2) = 0 ∧ win0_1.index t (0 : Fin 2) = t.val % 4 ∧ win0_1.index t (1 : Fin 2) = t.val / 4 :=
  (by decide +kernel : ∀ t : Fin grid0.N, _)

end Cert.GwAIdeal.Product

namespace Cert.GwAIdeal.Product

open Cert.GwAIdeal Cert.GwAIdeal.Gen Cert.GwAIdeal.Value Cert.Sums

variable (m : (ℓ : Loc nD τ sig) → Buf (Elt Ideal) ℓ)

/-- The first operand's entries. -/
abbrev lhs (c : Dev nD) : S8192x512.Idx → EReal := m ((c.tc : Thread nD τ).loc main_arg0)
/-- The second operand's entries. -/
abbrev rhs (c : Dev nD) : S8192x1024.Idx → EReal := m ((c.tc : Thread nD τ).loc main_arg1)

/-- An element of point `t`'s first block. -/
theorem lhs_at (c : Dev nD) (t : Fin cfg0.N) (k : Fin 2048) (j : Fin 512) (p : S8192x512.Idx)
    (p0 : (p 0).val = t.val % 4 * 2048 + k.val) (p1 : (p 1).val = 0 * 512 + j.val) :
    iblk m c 0 t (ValueIdx.ix2 k j) = lhs m c p := by
  unfold iblk
  rw [View.read_apply]
  show V m c main_v0 _ = _
  rw [lhs_eq]
  show m ((c.tc : Thread nD τ).loc main_arg0) _ = _
  congr 1
  obtain ⟨f0, f1, f2, f3⟩ := given t
  funext a; apply Fin.ext
  match a with
  | ⟨0, _⟩ => show win0_0.index t 0 * 2048 + 1 * k.val = (p 0).val; omega
  | ⟨1, _⟩ => show win0_0.index t 1 * 512 + 1 * j.val = (p 1).val; omega

/-- An element of point `t`'s second block. -/
theorem rhs_at (c : Dev nD) (t : Fin cfg0.N) (k : Fin 2048) (l : Fin 256) (p : S8192x1024.Idx)
    (p0 : (p 0).val = t.val % 4 * 2048 + k.val) (p1 : (p 1).val = t.val / 4 * 256 + l.val) :
    iblk m c 1 t (ValueIdx.ix2 k l) = rhs m c p := by
  unfold iblk
  rw [View.read_apply]
  show V m c main_v1 _ = _
  rw [rhs_eq]
  show m ((c.tc : Thread nD τ).loc main_arg1) _ = _
  congr 1
  obtain ⟨f0, f1, f2, f3⟩ := given t
  funext a; apply Fin.ext
  match a with
  | ⟨0, _⟩ => show win0_1.index t 0 * 2048 + 1 * k.val = (p 0).val; omega
  | ⟨1, _⟩ => show win0_1.index t 1 * 256 + 1 * l.val = (p 1).val; omega

/-- The product of two blocks at an index. -/
theorem pay_at (x : Vec Ideal S2048x512 .bf16) (y : Vec Ideal S2048x256 .bf16) (j : Fin 512) (l : Fin 256) :
    (k0_pay1 x y : Vec Ideal S512x256 .f32) (ValueIdx.ix2 j l)
      = ∑ k : Fin 2048, x (ValueIdx.ix2 k j) * y (ValueIdx.ix2 k l) := by
  unfold k0_pay1
  pointwise
  rfl

/-- The block written back, at an index. -/
theorem out_at (x : Vec Ideal S2048x512 .bf16) (y : Vec Ideal S2048x256 .bf16) (s : Vec Ideal S512x256 .f32) (z : Fin 1) (j : Fin 512) (l : Fin 256) :
    (k0_pay4 x y s : Vec Ideal S1x512x256 .bf16) (ValueIdx.ix3 z j l)
      = ((s (ValueIdx.ix2 j l) : EReal) + (k0_pay1 x y : Vec Ideal S512x256 .f32) (ValueIdx.ix2 j l)) := by
  unfold k0_pay4
  generalize k0_pay1 x y = w
  pointwise
  try rfl

/-- The product of point `t`'s blocks is one of the four stretches of the whole sum. -/
theorem part_at (c : Dev nD) (t : Fin cfg0.N) (j : Fin 512) (l : Fin 256) (q : ℕ) (hq : q < 4) (J : Fin 512)
    (L : Fin 1024) (eq : t.val % 4 = q) (eJ : J.val = 0 * 512 + j.val) (eL : L.val = t.val / 4 * 256 + l.val) :
    (part m c t (ValueIdx.ix2 j l) : EReal)
      = ∑ k : Fin 2048, lhs m c (ValueIdx.ix2 ⟨q * 2048 + k.val, by omega⟩ J) * rhs m c (ValueIdx.ix2 ⟨q * 2048 + k.val, by omega⟩ L) := by
  subst eq
  refine (pay_at _ _ _ _).trans (Finset.sum_congr rfl fun k _ => congrArg₂ (· * ·) ?_ ?_)
  · exact lhs_at m c t k j _ (by show t.val % 4 * 2048 + k.val = _; omega) (by show J.val = _; omega)
  · exact rhs_at m c t k l _ (by show t.val % 4 * 2048 + k.val = _; omega) (by show L.val = _; omega)

/-- What the launch leaves at an index of the result, in the block's own coordinates. -/
theorem block_at (c : Dev nD) (i : S4x512x256.Idx) (n : ℕ) (hn : n + 3 < cfg0.N) (e : n = 4 * ((i 0).val)) :
    (G2 m c i : EReal) = (outsAt0 m c (n + 3) hn).1 (ValueIdx.ix3 (⟨(i 0).val % 1, Nat.mod_lt _ (by decide)⟩ : Fin 1) (⟨(i 1).val % 512, Nat.mod_lt _ (by decide)⟩ : Fin 512) (⟨(i 2).val % 256, Nat.mod_lt _ (by decide)⟩ : Fin 256)) := by
  have i0 : (i 0).val < 4 := (i 0).isLt
  have i1 : (i 1).val < 512 := (i 1).isLt
  have i2 : (i 2).val < 256 := (i 2).isLt
  have hq : n + 3 = pt2Of i := by unfold pt2Of run2Of; omega
  have hl : loc2Of i = ValueIdx.ix3 (⟨(i 0).val % 1, Nat.mod_lt _ (by decide)⟩ : Fin 1) (⟨(i 1).val % 512, Nat.mod_lt _ (by decide)⟩ : Fin 512) (⟨(i 2).val % 256, Nat.mod_lt _ (by decide)⟩ : Fin 256) := by
    funext a; match a with | ⟨0, _⟩ => rfl | ⟨1, _⟩ => rfl | ⟨2, _⟩ => rfl
  unfold G2
  rw [dif_pos (hq ▸ hn), ← outsAt0_sweep m c (pt2Of i) (hq ▸ hn), hl]
  simp only [hq]

/-- What the launch leaves at an index of the result: the whole sum. -/
theorem result_at (c : Dev nD) (i : S4x512x256.Idx) (i0 : (i 0).val < 4) (i1 : (i 1).val < 512) (i2 : (i 2).val < 256) :
    (G2 m c i : EReal) = ∑ k : Fin 8192, lhs m c (ValueIdx.ix2 ⟨k.val, by omega⟩ (i 1)) * rhs m c (ValueIdx.ix2 ⟨k.val, by omega⟩ ⟨(i 0).val * 256 + (i 2).val, by omega⟩) := by
  have i0 : (i 0).val < 4 := (i 0).isLt
  have i1 : (i 1).val < 512 := (i 1).isLt
  have i2 : (i 2).val < 256 := (i 2).isLt
  have hN : cfg0.N = 16 := N_0
  obtain ⟨n, e⟩ : ∃ n, n = 4 * ((i 0).val) := ⟨_, rfl⟩
  have hn : n + 3 < cfg0.N := by rw [hN]; omega
  rw [block_at m c i n hn e, swept m c n hn (by omega), out_at, addf_at, addf_at]
  have q0 := part_at m c ⟨n, by omega⟩ ⟨(i 1).val % 512, Nat.mod_lt _ (by decide)⟩ ⟨(i 2).val % 256, Nat.mod_lt _ (by decide)⟩ 0 (by omega) (i 1) ⟨(i 0).val * 256 + (i 2).val, by omega⟩
    (by dsimp only; omega) (by dsimp only; omega) (by dsimp only; omega)
  have q1 := part_at m c ⟨n + 1, by omega⟩ ⟨(i 1).val % 512, Nat.mod_lt _ (by decide)⟩ ⟨(i 2).val % 256, Nat.mod_lt _ (by decide)⟩ 1 (by omega) (i 1) ⟨(i 0).val * 256 + (i 2).val, by omega⟩
    (by dsimp only; omega) (by dsimp only; omega) (by dsimp only; omega)
  have q2 := part_at m c ⟨n + 2, by omega⟩ ⟨(i 1).val % 512, Nat.mod_lt _ (by decide)⟩ ⟨(i 2).val % 256, Nat.mod_lt _ (by decide)⟩ 2 (by omega) (i 1) ⟨(i 0).val * 256 + (i 2).val, by omega⟩
    (by dsimp only; omega) (by dsimp only; omega) (by dsimp only; omega)
  have q3 := part_at m c ⟨n + 3, hn⟩ ⟨(i 1).val % 512, Nat.mod_lt _ (by decide)⟩ ⟨(i 2).val % 256, Nat.mod_lt _ (by decide)⟩ 3 (by omega) (i 1) ⟨(i 0).val * 256 + (i 2).val, by omega⟩
    (by dsimp only; omega) (by dsimp only; omega) (by dsimp only; omega)
  refine (congrArg₂ (· + ·) (congrArg₂ (· + ·) (congrArg₂ (· + ·) q0 q1) q2) q3).trans ?_
  exact four_stretches 2048 8192 rfl fun k => lhs m c (ValueIdx.ix2 ⟨k.val, by omega⟩ (i 1)) * rhs m c (ValueIdx.ix2 ⟨k.val, by omega⟩ ⟨(i 0).val * 256 + (i 2).val, by omega⟩)

end Cert.GwAIdeal.Product

namespace Cert.GwA

/-- The launch and the derivative of the plain product end with the same array. -/
theorem algebraic : Cert.algebraic_GwAIdeal_GwARefIdeal := by
  intro m g m' g' _ ha
  refine ⟨fun c => GwAIdeal.Value.G2 m c, GwAIdeal.Value.run m g, ?_⟩
  refine (θ_run _ _ _).mono (fun r h c => ?_) (GwARefIdeal.Value.run m' g')
  obtain ⟨h0, h1, h2⟩ := h c
  obtain ⟨a0, a1⟩ := ha c
  refine ⟨h0.trans ?_, h1, h2⟩
  rw [a0, a1]
  funext i
  have i0 : (i 0).val < 4 := (i 0).isLt
  have i1 : (i 1).val < 512 := (i 1).isLt
  have i2 : (i 2).val < 256 := (i 2).isLt
  refine Eq.trans ?_ (GwAIdeal.Product.result_at m c i i0 i1 i2).symm
  clear a0 a1 h0 h1 h2 h ha
  idx_vars i
  rename_i p j l
  pointwise
  split_ifs with b0 b1 b2
  all_goals refine Finset.sum_congr rfl fun k _ => (mul_comm _ _).trans (congrArg₂ (· * ·) rfl ?_)
  all_goals refine congrArg (GwAIdeal.Product.rhs m c) (congrArg (fun q => ValueIdx.ix2 k q) (Fin.ext ?_))
  · show l.val = p.val * 256 + l.val; omega
  · show 256 + l.val = p.val * 256 + l.val; omega
  · show 512 + l.val = p.val * 256 + l.val; omega
  · show 768 + l.val = p.val * 256 + l.val; change p.val < 4 at i0; omega

end Cert.GwA

end
-- ==== Proof.GwDown.lean ====
/-
  The weight gradient of the second feed-forward's way down: four blocks of tokens multiplied in turn, each product
  added to what the earlier ones left, against the derivative of `h @ w` with respect to `w`.
-/
module

public import proofs.«01_k».proof.Defs
public import proofs.«01_k».proof.Proof.Sums
public import proofs.«01_k».proof.Proof.Gen.GwDownIdeal.Value
public import proofs.«01_k».proof.Proof.Gen.GwDownRefIdeal.Run

@[expose] public section

set_option maxRecDepth 16384

noncomputable section

open Idealize.ShloMosaic Idealize.ShloMosaic.TcCoe Idealize.SL.Sem

namespace Cert.GwDownIdeal.Product

open Cert.GwDownIdeal Cert.GwDownIdeal.Gen Cert.GwDownIdeal.Value Cert.Sums

variable {F : FTy → Type} [FloatOps F]
variable (m : (ℓ : Loc nD τ sig) → Buf (Elt F) ℓ)

/-- What the first block leaves in the accumulator: its product. -/
theorem first (c : Dev nD) (i : grid0.Coords) (a3 h3 a4 h4 a5 h5 a6 h6 c0 c1 c2 x y) :
    sout0_A_0 (F := F) c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero origin2]
  unfold k0_pay2
  simp only [View.readAt_eq_ld, h3.read_unread, h4.read_unread, View.ld_unit_zero (S := S2048x1408) origin2,
    View.ld_unit_zero (S := S2048x1024) origin2, shapeCast_self]

/-- A block in the middle adds its product to what the accumulator holds. -/
theorem middle (c : Dev nD) (i : grid0.Coords) (a3 h3 a4 h4 a5 h5 a6 h6 c0 c1 c2 x y s) :
    sout0_B_0 (F := F) c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero origin2]
  unfold k0_pay3
  simp only [View.readAt_eq_ld, h3.read_unread, h4.read_unread, h6.read_unread, View.ld_unit_zero (S := S2048x1408) origin2,
    View.ld_unit_zero (S := S2048x1024) origin2,
    View.ld_unit_zero (S := S1408x1024) origin2, shapeCast_self]

/-- The last block writes the whole sum out. -/
theorem last (c : Dev nD) (i : grid0.Coords) (a3 h3 a4 h4 a5 h5 a6 h6 c0 c1 c2 x y s) :
    out0_C_2 (F := F) c i a3 h3 a4 h4 a5 h5 a6 h6 c0 c1 c2 x y s = k0_pay4 x y s := by
  unfold out0_C_2
  rw [View.read_writes_eq_canon _ _ _ (cover0_C_2 c i a3 h3 a4 h4 a5 h5 a6 h6 c0 c1 c2 x y s)]
  unfold kernelRun0_C
  dsimp only
  rw [View.canon_unit_zero origin2]
  simp only [View.readAt_eq_ld, h3.read_unread, h4.read_unread, h6.read_unread, View.ld_unit_zero (S := S2048x1408) origin2,
    View.ld_unit_zero (S := S2048x1024) origin2,
    View.ld_unit_zero (S := S1408x1024) origin2]

/-- The product of point `t`'s blocks. -/
abbrev part (c : Dev nD) (t : Fin cfg0.N) := k0_pay1 (iblk m c 0 t) (iblk m c 1 t)

/-- The accumulator after a run's first point. -/
theorem acc_first (c : Dev nD) (t : Fin cfg0.N) (e : t.val % 4 = 0) :
    (outsAt0 m c t.val t.isLt).2 = part m c t := by
  have e1 : ¬(1 ≤ t.val % 4 ∧ t.val % 4 ≤ 2) := by omega
  have e2 : ¬t.val % 4 = 3 := by omega
  simp only [outsAt0_A m c t e e1 e2, first]

/-- The accumulator after a point in the middle. -/
theorem acc_middle (c : Dev nD) (t : Fin cfg0.N) (s : Vec F S1408x1024 .bf16 × Vec F S1408x1024 .f32)
    (e : 1 ≤ t.val % 4 ∧ t.val % 4 ≤ 2) :
    (stAt0 m c t.val t.isLt s).2 = addf s.2 (part m c t) := by
  have e0 : ¬t.val % 4 = 0 := by omega
  have e2 : ¬t.val % 4 = 3 := by omega
  simp only [stAt0_B m c t s e0 e e2, middle]

/-- The block written at a run's last point. -/
theorem out_last (c : Dev nD) (t : Fin cfg0.N) (s : Vec F S1408x1024 .bf16 × Vec F S1408x1024 .f32)
    (e : t.val % 4 = 3) :
    (stAt0 m c t.val t.isLt s).1 = k0_pay4 (iblk m c 0 t) (iblk m c 1 t) s.2 := by
  have e0 : ¬t.val % 4 = 0 := by omega
  have e1 : ¬(1 ≤ t.val % 4 ∧ t.val % 4 ≤ 2) := by omega
  simp only [stAt0_C m c t s e0 e1 e, last]

/-- The block written back after four points: their products added in order. -/
theorem swept (c : Dev nD) (n : ℕ) (h3 : n + 3 < cfg0.N) (e0 : n % 4 = 0) :
    (outsAt0 m c (n + 3) h3).1
      = k0_pay4 (iblk m c 0 ⟨n + 3, h3⟩) (iblk m c 1 ⟨n + 3, h3⟩)
          (addf (addf (part m c ⟨n, by omega⟩) (part m c ⟨n + 1, by omega⟩)) (part m c ⟨n + 2, by omega⟩)) := by
  rw [outsAt0_succ m c (n + 2) h3]
  refine (out_last m c ⟨n + 3, h3⟩ _ (by dsimp only; omega)).trans ?_
  rw [outsAt0_succ m c (n + 1) (by omega), acc_middle m c ⟨n + 2, by omega⟩ _ (by dsimp only; omega),
    outsAt0_succ m c n (by omega), acc_middle m c ⟨n + 1, by omega⟩ _ (by dsimp only; omega),
    acc_first m c ⟨n, by omega⟩ (by dsimp only; omega)]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

/-- Which blocks point `t` is given. -/
theorem given : ∀ t : Fin cfg0.N, win0_0.index t (0 : Fin 2) = t.val % 4 ∧ win0_0.index t (1 : Fin 2) = t.val / 4 ∧ win0_1.index t (0 : Fin 2) = t.val % 4 ∧ win0_1.index t (1 : Fin 2) = 0 :=
  (by decide +kernel : ∀ t : Fin grid0.N, _)

end Cert.GwDownIdeal.Product

namespace Cert.GwDownIdeal.Product

open Cert.GwDownIdeal Cert.GwDownIdeal.Gen Cert.GwDownIdeal.Value Cert.Sums

variable (m : (ℓ : Loc nD τ sig) → Buf (Elt Ideal) ℓ)

/-- The first operand's entries. -/
abbrev lhs (c : Dev nD) : S8192x2816.Idx → EReal := m ((c.tc : Thread nD τ).loc main_arg0)
/-- The second operand's entries. -/
abbrev rhs (c : Dev nD) : S8192x1024.Idx → EReal := m ((c.tc : Thread nD τ).loc main_arg1)

/-- An element of point `t`'s first block. -/
theorem lhs_at (c : Dev nD) (t : Fin cfg0.N) (k : Fin 2048) (j : Fin 1408) (p : S8192x2816.Idx)
    (p0 : (p 0).val = t.val % 4 * 2048 + k.val) (p1 : (p 1).val = t.val / 4 * 1408 + j.val) :
    iblk m c 0 t (ValueIdx.ix2 k j) = lhs m c p := by
  unfold iblk
  rw [View.read_apply]
  show V m c main_v0 _ = _
  rw [lhs_eq]
  show m ((c.tc : Thread nD τ).loc main_arg0) _ = _
  congr 1
  obtain ⟨f0, f1, f2, f3⟩ := given t
  funext a; apply Fin.ext
  match a with
  | ⟨0, _⟩ => show win0_0.index t 0 * 2048 + 1 * k.val = (p 0).val; omega
  | ⟨1, _⟩ => show win0_0.index t 1 * 1408 + 1 * j.val = (p 1).val; omega

/-- An element of point `t`'s second block. -/
theorem rhs_at (c : Dev nD) (t : Fin cfg0.N) (k : Fin 2048) (l : Fin 1024) (p : S8192x1024.Idx)
    (p0 : (p 0).val = t.val % 4 * 2048 + k.val) (p1 : (p 1).val = 0 * 1024 + l.val) :
    iblk m c 1 t (ValueIdx.ix2 k l) = rhs m c p := by
  unfold iblk
  rw [View.read_apply]
  show V m c main_v1 _ = _
  rw [rhs_eq]
  show m ((c.tc : Thread nD τ).loc main_arg1) _ = _
  congr 1
  obtain ⟨f0, f1, f2, f3⟩ := given t
  funext a; apply Fin.ext
  match a with
  | ⟨0, _⟩ => show win0_1.index t 0 * 2048 + 1 * k.val = (p 0).val; omega
  | ⟨1, _⟩ => show win0_1.index t 1 * 1024 + 1 * l.val = (p 1).val; omega

/-- The product of two blocks at an index. -/
theorem pay_at (x : Vec Ideal S2048x1408 .bf16) (y : Vec Ideal S2048x1024 .bf16) (j : Fin 1408) (l : Fin 1024) :
    (k0_pay1 x y : Vec Ideal S1408x1024 .f32) (ValueIdx.ix2 j l)
      = ∑ k : Fin 2048, x (ValueIdx.ix2 k j) * y (ValueIdx.ix2 k l) := by
  unfold k0_pay1
  pointwise
  rfl

/-- The block written back, at an index. -/
theorem out_at (x : Vec Ideal S2048x1408 .bf16) (y : Vec Ideal S2048x1024 .bf16) (s : Vec Ideal S1408x1024 .f32) (j : Fin 1408) (l : Fin 1024) :
    (k0_pay4 x y s : Vec Ideal S1408x1024 .bf16) (ValueIdx.ix2 j l)
      = ((s (ValueIdx.ix2 j l) : EReal) + (k0_pay1 x y : Vec Ideal S1408x1024 .f32) (ValueIdx.ix2 j l)) := by
  unfold k0_pay4
  generalize k0_pay1 x y = w
  pointwise
  try rfl

/-- The product of point `t`'s blocks is one of the four stretches of the whole sum. -/
theorem part_at (c : Dev nD) (t : Fin cfg0.N) (j : Fin 1408) (l : Fin 1024) (q : ℕ) (hq : q < 4) (J : Fin 2816)
    (L : Fin 1024) (eq : t.val % 4 = q) (eJ : J.val = t.val / 4 * 1408 + j.val) (eL : L.val = 0 * 1024 + l.val) :
    (part m c t (ValueIdx.ix2 j l) : EReal)
      = ∑ k : Fin 2048, lhs m c (ValueIdx.ix2 ⟨q * 2048 + k.val, by omega⟩ J) * rhs m c (ValueIdx.ix2 ⟨q * 2048 + k.val, by omega⟩ L) := by
  subst eq
  refine (pay_at _ _ _ _).trans (Finset.sum_congr rfl fun k _ => congrArg₂ (· * ·) ?_ ?_)
  · exact lhs_at m c t k j _ (by show t.val % 4 * 2048 + k.val = _; omega) (by show J.val = _; omega)
  · exact rhs_at m c t k l _ (by show t.val % 4 * 2048 + k.val = _; omega) (by show L.val = _; omega)

/-- What the launch leaves at an index of the result, in the block's own coordinates. -/
theorem block_at (c : Dev nD) (i : S2816x1024.Idx) (n : ℕ) (hn : n + 3 < cfg0.N) (e : n = 4 * ((i 0).val / 1408)) :
    (G2 m c i : EReal) = (outsAt0 m c (n + 3) hn).1 (ValueIdx.ix2 (⟨(i 0).val % 1408, Nat.mod_lt _ (by decide)⟩ : Fin 1408) (⟨(i 1).val % 1024, Nat.mod_lt _ (by decide)⟩ : Fin 1024)) := by
  have i0 : (i 0).val < 2816 := (i 0).isLt
  have i1 : (i 1).val < 1024 := (i 1).isLt
  have hq : n + 3 = pt2Of i := by unfold pt2Of run2Of; omega
  have hl : loc2Of i = ValueIdx.ix2 (⟨(i 0).val % 1408, Nat.mod_lt _ (by decide)⟩ : Fin 1408) (⟨(i 1).val % 1024, Nat.mod_lt _ (by decide)⟩ : Fin 1024) := by
    funext a; match a with | ⟨0, _⟩ => rfl | ⟨1, _⟩ => rfl
  unfold G2
  rw [dif_pos (hq ▸ hn), ← outsAt0_sweep m c (pt2Of i) (hq ▸ hn), hl]
  simp only [hq]

/-- What the launch leaves at an index of the result: the whole sum. -/
theorem result_at (c : Dev nD) (i : S2816x1024.Idx) :
    (G2 m c i : EReal) = ∑ k : Fin 8192, lhs m c (ValueIdx.ix2 ⟨k.val, by omega⟩ (i 0)) * rhs m c (ValueIdx.ix2 ⟨k.val, by omega⟩ (i 1)) := by
  have i0 : (i 0).val < 2816 := (i 0).isLt
  have i1 : (i 1).val < 1024 := (i 1).isLt
  have hN : cfg0.N = 8 := N_0
  obtain ⟨n, e⟩ : ∃ n, n = 4 * ((i 0).val / 1408) := ⟨_, rfl⟩
  have hn : n + 3 < cfg0.N := by rw [hN]; omega
  rw [block_at m c i n hn e, swept m c n hn (by omega), out_at, addf_at, addf_at]
  have q0 := part_at m c ⟨n, by omega⟩ ⟨(i 0).val % 1408, Nat.mod_lt _ (by decide)⟩ ⟨(i 1).val % 1024, Nat.mod_lt _ (by decide)⟩ 0 (by omega) (i 0) (i 1)
    (by dsimp only; omega) (by dsimp only; omega) (by dsimp only; omega)
  have q1 := part_at m c ⟨n + 1, by omega⟩ ⟨(i 0).val % 1408, Nat.mod_lt _ (by decide)⟩ ⟨(i 1).val % 1024, Nat.mod_lt _ (by decide)⟩ 1 (by omega) (i 0) (i 1)
    (by dsimp only; omega) (by dsimp only; omega) (by dsimp only; omega)
  have q2 := part_at m c ⟨n + 2, by omega⟩ ⟨(i 0).val % 1408, Nat.mod_lt _ (by decide)⟩ ⟨(i 1).val % 1024, Nat.mod_lt _ (by decide)⟩ 2 (by omega) (i 0) (i 1)
    (by dsimp only; omega) (by dsimp only; omega) (by dsimp only; omega)
  have q3 := part_at m c ⟨n + 3, hn⟩ ⟨(i 0).val % 1408, Nat.mod_lt _ (by decide)⟩ ⟨(i 1).val % 1024, Nat.mod_lt _ (by decide)⟩ 3 (by omega) (i 0) (i 1)
    (by dsimp only; omega) (by dsimp only; omega) (by dsimp only; omega)
  refine (congrArg₂ (· + ·) (congrArg₂ (· + ·) (congrArg₂ (· + ·) q0 q1) q2) q3).trans ?_
  exact four_stretches 2048 8192 rfl fun k => lhs m c (ValueIdx.ix2 ⟨k.val, by omega⟩ (i 0)) * rhs m c (ValueIdx.ix2 ⟨k.val, by omega⟩ (i 1))

end Cert.GwDownIdeal.Product

namespace Cert.GwDown

/-- The launch and the derivative of the plain product end with the same array. -/
theorem algebraic : Cert.algebraic_GwDownIdeal_GwDownRefIdeal := by
  intro m g m' g' _ ha
  refine ⟨fun c => GwDownIdeal.Value.G2 m c, GwDownIdeal.Value.run m g, ?_⟩
  refine (θ_run _ _ _).mono (fun r h c => ?_) (GwDownRefIdeal.Value.run m' g')
  obtain ⟨h0, h1, h2⟩ := h c
  obtain ⟨a0, a1⟩ := ha c
  refine ⟨h0.trans ?_, h1, h2⟩
  rw [a0, a1]
  funext i
  refine Eq.trans ?_ (GwDownIdeal.Product.result_at m c i).symm
  idx_vars i
  pointwise
  exact Finset.sum_congr rfl fun k _ => mul_comm _ _

end Cert.GwDown

end
-- ==== Proof.GwIn.lean ====
/-
  The weight gradient of the mixer's way in: four blocks of tokens multiplied in turn, each product added to what the
  earlier ones left, against the derivative of `u @ w` with respect to `w`.
-/
module

public import proofs.«01_k».proof.Defs
public import proofs.«01_k».proof.Proof.Sums
public import proofs.«01_k».proof.Proof.Gen.GwInIdeal.Value
public import proofs.«01_k».proof.Proof.Gen.GwInRefIdeal.Run

@[expose] public section

set_option maxRecDepth 16384

noncomputable section

open Idealize.ShloMosaic Idealize.ShloMosaic.TcCoe Idealize.SL.Sem

namespace Cert.GwInIdeal.Product

open Cert.GwInIdeal Cert.GwInIdeal.Gen Cert.GwInIdeal.Value Cert.Sums

variable {F : FTy → Type} [FloatOps F]
variable (m : (ℓ : Loc nD τ sig) → Buf (Elt F) ℓ)

/-- What the first block leaves in the accumulator: its product. -/
theorem first (c : Dev nD) (i : grid0.Coords) (a3 h3 a4 h4 a5 h5 a6 h6 c0 c1 c2 x y) :
    sout0_A_0 (F := F) c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero origin2]
  unfold k0_pay2
  simp only [View.readAt_eq_ld, h3.read_unread, h4.read_unread, View.ld_unit_zero (S := S2048x1024) origin2, shapeCast_self]

/-- A block in the middle adds its product to what the accumulator holds. -/
theorem middle (c : Dev nD) (i : grid0.Coords) (a3 h3 a4 h4 a5 h5 a6 h6 c0 c1 c2 x y s) :
    sout0_B_0 (F := F) c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero origin2]
  unfold k0_pay3
  simp only [View.readAt_eq_ld, h3.read_unread, h4.read_unread, h6.read_unread, View.ld_unit_zero (S := S2048x1024) origin2,
    View.ld_unit_zero (S := S1024x1024) origin2, shapeCast_self]

/-- The last block writes the whole sum out. -/
theorem last (c : Dev nD) (i : grid0.Coords) (a3 h3 a4 h4 a5 h5 a6 h6 c0 c1 c2 x y s) :
    out0_C_2 (F := F) c i a3 h3 a4 h4 a5 h5 a6 h6 c0 c1 c2 x y s = k0_pay4 x y s := by
  unfold out0_C_2
  rw [View.read_writes_eq_canon _ _ _ (cover0_C_2 c i a3 h3 a4 h4 a5 h5 a6 h6 c0 c1 c2 x y s)]
  unfold kernelRun0_C
  dsimp only
  rw [View.canon_unit_zero origin2]
  simp only [View.readAt_eq_ld, h3.read_unread, h4.read_unread, h6.read_unread, View.ld_unit_zero (S := S2048x1024) origin2,
    View.ld_unit_zero (S := S1024x1024) origin2]

/-- The product of point `t`'s blocks. -/
abbrev part (c : Dev nD) (t : Fin cfg0.N) := k0_pay1 (iblk m c 0 t) (iblk m c 1 t)

/-- The accumulator after a run's first point. -/
theorem acc_first (c : Dev nD) (t : Fin cfg0.N) (e : t.val % 4 = 0) :
    (outsAt0 m c t.val t.isLt).2 = part m c t := by
  have e1 : ¬(1 ≤ t.val % 4 ∧ t.val % 4 ≤ 2) := by omega
  have e2 : ¬t.val % 4 = 3 := by omega
  simp only [outsAt0_A m c t e e1 e2, first]

/-- The accumulator after a point in the middle. -/
theorem acc_middle (c : Dev nD) (t : Fin cfg0.N) (s : Vec F S1024x1024 .bf16 × Vec F S1024x1024 .f32)
    (e : 1 ≤ t.val % 4 ∧ t.val % 4 ≤ 2) :
    (stAt0 m c t.val t.isLt s).2 = addf s.2 (part m c t) := by
  have e0 : ¬t.val % 4 = 0 := by omega
  have e2 : ¬t.val % 4 = 3 := by omega
  simp only [stAt0_B m c t s e0 e e2, middle]

/-- The block written at a run's last point. -/
theorem out_last (c : Dev nD) (t : Fin cfg0.N) (s : Vec F S1024x1024 .bf16 × Vec F S1024x1024 .f32)
    (e : t.val % 4 = 3) :
    (stAt0 m c t.val t.isLt s).1 = k0_pay4 (iblk m c 0 t) (iblk m c 1 t) s.2 := by
  have e0 : ¬t.val % 4 = 0 := by omega
  have e1 : ¬(1 ≤ t.val % 4 ∧ t.val % 4 ≤ 2) := by omega
  simp only [stAt0_C m c t s e0 e1 e, last]

/-- The block written back after four points: their products added in order. -/
theorem swept (c : Dev nD) (n : ℕ) (h3 : n + 3 < cfg0.N) (e0 : n % 4 = 0) :
    (outsAt0 m c (n + 3) h3).1
      = k0_pay4 (iblk m c 0 ⟨n + 3, h3⟩) (iblk m c 1 ⟨n + 3, h3⟩)
          (addf (addf (part m c ⟨n, by omega⟩) (part m c ⟨n + 1, by omega⟩)) (part m c ⟨n + 2, by omega⟩)) := by
  rw [outsAt0_succ m c (n + 2) h3]
  refine (out_last m c ⟨n + 3, h3⟩ _ (by dsimp only; omega)).trans ?_
  rw [outsAt0_succ m c (n + 1) (by omega), acc_middle m c ⟨n + 2, by omega⟩ _ (by dsimp only; omega),
    outsAt0_succ m c n (by omega), acc_middle m c ⟨n + 1, by omega⟩ _ (by dsimp only; omega),
    acc_first m c ⟨n, by omega⟩ (by dsimp only; omega)]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

/-- Which blocks point `t` is given. -/
theorem given : ∀ t : Fin cfg0.N, win0_0.index t (0 : Fin 2) = t.val % 4 ∧ win0_0.index t (1 : Fin 2) = 0 ∧ win0_1.index t (0 : Fin 2) = t.val % 4 ∧ win0_1.index t (1 : Fin 2) = t.val / 4 :=
  (by decide +kernel : ∀ t : Fin grid0.N, _)

end Cert.GwInIdeal.Product

namespace Cert.GwInIdeal.Product

open Cert.GwInIdeal Cert.GwInIdeal.Gen Cert.GwInIdeal.Value Cert.Sums

variable (m : (ℓ : Loc nD τ sig) → Buf (Elt Ideal) ℓ)

/-- The first operand's entries. -/
abbrev lhs (c : Dev nD) : S8192x1024.Idx → EReal := m ((c.tc : Thread nD τ).loc main_arg0)
/-- The second operand's entries. -/
abbrev rhs (c : Dev nD) : S8192x8192.Idx → EReal := m ((c.tc : Thread nD τ).loc main_arg1)

/-- An element of point `t`'s first block. -/
theorem lhs_at (c : Dev nD) (t : Fin cfg0.N) (k : Fin 2048) (j : Fin 1024) (p : S8192x1024.Idx)
    (p0 : (p 0).val = t.val % 4 * 2048 + k.val) (p1 : (p 1).val = 0 * 1024 + j.val) :
    iblk m c 0 t (ValueIdx.ix2 k j) = lhs m c p := by
  unfold iblk
  rw [View.read_apply]
  show V m c main_v0 _ = _
  rw [lhs_eq]
  show m ((c.tc : Thread nD τ).loc main_arg0) _ = _
  congr 1
  obtain ⟨f0, f1, f2, f3⟩ := given t
  funext a; apply Fin.ext
  match a with
  | ⟨0, _⟩ => show win0_0.index t 0 * 2048 + 1 * k.val = (p 0).val; omega
  | ⟨1, _⟩ => show win0_0.index t 1 * 1024 + 1 * j.val = (p 1).val; omega

/-- An element of point `t`'s second block. -/
theorem rhs_at (c : Dev nD) (t : Fin cfg0.N) (k : Fin 2048) (l : Fin 1024) (p : S8192x8192.Idx)
    (p0 : (p 0).val = t.val % 4 * 2048 + k.val) (p1 : (p 1).val = t.val / 4 * 1024 + l.val) :
    iblk m c 1 t (ValueIdx.ix2 k l) = rhs m c p := by
  unfold iblk
  rw [View.read_apply]
  show V m c main_v1 _ = _
  rw [rhs_eq]
  show m ((c.tc : Thread nD τ).loc main_arg1) _ = _
  congr 1
  obtain ⟨f0, f1, f2, f3⟩ := given t
  funext a; apply Fin.ext
  match a with
  | ⟨0, _⟩ => show win0_1.index t 0 * 2048 + 1 * k.val = (p 0).val; omega
  | ⟨1, _⟩ => show win0_1.index t 1 * 1024 + 1 * l.val = (p 1).val; omega

/-- The product of two blocks at an index. -/
theorem pay_at (x : Vec Ideal S2048x1024 .bf16) (y : Vec Ideal S2048x1024 .bf16) (j : Fin 1024) (l : Fin 1024) :
    (k0_pay1 x y : Vec Ideal S1024x1024 .f32) (ValueIdx.ix2 j l)
      = ∑ k : Fin 2048, x (ValueIdx.ix2 k j) * y (ValueIdx.ix2 k l) := by
  unfold k0_pay1
  pointwise
  rfl

/-- The block written back, at an index. -/
theorem out_at (x : Vec Ideal S2048x1024 .bf16) (y : Vec Ideal S2048x1024 .bf16) (s : Vec Ideal S1024x1024 .f32) (j : Fin 1024) (l : Fin 1024) :
    (k0_pay4 x y s : Vec Ideal S1024x1024 .bf16) (ValueIdx.ix2 j l)
      = ((s (ValueIdx.ix2 j l) : EReal) + (k0_pay1 x y : Vec Ideal S1024x1024 .f32) (ValueIdx.ix2 j l)) := by
  unfold k0_pay4
  generalize k0_pay1 x y = w
  pointwise
  try rfl

/-- The product of point `t`'s blocks is one of the four stretches of the whole sum. -/
theorem part_at (c : Dev nD) (t : Fin cfg0.N) (j : Fin 1024) (l : Fin 1024) (q : ℕ) (hq : q < 4) (J : Fin 1024)
    (L : Fin 8192) (eq : t.val % 4 = q) (eJ : J.val = 0 * 1024 + j.val) (eL : L.val = t.val / 4 * 1024 + l.val) :
    (part m c t (ValueIdx.ix2 j l) : EReal)
      = ∑ k : Fin 2048, lhs m c (ValueIdx.ix2 ⟨q * 2048 + k.val, by omega⟩ J) * rhs m c (ValueIdx.ix2 ⟨q * 2048 + k.val, by omega⟩ L) := by
  subst eq
  refine (pay_at _ _ _ _).trans (Finset.sum_congr rfl fun k _ => congrArg₂ (· * ·) ?_ ?_)
  · exact lhs_at m c t k j _ (by show t.val % 4 * 2048 + k.val = _; omega) (by show J.val = _; omega)
  · exact rhs_at m c t k l _ (by show t.val % 4 * 2048 + k.val = _; omega) (by show L.val = _; omega)

/-- What the launch leaves at an index of the result, in the block's own coordinates. -/
theorem block_at (c : Dev nD) (i : S1024x8192.Idx) (n : ℕ) (hn : n + 3 < cfg0.N) (e : n = 4 * ((i 1).val / 1024)) :
    (G2 m c i : EReal) = (outsAt0 m c (n + 3) hn).1 (ValueIdx.ix2 (⟨(i 0).val % 1024, Nat.mod_lt _ (by decide)⟩ : Fin 1024) (⟨(i 1).val % 1024, Nat.mod_lt _ (by decide)⟩ : Fin 1024)) := by
  have i0 : (i 0).val < 1024 := (i 0).isLt
  have i1 : (i 1).val < 8192 := (i 1).isLt
  have hq : n + 3 = pt2Of i := by unfold pt2Of run2Of; omega
  have hl : loc2Of i = ValueIdx.ix2 (⟨(i 0).val % 1024, Nat.mod_lt _ (by decide)⟩ : Fin 1024) (⟨(i 1).val % 1024, Nat.mod_lt _ (by decide)⟩ : Fin 1024) := by
    funext a; match a with | ⟨0, _⟩ => rfl | ⟨1, _⟩ => rfl
  unfold G2
  rw [dif_pos (hq ▸ hn), ← outsAt0_sweep m c (pt2Of i) (hq ▸ hn), hl]
  simp only [hq]

/-- What the launch leaves at an index of the result: the whole sum. -/
theorem result_at (c : Dev nD) (i : S1024x8192.Idx) :
    (G2 m c i : EReal) = ∑ k : Fin 8192, lhs m c (ValueIdx.ix2 ⟨k.val, by omega⟩ (i 0)) * rhs m c (ValueIdx.ix2 ⟨k.val, by omega⟩ (i 1)) := by
  have i0 : (i 0).val < 1024 := (i 0).isLt
  have i1 : (i 1).val < 8192 := (i 1).isLt
  have hN : cfg0.N = 32 := N_0
  obtain ⟨n, e⟩ : ∃ n, n = 4 * ((i 1).val / 1024) := ⟨_, rfl⟩
  have hn : n + 3 < cfg0.N := by rw [hN]; omega
  rw [block_at m c i n hn e, swept m c n hn (by omega), out_at, addf_at, addf_at]
  have q0 := part_at m c ⟨n, by omega⟩ ⟨(i 0).val % 1024, Nat.mod_lt _ (by decide)⟩ ⟨(i 1).val % 1024, Nat.mod_lt _ (by decide)⟩ 0 (by omega) (i 0) (i 1)
    (by dsimp only; omega) (by dsimp only; omega) (by dsimp only; omega)
  have q1 := part_at m c ⟨n + 1, by omega⟩ ⟨(i 0).val % 1024, Nat.mod_lt _ (by decide)⟩ ⟨(i 1).val % 1024, Nat.mod_lt _ (by decide)⟩ 1 (by omega) (i 0) (i 1)
    (by dsimp only; omega) (by dsimp only; omega) (by dsimp only; omega)
  have q2 := part_at m c ⟨n + 2, by omega⟩ ⟨(i 0).val % 1024, Nat.mod_lt _ (by decide)⟩ ⟨(i 1).val % 1024, Nat.mod_lt _ (by decide)⟩ 2 (by omega) (i 0) (i 1)
    (by dsimp only; omega) (by dsimp only; omega) (by dsimp only; omega)
  have q3 := part_at m c ⟨n + 3, hn⟩ ⟨(i 0).val % 1024, Nat.mod_lt _ (by decide)⟩ ⟨(i 1).val % 1024, Nat.mod_lt _ (by decide)⟩ 3 (by omega) (i 0) (i 1)
    (by dsimp only; omega) (by dsimp only; omega) (by dsimp only; omega)
  refine (congrArg₂ (· + ·) (congrArg₂ (· + ·) (congrArg₂ (· + ·) q0 q1) q2) q3).trans ?_
  exact four_stretches 2048 8192 rfl fun k => lhs m c (ValueIdx.ix2 ⟨k.val, by omega⟩ (i 0)) * rhs m c (ValueIdx.ix2 ⟨k.val, by omega⟩ (i 1))

end Cert.GwInIdeal.Product

namespace Cert.GwIn

/-- The launch and the derivative of the plain product end with the same array. -/
theorem algebraic : Cert.algebraic_GwInIdeal_GwInRefIdeal := by
  intro m g m' g' _ ha
  refine ⟨fun c => GwInIdeal.Value.G2 m c, GwInIdeal.Value.run m g, ?_⟩
  refine (θ_run _ _ _).mono (fun r h c => ?_) (GwInRefIdeal.Value.run m' g')
  obtain ⟨h0, h1, h2⟩ := h c
  obtain ⟨a0, a1⟩ := ha c
  refine ⟨h0.trans ?_, h1, h2⟩
  rw [a0, a1]
  funext i
  refine Eq.trans ?_ (GwInIdeal.Product.result_at m c i).symm
  idx_vars i
  pointwise
  exact Finset.sum_congr rfl fun k _ => mul_comm _ _

end Cert.GwIn

end
-- ==== Proof.GwOut.lean ====
/-
  The weight gradient of the mixer's way out: four blocks of tokens multiplied in turn, each product added to what the
  earlier ones left, against the derivative of `m @ w` with respect to `w`.
-/
module

public import proofs.«01_k».proof.Defs
public import proofs.«01_k».proof.Proof.Sums
public import proofs.«01_k».proof.Proof.Gen.GwOutIdeal.Value
public import proofs.«01_k».proof.Proof.Gen.GwOutRefIdeal.Run

@[expose] public section

set_option maxRecDepth 16384

noncomputable section

open Idealize.ShloMosaic Idealize.ShloMosaic.TcCoe Idealize.SL.Sem

namespace Cert.GwOutIdeal.Product

open Cert.GwOutIdeal Cert.GwOutIdeal.Gen Cert.GwOutIdeal.Value Cert.Sums

variable {F : FTy → Type} [FloatOps F]
variable (m : (ℓ : Loc nD τ sig) → Buf (Elt F) ℓ)

/-- What the first block leaves in the accumulator: its product. -/
theorem first (c : Dev nD) (i : grid0.Coords) (a3 h3 a4 h4 a5 h5 a6 h6 c0 c1 c2 x y) :
    sout0_A_0 (F := F) c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero origin2]
  unfold k0_pay2
  simp only [View.readAt_eq_ld, h3.read_unread, h4.read_unread, View.ld_unit_zero (S := S2048x1024) origin2, shapeCast_self]

/-- A block in the middle adds its product to what the accumulator holds. -/
theorem middle (c : Dev nD) (i : grid0.Coords) (a3 h3 a4 h4 a5 h5 a6 h6 c0 c1 c2 x y s) :
    sout0_B_0 (F := F) c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero origin2]
  unfold k0_pay3
  simp only [View.readAt_eq_ld, h3.read_unread, h4.read_unread, h6.read_unread, View.ld_unit_zero (S := S2048x1024) origin2,
    View.ld_unit_zero (S := S1024x1024) origin2, shapeCast_self]

/-- The last block writes the whole sum out. -/
theorem last (c : Dev nD) (i : grid0.Coords) (a3 h3 a4 h4 a5 h5 a6 h6 c0 c1 c2 x y s) :
    out0_C_2 (F := F) c i a3 h3 a4 h4 a5 h5 a6 h6 c0 c1 c2 x y s = k0_pay4 x y s := by
  unfold out0_C_2
  rw [View.read_writes_eq_canon _ _ _ (cover0_C_2 c i a3 h3 a4 h4 a5 h5 a6 h6 c0 c1 c2 x y s)]
  unfold kernelRun0_C
  dsimp only
  rw [View.canon_unit_zero origin2]
  simp only [View.readAt_eq_ld, h3.read_unread, h4.read_unread, h6.read_unread, View.ld_unit_zero (S := S2048x1024) origin2,
    View.ld_unit_zero (S := S1024x1024) origin2]

/-- The product of point `t`'s blocks. -/
abbrev part (c : Dev nD) (t : Fin cfg0.N) := k0_pay1 (iblk m c 0 t) (iblk m c 1 t)

/-- The accumulator after a run's first point. -/
theorem acc_first (c : Dev nD) (t : Fin cfg0.N) (e : t.val % 4 = 0) :
    (outsAt0 m c t.val t.isLt).2 = part m c t := by
  have e1 : ¬(1 ≤ t.val % 4 ∧ t.val % 4 ≤ 2) := by omega
  have e2 : ¬t.val % 4 = 3 := by omega
  simp only [outsAt0_A m c t e e1 e2, first]

/-- The accumulator after a point in the middle. -/
theorem acc_middle (c : Dev nD) (t : Fin cfg0.N) (s : Vec F S1024x1024 .bf16 × Vec F S1024x1024 .f32)
    (e : 1 ≤ t.val % 4 ∧ t.val % 4 ≤ 2) :
    (stAt0 m c t.val t.isLt s).2 = addf s.2 (part m c t) := by
  have e0 : ¬t.val % 4 = 0 := by omega
  have e2 : ¬t.val % 4 = 3 := by omega
  simp only [stAt0_B m c t s e0 e e2, middle]

/-- The block written at a run's last point. -/
theorem out_last (c : Dev nD) (t : Fin cfg0.N) (s : Vec F S1024x1024 .bf16 × Vec F S1024x1024 .f32)
    (e : t.val % 4 = 3) :
    (stAt0 m c t.val t.isLt s).1 = k0_pay4 (iblk m c 0 t) (iblk m c 1 t) s.2 := by
  have e0 : ¬t.val % 4 = 0 := by omega
  have e1 : ¬(1 ≤ t.val % 4 ∧ t.val % 4 ≤ 2) := by omega
  simp only [stAt0_C m c t s e0 e1 e, last]

/-- The block written back after four points: their products added in order. -/
theorem swept (c : Dev nD) (n : ℕ) (h3 : n + 3 < cfg0.N) (e0 : n % 4 = 0) :
    (outsAt0 m c (n + 3) h3).1
      = k0_pay4 (iblk m c 0 ⟨n + 3, h3⟩) (iblk m c 1 ⟨n + 3, h3⟩)
          (addf (addf (part m c ⟨n, by omega⟩) (part m c ⟨n + 1, by omega⟩)) (part m c ⟨n + 2, by omega⟩)) := by
  rw [outsAt0_succ m c (n + 2) h3]
  refine (out_last m c ⟨n + 3, h3⟩ _ (by dsimp only; omega)).trans ?_
  rw [outsAt0_succ m c (n + 1) (by omega), acc_middle m c ⟨n + 2, by omega⟩ _ (by dsimp only; omega),
    outsAt0_succ m c n (by omega), acc_middle m c ⟨n + 1, by omega⟩ _ (by dsimp only; omega),
    acc_first m c ⟨n, by omega⟩ (by dsimp only; omega)]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

/-- Which blocks point `t` is given. -/
theorem given : ∀ t : Fin cfg0.N, win0_0.index t (0 : Fin 2) = t.val % 4 ∧ win0_0.index t (1 : Fin 2) = 0 ∧ win0_1.index t (0 : Fin 2) = t.val % 4 ∧ win0_1.index t (1 : Fin 2) = 0 :=
  (by decide +kernel : ∀ t : Fin grid0.N, _)

end Cert.GwOutIdeal.Product

namespace Cert.GwOutIdeal.Product

open Cert.GwOutIdeal Cert.GwOutIdeal.Gen Cert.GwOutIdeal.Value Cert.Sums

variable (m : (ℓ : Loc nD τ sig) → Buf (Elt Ideal) ℓ)

/-- The first operand's entries. -/
abbrev lhs (c : Dev nD) : S8192x1024.Idx → EReal := m ((c.tc : Thread nD τ).loc main_arg0)
/-- The second operand's entries. -/
abbrev rhs (c : Dev nD) : S8192x1024.Idx → EReal := m ((c.tc : Thread nD τ).loc main_arg1)

/-- An element of point `t`'s first block. -/
theorem lhs_at (c : Dev nD) (t : Fin cfg0.N) (k : Fin 2048) (j : Fin 1024) (p : S8192x1024.Idx)
    (p0 : (p 0).val = t.val % 4 * 2048 + k.val) (p1 : (p 1).val = 0 * 1024 + j.val) :
    iblk m c 0 t (ValueIdx.ix2 k j) = lhs m c p := by
  unfold iblk
  rw [View.read_apply]
  show V m c main_v0 _ = _
  rw [lhs_eq]
  show m ((c.tc : Thread nD τ).loc main_arg0) _ = _
  congr 1
  obtain ⟨f0, f1, f2, f3⟩ := given t
  funext a; apply Fin.ext
  match a with
  | ⟨0, _⟩ => show win0_0.index t 0 * 2048 + 1 * k.val = (p 0).val; omega
  | ⟨1, _⟩ => show win0_0.index t 1 * 1024 + 1 * j.val = (p 1).val; omega

/-- An element of point `t`'s second block. -/
theorem rhs_at (c : Dev nD) (t : Fin cfg0.N) (k : Fin 2048) (l : Fin 1024) (p : S8192x1024.Idx)
    (p0 : (p 0).val = t.val % 4 * 2048 + k.val) (p1 : (p 1).val = 0 * 1024 + l.val) :
    iblk m c 1 t (ValueIdx.ix2 k l) = rhs m c p := by
  unfold iblk
  rw [View.read_apply]
  show V m c main_v1 _ = _
  rw [rhs_eq]
  show m ((c.tc : Thread nD τ).loc main_arg1) _ = _
  congr 1
  obtain ⟨f0, f1, f2, f3⟩ := given t
  funext a; apply Fin.ext
  match a with
  | ⟨0, _⟩ => show win0_1.index t 0 * 2048 + 1 * k.val = (p 0).val; omega
  | ⟨1, _⟩ => show win0_1.index t 1 * 1024 + 1 * l.val = (p 1).val; omega

/-- The product of two blocks at an index. -/
theorem pay_at (x : Vec Ideal S2048x1024 .bf16) (y : Vec Ideal S2048x1024 .bf16) (j : Fin 1024) (l : Fin 1024) :
    (k0_pay1 x y : Vec Ideal S1024x1024 .f32) (ValueIdx.ix2 j l)
      = ∑ k : Fin 2048, x (ValueIdx.ix2 k j) * y (ValueIdx.ix2 k l) := by
  unfold k0_pay1
  pointwise
  rfl

/-- The block written back, at an index. -/
theorem out_at (x : Vec Ideal S2048x1024 .bf16) (y : Vec Ideal S2048x1024 .bf16) (s : Vec Ideal S1024x1024 .f32) (j : Fin 1024) (l : Fin 1024) :
    (k0_pay4 x y s : Vec Ideal S1024x1024 .bf16) (ValueIdx.ix2 j l)
      = ((s (ValueIdx.ix2 j l) : EReal) + (k0_pay1 x y : Vec Ideal S1024x1024 .f32) (ValueIdx.ix2 j l)) := by
  unfold k0_pay4
  generalize k0_pay1 x y = w
  pointwise
  try rfl

/-- The product of point `t`'s blocks is one of the four stretches of the whole sum. -/
theorem part_at (c : Dev nD) (t : Fin cfg0.N) (j : Fin 1024) (l : Fin 1024) (q : ℕ) (hq : q < 4) (J : Fin 1024)
    (L : Fin 1024) (eq : t.val % 4 = q) (eJ : J.val = 0 * 1024 + j.val) (eL : L.val = 0 * 1024 + l.val) :
    (part m c t (ValueIdx.ix2 j l) : EReal)
      = ∑ k : Fin 2048, lhs m c (ValueIdx.ix2 ⟨q * 2048 + k.val, by omega⟩ J) * rhs m c (ValueIdx.ix2 ⟨q * 2048 + k.val, by omega⟩ L) := by
  subst eq
  refine (pay_at _ _ _ _).trans (Finset.sum_congr rfl fun k _ => congrArg₂ (· * ·) ?_ ?_)
  · exact lhs_at m c t k j _ (by show t.val % 4 * 2048 + k.val = _; omega) (by show J.val = _; omega)
  · exact rhs_at m c t k l _ (by show t.val % 4 * 2048 + k.val = _; omega) (by show L.val = _; omega)

/-- What the launch leaves at an index of the result, in the block's own coordinates. -/
theorem block_at (c : Dev nD) (i : S1024x1024.Idx) (n : ℕ) (hn : n + 3 < cfg0.N) (e : n = 4 * ((i 0).val / 1024)) :
    (G2 m c i : EReal) = (outsAt0 m c (n + 3) hn).1 (ValueIdx.ix2 (⟨(i 0).val % 1024, Nat.mod_lt _ (by decide)⟩ : Fin 1024) (⟨(i 1).val % 1024, Nat.mod_lt _ (by decide)⟩ : Fin 1024)) := by
  have i0 : (i 0).val < 1024 := (i 0).isLt
  have i1 : (i 1).val < 1024 := (i 1).isLt
  have hq : n + 3 = pt2Of i := by unfold pt2Of run2Of; omega
  have hl : loc2Of i = ValueIdx.ix2 (⟨(i 0).val % 1024, Nat.mod_lt _ (by decide)⟩ : Fin 1024) (⟨(i 1).val % 1024, Nat.mod_lt _ (by decide)⟩ : Fin 1024) := by
    funext a; match a with | ⟨0, _⟩ => rfl | ⟨1, _⟩ => rfl
  unfold G2
  rw [dif_pos (hq ▸ hn), ← outsAt0_sweep m c (pt2Of i) (hq ▸ hn), hl]
  simp only [hq]

/-- What the launch leaves at an index of the result: the whole sum. -/
theorem result_at (c : Dev nD) (i : S1024x1024.Idx) :
    (G2 m c i : EReal) = ∑ k : Fin 8192, lhs m c (ValueIdx.ix2 ⟨k.val, by omega⟩ (i 0)) * rhs m c (ValueIdx.ix2 ⟨k.val, by omega⟩ (i 1)) := by
  have i0 : (i 0).val < 1024 := (i 0).isLt
  have i1 : (i 1).val < 1024 := (i 1).isLt
  have hN : cfg0.N = 4 := N_0
  obtain ⟨n, e⟩ : ∃ n, n = 4 * ((i 0).val / 1024) := ⟨_, rfl⟩
  have hn : n + 3 < cfg0.N := by rw [hN]; omega
  rw [block_at m c i n hn e, swept m c n hn (by omega), out_at, addf_at, addf_at]
  have q0 := part_at m c ⟨n, by omega⟩ ⟨(i 0).val % 1024, Nat.mod_lt _ (by decide)⟩ ⟨(i 1).val % 1024, Nat.mod_lt _ (by decide)⟩ 0 (by omega) (i 0) (i 1)
    (by dsimp only; omega) (by dsimp only; omega) (by dsimp only; omega)
  have q1 := part_at m c ⟨n + 1, by omega⟩ ⟨(i 0).val % 1024, Nat.mod_lt _ (by decide)⟩ ⟨(i 1).val % 1024, Nat.mod_lt _ (by decide)⟩ 1 (by omega) (i 0) (i 1)
    (by dsimp only; omega) (by dsimp only; omega) (by dsimp only; omega)
  have q2 := part_at m c ⟨n + 2, by omega⟩ ⟨(i 0).val % 1024, Nat.mod_lt _ (by decide)⟩ ⟨(i 1).val % 1024, Nat.mod_lt _ (by decide)⟩ 2 (by omega) (i 0) (i 1)
    (by dsimp only; omega) (by dsimp only; omega) (by dsimp only; omega)
  have q3 := part_at m c ⟨n + 3, hn⟩ ⟨(i 0).val % 1024, Nat.mod_lt _ (by decide)⟩ ⟨(i 1).val % 1024, Nat.mod_lt _ (by decide)⟩ 3 (by omega) (i 0) (i 1)
    (by dsimp only; omega) (by dsimp only; omega) (by dsimp only; omega)
  refine (congrArg₂ (· + ·) (congrArg₂ (· + ·) (congrArg₂ (· + ·) q0 q1) q2) q3).trans ?_
  exact four_stretches 2048 8192 rfl fun k => lhs m c (ValueIdx.ix2 ⟨k.val, by omega⟩ (i 0)) * rhs m c (ValueIdx.ix2 ⟨k.val, by omega⟩ (i 1))

end Cert.GwOutIdeal.Product

namespace Cert.GwOut

/-- The launch and the derivative of the plain product end with the same array. -/
theorem algebraic : Cert.algebraic_GwOutIdeal_GwOutRefIdeal := by
  intro m g m' g' _ ha
  refine ⟨fun c => GwOutIdeal.Value.G2 m c, GwOutIdeal.Value.run m g, ?_⟩
  refine (θ_run _ _ _).mono (fun r h c => ?_) (GwOutRefIdeal.Value.run m' g')
  obtain ⟨h0, h1, h2⟩ := h c
  obtain ⟨a0, a1⟩ := ha c
  refine ⟨h0.trans ?_, h1, h2⟩
  rw [a0, a1]
  funext i
  refine Eq.trans ?_ (GwOutIdeal.Product.result_at m c i).symm
  idx_vars i
  pointwise
  exact Finset.sum_congr rfl fun k _ => mul_comm _ _

end Cert.GwOut

end
-- ==== Proof.GwUp.lean ====
/-
  The weight gradient of the second feed-forward's way up: four blocks of tokens multiplied in turn, each product added
  to what the earlier ones left, written as four pieces, against the derivative of `u @ w` with respect to `w`, cut the
  same way.
-/
module

public import proofs.«01_k».proof.Defs
public import proofs.«01_k».proof.Proof.Sums
public import proofs.«01_k».proof.Proof.Gen.GwUpIdeal.Value
public import proofs.«01_k».proof.Proof.Gen.GwUpRefIdeal.Run

@[expose] public section

set_option maxRecDepth 16384

noncomputable section

open Idealize.ShloMosaic Idealize.ShloMosaic.TcCoe Idealize.SL.Sem

namespace Cert.GwUpIdeal.Product

open Cert.GwUpIdeal Cert.GwUpIdeal.Gen Cert.GwUpIdeal.Value Cert.Sums

variable {F : FTy → Type} [FloatOps F]
variable (m : (ℓ : Loc nD τ sig) → Buf (Elt F) ℓ)

/-- What the first block leaves in the accumulator: its product. -/
theorem first (c : Dev nD) (i : grid0.Coords) (a3 h3 a4 h4 a5 h5 a6 h6 c0 c1 c2 x y) :
    sout0_A_0 (F := F) c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero origin2]
  unfold k0_pay2
  simp only [View.readAt_eq_ld, h3.read_unread, h4.read_unread, View.ld_unit_zero (S := S2048x1024) origin2,
    View.ld_unit_zero (S := S2048x1408) origin2, shapeCast_self]

/-- A block in the middle adds its product to what the accumulator holds. -/
theorem middle (c : Dev nD) (i : grid0.Coords) (a3 h3 a4 h4 a5 h5 a6 h6 c0 c1 c2 x y s) :
    sout0_B_0 (F := F) c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero origin2]
  unfold k0_pay3
  simp only [View.readAt_eq_ld, h3.read_unread, h4.read_unread, h6.read_unread, View.ld_unit_zero (S := S2048x1024) origin2,
    View.ld_unit_zero (S := S2048x1408) origin2,
    View.ld_unit_zero (S := S1024x1408) origin2, shapeCast_self]

/-- The last block writes the whole sum out. -/
theorem last (c : Dev nD) (i : grid0.Coords) (a3 h3 a4 h4 a5 h5 a6 h6 c0 c1 c2 x y s) :
    out0_C_2 (F := F) c i a3 h3 a4 h4 a5 h5 a6 h6 c0 c1 c2 x y s = k0_pay4 x y s := by
  unfold out0_C_2
  rw [View.read_writes_eq_canon _ _ _ (cover0_C_2 c i a3 h3 a4 h4 a5 h5 a6 h6 c0 c1 c2 x y s)]
  unfold kernelRun0_C
  dsimp only
  rw [View.canon_unit_zero origin3]
  simp only [View.readAt_eq_ld, h3.read_unread, h4.read_unread, h6.read_unread, View.ld_unit_zero (S := S2048x1024) origin2,
    View.ld_unit_zero (S := S2048x1408) origin2,
    View.ld_unit_zero (S := S1024x1408) origin2]

/-- The product of point `t`'s blocks. -/
abbrev part (c : Dev nD) (t : Fin cfg0.N) := k0_pay1 (iblk m c 0 t) (iblk m c 1 t)

/-- The accumulator after a run's first point. -/
theorem acc_first (c : Dev nD) (t : Fin cfg0.N) (e : t.val % 4 = 0) :
    (outsAt0 m c t.val t.isLt).2 = part m c t := by
  have e1 : ¬(1 ≤ t.val % 4 ∧ t.val % 4 ≤ 2) := by omega
  have e2 : ¬t.val % 4 = 3 := by omega
  simp only [outsAt0_A m c t e e1 e2, first]

/-- The accumulator after a point in the middle. -/
theorem acc_middle (c : Dev nD) (t : Fin cfg0.N) (s : Vec F S1x1024x1408 .bf16 × Vec F S1024x1408 .f32)
    (e : 1 ≤ t.val % 4 ∧ t.val % 4 ≤ 2) :
    (stAt0 m c t.val t.isLt s).2 = addf s.2 (part m c t) := by
  have e0 : ¬t.val % 4 = 0 := by omega
  have e2 : ¬t.val % 4 = 3 := by omega
  simp only [stAt0_B m c t s e0 e e2, middle]

/-- The block written at a run's last point. -/
theorem out_last (c : Dev nD) (t : Fin cfg0.N) (s : Vec F S1x1024x1408 .bf16 × Vec F S1024x1408 .f32)
    (e : t.val % 4 = 3) :
    (stAt0 m c t.val t.isLt s).1 = k0_pay4 (iblk m c 0 t) (iblk m c 1 t) s.2 := by
  have e0 : ¬t.val % 4 = 0 := by omega
  have e1 : ¬(1 ≤ t.val % 4 ∧ t.val % 4 ≤ 2) := by omega
  simp only [stAt0_C m c t s e0 e1 e, last]

/-- The block written back after four points: their products added in order. -/
theorem swept (c : Dev nD) (n : ℕ) (h3 : n + 3 < cfg0.N) (e0 : n % 4 = 0) :
    (outsAt0 m c (n + 3) h3).1
      = k0_pay4 (iblk m c 0 ⟨n + 3, h3⟩) (iblk m c 1 ⟨n + 3, h3⟩)
          (addf (addf (part m c ⟨n, by omega⟩) (part m c ⟨n + 1, by omega⟩)) (part m c ⟨n + 2, by omega⟩)) := by
  rw [outsAt0_succ m c (n + 2) h3]
  refine (out_last m c ⟨n + 3, h3⟩ _ (by dsimp only; omega)).trans ?_
  rw [outsAt0_succ m c (n + 1) (by omega), acc_middle m c ⟨n + 2, by omega⟩ _ (by dsimp only; omega),
    outsAt0_succ m c n (by omega), acc_middle m c ⟨n + 1, by omega⟩ _ (by dsimp only; omega),
    acc_first m c ⟨n, by omega⟩ (by dsimp only; omega)]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

/-- Which blocks point `t` is given. -/
theorem given : ∀ t : Fin cfg0.N, win0_0.index t (0 : Fin 2) = t.val % 4 ∧ win0_0.index t (1 : Fin 2) = 0 ∧ win0_1.index t (0 : Fin 2) = t.val % 4 ∧ win0_1.index t (1 : Fin 2) = t.val / 4 :=
  (by decide +kernel : ∀ t : Fin grid0.N, _)

end Cert.GwUpIdeal.Product

namespace Cert.GwUpIdeal.Product

open Cert.GwUpIdeal Cert.GwUpIdeal.Gen Cert.GwUpIdeal.Value Cert.Sums

variable (m : (ℓ : Loc nD τ sig) → Buf (Elt Ideal) ℓ)

/-- The first operand's entries. -/
abbrev lhs (c : Dev nD) : S8192x1024.Idx → EReal := m ((c.tc : Thread nD τ).loc main_arg0)
/-- The second operand's entries. -/
abbrev rhs (c : Dev nD) : S8192x5632.Idx → EReal := m ((c.tc : Thread nD τ).loc main_arg1)

/-- An element of point `t`'s first block. -/
theorem lhs_at (c : Dev nD) (t : Fin cfg0.N) (k : Fin 2048) (j : Fin 1024) (p : S8192x1024.Idx)
    (p0 : (p 0).val = t.val % 4 * 2048 + k.val) (p1 : (p 1).val = 0 * 1024 + j.val) :
    iblk m c 0 t (ValueIdx.ix2 k j) = lhs m c p := by
  unfold iblk
  rw [View.read_apply]
  show V m c main_v0 _ = _
  rw [lhs_eq]
  show m ((c.tc : Thread nD τ).loc main_arg0) _ = _
  congr 1
  obtain ⟨f0, f1, f2, f3⟩ := given t
  funext a; apply Fin.ext
  match a with
  | ⟨0, _⟩ => show win0_0.index t 0 * 2048 + 1 * k.val = (p 0).val; omega
  | ⟨1, _⟩ => show win0_0.index t 1 * 1024 + 1 * j.val = (p 1).val; omega

/-- An element of point `t`'s second block. -/
theorem rhs_at (c : Dev nD) (t : Fin cfg0.N) (k : Fin 2048) (l : Fin 1408) (p : S8192x5632.Idx)
    (p0 : (p 0).val = t.val % 4 * 2048 + k.val) (p1 : (p 1).val = t.val / 4 * 1408 + l.val) :
    iblk m c 1 t (ValueIdx.ix2 k l) = rhs m c p := by
  unfold iblk
  rw [View.read_apply]
  show V m c main_v1 _ = _
  rw [rhs_eq]
  show m ((c.tc : Thread nD τ).loc main_arg1) _ = _
  congr 1
  obtain ⟨f0, f1, f2, f3⟩ := given t
  funext a; apply Fin.ext
  match a with
  | ⟨0, _⟩ => show win0_1.index t 0 * 2048 + 1 * k.val = (p 0).val; omega
  | ⟨1, _⟩ => show win0_1.index t 1 * 1408 + 1 * l.val = (p 1).val; omega

/-- The product of two blocks at an index. -/
theorem pay_at (x : Vec Ideal S2048x1024 .bf16) (y : Vec Ideal S2048x1408 .bf16) (j : Fin 1024) (l : Fin 1408) :
    (k0_pay1 x y : Vec Ideal S1024x1408 .f32) (ValueIdx.ix2 j l)
      = ∑ k : Fin 2048, x (ValueIdx.ix2 k j) * y (ValueIdx.ix2 k l) := by
  unfold k0_pay1
  pointwise
  rfl

/-- The block written back, at an index. -/
theorem out_at (x : Vec Ideal S2048x1024 .bf16) (y : Vec Ideal S2048x1408 .bf16) (s : Vec Ideal S1024x1408 .f32) (z : Fin 1) (j : Fin 1024) (l : Fin 1408) :
    (k0_pay4 x y s : Vec Ideal S1x1024x1408 .bf16) (ValueIdx.ix3 z j l)
      = ((s (ValueIdx.ix2 j l) : EReal) + (k0_pay1 x y : Vec Ideal S1024x1408 .f32) (ValueIdx.ix2 j l)) := by
  unfold k0_pay4
  generalize k0_pay1 x y = w
  pointwise
  try rfl

/-- The product of point `t`'s blocks is one of the four stretches of the whole sum. -/
theorem part_at (c : Dev nD) (t : Fin cfg0.N) (j : Fin 1024) (l : Fin 1408) (q : ℕ) (hq : q < 4) (J : Fin 1024)
    (L : Fin 5632) (eq : t.val % 4 = q) (eJ : J.val = 0 * 1024 + j.val) (eL : L.val = t.val / 4 * 1408 + l.val) :
    (part m c t (ValueIdx.ix2 j l) : EReal)
      = ∑ k : Fin 2048, lhs m c (ValueIdx.ix2 ⟨q * 2048 + k.val, by omega⟩ J) * rhs m c (ValueIdx.ix2 ⟨q * 2048 + k.val, by omega⟩ L) := by
  subst eq
  refine (pay_at _ _ _ _).trans (Finset.sum_congr rfl fun k _ => congrArg₂ (· * ·) ?_ ?_)
  · exact lhs_at m c t k j _ (by show t.val % 4 * 2048 + k.val = _; omega) (by show J.val = _; omega)
  · exact rhs_at m c t k l _ (by show t.val % 4 * 2048 + k.val = _; omega) (by show L.val = _; omega)

/-- What the launch leaves at an index of the result, in the block's own coordinates. -/
theorem block_at (c : Dev nD) (i : S4x1024x1408.Idx) (n : ℕ) (hn : n + 3 < cfg0.N) (e : n = 4 * ((i 0).val)) :
    (G2 m c i : EReal) = (outsAt0 m c (n + 3) hn).1 (ValueIdx.ix3 (⟨(i 0).val % 1, Nat.mod_lt _ (by decide)⟩ : Fin 1) (⟨(i 1).val % 1024, Nat.mod_lt _ (by decide)⟩ : Fin 1024) (⟨(i 2).val % 1408, Nat.mod_lt _ (by decide)⟩ : Fin 1408)) := by
  have i0 : (i 0).val < 4 := (i 0).isLt
  have i1 : (i 1).val < 1024 := (i 1).isLt
  have i2 : (i 2).val < 1408 := (i 2).isLt
  have hq : n + 3 = pt2Of i := by unfold pt2Of run2Of; omega
  have hl : loc2Of i = ValueIdx.ix3 (⟨(i 0).val % 1, Nat.mod_lt _ (by decide)⟩ : Fin 1) (⟨(i 1).val % 1024, Nat.mod_lt _ (by decide)⟩ : Fin 1024) (⟨(i 2).val % 1408, Nat.mod_lt _ (by decide)⟩ : Fin 1408) := by
    funext a; match a with | ⟨0, _⟩ => rfl | ⟨1, _⟩ => rfl | ⟨2, _⟩ => rfl
  unfold G2
  rw [dif_pos (hq ▸ hn), ← outsAt0_sweep m c (pt2Of i) (hq ▸ hn), hl]
  simp only [hq]

/-- What the launch leaves at an index of the result: the whole sum. -/
theorem result_at (c : Dev nD) (i : S4x1024x1408.Idx) (i0 : (i 0).val < 4) (i1 : (i 1).val < 1024) (i2 : (i 2).val < 1408) :
    (G2 m c i : EReal) = ∑ k : Fin 8192, lhs m c (ValueIdx.ix2 ⟨k.val, by omega⟩ (i 1)) * rhs m c (ValueIdx.ix2 ⟨k.val, by omega⟩ ⟨(i 0).val * 1408 + (i 2).val, by omega⟩) := by
  have i0 : (i 0).val < 4 := (i 0).isLt
  have i1 : (i 1).val < 1024 := (i 1).isLt
  have i2 : (i 2).val < 1408 := (i 2).isLt
  have hN : cfg0.N = 16 := N_0
  obtain ⟨n, e⟩ : ∃ n, n = 4 * ((i 0).val) := ⟨_, rfl⟩
  have hn : n + 3 < cfg0.N := by rw [hN]; omega
  rw [block_at m c i n hn e, swept m c n hn (by omega), out_at, addf_at, addf_at]
  have q0 := part_at m c ⟨n, by omega⟩ ⟨(i 1).val % 1024, Nat.mod_lt _ (by decide)⟩ ⟨(i 2).val % 1408, Nat.mod_lt _ (by decide)⟩ 0 (by omega) (i 1) ⟨(i 0).val * 1408 + (i 2).val, by omega⟩
    (by dsimp only; omega) (by dsimp only; omega) (by dsimp only; omega)
  have q1 := part_at m c ⟨n + 1, by omega⟩ ⟨(i 1).val % 1024, Nat.mod_lt _ (by decide)⟩ ⟨(i 2).val % 1408, Nat.mod_lt _ (by decide)⟩ 1 (by omega) (i 1) ⟨(i 0).val * 1408 + (i 2).val, by omega⟩
    (by dsimp only; omega) (by dsimp only; omega) (by dsimp only; omega)
  have q2 := part_at m c ⟨n + 2, by omega⟩ ⟨(i 1).val % 1024, Nat.mod_lt _ (by decide)⟩ ⟨(i 2).val % 1408, Nat.mod_lt _ (by decide)⟩ 2 (by omega) (i 1) ⟨(i 0).val * 1408 + (i 2).val, by omega⟩
    (by dsimp only; omega) (by dsimp only; omega) (by dsimp only; omega)
  have q3 := part_at m c ⟨n + 3, hn⟩ ⟨(i 1).val % 1024, Nat.mod_lt _ (by decide)⟩ ⟨(i 2).val % 1408, Nat.mod_lt _ (by decide)⟩ 3 (by omega) (i 1) ⟨(i 0).val * 1408 + (i 2).val, by omega⟩
    (by dsimp only; omega) (by dsimp only; omega) (by dsimp only; omega)
  refine (congrArg₂ (· + ·) (congrArg₂ (· + ·) (congrArg₂ (· + ·) q0 q1) q2) q3).trans ?_
  exact four_stretches 2048 8192 rfl fun k => lhs m c (ValueIdx.ix2 ⟨k.val, by omega⟩ (i 1)) * rhs m c (ValueIdx.ix2 ⟨k.val, by omega⟩ ⟨(i 0).val * 1408 + (i 2).val, by omega⟩)

end Cert.GwUpIdeal.Product

namespace Cert.GwUp

/-- The launch and the derivative of the plain product end with the same array. -/
theorem algebraic : Cert.algebraic_GwUpIdeal_GwUpRefIdeal := by
  intro m g m' g' _ ha
  refine ⟨fun c => GwUpIdeal.Value.G2 m c, GwUpIdeal.Value.run m g, ?_⟩
  refine (θ_run _ _ _).mono (fun r h c => ?_) (GwUpRefIdeal.Value.run m' g')
  obtain ⟨h0, h1, h2⟩ := h c
  obtain ⟨a0, a1⟩ := ha c
  refine ⟨h0.trans ?_, h1, h2⟩
  rw [a0, a1]
  funext i
  have i0 : (i 0).val < 4 := (i 0).isLt
  have i1 : (i 1).val < 1024 := (i 1).isLt
  have i2 : (i 2).val < 1408 := (i 2).isLt
  refine Eq.trans ?_ (GwUpIdeal.Product.result_at m c i i0 i1 i2).symm
  clear a0 a1 h0 h1 h2 h ha
  idx_vars i
  rename_i p j l
  pointwise
  split_ifs with b0 b1 b2
  all_goals refine Finset.sum_congr rfl fun k _ => (mul_comm _ _).trans (congrArg₂ (· * ·) rfl ?_)
  all_goals refine congrArg (GwUpIdeal.Product.rhs m c) (congrArg (fun q => ValueIdx.ix2 k q) (Fin.ext ?_))
  · show l.val = p.val * 1408 + l.val; omega
  · show 1408 + l.val = p.val * 1408 + l.val; omega
  · show 2816 + l.val = p.val * 1408 + l.val; omega
  · show 4224 + l.val = p.val * 1408 + l.val; change p.val < 4 at i0; omega

end Cert.GwUp

end
-- ==== Proof.MergeBwd.lean ====
/-
  The backward pass of the gated merge of the two streams: the gradients of both streams and of both gates, against the
  derivative of the forward lines. The launch writes the gates' gradients into two column ranges of one wide array; the
  claim is about those columns.
-/
module

public import proofs.«01_k».proof.Defs
public import proofs.«01_k».proof.Proof.Sums
public import proofs.«01_k».proof.Proof.Gen.MergeBwdIdeal.Value
public import proofs.«01_k».proof.Proof.Gen.MergeBwdRefIdeal.Run
public import proofs.«01_k».proof.Proof.Gen.On_gates_written
public import Idealize.ShloMosaic.Lib.Pipeline.ValueKit.Geometry
public import Idealize.ShloMosaic.Lib.Pipeline.ValueKit.Partial
public import Idealize.ShloMosaic.Lib.Pipeline.ValueKit.Tiles

@[expose] public section

set_option maxRecDepth 16384

noncomputable section

open Idealize.ShloMosaic Idealize.ShloMosaic.TcCoe Idealize.SL.Sem

namespace Cert.MergeBwdIdeal.Product

open Cert.MergeBwdIdeal Cert.MergeBwdIdeal.Gen Cert.MergeBwdIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = t.val ∧ win0_1.index t (1 : Fin 2) = 0 :=
  (by decide +kernel : ∀ t : Fin grid0.N, _)

/-- Which block of its third operand point `t` is given. -/
theorem at2 : ∀ t : Fin cfg0.N, win0_2.index t (0 : Fin 2) = t.val ∧ win0_2.index t (1 : Fin 2) = 0 :=
  (by decide +kernel : ∀ t : Fin grid0.N, _)

/-- Which block of its fourth operand point `t` is given. -/
theorem at3 : ∀ t : Fin cfg0.N, win0_3.index t (0 : Fin 2) = t.val ∧ win0_3.index t (1 : Fin 2) = 2 :=
  (by decide +kernel : ∀ t : Fin grid0.N, _)

/-- Which block of the result point `t` writes. -/
theorem at4 : ∀ t : Fin cfg0.N, win0_4.index t (0 : Fin 2) = t.val ∧ win0_4.index t (1 : Fin 2) = 0 :=
  (by decide +kernel : ∀ t : Fin grid0.N, _)

/-- Which block of the result point `t` writes. -/
theorem at5 : ∀ t : Fin cfg0.N, win0_5.index t (0 : Fin 2) = t.val ∧ win0_5.index t (1 : Fin 2) = 0 :=
  (by decide +kernel : ∀ t : Fin grid0.N, _)

/-- Which block of the result point `t` writes. -/
theorem at6 : ∀ t : Fin cfg0.N, win0_6.index t (0 : Fin 2) = t.val ∧ win0_6.index t (1 : Fin 2) = 2 :=
  (by decide +kernel : ∀ t : Fin grid0.N, _)

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S8192x1024.Idx → EReal := m ((c.tc : Thread nD τ).loc main_arg1)

/-- An argument's entries. -/
abbrev arg2 (c : Dev nD) : S8192x1024.Idx → EReal := m ((c.tc : Thread nD τ).loc main_arg2)

/-- An argument's entries. -/
abbrev arg3 (c : Dev nD) : S8192x8192.Idx → EReal := m ((c.tc : Thread nD τ).loc main_arg3)

/-- An element of point `t`'s block of the first operand. -/
theorem blk0_at (c : Dev nD) (t : Fin cfg0.N) (j : S512x1024.Idx) (p : S8192x1024.Idx)
    (p0 : (p 0).val = t.val * 512 + (j 0).val) (p1 : (p 1).val = 0 * 1024 + (j 1).val) :
    iblk m c 0 t j = arg0 m c p := by
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 512 + 1 * (j 0).val = (p 0).val; omega
  | ⟨1, _⟩ => show win0_0.index t 1 * 1024 + 1 * (j 1).val = (p 1).val; omega

/-- An element of point `t`'s block of the second operand. -/
theorem blk1_at (c : Dev nD) (t : Fin cfg0.N) (j : S512x1024.Idx) (p : S8192x1024.Idx)
    (p0 : (p 0).val = t.val * 512 + (j 0).val) (p1 : (p 1).val = 0 * 1024 + (j 1).val) :
    iblk m c 1 t j = arg1 m c p := by
  unfold iblk
  rw [View.read_apply]
  show m ((c.tc : Thread nD τ).loc main_arg1) _ = _
  congr 1
  obtain ⟨f0, f1⟩ := at1 t
  funext a; apply Fin.ext
  match a with
  | ⟨0, _⟩ => show win0_1.index t 0 * 512 + 1 * (j 0).val = (p 0).val; omega
  | ⟨1, _⟩ => show win0_1.index t 1 * 1024 + 1 * (j 1).val = (p 1).val; omega

/-- An element of point `t`'s block of the third operand. -/
theorem blk2_at (c : Dev nD) (t : Fin cfg0.N) (j : S512x1024.Idx) (p : S8192x1024.Idx)
    (p0 : (p 0).val = t.val * 512 + (j 0).val) (p1 : (p 1).val = 0 * 1024 + (j 1).val) :
    iblk m c 2 t j = arg2 m c p := by
  unfold iblk
  rw [View.read_apply]
  show m ((c.tc : Thread nD τ).loc main_arg2) _ = _
  congr 1
  obtain ⟨f0, f1⟩ := at2 t
  funext a; apply Fin.ext
  match a with
  | ⟨0, _⟩ => show win0_2.index t 0 * 512 + 1 * (j 0).val = (p 0).val; omega
  | ⟨1, _⟩ => show win0_2.index t 1 * 1024 + 1 * (j 1).val = (p 1).val; omega

/-- An element of point `t`'s block of the fourth operand. -/
theorem blk3_at (c : Dev nD) (t : Fin cfg0.N) (j : S512x2048.Idx) (p : S8192x8192.Idx)
    (p0 : (p 0).val = t.val * 512 + (j 0).val) (p1 : (p 1).val = 2 * 2048 + (j 1).val) :
    iblk m c 3 t j = arg3 m c p := by
  unfold iblk
  rw [View.read_apply]
  show m ((c.tc : Thread nD τ).loc main_arg3) _ = _
  congr 1
  obtain ⟨f0, f1⟩ := at3 t
  funext a; apply Fin.ext
  match a with
  | ⟨0, _⟩ => show win0_3.index t 0 * 512 + 1 * (j 0).val = (p 0).val; omega
  | ⟨1, _⟩ => show win0_3.index t 1 * 2048 + 1 * (j 1).val = (p 1).val; omega

/-- The gradient of a stream: what comes in times the gate. -/
def stream (d g : EReal) : EReal := Ideal.logistic g * d

/-- The gradient of a gate: what comes in times the stream times the derivative of the gate. -/
def gate (d x g : EReal) : EReal := d * x * Ideal.logistic g * (1 - Ideal.logistic g)

/-- What the body computes, at an index. -/
theorem pay3_at (v0 v1 : Vec Ideal S512x1024 .f32) (i : S512x1024.Idx) :
    (k0_pay3 v0 v1 : Vec Ideal S512x1024 .bf16) i = stream (v0 i) (v1 i) := by
  unfold k0_pay3 k0_pay1 stream
  idx_vars i
  pointwise
  try rfl

/-- What the body computes, at an index. -/
theorem pay4_at (v0 v3 : Vec Ideal S512x1024 .f32) (i : S512x1024.Idx) :
    (k0_pay4 v0 v3 : Vec Ideal S512x1024 .bf16) i = stream (v0 i) (v3 i) := by
  unfold k0_pay4 k0_pay2 stream
  idx_vars i
  pointwise
  try rfl

/-- What the body computes, at an index. -/
theorem pay5_at (v0 v1 v11 : Vec Ideal S512x1024 .f32) (i : S512x1024.Idx) :
    (k0_pay5 v0 v1 v11 : Vec Ideal S512x1024 .bf16) i = gate (v0 i) (v11 i) (v1 i) := by
  unfold k0_pay5 k0_pay1 gate
  idx_vars i
  pointwise
  try rfl

/-- What the body computes, at an index. -/
theorem pay6_at (v0 v3 v19 : Vec Ideal S512x1024 .f32) (i : S512x1024.Idx) :
    (k0_pay6 v0 v3 v19 : Vec Ideal S512x1024 .bf16) i = gate (v0 i) (v19 i) (v3 i) := by
  unfold k0_pay6 k0_pay2 gate
  idx_vars i
  pointwise
  try rfl

/-- One stream's gradient, as one function of the arguments. -/
def res4 (c : Dev nD) (i : S8192x1024.Idx) : EReal :=
  stream (arg0 m c i) (arg3 m c (ValueIdx.ix2 (i 0) ⟨4096 + (i 1).val, by have e : (i 1).val < 1024 := (i 1).isLt; omega⟩))

/-- What point `t` writes of it. -/
theorem piece4 (c : Dev nD) (t : Fin cfg0.N) (x : S512x1024.Idx) (z : S8192x1024.Idx)
    (z0 : (z 0).val = t.val * 512 + (x 0).val) (z1 : (z 1).val = (x 1).val) :
    (k0_pay3 (iblk m c 0 t) (View.ld (iblk m c 3 t) r0_1) : Vec Ideal S512x1024 .bf16) x = res4 m c z := by
  rw [pay3_at]
  unfold res4
  have x1 : (x 1).val < 1024 := (x 1).isLt
  refine congrArg₂ stream ?_ ?_
  · exact blk0_at m c t x z z0 (by omega)
  · refine (View.ld_unit_apply_of (iblk m c 3 t) _ _ _ x (ValueIdx.ix2 ⟨(x 0).val, (x 0).isLt⟩ ⟨0 + (x 1).val, by omega⟩) fun a => ?_).trans ?_
    · match a with
      | ⟨0, _⟩ => show (x 0).val = 0 + (x 0).val; omega
      | ⟨1, _⟩ => show 0 + (x 1).val = 0 + (x 1).val; rfl
    · refine blk3_at m c t _ _ ?_ ?_
      · show (z 0).val = t.val * 512 + (x 0).val; omega
      · show 4096 + (z 1).val = 2 * 2048 + (0 + (x 1).val); omega

/-- The array the launch leaves of it. -/
theorem result4 (c : Dev nD) : (dats m 0 c).arrAt 4 cfg0.N = (res4 m c : S8192x1024.Idx → EReal) := by
  refine (dats m 0 c).arrAt_eq_of_covers 4 _ (by decide +kernel) fun t hf y => ?_
  blk_simp
  rw [after0_4]
  obtain ⟨f0, f1⟩ := at4 t
  have d0 : ((win0_4.blk t).view.emb y 0).val = t.val * 512 + (y 0).val := by
    show win0_4.index t 0 * 512 + 1 * (y 0).val = _; omega
  have d1 : ((win0_4.blk t).view.emb y 1).val = (y 1).val := by
    show win0_4.index t 1 * 1024 + 1 * (y 1).val = _; omega
  generalize (win0_4.blk t).view.emb y = z at d0 d1
  unfold out0_4
  rw [View.canon_unit_zero origin2, View.ld_unit_zero (S := S512x1024) origin2]
  exact piece4 m c t y z d0 d1

/-- One stream's gradient, as one function of the arguments. -/
def res5 (c : Dev nD) (i : S8192x1024.Idx) : EReal :=
  stream (arg0 m c i) (arg3 m c (ValueIdx.ix2 (i 0) ⟨5120 + (i 1).val, by have e : (i 1).val < 1024 := (i 1).isLt; omega⟩))

/-- What point `t` writes of it. -/
theorem piece5 (c : Dev nD) (t : Fin cfg0.N) (x : S512x1024.Idx) (z : S8192x1024.Idx)
    (z0 : (z 0).val = t.val * 512 + (x 0).val) (z1 : (z 1).val = (x 1).val) :
    (k0_pay4 (iblk m c 0 t) (View.ld (iblk m c 3 t) r0_2) : Vec Ideal S512x1024 .bf16) x = res5 m c z := by
  rw [pay4_at]
  unfold res5
  have x1 : (x 1).val < 1024 := (x 1).isLt
  refine congrArg₂ stream ?_ ?_
  · exact blk0_at m c t x z z0 (by omega)
  · refine (View.ld_unit_apply_of (iblk m c 3 t) _ _ _ x (ValueIdx.ix2 ⟨(x 0).val, (x 0).isLt⟩ ⟨1024 + (x 1).val, by omega⟩) fun a => ?_).trans ?_
    · match a with
      | ⟨0, _⟩ => show (x 0).val = 0 + (x 0).val; omega
      | ⟨1, _⟩ => show 1024 + (x 1).val = 1024 + (x 1).val; rfl
    · refine blk3_at m c t _ _ ?_ ?_
      · show (z 0).val = t.val * 512 + (x 0).val; omega
      · show 5120 + (z 1).val = 2 * 2048 + (1024 + (x 1).val); omega

/-- The array the launch leaves of it. -/
theorem result5 (c : Dev nD) : (dats m 0 c).arrAt 5 cfg0.N = (res5 m c : S8192x1024.Idx → EReal) := by
  refine (dats m 0 c).arrAt_eq_of_covers 5 _ (by decide +kernel) fun t hf y => ?_
  blk_simp
  rw [after0_5]
  obtain ⟨f0, f1⟩ := at5 t
  have d0 : ((win0_5.blk t).view.emb y 0).val = t.val * 512 + (y 0).val := by
    show win0_5.index t 0 * 512 + 1 * (y 0).val = _; omega
  have d1 : ((win0_5.blk t).view.emb y 1).val = (y 1).val := by
    show win0_5.index t 1 * 1024 + 1 * (y 1).val = _; omega
  generalize (win0_5.blk t).view.emb y = z at d0 d1
  unfold out0_5
  rw [View.canon_unit_zero origin2, View.ld_unit_zero (S := S512x1024) origin2]
  exact piece5 m c t y z d0 d1

/-- The gates' gradients beside each other, as one function of the arguments, in the columns the launch writes. -/
def res6 (c : Dev nD) (i : S8192x8192.Idx) : EReal :=
  if (i 1).val < 5120 then
    gate (arg0 m c (ValueIdx.ix2 (i 0) ⟨(i 1).val % 1024, Nat.mod_lt _ (by decide)⟩))
      (arg1 m c (ValueIdx.ix2 (i 0) ⟨(i 1).val % 1024, Nat.mod_lt _ (by decide)⟩)) (arg3 m c i)
  else
    gate (arg0 m c (ValueIdx.ix2 (i 0) ⟨(i 1).val % 1024, Nat.mod_lt _ (by decide)⟩))
      (arg2 m c (ValueIdx.ix2 (i 0) ⟨(i 1).val % 1024, Nat.mod_lt _ (by decide)⟩)) (arg3 m c i)

/-- What point `t` writes of the first gate's gradient. -/
theorem first_piece (c : Dev nD) (t : Fin cfg0.N) (x : S512x1024.Idx) (z : S8192x8192.Idx)
    (z0 : (z 0).val = t.val * 512 + (x 0).val) (z1 : (z 1).val = 4096 + (x 1).val) :
    (k0_pay5 (iblk m c 0 t) (View.ld (iblk m c 3 t) r0_1) (iblk m c 1 t) : Vec Ideal S512x1024 .bf16) x = res6 m c z := by
  rw [pay5_at]
  have x1 : (x 1).val < 1024 := (x 1).isLt
  have b : (z 1).val < 5120 := by omega
  unfold res6
  rw [if_pos b]
  refine congr (congrArg₂ gate ?_ ?_) ?_
  · refine blk0_at m c t x _ z0 ?_
    show (z 1).val % 1024 = 0 * 1024 + (x 1).val; omega
  · refine blk1_at m c t x _ z0 ?_
    show (z 1).val % 1024 = 0 * 1024 + (x 1).val; omega
  · refine (View.ld_unit_apply_of (iblk m c 3 t) _ _ _ x (ValueIdx.ix2 ⟨(x 0).val, (x 0).isLt⟩ ⟨0 + (x 1).val, by omega⟩) fun a => ?_).trans ?_
    · match a with
      | ⟨0, _⟩ => show (x 0).val = 0 + (x 0).val; omega
      | ⟨1, _⟩ => show 0 + (x 1).val = 0 + (x 1).val; rfl
    · refine blk3_at m c t _ _ ?_ ?_
      · show (z 0).val = t.val * 512 + (x 0).val; omega
      · show (z 1).val = 2 * 2048 + (0 + (x 1).val); omega

/-- What point `t` writes of the second gate's gradient. -/
theorem second_piece (c : Dev nD) (t : Fin cfg0.N) (x : S512x1024.Idx) (z : S8192x8192.Idx)
    (z0 : (z 0).val = t.val * 512 + (x 0).val) (z1 : (z 1).val = 5120 + (x 1).val) :
    (k0_pay6 (iblk m c 0 t) (View.ld (iblk m c 3 t) r0_2) (iblk m c 2 t) : Vec Ideal S512x1024 .bf16) x = res6 m c z := by
  rw [pay6_at]
  have x1 : (x 1).val < 1024 := (x 1).isLt
  have b : ¬ (z 1).val < 5120 := by omega
  unfold res6
  rw [if_neg b]
  refine congr (congrArg₂ gate ?_ ?_) ?_
  · refine blk0_at m c t x _ z0 ?_
    show (z 1).val % 1024 = 0 * 1024 + (x 1).val; omega
  · refine blk2_at m c t x _ z0 ?_
    show (z 1).val % 1024 = 0 * 1024 + (x 1).val; omega
  · refine (View.ld_unit_apply_of (iblk m c 3 t) _ _ _ x (ValueIdx.ix2 ⟨(x 0).val, (x 0).isLt⟩ ⟨1024 + (x 1).val, by omega⟩) fun a => ?_).trans ?_
    · match a with
      | ⟨0, _⟩ => show (x 0).val = 0 + (x 0).val; omega
      | ⟨1, _⟩ => show 1024 + (x 1).val = 1024 + (x 1).val; rfl
    · refine blk3_at m c t _ _ ?_ ?_
      · show (z 0).val = t.val * 512 + (x 0).val; omega
      · show (z 1).val = 2 * 2048 + (1024 + (x 1).val); omega

/-- The array the launch leaves, in the columns it writes. -/
theorem result6 (c : Dev nD) (i : S8192x8192.Idx) (h : 4096 ≤ (i 1).val ∧ (i 1).val < 6144) :
    (dats m 0 c).arrAt 6 cfg0.N i = res6 m c i := by
  refine (congrFun ((dats m 0 c).arrAt_eq_of_coversWhere 6 (res6 m c : S8192x8192.Idx → EReal) (P := fun j => (j (1 : Fin 2)).val / 2048 = 2) (fun β => β (1 : Fin 2) = 2) (by decide +kernel)
    (fun t hf y => ?_) (fun j => Iff.rfl)) i).trans (if_pos ?_)
  · blk_simp
    rw [after0_6]
    obtain ⟨f0, f1⟩ := at6 t
    have d0 : ((win0_6.blk t).view.emb y 0).val = t.val * 512 + (y 0).val := by
      show win0_6.index t 0 * 512 + 1 * (y 0).val = _; omega
    have d1 : ((win0_6.blk t).view.emb y 1).val = 4096 + (y 1).val := by
      show win0_6.index t 1 * 2048 + 1 * (y 1).val = _; omega
    generalize (win0_6.blk t).view.emb y = z at d0 d1
    canon_tiles x h using cover0_6 ..
    · rw [View.ld_unit_zero (S := S512x1024) origin2, View.ld_unit_zero (S := S512x1024) origin2]
      exact second_piece m c t x z (by omega) (by omega)
    · rw [View.ld_unit_zero (S := S512x1024) origin2, View.ld_unit_zero (S := S512x1024) origin2]
      exact first_piece m c t x z (by omega) (by omega)
  · show (i 1).val / 2048 = 2
    omega

end Cert.MergeBwdIdeal.Product

namespace Cert.MergeBwd

/-- The columns the claim is about. -/
theorem columns (x y w : FVec Ideal On_gates_written.S8192x1024 .f32) (p : FVec Ideal On_gates_written.S8192x8192 .f32)
    (i : On_gates_written.S8192x8192.Idx) (h : (On_gates_written.fn (F := Ideal) x y w p).2.2 i = 1#1) :
    4096 ≤ (i 1).val ∧ (i 1).val < 6144 := by
  have b : (i 1).val < 8192 := (i 1).isLt
  unfold On_gates_written.fn at h
  dsimp only at h
  obtain ⟨h1, h2⟩ := IntOp.andi_eq_one.1 h
  idx_vars i
  pointwise at h1 h2
  have b1 : i1.val < 8192 := i1.isLt
  rw [IntOp.cmpi_sge] at h1
  rw [IntOp.cmpi_slt] at h2
  have q : (BitVec.ofNat 32 i1.val).toInt = (i1.val : ℤ) := by
    rw [BitVec.toInt_eq_toNat_of_lt (by rw [BitVec.toNat_ofNat]; omega), BitVec.toNat_ofNat]; omega
  rw [q] at h1 h2
  have k1 : (4096#32 : BitVec 32).toInt = 4096 := by decide
  have k2 : (6144#32 : BitVec 32).toInt = 6144 := by decide
  show 4096 ≤ i1.val ∧ i1.val < 6144
  constructor <;> omega

/-- The launch and the derivative of the merge end with the same streams' gradients, and with the same gates' gradients in
    the columns the launch writes. -/
theorem algebraic : Cert.algebraic_MergeBwdIdeal_MergeBwdRefIdeal_on_gates_written := by
  intro m g m' g' _ ha
  refine ⟨fun c => (MergeBwdIdeal.Gen.dats m 0 c).arrAt 4 MergeBwdIdeal.cfg0.N, fun c => (MergeBwdIdeal.Gen.dats m 0 c).arrAt 5 MergeBwdIdeal.cfg0.N,
    fun c => (MergeBwdIdeal.Gen.dats m 0 c).arrAt 6 MergeBwdIdeal.cfg0.N, ?_, ?_⟩
  · refine (θ_run _ _ _).mono (fun r h c => ?_) (MergeBwdIdeal.Value.run_blocks m g)
    obtain ⟨h0, h1, h2, h3⟩ := h c
    exact ⟨fun i _ => congrFun h0 i, fun i _ => congrFun h1 i, fun i _ => congrFun h2 i, h3⟩
  refine (θ_run _ _ _).mono (fun r h c => ?_) (MergeBwdRefIdeal.Value.run m' g')
  obtain ⟨h0, h1, h2, h3⟩ := h c
  obtain ⟨a0, a1, a2, a3⟩ := ha c
  refine ⟨fun i _ => (congrFun h0 i).trans ?_, fun i _ => (congrFun h1 i).trans ?_, fun i hi => (congrFun h2 i).trans ?_, h3⟩
  · rw [a0, a3]
    refine Eq.trans ?_ (congrFun (MergeBwdIdeal.Product.result4 m c) i).symm
    unfold MergeBwdIdeal.Product.res4 MergeBwdIdeal.Product.stream
    clear a0 a1 a2 a3 h0 h1 h2 h3 h ha
    idx_vars i
    pointwise
    rfl
  · rw [a0, a3]
    refine Eq.trans ?_ (congrFun (MergeBwdIdeal.Product.result5 m c) i).symm
    unfold MergeBwdIdeal.Product.res5 MergeBwdIdeal.Product.stream
    clear a0 a1 a2 a3 h0 h1 h2 h3 h ha
    idx_vars i
    pointwise
    rfl
  · have hc := columns _ _ _ _ i hi
    rw [a0, a1, a2, a3]
    refine Eq.trans ?_ (MergeBwdIdeal.Product.result6 m c i hc).symm
    unfold MergeBwdIdeal.Product.res6 MergeBwdIdeal.Product.gate
    clear a0 a1 a2 a3 h0 h1 h2 h3 h ha hi
    idx_vars i
    pointwise
    have hc1 : 4096 ≤ i1.val ∧ i1.val < 6144 := hc
    rw [dif_pos ⟨hc1.1, by omega⟩]
    by_cases b : i1.val < 5120
    · rw [dif_pos (show i1.val - 4096 < 1024 by omega), if_pos b]
      have e1 : (⟨i1.val - 4096, by omega⟩ : Fin 1024) = ⟨i1.val % 1024, Nat.mod_lt _ (by decide)⟩ := Fin.ext (by show i1.val - 4096 = i1.val % 1024; omega)
      have e2 : (⟨4096 + (i1.val - 4096), by omega⟩ : Fin 8192) = i1 := Fin.ext (by show 4096 + (i1.val - 4096) = i1.val; omega)
      have E0 := congrArg (MergeBwdIdeal.Product.arg0 m c) (congrArg (ValueIdx.ix2 i0) e1)
      have E1 := congrArg (MergeBwdIdeal.Product.arg1 m c) (congrArg (ValueIdx.ix2 i0) e1)
      have E3 := congrArg (MergeBwdIdeal.Product.arg3 m c) (congrArg (ValueIdx.ix2 i0) e2)
      exact (mul_assoc _ _ _).symm.trans (congrArg₂ (· * ·) (congrArg₂ (· * ·) (congrArg₂ (· * ·) E0 E1)
        (congrArg Ideal.logistic E3)) (congrArg (fun z => 1 - Ideal.logistic z) E3))
    · rw [dif_neg (show ¬ i1.val - 4096 < 1024 by omega), if_neg b]
      have e1 : (⟨i1.val - 4096 - 1024, by omega⟩ : Fin 1024) = ⟨i1.val % 1024, Nat.mod_lt _ (by decide)⟩ := Fin.ext (by show i1.val - 4096 - 1024 = i1.val % 1024; omega)
      have e2 : (⟨5120 + (i1.val - 4096 - 1024), by omega⟩ : Fin 8192) = i1 := Fin.ext (by show 5120 + (i1.val - 4096 - 1024) = i1.val; omega)
      have E0 := congrArg (MergeBwdIdeal.Product.arg0 m c) (congrArg (ValueIdx.ix2 i0) e1)
      have E1 := congrArg (MergeBwdIdeal.Product.arg2 m c) (congrArg (ValueIdx.ix2 i0) e1)
      have E3 := congrArg (MergeBwdIdeal.Product.arg3 m c) (congrArg (ValueIdx.ix2 i0) e2)
      exact (mul_assoc _ _ _).symm.trans (congrArg₂ (· * ·) (congrArg₂ (· * ·) (congrArg₂ (· * ·) E0 E1)
        (congrArg Ideal.logistic E3)) (congrArg (fun z => 1 - Ideal.logistic z) E3))

end Cert.MergeBwd

end
-- ==== Proof.MixDu.lean ====
/-
  The input gradient of the mixer's way in: four blocks of columns multiplied in turn, each product added to what the
  earlier ones left, against the derivative of `u @ w` with respect to `u`.
-/
module

public import proofs.«01_k».proof.Defs
public import proofs.«01_k».proof.Proof.Sums
public import proofs.«01_k».proof.Proof.Gen.MixDuIdeal.Value
public import proofs.«01_k».proof.Proof.Gen.MixDuRefIdeal.Run

@[expose] public section

set_option maxRecDepth 16384

noncomputable section

open Idealize.ShloMosaic Idealize.ShloMosaic.TcCoe Idealize.SL.Sem

namespace Cert.MixDuIdeal.Product

open Cert.MixDuIdeal Cert.MixDuIdeal.Gen Cert.MixDuIdeal.Value Cert.Sums

variable {F : FTy → Type} [FloatOps F]
variable (m : (ℓ : Loc nD τ sig) → Buf (Elt F) ℓ)

/-- What the first block leaves in the accumulator: its product. -/
theorem first (c : Dev nD) (i : grid0.Coords) (a3 h3 a4 h4 a5 h5 a6 h6 c0 c1 c2 x y) :
    sout0_A_0 (F := F) c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero origin2]
  unfold k0_pay2
  simp only [View.readAt_eq_ld, h3.read_unread, h4.read_unread, View.ld_unit_zero (S := S1024x2048) origin2, shapeCast_self]

/-- A block in the middle adds its product to what the accumulator holds. -/
theorem middle (c : Dev nD) (i : grid0.Coords) (a3 h3 a4 h4 a5 h5 a6 h6 c0 c1 c2 x y s) :
    sout0_B_0 (F := F) c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero origin2]
  unfold k0_pay3
  simp only [View.readAt_eq_ld, h3.read_unread, h4.read_unread, h6.read_unread, View.ld_unit_zero (S := S1024x2048) origin2,
    View.ld_unit_zero (S := S1024x1024) origin2, shapeCast_self]

/-- The last block writes the whole sum out. -/
theorem last (c : Dev nD) (i : grid0.Coords) (a3 h3 a4 h4 a5 h5 a6 h6 c0 c1 c2 x y s) :
    out0_C_2 (F := F) c i a3 h3 a4 h4 a5 h5 a6 h6 c0 c1 c2 x y s = k0_pay4 x y s := by
  unfold out0_C_2
  rw [View.read_writes_eq_canon _ _ _ (cover0_C_2 c i a3 h3 a4 h4 a5 h5 a6 h6 c0 c1 c2 x y s)]
  unfold kernelRun0_C
  dsimp only
  rw [View.canon_unit_zero origin2]
  simp only [View.readAt_eq_ld, h3.read_unread, h4.read_unread, h6.read_unread, View.ld_unit_zero (S := S1024x2048) origin2,
    View.ld_unit_zero (S := S1024x1024) origin2]

/-- The product of point `t`'s blocks. -/
abbrev part (c : Dev nD) (t : Fin cfg0.N) := k0_pay1 (iblk m c 0 t) (iblk m c 1 t)

/-- The accumulator after a run's first point. -/
theorem acc_first (c : Dev nD) (t : Fin cfg0.N) (e : t.val % 4 = 0) :
    (outsAt0 m c t.val t.isLt).2 = part m c t := by
  have e1 : ¬(1 ≤ t.val % 4 ∧ t.val % 4 ≤ 2) := by omega
  have e2 : ¬t.val % 4 = 3 := by omega
  simp only [outsAt0_A m c t e e1 e2, first]

/-- The accumulator after a point in the middle. -/
theorem acc_middle (c : Dev nD) (t : Fin cfg0.N) (s : Vec F S1024x1024 .f32 × Vec F S1024x1024 .f32)
    (e : 1 ≤ t.val % 4 ∧ t.val % 4 ≤ 2) :
    (stAt0 m c t.val t.isLt s).2 = addf s.2 (part m c t) := by
  have e0 : ¬t.val % 4 = 0 := by omega
  have e2 : ¬t.val % 4 = 3 := by omega
  simp only [stAt0_B m c t s e0 e e2, middle]

/-- The block written at a run's last point. -/
theorem out_last (c : Dev nD) (t : Fin cfg0.N) (s : Vec F S1024x1024 .f32 × Vec F S1024x1024 .f32)
    (e : t.val % 4 = 3) :
    (stAt0 m c t.val t.isLt s).1 = k0_pay4 (iblk m c 0 t) (iblk m c 1 t) s.2 := by
  have e0 : ¬t.val % 4 = 0 := by omega
  have e1 : ¬(1 ≤ t.val % 4 ∧ t.val % 4 ≤ 2) := by omega
  simp only [stAt0_C m c t s e0 e1 e, last]

/-- The block written back after four points: their products added in order. -/
theorem swept (c : Dev nD) (n : ℕ) (h3 : n + 3 < cfg0.N) (e0 : n % 4 = 0) :
    (outsAt0 m c (n + 3) h3).1
      = k0_pay4 (iblk m c 0 ⟨n + 3, h3⟩) (iblk m c 1 ⟨n + 3, h3⟩)
          (addf (addf (part m c ⟨n, by omega⟩) (part m c ⟨n + 1, by omega⟩)) (part m c ⟨n + 2, by omega⟩)) := by
  rw [outsAt0_succ m c (n + 2) h3]
  refine (out_last m c ⟨n + 3, h3⟩ _ (by dsimp only; omega)).trans ?_
  rw [outsAt0_succ m c (n + 1) (by omega), acc_middle m c ⟨n + 2, by omega⟩ _ (by dsimp only; omega),
    outsAt0_succ m c n (by omega), acc_middle m c ⟨n + 1, by omega⟩ _ (by dsimp only; omega),
    acc_first m c ⟨n, by omega⟩ (by dsimp only; omega)]

/-- The first operand as the launch hands it over. -/
theorem lhs_eq (c : Dev nD) : V m c main_v0 = truncf .bf16 (m ((c.tc : Thread nD τ).loc main_arg0)) bitsLt_bf16_f32 := by
  unfold V; after_results

/-- The second operand as the launch hands it over. -/
theorem rhs_eq (c : Dev nD) : V m c main_v1 = truncf .bf16 (m ((c.tc : Thread nD τ).loc main_arg1)) bitsLt_bf16_f32 := by
  unfold V; after_results

/-- Which blocks point `t` is given. -/
theorem given : ∀ t : Fin cfg0.N, win0_0.index t (0 : Fin 2) = t.val / 4 ∧ win0_0.index t (1 : Fin 2) = t.val % 4 ∧ win0_1.index t (0 : Fin 2) = 0 ∧ win0_1.index t (1 : Fin 2) = t.val % 4 :=
  (by decide +kernel : ∀ t : Fin grid0.N, _)

end Cert.MixDuIdeal.Product

namespace Cert.MixDuIdeal.Product

open Cert.MixDuIdeal Cert.MixDuIdeal.Gen Cert.MixDuIdeal.Value Cert.Sums

variable (m : (ℓ : Loc nD τ sig) → Buf (Elt Ideal) ℓ)

/-- The first operand's entries. -/
abbrev lhs (c : Dev nD) : S8192x8192.Idx → EReal := m ((c.tc : Thread nD τ).loc main_arg0)
/-- The second operand's entries. -/
abbrev rhs (c : Dev nD) : S1024x8192.Idx → EReal := m ((c.tc : Thread nD τ).loc main_arg1)

/-- An element of point `t`'s first block. -/
theorem lhs_at (c : Dev nD) (t : Fin cfg0.N) (k : Fin 2048) (j : Fin 1024) (p : S8192x8192.Idx)
    (p0 : (p 0).val = t.val / 4 * 1024 + j.val) (p1 : (p 1).val = t.val % 4 * 2048 + k.val) :
    iblk m c 0 t (ValueIdx.ix2 j k) = lhs m c p := by
  unfold iblk
  rw [View.read_apply]
  show V m c main_v0 _ = _
  rw [lhs_eq]
  show m ((c.tc : Thread nD τ).loc main_arg0) _ = _
  congr 1
  obtain ⟨f0, f1, f2, f3⟩ := given t
  funext a; apply Fin.ext
  match a with
  | ⟨0, _⟩ => show win0_0.index t 0 * 1024 + 1 * j.val = (p 0).val; omega
  | ⟨1, _⟩ => show win0_0.index t 1 * 2048 + 1 * k.val = (p 1).val; omega

/-- An element of point `t`'s second block. -/
theorem rhs_at (c : Dev nD) (t : Fin cfg0.N) (k : Fin 2048) (l : Fin 1024) (p : S1024x8192.Idx)
    (p0 : (p 0).val = 0 * 1024 + l.val) (p1 : (p 1).val = t.val % 4 * 2048 + k.val) :
    iblk m c 1 t (ValueIdx.ix2 l k) = rhs m c p := by
  unfold iblk
  rw [View.read_apply]
  show V m c main_v1 _ = _
  rw [rhs_eq]
  show m ((c.tc : Thread nD τ).loc main_arg1) _ = _
  congr 1
  obtain ⟨f0, f1, f2, f3⟩ := given t
  funext a; apply Fin.ext
  match a with
  | ⟨0, _⟩ => show win0_1.index t 0 * 1024 + 1 * l.val = (p 0).val; omega
  | ⟨1, _⟩ => show win0_1.index t 1 * 2048 + 1 * k.val = (p 1).val; omega

/-- The product of two blocks at an index. -/
theorem pay_at (x : Vec Ideal S1024x2048 .bf16) (y : Vec Ideal S1024x2048 .bf16) (j : Fin 1024) (l : Fin 1024) :
    (k0_pay1 x y : Vec Ideal S1024x1024 .f32) (ValueIdx.ix2 j l)
      = ∑ k : Fin 2048, x (ValueIdx.ix2 j k) * y (ValueIdx.ix2 l k) := by
  unfold k0_pay1
  pointwise
  rfl

/-- The block written back, at an index. -/
theorem out_at (x : Vec Ideal S1024x2048 .bf16) (y : Vec Ideal S1024x2048 .bf16) (s : Vec Ideal S1024x1024 .f32) (j : Fin 1024) (l : Fin 1024) :
    (k0_pay4 x y s : Vec Ideal S1024x1024 .f32) (ValueIdx.ix2 j l)
      = ((s (ValueIdx.ix2 j l) : EReal) + (k0_pay1 x y : Vec Ideal S1024x1024 .f32) (ValueIdx.ix2 j l)) := by
  unfold k0_pay4
  generalize k0_pay1 x y = w
  pointwise
  try rfl

/-- The product of point `t`'s blocks is one of the four stretches of the whole sum. -/
theorem part_at (c : Dev nD) (t : Fin cfg0.N) (j : Fin 1024) (l : Fin 1024) (q : ℕ) (hq : q < 4) (J : Fin 8192)
    (L : Fin 1024) (eq : t.val % 4 = q) (eJ : J.val = t.val / 4 * 1024 + j.val) (eL : L.val = 0 * 1024 + l.val) :
    (part m c t (ValueIdx.ix2 j l) : EReal)
      = ∑ k : Fin 2048, lhs m c (ValueIdx.ix2 J ⟨q * 2048 + k.val, by omega⟩) * rhs m c (ValueIdx.ix2 L ⟨q * 2048 + k.val, by omega⟩) := by
  subst eq
  refine (pay_at _ _ _ _).trans (Finset.sum_congr rfl fun k _ => congrArg₂ (· * ·) ?_ ?_)
  · exact lhs_at m c t k j _ (by show J.val = _; omega) (by show t.val % 4 * 2048 + k.val = _; omega)
  · exact rhs_at m c t k l _ (by show L.val = _; omega) (by show t.val % 4 * 2048 + k.val = _; omega)

/-- What the launch leaves at an index of the result, in the block's own coordinates. -/
theorem block_at (c : Dev nD) (i : S8192x1024.Idx) (n : ℕ) (hn : n + 3 < cfg0.N) (e : n = 4 * ((i 0).val / 1024)) :
    (G2 m c i : EReal) = (outsAt0 m c (n + 3) hn).1 (ValueIdx.ix2 (⟨(i 0).val % 1024, Nat.mod_lt _ (by decide)⟩ : Fin 1024) (⟨(i 1).val % 1024, Nat.mod_lt _ (by decide)⟩ : Fin 1024)) := by
  have i0 : (i 0).val < 8192 := (i 0).isLt
  have i1 : (i 1).val < 1024 := (i 1).isLt
  have hq : n + 3 = pt2Of i := by unfold pt2Of run2Of; omega
  have hl : loc2Of i = ValueIdx.ix2 (⟨(i 0).val % 1024, Nat.mod_lt _ (by decide)⟩ : Fin 1024) (⟨(i 1).val % 1024, Nat.mod_lt _ (by decide)⟩ : Fin 1024) := by
    funext a; match a with | ⟨0, _⟩ => rfl | ⟨1, _⟩ => rfl
  unfold G2
  rw [dif_pos (hq ▸ hn), ← outsAt0_sweep m c (pt2Of i) (hq ▸ hn), hl]
  simp only [hq]

/-- What the launch leaves at an index of the result: the whole sum. -/
theorem result_at (c : Dev nD) (i : S8192x1024.Idx) :
    (G2 m c i : EReal) = ∑ k : Fin 8192, lhs m c (ValueIdx.ix2 (i 0) ⟨k.val, by omega⟩) * rhs m c (ValueIdx.ix2 (i 1) ⟨k.val, by omega⟩) := by
  have i0 : (i 0).val < 8192 := (i 0).isLt
  have i1 : (i 1).val < 1024 := (i 1).isLt
  have hN : cfg0.N = 32 := N_0
  obtain ⟨n, e⟩ : ∃ n, n = 4 * ((i 0).val / 1024) := ⟨_, rfl⟩
  have hn : n + 3 < cfg0.N := by rw [hN]; omega
  rw [block_at m c i n hn e, swept m c n hn (by omega), out_at, addf_at, addf_at]
  have q0 := part_at m c ⟨n, by omega⟩ ⟨(i 0).val % 1024, Nat.mod_lt _ (by decide)⟩ ⟨(i 1).val % 1024, Nat.mod_lt _ (by decide)⟩ 0 (by omega) (i 0) (i 1)
    (by dsimp only; omega) (by dsimp only; omega) (by dsimp only; omega)
  have q1 := part_at m c ⟨n + 1, by omega⟩ ⟨(i 0).val % 1024, Nat.mod_lt _ (by decide)⟩ ⟨(i 1).val % 1024, Nat.mod_lt _ (by decide)⟩ 1 (by omega) (i 0) (i 1)
    (by dsimp only; omega) (by dsimp only; omega) (by dsimp only; omega)
  have q2 := part_at m c ⟨n + 2, by omega⟩ ⟨(i 0).val % 1024, Nat.mod_lt _ (by decide)⟩ ⟨(i 1).val % 1024, Nat.mod_lt _ (by decide)⟩ 2 (by omega) (i 0) (i 1)
    (by dsimp only; omega) (by dsimp only; omega) (by dsimp only; omega)
  have q3 := part_at m c ⟨n + 3, hn⟩ ⟨(i 0).val % 1024, Nat.mod_lt _ (by decide)⟩ ⟨(i 1).val % 1024, Nat.mod_lt _ (by decide)⟩ 3 (by omega) (i 0) (i 1)
    (by dsimp only; omega) (by dsimp only; omega) (by dsimp only; omega)
  refine (congrArg₂ (· + ·) (congrArg₂ (· + ·) (congrArg₂ (· + ·) q0 q1) q2) q3).trans ?_
  exact four_stretches 2048 8192 rfl fun k => lhs m c (ValueIdx.ix2 (i 0) ⟨k.val, by omega⟩) * rhs m c (ValueIdx.ix2 (i 1) ⟨k.val, by omega⟩)

end Cert.MixDuIdeal.Product

namespace Cert.MixDu

/-- The launch and the derivative of the plain product end with the same array. -/
theorem algebraic : Cert.algebraic_MixDuIdeal_MixDuRefIdeal := by
  intro m g m' g' _ ha
  refine ⟨fun c => MixDuIdeal.Value.G2 m c, MixDuIdeal.Value.run m g, ?_⟩
  refine (θ_run _ _ _).mono (fun r h c => ?_) (MixDuRefIdeal.Value.run m' g')
  obtain ⟨h0, h1, h2⟩ := h c
  obtain ⟨a0, a1⟩ := ha c
  refine ⟨h0.trans ?_, h1, h2⟩
  rw [a0, a1]
  funext i
  refine Eq.trans ?_ (MixDuIdeal.Product.result_at m c i).symm
  idx_vars i
  pointwise
  rfl

end Cert.MixDu

end
-- ==== Proof.MixIn.lean ====
/-
  The mixer's way in: four blocks of columns by eight of tokens, each the product of whole rows and whole columns,
  against the plain product `u @ w`.
-/
module

public import proofs.«01_k».proof.Defs
public import proofs.«01_k».proof.Proof.Sums
public import proofs.«01_k».proof.Proof.Gen.MixInIdeal.Value
public import proofs.«01_k».proof.Proof.Gen.MixInRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.MixInIdeal.Product

open Cert.MixInIdeal Cert.MixInIdeal.Gen Cert.MixInIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val % 8 ∧ win0_0.index t (1 : Fin 2) = 0 :=
  (by decide +kernel : ∀ t : Fin grid0.N, _)

/-- Which block of its second operand point `t` is given. -/
theorem at1 : ∀ t : Fin cfg0.N, win0_1.index t (0 : Fin 2) = 0 ∧ win0_1.index t (1 : Fin 2) = t.val / 8 :=
  (by decide +kernel : ∀ t : Fin grid0.N, _)

/-- Which block of the result point `t` writes. -/
theorem at2 : ∀ t : Fin cfg0.N, win0_2.index t (0 : Fin 2) = t.val % 8 ∧ win0_2.index t (1 : Fin 2) = t.val / 8 :=
  (by decide +kernel : ∀ t : Fin grid0.N, _)

/-- What a point leaves in its block of the result. -/
theorem out2 (x0 : Vec F S1024x1024 .bf16) (x1 : Vec F S1024x2048 .bf16) :
    out0_2 (F := F) x0 x1 = k0_pay1 x0 x1 := by
  unfold out0_2
  rw [View.canon_unit_zero origin2]
  simp only [View.ld_unit_zero (S := S1024x1024) origin2, View.ld_unit_zero (S := S1024x2048) origin2]

/-- The operand as the launch hands it over. -/
theorem v0_eq (c : Dev nD) :
    V m c main_v0 = truncf .bf16 (m ((c.tc : Thread nD τ).loc main_arg0)) bitsLt_bf16_f32 := by
  unfold V; after_results

/-- The operand as the launch hands it over. -/
theorem v1_eq (c : Dev nD) :
    V m c main_v1 = truncf .bf16 (m ((c.tc : Thread nD τ).loc main_arg1)) bitsLt_bf16_f32 := by
  unfold V; after_results

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S1024x8192.Idx → EReal := m ((c.tc : Thread nD τ).loc main_arg1)

/-- An element of point `t`'s block of the first operand. -/
theorem blk0_at (c : Dev nD) (t : Fin cfg0.N) (j : Fin 1024) (k : Fin 1024) (p : S8192x1024.Idx)
    (p0 : (p 0).val = (t.val % 8) * 1024 + j.val) (p1 : (p 1).val = (0) * 1024 + k.val) :
    iblk m c 0 t (ValueIdx.ix2 j k) = arg0 m c p := by
  unfold iblk
  rw [View.read_apply]
  show V m c main_v0 _ = _
  rw [v0_eq]
  show m ((c.tc : Thread nD τ).loc main_arg0) _ = _
  congr 1
  obtain ⟨f0, f1⟩ := at0 t
  funext a; apply Fin.ext
  match a with
  | ⟨0, _⟩ => show win0_0.index t 0 * 1024 + 1 * j.val = (p 0).val; omega
  | ⟨1, _⟩ => show win0_0.index t 1 * 1024 + 1 * k.val = (p 1).val; omega

/-- An element of point `t`'s block of the second operand. -/
theorem blk1_at (c : Dev nD) (t : Fin cfg0.N) (j : Fin 1024) (k : Fin 2048) (p : S1024x8192.Idx)
    (p0 : (p 0).val = (0) * 1024 + j.val) (p1 : (p 1).val = (t.val / 8) * 2048 + k.val) :
    iblk m c 1 t (ValueIdx.ix2 j k) = arg1 m c p := by
  unfold iblk
  rw [View.read_apply]
  show V m c main_v1 _ = _
  rw [v1_eq]
  show m ((c.tc : Thread nD τ).loc main_arg1) _ = _
  congr 1
  obtain ⟨f0, f1⟩ := at1 t
  funext a; apply Fin.ext
  match a with
  | ⟨0, _⟩ => show win0_1.index t 0 * 1024 + 1 * j.val = (p 0).val; omega
  | ⟨1, _⟩ => show win0_1.index t 1 * 2048 + 1 * k.val = (p 1).val; omega

/-- The product of two blocks at an index. -/
theorem pay_at (x : Vec Ideal S1024x1024 .bf16) (y : Vec Ideal S1024x2048 .bf16) (j : Fin 1024) (l : Fin 2048) :
    (k0_pay1 x y : Vec Ideal S1024x2048 .f32) (ValueIdx.ix2 j l)
      = ∑ k : Fin 1024, (x (ValueIdx.ix2 j k) : EReal) * y (ValueIdx.ix2 k l) := by
  unfold k0_pay1
  pointwise
  try rfl

/-- The result, as one function of the arguments. -/
theorem result2 (c : Dev nD) : (dats m 0 c).arrAt 2 cfg0.N = (fun i => ∑ k : Fin 1024, arg0 m c (ValueIdx.ix2 (i 0) k) * arg1 m c (ValueIdx.ix2 k (i 1)) : S8192x8192.Idx → EReal) := by
  refine (dats m 0 c).arrAt_eq_of_covers 2 _ (by decide +kernel) fun t hf y => ?_
  blk_simp
  rw [after0_2, out2]
  obtain ⟨f0, f1⟩ := at2 t
  idx_vars y
  have d0 : ((win0_2.blk t).view.emb (ValueIdx.ix2 y0 y1) 0).val = (t.val % 8) * 1024 + y0.val := by
    show win0_2.index t 0 * 1024 + 1 * y0.val = _; omega
  have d1 : ((win0_2.blk t).view.emb (ValueIdx.ix2 y0 y1) 1).val = (t.val / 8) * 2048 + y1.val := by
    show win0_2.index t 1 * 2048 + 1 * y1.val = _; omega
  refine (pay_at _ _ _ _).trans (Finset.sum_congr rfl fun k _ => congrArg₂ (· * ·) ?_ ?_)
  · exact blk0_at m c t _ k _ d0 (by show k.val = _; omega)
  · exact blk1_at m c t k _ _ (by show k.val = _; omega) d1

end Cert.MixInIdeal.Product

namespace Cert.MixIn

/-- The launch and the plain product end with the same array. -/
theorem algebraic : Cert.algebraic_MixInIdeal_MixInRefIdeal := by
  intro m g m' g' _ ha
  refine ⟨fun c => (MixInIdeal.Gen.dats m 0 c).arrAt 2 MixInIdeal.cfg0.N, MixInIdeal.Value.run_blocks m g, ?_⟩
  refine (θ_run _ _ _).mono (fun r h c => ?_) (MixInRefIdeal.Value.run m' g')
  obtain ⟨h0, h1, h2⟩ := h c
  obtain ⟨a0, a1⟩ := ha c
  refine ⟨h0.trans ?_, h1, h2⟩
  rw [a0, a1]
  funext i
  refine Eq.trans ?_ (congrFun (MixInIdeal.Product.result2 m c) i).symm
  idx_vars i
  pointwise
  rfl

end Cert.MixIn

end
-- ==== Proof.MixOut.lean ====
/-
  The mixer's way out, added to the stream: eight blocks of tokens, each the product with the whole weight, times the
  scale added to the stream, against the same lines over the whole arrays.
-/
module

public import proofs.«01_k».proof.Defs
public import proofs.«01_k».proof.Proof.Sums
public import proofs.«01_k».proof.Proof.Gen.MixOutIdeal.Value
public import proofs.«01_k».proof.Proof.Gen.MixOutRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.MixOutIdeal.Product

open Cert.MixOutIdeal Cert.MixOutIdeal.Gen Cert.MixOutIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = 0 ∧ win0_1.index t (1 : Fin 2) = 0 :=
  (by decide +kernel : ∀ t : Fin grid0.N, _)

/-- Which block of its third operand point `t` is given. -/
theorem at2 : ∀ t : Fin cfg0.N, win0_2.index t (0 : Fin 2) = t.val ∧ win0_2.index t (1 : Fin 2) = 0 :=
  (by decide +kernel : ∀ t : Fin grid0.N, _)

/-- Which block of its fourth operand point `t` is given. -/
theorem at3 : ∀ t : Fin cfg0.N, win0_3.index t (0 : Fin 2) = 0 ∧ win0_3.index t (1 : Fin 2) = 0 :=
  (by decide +kernel : ∀ t : Fin grid0.N, _)

/-- Which block of the result point `t` writes. -/
theorem at4 : ∀ t : Fin cfg0.N, win0_4.index t (0 : Fin 2) = t.val ∧ win0_4.index t (1 : Fin 2) = 0 :=
  (by decide +kernel : ∀ t : Fin grid0.N, _)

/-- Which block of the result point `t` writes. -/
theorem at5 : ∀ t : Fin cfg0.N, win0_5.index t (0 : Fin 2) = t.val ∧ win0_5.index t (1 : Fin 2) = 0 :=
  (by decide +kernel : ∀ t : Fin grid0.N, _)

/-- What a point leaves in its block of the result. -/
theorem out4 (x0 : Vec F S1024x1024 .bf16) (x1 : Vec F S1024x1024 .bf16) (x2 : Vec F S1024x1024 .f32) (x3 : Vec F S1x1024 .f32) :
    out0_4 (F := F) x0 x1 x2 x3 = k0_pay3 x0 x1 x2 x3 := by
  unfold out0_4
  rw [View.canon_unit_zero origin2]
  simp only [View.ld_unit_zero (S := S1024x1024) origin2, View.ld_unit_zero (S := S1x1024) origin2]

/-- What a point leaves in its block of the result. -/
theorem out5 (x0 : Vec F S1024x1024 .bf16) (x1 : Vec F S1024x1024 .bf16) (x2 : Vec F S1024x1024 .f32) (x3 : Vec F S1x1024 .f32) :
    out0_5 (F := F) x0 x1 x2 x3 = k0_pay2 x0 x1 := by
  unfold out0_5
  rw [View.canon_unit_zero origin2]
  simp only [View.ld_unit_zero (S := S1024x1024) origin2, View.ld_unit_zero (S := S1x1024) origin2]

/-- The operand as the launch hands it over. -/
theorem v0_eq (c : Dev nD) :
    V m c main_v0 = truncf .bf16 (m ((c.tc : Thread nD τ).loc main_arg0)) bitsLt_bf16_f32 := by
  unfold V; after_results

/-- The operand as the launch hands it over. -/
theorem v1_eq (c : Dev nD) :
    V m c main_v1 = truncf .bf16 (m ((c.tc : Thread nD τ).loc main_arg1)) bitsLt_bf16_f32 := by
  unfold V; after_results

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S1024x1024.Idx → EReal := m ((c.tc : Thread nD τ).loc main_arg1)

/-- An argument's entries. -/
abbrev arg2 (c : Dev nD) : S8192x1024.Idx → EReal := m ((c.tc : Thread nD τ).loc main_arg2)

/-- An argument's entries. -/
abbrev arg3 (c : Dev nD) : S1x1024.Idx → EReal := m ((c.tc : Thread nD τ).loc main_arg3)

/-- An element of point `t`'s block of the first operand. -/
theorem blk0_at (c : Dev nD) (t : Fin cfg0.N) (j : Fin 1024) (k : Fin 1024) (p : S8192x1024.Idx)
    (p0 : (p 0).val = (t.val) * 1024 + j.val) (p1 : (p 1).val = (0) * 1024 + k.val) :
    iblk m c 0 t (ValueIdx.ix2 j k) = arg0 m c p := by
  unfold iblk
  rw [View.read_apply]
  show V m c main_v0 _ = _
  rw [v0_eq]
  show m ((c.tc : Thread nD τ).loc main_arg0) _ = _
  congr 1
  obtain ⟨f0, f1⟩ := at0 t
  funext a; apply Fin.ext
  match a with
  | ⟨0, _⟩ => show win0_0.index t 0 * 1024 + 1 * j.val = (p 0).val; omega
  | ⟨1, _⟩ => show win0_0.index t 1 * 1024 + 1 * k.val = (p 1).val; omega

/-- An element of point `t`'s block of the second operand. -/
theorem blk1_at (c : Dev nD) (t : Fin cfg0.N) (j : Fin 1024) (k : Fin 1024) (p : S1024x1024.Idx)
    (p0 : (p 0).val = (0) * 1024 + j.val) (p1 : (p 1).val = (0) * 1024 + k.val) :
    iblk m c 1 t (ValueIdx.ix2 j k) = arg1 m c p := by
  unfold iblk
  rw [View.read_apply]
  show V m c main_v1 _ = _
  rw [v1_eq]
  show m ((c.tc : Thread nD τ).loc main_arg1) _ = _
  congr 1
  obtain ⟨f0, f1⟩ := at1 t
  funext a; apply Fin.ext
  match a with
  | ⟨0, _⟩ => show win0_1.index t 0 * 1024 + 1 * j.val = (p 0).val; omega
  | ⟨1, _⟩ => show win0_1.index t 1 * 1024 + 1 * k.val = (p 1).val; omega

/-- An element of point `t`'s block of the third operand. -/
theorem blk2_at (c : Dev nD) (t : Fin cfg0.N) (j : Fin 1024) (k : Fin 1024) (p : S8192x1024.Idx)
    (p0 : (p 0).val = (t.val) * 1024 + j.val) (p1 : (p 1).val = (0) * 1024 + k.val) :
    iblk m c 2 t (ValueIdx.ix2 j k) = arg2 m c p := by
  unfold iblk
  rw [View.read_apply]
  show V m c main_arg2 _ = _
  rw [V_main_arg2]
  show m ((c.tc : Thread nD τ).loc main_arg2) _ = _
  congr 1
  obtain ⟨f0, f1⟩ := at2 t
  funext a; apply Fin.ext
  match a with
  | ⟨0, _⟩ => show win0_2.index t 0 * 1024 + 1 * j.val = (p 0).val; omega
  | ⟨1, _⟩ => show win0_2.index t 1 * 1024 + 1 * k.val = (p 1).val; omega

/-- An element of point `t`'s block of the fourth operand. -/
theorem blk3_at (c : Dev nD) (t : Fin cfg0.N) (j : Fin 1) (k : Fin 1024) (p : S1x1024.Idx)
    (p0 : (p 0).val = (0) * 1 + j.val) (p1 : (p 1).val = (0) * 1024 + k.val) :
    iblk m c 3 t (ValueIdx.ix2 j k) = arg3 m c p := by
  unfold iblk
  rw [View.read_apply]
  show V m c main_arg3 _ = _
  rw [V_main_arg3]
  show m ((c.tc : Thread nD τ).loc main_arg3) _ = _
  congr 1
  obtain ⟨f0, f1⟩ := at3 t
  funext a; apply Fin.ext
  match a with
  | ⟨0, _⟩ => show win0_3.index t 0 * 1 + 1 * j.val = (p 0).val; omega
  | ⟨1, _⟩ => show win0_3.index t 1 * 1024 + 1 * k.val = (p 1).val; omega

/-- The product of two blocks at an index. -/
theorem pay_at (x : Vec Ideal S1024x1024 .bf16) (y : Vec Ideal S1024x1024 .bf16) (j : Fin 1024) (l : Fin 1024) :
    (k0_pay1 x y : Vec Ideal S1024x1024 .f32) (ValueIdx.ix2 j l)
      = ∑ k : Fin 1024, (x (ValueIdx.ix2 j k) : EReal) * y (ValueIdx.ix2 k l) := by
  unfold k0_pay1
  pointwise
  try rfl

/-- The block of the stream, at an index. -/
theorem pay3_at (x : Vec Ideal S1024x1024 .bf16) (y : Vec Ideal S1024x1024 .bf16) (h : Vec Ideal S1024x1024 .f32)
    (s : Vec Ideal S1x1024 .f32) (j : Fin 1024) (l : Fin 1024) :
    (k0_pay3 x y h s : Vec Ideal S1024x1024 .f32) (ValueIdx.ix2 j l)
      = (h (ValueIdx.ix2 j l) : EReal) + (Ideal.ofBits .f32 0x3F800000#32 * (s (ValueIdx.ix2 0 l) : EReal))
          * ∑ k : Fin 1024, (x (ValueIdx.ix2 j k) : EReal) * y (ValueIdx.ix2 k l) := by
  unfold k0_pay3
  refine Eq.trans ?_ (congrArg (fun q : EReal => (h (ValueIdx.ix2 j l) : EReal) + (Ideal.ofBits .f32 0x3F800000#32 * (s (ValueIdx.ix2 0 l) : EReal)) * q) (pay_at x y j l))
  generalize k0_pay1 x y = w
  pointwise
  try rfl

/-- The result, as one function of the arguments. -/
theorem result4 (c : Dev nD) : (dats m 0 c).arrAt 4 cfg0.N = (fun i => arg2 m c i + (Ideal.ofBits .f32 0x3F800000#32 * arg3 m c (ValueIdx.ix2 0 (i 1))) * ∑ k : Fin 1024, arg0 m c (ValueIdx.ix2 (i 0) k) * arg1 m c (ValueIdx.ix2 k (i 1)) : S8192x1024.Idx → EReal) := by
  refine (dats m 0 c).arrAt_eq_of_covers 4 _ (by decide +kernel) fun t hf y => ?_
  blk_simp
  rw [after0_4, out4]
  obtain ⟨f0, f1⟩ := at4 t
  idx_vars y
  have d0 : ((win0_4.blk t).view.emb (ValueIdx.ix2 y0 y1) 0).val = (t.val) * 1024 + y0.val := by
    show win0_4.index t 0 * 1024 + 1 * y0.val = _; omega
  have d1 : ((win0_4.blk t).view.emb (ValueIdx.ix2 y0 y1) 1).val = (0) * 1024 + y1.val := by
    show win0_4.index t 1 * 1024 + 1 * y1.val = _; omega
  refine (pay3_at _ _ _ _ _ _).trans (congrArg₂ (· + ·) ?_ (congrArg₂ (· * ·) (congrArg _ ?_)
    (Finset.sum_congr rfl fun k _ => congrArg₂ (· * ·) ?_ ?_)))
  · exact blk2_at m c t _ _ _ d0 d1
  · exact blk3_at m c t _ _ _ (by show (0 : ℕ) = _; omega) d1
  · exact blk0_at m c t _ k _ d0 (by show k.val = _; omega)
  · exact blk1_at m c t k _ _ (by show k.val = _; omega) d1

/-- The result, as one function of the arguments. -/
theorem result5 (c : Dev nD) : (dats m 0 c).arrAt 5 cfg0.N = (fun i => ∑ k : Fin 1024, arg0 m c (ValueIdx.ix2 (i 0) k) * arg1 m c (ValueIdx.ix2 k (i 1)) : S8192x1024.Idx → EReal) := by
  refine (dats m 0 c).arrAt_eq_of_covers 5 _ (by decide +kernel) fun t hf y => ?_
  blk_simp
  rw [after0_5, out5]
  obtain ⟨f0, f1⟩ := at5 t
  idx_vars y
  have d0 : ((win0_5.blk t).view.emb (ValueIdx.ix2 y0 y1) 0).val = (t.val) * 1024 + y0.val := by
    show win0_5.index t 0 * 1024 + 1 * y0.val = _; omega
  have d1 : ((win0_5.blk t).view.emb (ValueIdx.ix2 y0 y1) 1).val = (0) * 1024 + y1.val := by
    show win0_5.index t 1 * 1024 + 1 * y1.val = _; omega
  refine (pay_at _ _ _ _).trans (Finset.sum_congr rfl fun k _ => congrArg₂ (· * ·) ?_ ?_)
  · exact blk0_at m c t _ k _ d0 (by show k.val = _; omega)
  · exact blk1_at m c t k _ _ (by show k.val = _; omega) d1

end Cert.MixOutIdeal.Product

namespace Cert.MixOut

/-- The launch and the plain lines end with the same two arrays. -/
theorem algebraic : Cert.algebraic_MixOutIdeal_MixOutRefIdeal := by
  intro m g m' g' _ ha
  refine ⟨fun c => (MixOutIdeal.Gen.dats m 0 c).arrAt 4 MixOutIdeal.cfg0.N, fun c => (MixOutIdeal.Gen.dats m 0 c).arrAt 5 MixOutIdeal.cfg0.N,
    MixOutIdeal.Value.run_blocks m g, ?_⟩
  refine (θ_run _ _ _).mono (fun r h c => ?_) (MixOutRefIdeal.Value.run m' g')
  obtain ⟨h0, h1, h2⟩ := h c
  obtain ⟨a0, a1, a2, a3⟩ := ha c
  refine ⟨h0.trans ?_, h1.trans ?_, h2⟩
  · rw [a0, a1, a2, a3]
    funext i
    refine Eq.trans ?_ (congrFun (MixOutIdeal.Product.result4 m c) i).symm
    idx_vars i
    pointwise
    rfl
  · rw [a0, a1]
    funext i
    refine Eq.trans ?_ (congrFun (MixOutIdeal.Product.result5 m c) i).symm
    idx_vars i
    pointwise
    rfl

end Cert.MixOut

end
-- ==== Proof.Norm.lean ====
/-
  The modulated norm: every row divided by its root mean square, times the weight, scaled and shifted, against the same
  line on the whole array.
-/
module

public import proofs.«01_k».proof.Defs
public import proofs.«01_k».proof.Proof.Sums
public import proofs.«01_k».proof.Proof.Gen.NormIdeal.Value
public import proofs.«01_k».proof.Proof.Gen.NormRefIdeal.Run
public import Idealize.ShloMosaic.Lib.Pipeline.ValueKit.Geometry
public import Idealize.ShloMosaic.Lib.Pipeline.ValueKit.Tiles

@[expose] public section

set_option maxRecDepth 16384

noncomputable section

open Idealize.ShloMosaic Idealize.ShloMosaic.TcCoe Idealize.SL.Sem

namespace Cert.NormIdeal.Product

open Cert.NormIdeal Cert.NormIdeal.Gen Cert.NormIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = 0 ∧ win0_1.index t (1 : Fin 2) = 0 :=
  (by decide +kernel : ∀ t : Fin grid0.N, _)

/-- Which block of its third operand point `t` is given. -/
theorem at2 : ∀ t : Fin cfg0.N, win0_2.index t (0 : Fin 2) = 0 ∧ win0_2.index t (1 : Fin 2) = 0 :=
  (by decide +kernel : ∀ t : Fin grid0.N, _)

/-- Which block of its fourth operand point `t` is given. -/
theorem at3 : ∀ t : Fin cfg0.N, win0_3.index t (0 : Fin 2) = 0 ∧ win0_3.index t (1 : Fin 2) = 0 :=
  (by decide +kernel : ∀ t : Fin grid0.N, _)

/-- Which block of the result point `t` writes. -/
theorem at4 : ∀ t : Fin cfg0.N, win0_4.index t (0 : Fin 2) = t.val ∧ win0_4.index t (1 : Fin 2) = 0 :=
  (by decide +kernel : ∀ t : Fin grid0.N, _)

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S1x1024.Idx → EReal := m ((c.tc : Thread nD τ).loc main_arg1)

/-- An argument's entries. -/
abbrev arg2 (c : Dev nD) : S1x1024.Idx → EReal := m ((c.tc : Thread nD τ).loc main_arg2)

/-- An argument's entries. -/
abbrev arg3 (c : Dev nD) : S1x1024.Idx → EReal := m ((c.tc : Thread nD τ).loc main_arg3)

/-- An element of point `t`'s block of the first operand. -/
theorem blk0_at (c : Dev nD) (t : Fin cfg0.N) (j : S1024x1024.Idx) (p : S8192x1024.Idx)
    (p0 : (p 0).val = t.val * 1024 + (j 0).val) (p1 : (p 1).val = (j 1).val) :
    iblk m c 0 t j = arg0 m c p := by
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 1024 + 1 * (j 0).val = (p 0).val; omega
  | ⟨1, _⟩ => show win0_0.index t 1 * 1024 + 1 * (j 1).val = (p 1).val; omega

/-- An element of point `t`'s block of the second operand. -/
theorem blk1_at (c : Dev nD) (t : Fin cfg0.N) (j : S1x1024.Idx) (p : S1x1024.Idx)
    (p0 : (p 0).val = 0 * 1 + (j 0).val) (p1 : (p 1).val = (j 1).val) :
    iblk m c 1 t j = arg1 m c p := by
  unfold iblk
  rw [View.read_apply]
  show m ((c.tc : Thread nD τ).loc main_arg1) _ = _
  congr 1
  obtain ⟨f0, f1⟩ := at1 t
  funext a; apply Fin.ext
  match a with
  | ⟨0, _⟩ => show win0_1.index t 0 * 1 + 1 * (j 0).val = (p 0).val; omega
  | ⟨1, _⟩ => show win0_1.index t 1 * 1024 + 1 * (j 1).val = (p 1).val; omega

/-- An element of point `t`'s block of the third operand. -/
theorem blk2_at (c : Dev nD) (t : Fin cfg0.N) (j : S1x1024.Idx) (p : S1x1024.Idx)
    (p0 : (p 0).val = 0 * 1 + (j 0).val) (p1 : (p 1).val = (j 1).val) :
    iblk m c 2 t j = arg2 m c p := by
  unfold iblk
  rw [View.read_apply]
  show m ((c.tc : Thread nD τ).loc main_arg2) _ = _
  congr 1
  obtain ⟨f0, f1⟩ := at2 t
  funext a; apply Fin.ext
  match a with
  | ⟨0, _⟩ => show win0_2.index t 0 * 1 + 1 * (j 0).val = (p 0).val; omega
  | ⟨1, _⟩ => show win0_2.index t 1 * 1024 + 1 * (j 1).val = (p 1).val; omega

/-- An element of point `t`'s block of the fourth operand. -/
theorem blk3_at (c : Dev nD) (t : Fin cfg0.N) (j : S1x1024.Idx) (p : S1x1024.Idx)
    (p0 : (p 0).val = 0 * 1 + (j 0).val) (p1 : (p 1).val = (j 1).val) :
    iblk m c 3 t j = arg3 m c p := by
  unfold iblk
  rw [View.read_apply]
  show m ((c.tc : Thread nD τ).loc main_arg3) _ = _
  congr 1
  obtain ⟨f0, f1⟩ := at3 t
  funext a; apply Fin.ext
  match a with
  | ⟨0, _⟩ => show win0_3.index t 0 * 1 + 1 * (j 0).val = (p 0).val; omega
  | ⟨1, _⟩ => show win0_3.index t 1 * 1024 + 1 * (j 1).val = (p 1).val; omega

/-- What a row of the result is, from the row it comes from. -/
def form (h w v b : Fin 1024 → EReal) (l : Fin 1024) : EReal :=
  h l * Ideal.rsqrt (Ideal.div (∑ k : Fin 1024, h k * h k) (Ideal.ofBits .f32 0x44800000#32) + Ideal.ofBits .f32 0x358637BD#32)
    * w l * (Ideal.ofBits .f32 0x3F800000#32 + v l) + b l

/-- A block's result, at an index. -/
theorem pay1_at (h : Vec Ideal S1024x1024 .f32) (w v b : Vec Ideal S1x1024 .f32) (j l : Fin 1024) :
    (k0_pay1 h w v b : Vec Ideal S1024x1024 .bf16) (ValueIdx.ix2 j l)
      = form (fun k => h (ValueIdx.ix2 j k)) (fun k => w (ValueIdx.ix2 (0 : Fin 1) k)) (fun k => v (ValueIdx.ix2 (0 : Fin 1) k))
          (fun k => b (ValueIdx.ix2 (0 : Fin 1) k)) l := by
  unfold k0_pay1 form
  pointwise
  try rfl

/-- The result, as one function of the arguments. -/
def res4 (c : Dev nD) (i : S8192x1024.Idx) : EReal :=
  form (fun k => arg0 m c (ValueIdx.ix2 (i 0) k)) (fun k => arg1 m c (ValueIdx.ix2 (0 : Fin 1) k)) (fun k => arg3 m c (ValueIdx.ix2 (0 : Fin 1) k))
    (fun k => arg2 m c (ValueIdx.ix2 (0 : Fin 1) k)) (i 1)

/-- What a point writes of the result. -/
theorem piece4 (c : Dev nD) (t : Fin cfg0.N) (y : S1024x1024.Idx) (z : S8192x1024.Idx)
    (z0 : (z 0).val = t.val * 1024 + (y 0).val) (z1 : (z 1).val = (y 1).val) :
    (k0_pay1 (iblk m c 0 t) (iblk m c 1 t) (iblk m c 3 t) (iblk m c 2 t) y : EReal) = res4 m c z := by
  unfold res4
  have l1 : (y 1 : Fin 1024) = z 1 := Fin.ext z1.symm
  have E0 : (fun k => (iblk m c 0 t (ValueIdx.ix2 (y 0) k) : EReal)) = fun k => arg0 m c (ValueIdx.ix2 (z 0) k) := funext fun k => blk0_at m c t _ _ z0 rfl
  have E1 : (fun k => (iblk m c 1 t (ValueIdx.ix2 (0 : Fin 1) k) : EReal)) = fun k => arg1 m c (ValueIdx.ix2 (0 : Fin 1) k) := funext fun k => blk1_at m c t _ _ (by show (0 : ℕ) = 0 * 1 + 0; omega) rfl
  have E2 : (fun k => (iblk m c 2 t (ValueIdx.ix2 (0 : Fin 1) k) : EReal)) = fun k => arg2 m c (ValueIdx.ix2 (0 : Fin 1) k) := funext fun k => blk2_at m c t _ _ (by show (0 : ℕ) = 0 * 1 + 0; omega) rfl
  have E3 : (fun k => (iblk m c 3 t (ValueIdx.ix2 (0 : Fin 1) k) : EReal)) = fun k => arg3 m c (ValueIdx.ix2 (0 : Fin 1) k) := funext fun k => blk3_at m c t _ _ (by show (0 : ℕ) = 0 * 1 + 0; omega) rfl
  rw [← E0, ← E1, ← E2, ← E3, ← l1]
  clear E0 E1 E2 E3 l1 z0 z1
  idx_vars y
  exact pay1_at _ _ _ _ _ _

/-- The array the launch leaves. -/
theorem result4 (c : Dev nD) : (dats m 0 c).arrAt 4 cfg0.N = (res4 m c : S8192x1024.Idx → EReal) := by
  refine (dats m 0 c).arrAt_eq_of_covers 4 _ (by decide +kernel) fun t hf y => ?_
  blk_simp
  rw [after0_4]
  obtain ⟨f0, f1⟩ := at4 t
  have d0 : ((win0_4.blk t).view.emb y 0).val = t.val * 1024 + (y 0).val := by
    show win0_4.index t 0 * 1024 + 1 * (y 0).val = _; omega
  have d1 : ((win0_4.blk t).view.emb y 1).val = (y 1).val := by
    show win0_4.index t 1 * 1024 + 1 * (y 1).val = _; omega
  generalize (win0_4.blk t).view.emb y = z at d0 d1
  unfold out0_4
  rw [View.canon_unit_zero origin2, View.ld_unit_zero (S := S1024x1024) origin2, View.ld_unit_zero (S := S1x1024) origin2,
    View.ld_unit_zero (S := S1x1024) origin2, View.ld_unit_zero (S := S1x1024) origin2]
  exact piece4 m c t y z d0 d1

end Cert.NormIdeal.Product

namespace Cert.Norm

/-- The launch and the norm's line end with the same array. -/
theorem algebraic : Cert.algebraic_NormIdeal_NormRefIdeal := by
  intro m g m' g' _ ha
  refine ⟨fun c => (NormIdeal.Gen.dats m 0 c).arrAt 4 NormIdeal.cfg0.N, NormIdeal.Value.run_blocks m g, ?_⟩
  refine (θ_run _ _ _).mono (fun r h c => ?_) (NormRefIdeal.Value.run m' g')
  obtain ⟨h0, h1⟩ := h c
  obtain ⟨a0, a1, a2, a3⟩ := ha c
  refine ⟨h0.trans ?_, h1⟩
  rw [a0, a1, a2, a3]
  funext i
  refine Eq.trans ?_ (congrFun (NormIdeal.Product.result4 m c) i).symm
  unfold NormIdeal.Product.res4 NormIdeal.Product.form
  clear a0 a1 a2 a3 h0 h1 h ha
  idx_vars i
  pointwise
  rfl

end Cert.Norm

end
-- ==== Proof.NormBwd.lean ====
/-
  The backward pass of the modulated norm: the gradient of its input, and the gradients of its shift, scale and weight
  added up over the rows, against the derivative of the forward line. The launch adds the sums up block after block.
-/
module

public import proofs.«01_k».proof.Defs
public import proofs.«01_k».proof.Proof.Sums
public import proofs.«01_k».proof.Proof.Gen.NormBwdIdeal.Value
public import proofs.«01_k».proof.Proof.Gen.NormBwdRefIdeal.Run
public import proofs.«01_k».proof.Proof.NormMath
public import Idealize.ShloMosaic.Lib.Pipeline.ValueKit.Geometry
public import Idealize.ShloMosaic.Lib.Pipeline.ValueKit.Acc
public import Idealize.ShloMosaic.Lib.WritesUnit

@[expose] public section

set_option maxRecDepth 16384

noncomputable section

open Idealize.ShloMosaic Idealize.ShloMosaic.TcCoe Idealize.SL.Sem

namespace Cert.NormBwdIdeal.Product

open Cert.NormBwdIdeal Cert.NormBwdIdeal.Gen Cert.NormBwdIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = t.val ∧ win0_1.index t (1 : Fin 2) = 0 :=
  (by decide +kernel : ∀ t : Fin grid0.N, _)

/-- Which block of its third operand point `t` is given. -/
theorem at2 : ∀ t : Fin cfg0.N, win0_2.index t (0 : Fin 2) = t.val ∧ win0_2.index t (1 : Fin 2) = 0 :=
  (by decide +kernel : ∀ t : Fin grid0.N, _)

/-- Which block of its fourth operand point `t` is given. -/
theorem at3 : ∀ t : Fin cfg0.N, win0_3.index t (0 : Fin 2) = 0 ∧ win0_3.index t (1 : Fin 2) = 0 :=
  (by decide +kernel : ∀ t : Fin grid0.N, _)

/-- Which block of its fifth operand point `t` is given. -/
theorem at4 : ∀ t : Fin cfg0.N, win0_4.index t (0 : Fin 2) = 0 ∧ win0_4.index t (1 : Fin 2) = 0 :=
  (by decide +kernel : ∀ t : Fin grid0.N, _)

/-- Which block of the result point `t` writes. -/
theorem at5 : ∀ t : Fin cfg0.N, win0_5.index t (0 : Fin 2) = t.val ∧ win0_5.index t (1 : Fin 2) = 0 :=
  (by decide +kernel : ∀ t : Fin grid0.N, _)

/-- Which block of the result point `t` writes. -/
theorem at6 : ∀ t : Fin cfg0.N, win0_6.index t (0 : Fin 2) = 0 ∧ win0_6.index t (1 : Fin 2) = 0 :=
  (by decide +kernel : ∀ t : Fin grid0.N, _)

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S8192x1024.Idx → EReal := m ((c.tc : Thread nD τ).loc main_arg1)

/-- An argument's entries. -/
abbrev arg2 (c : Dev nD) : S8192x1024.Idx → EReal := m ((c.tc : Thread nD τ).loc main_arg2)

/-- An argument's entries. -/
abbrev arg3 (c : Dev nD) : S1x1024.Idx → EReal := m ((c.tc : Thread nD τ).loc main_arg3)

/-- An argument's entries. -/
abbrev arg4 (c : Dev nD) : S1x1024.Idx → EReal := m ((c.tc : Thread nD τ).loc main_arg4)

/-- An element of point `t`'s block of the first operand. -/
theorem blk0_at (c : Dev nD) (t : Fin cfg0.N) (j : S512x1024.Idx) (p : S8192x1024.Idx)
    (p0 : (p 0).val = t.val * 512 + (j 0).val) (p1 : (p 1).val = (j 1).val) :
    iblk m c 0 t j = arg0 m c p := by
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 512 + 1 * (j 0).val = (p 0).val; omega
  | ⟨1, _⟩ => show win0_0.index t 1 * 1024 + 1 * (j 1).val = (p 1).val; omega

/-- An element of point `t`'s block of the second operand. -/
theorem blk1_at (c : Dev nD) (t : Fin cfg0.N) (j : S512x1024.Idx) (p : S8192x1024.Idx)
    (p0 : (p 0).val = t.val * 512 + (j 0).val) (p1 : (p 1).val = (j 1).val) :
    iblk m c 1 t j = arg1 m c p := by
  unfold iblk
  rw [View.read_apply]
  show m ((c.tc : Thread nD τ).loc main_arg1) _ = _
  congr 1
  obtain ⟨f0, f1⟩ := at1 t
  funext a; apply Fin.ext
  match a with
  | ⟨0, _⟩ => show win0_1.index t 0 * 512 + 1 * (j 0).val = (p 0).val; omega
  | ⟨1, _⟩ => show win0_1.index t 1 * 1024 + 1 * (j 1).val = (p 1).val; omega

/-- An element of point `t`'s block of the third operand. -/
theorem blk2_at (c : Dev nD) (t : Fin cfg0.N) (j : S512x1024.Idx) (p : S8192x1024.Idx)
    (p0 : (p 0).val = t.val * 512 + (j 0).val) (p1 : (p 1).val = (j 1).val) :
    iblk m c 2 t j = arg2 m c p := by
  unfold iblk
  rw [View.read_apply]
  show m ((c.tc : Thread nD τ).loc main_arg2) _ = _
  congr 1
  obtain ⟨f0, f1⟩ := at2 t
  funext a; apply Fin.ext
  match a with
  | ⟨0, _⟩ => show win0_2.index t 0 * 512 + 1 * (j 0).val = (p 0).val; omega
  | ⟨1, _⟩ => show win0_2.index t 1 * 1024 + 1 * (j 1).val = (p 1).val; omega

/-- An element of point `t`'s block of the fourth operand. -/
theorem blk3_at (c : Dev nD) (t : Fin cfg0.N) (j : S1x1024.Idx) (p : S1x1024.Idx)
    (p0 : (p 0).val = 0 * 1 + (j 0).val) (p1 : (p 1).val = (j 1).val) :
    iblk m c 3 t j = arg3 m c p := by
  unfold iblk
  rw [View.read_apply]
  show m ((c.tc : Thread nD τ).loc main_arg3) _ = _
  congr 1
  obtain ⟨f0, f1⟩ := at3 t
  funext a; apply Fin.ext
  match a with
  | ⟨0, _⟩ => show win0_3.index t 0 * 1 + 1 * (j 0).val = (p 0).val; omega
  | ⟨1, _⟩ => show win0_3.index t 1 * 1024 + 1 * (j 1).val = (p 1).val; omega

/-- An element of point `t`'s block of the fifth operand. -/
theorem blk4_at (c : Dev nD) (t : Fin cfg0.N) (j : S1x1024.Idx) (p : S1x1024.Idx)
    (p0 : (p 0).val = 0 * 1 + (j 0).val) (p1 : (p 1).val = (j 1).val) :
    iblk m c 4 t j = arg4 m c p := by
  unfold iblk
  rw [View.read_apply]
  show m ((c.tc : Thread nD τ).loc main_arg4) _ = _
  congr 1
  obtain ⟨f0, f1⟩ := at4 t
  funext a; apply Fin.ext
  match a with
  | ⟨0, _⟩ => show win0_4.index t 0 * 1 + 1 * (j 0).val = (p 0).val; omega
  | ⟨1, _⟩ => show win0_4.index t 1 * 1024 + 1 * (j 1).val = (p 1).val; omega

/-- The number the norm divides by. -/
abbrev rows : EReal := Ideal.ofBits .f32 0x44800000#32
/-- The number the norm adds under the root. -/
abbrev eps : EReal := Ideal.ofBits .f32 0x358637BD#32
/-- One. -/
abbrev one : EReal := Ideal.ofBits .f32 0x3F800000#32

/-- The reciprocal root of a row's mean square. -/
def inv (h : Fin 1024 → EReal) : EReal := Ideal.rsqrt (Ideal.div (∑ k : Fin 1024, h k * h k) rows + eps)

/-- The reciprocal root, at an index. -/
theorem pay5_at (h : Vec Ideal S512x1024 .f32) (j : Fin 512) :
    (k0_pay5 h : Vec Ideal S512x1 .f32) (ValueIdx.ix2 j (0 : Fin 1)) = inv fun k => h (ValueIdx.ix2 j k) := by
  unfold k0_pay5
  pointwise
  rfl

/-- The normalised row, at an index. -/
theorem pay6_at (h : Vec Ideal S512x1024 .f32) (j : Fin 512) (l : Fin 1024) :
    (k0_pay6 h : Vec Ideal S512x1024 .f32) (ValueIdx.ix2 j l) = (h (ValueIdx.ix2 j l) : EReal) * inv fun k => h (ValueIdx.ix2 j k) := by
  refine Eq.trans ?_ (congrArg _ (pay5_at h j))
  unfold k0_pay6
  generalize (k0_pay5 h : Vec Ideal S512x1 .f32) = q
  pointwise
  rfl

/-- The modulated row's factor, at an index. -/
theorem pay7_at (w : Vec Ideal S1x1024 .f32) (l : Fin 1024) :
    (k0_pay7 w : Vec Ideal S1x1024 .f32) (ValueIdx.ix2 (0 : Fin 1) l) = one + w (ValueIdx.ix2 (0 : Fin 1) l) := by
  unfold k0_pay7
  pointwise

/-- What comes in times the normalised row, at an index. -/
theorem pay9_at (h d : Vec Ideal S512x1024 .f32) (j : Fin 512) (l : Fin 1024) :
    (k0_pay9 h d : Vec Ideal S512x1024 .f32) (ValueIdx.ix2 j l)
      = (d (ValueIdx.ix2 j l) : EReal) * ((h (ValueIdx.ix2 j l) : EReal) * inv fun k => h (ValueIdx.ix2 j k)) := by
  refine Eq.trans ?_ (congrArg _ (pay6_at h j l))
  unfold k0_pay9
  generalize (k0_pay6 h : Vec Ideal S512x1024 .f32) = q
  pointwise

/-- What a block adds to the shift's gradient, at an index. -/
theorem pay1_at (d : Vec Ideal S512x1024 .f32) (a : Vec Ideal S1x1024 .f32) (l : Fin 1024) :
    (k0_pay1 d a : Vec Ideal S1x1024 .f32) (ValueIdx.ix2 (0 : Fin 1) l)
      = (a (ValueIdx.ix2 (0 : Fin 1) l) : EReal) + ∑ k : Fin 512, (d (ValueIdx.ix2 k l) : EReal) := by
  unfold k0_pay1
  pointwise
  rfl

/-- What a block adds to the scale's gradient, at an index. -/
theorem pay2_at (w : Vec Ideal S1x1024 .f32) (p : Vec Ideal S512x1024 .f32) (a : Vec Ideal S1x1024 .f32) (l : Fin 1024) :
    (k0_pay2 w p a : Vec Ideal S1x1024 .f32) (ValueIdx.ix2 (0 : Fin 1) l)
      = (a (ValueIdx.ix2 (0 : Fin 1) l) : EReal) + ∑ k : Fin 512, (p (ValueIdx.ix2 k l) : EReal) * w (ValueIdx.ix2 (0 : Fin 1) l) := by
  unfold k0_pay2
  pointwise
  rfl

/-- What a block adds to the weight's gradient, at an index. -/
theorem pay3_at (w : Vec Ideal S1x1024 .f32) (p : Vec Ideal S512x1024 .f32) (a : Vec Ideal S1x1024 .f32) (l : Fin 1024) :
    (k0_pay3 w p a : Vec Ideal S1x1024 .f32) (ValueIdx.ix2 (0 : Fin 1) l)
      = (a (ValueIdx.ix2 (0 : Fin 1) l) : EReal) + ∑ k : Fin 512, (p (ValueIdx.ix2 k l) : EReal) * w (ValueIdx.ix2 (0 : Fin 1) l) := by
  unfold k0_pay3
  pointwise
  rfl

/-- The array the accumulator starts from. -/
theorem pay4_at (y : S8x1024.Idx) : (k0_pay4 (F := Ideal) y : EReal) = 0 := by
  unfold k0_pay4
  idx_vars y
  pointwise

/-- What a row of the input's gradient is, from the rows it comes from. -/
def form (h d w v : Fin 1024 → EReal) (e : EReal) (l : Fin 1024) : EReal :=
  e + inv h * (d l * (one + v l) * w l - h l * inv h * Ideal.div (∑ k : Fin 1024, d k * (one + v k) * w k * (h k * inv h)) rows)

/-- The input's gradient in a block, at an index. -/
theorem pay8_at (h d : Vec Ideal S512x1024 .f32) (w v : Vec Ideal S1x1024 .f32) (e : Vec Ideal S512x1024 .f32) (j : Fin 512) (l : Fin 1024) :
    (k0_pay8 h d w v e : Vec Ideal S512x1024 .f32) (ValueIdx.ix2 j l)
      = form (fun k => h (ValueIdx.ix2 j k)) (fun k => d (ValueIdx.ix2 j k)) (fun k => w (ValueIdx.ix2 (0 : Fin 1) k))
          (fun k => v (ValueIdx.ix2 (0 : Fin 1) k)) (e (ValueIdx.ix2 j l)) l := by
  unfold form
  simp only [← pay6_at h]
  simp only [← pay5_at h]
  simp only [← pay7_at v]
  unfold k0_pay8
  generalize (k0_pay5 h : Vec Ideal S512x1 .f32) = q5
  generalize (k0_pay6 h : Vec Ideal S512x1024 .f32) = q6
  generalize (k0_pay7 v : Vec Ideal S1x1024 .f32) = q7
  pointwise
  rfl

/-- What point `t` adds to the accumulator, from its blocks. -/
def add (h d : Vec Ideal S512x1024 .f32) (w v : Vec Ideal S1x1024 .f32) (y : S8x1024.Idx) : EReal :=
  if (y (0 : Fin 2)).val = 2 then
    ∑ k : Fin 512, (d (ValueIdx.ix2 k (y 1)) : EReal) * ((h (ValueIdx.ix2 k (y 1)) : EReal) * inv fun q => h (ValueIdx.ix2 k q)) * (one + v (ValueIdx.ix2 (0 : Fin 1) (y 1)))
  else if (y (0 : Fin 2)).val = 1 then
    ∑ k : Fin 512, (d (ValueIdx.ix2 k (y 1)) : EReal) * ((h (ValueIdx.ix2 k (y 1)) : EReal) * inv fun q => h (ValueIdx.ix2 k q)) * w (ValueIdx.ix2 (0 : Fin 1) (y 1))
  else if (y (0 : Fin 2)).val = 0 then ∑ k : Fin 512, (d (ValueIdx.ix2 k (y 1)) : EReal)
  else 0

/-- What point `t` adds to the accumulator. -/
def term (c : Dev nD) (t : Fin cfg0.N) (y : S8x1024.Idx) : EReal :=
  add (iblk m c 0 t) (iblk m c 1 t) (iblk m c 3 t) (iblk m c 4 t) y

/-- The second sum, in the form the accumulator adds. -/
theorem row2 (h d : Vec Ideal S512x1024 .f32) (v : Vec Ideal S1x1024 .f32) (a : Vec Ideal S1x1024 .f32) (b : EReal) (l : Fin 1024)
    (e : (a (ValueIdx.ix2 (0 : Fin 1) l) : EReal) = b) :
    (k0_pay3 (k0_pay7 v) (k0_pay9 h d) a : Vec Ideal S1x1024 .f32) (ValueIdx.ix2 (0 : Fin 1) l)
      = b + ∑ k : Fin 512, (d (ValueIdx.ix2 k l) : EReal) * ((h (ValueIdx.ix2 k l) : EReal) * inv fun q => h (ValueIdx.ix2 k q)) * (one + v (ValueIdx.ix2 (0 : Fin 1) l)) := by
  refine (pay3_at _ _ _ _).trans (congrArg₂ (· + ·) e (Finset.sum_congr rfl fun k _ => ?_))
  exact congrArg₂ (· * ·) (pay9_at _ _ _ _) (pay7_at _ _)

/-- The first sum, in the form the accumulator adds. -/
theorem row1 (h d : Vec Ideal S512x1024 .f32) (w : Vec Ideal S1x1024 .f32) (a : Vec Ideal S1x1024 .f32) (b : EReal) (l : Fin 1024)
    (e : (a (ValueIdx.ix2 (0 : Fin 1) l) : EReal) = b) :
    (k0_pay2 w (k0_pay9 h d) a : Vec Ideal S1x1024 .f32) (ValueIdx.ix2 (0 : Fin 1) l)
      = b + ∑ k : Fin 512, (d (ValueIdx.ix2 k l) : EReal) * ((h (ValueIdx.ix2 k l) : EReal) * inv fun q => h (ValueIdx.ix2 k q)) * w (ValueIdx.ix2 (0 : Fin 1) l) := by
  refine (pay2_at _ _ _ _).trans (congrArg₂ (· + ·) e (Finset.sum_congr rfl fun k _ => ?_))
  exact congrArg₂ (· * ·) (pay9_at _ _ _ _) rfl

/-- The accumulator after the first point. -/
theorem acc_first (c : Dev nD) (t : Fin cfg0.N) (h0 : t.val % 16 = 0) (y : S8x1024.Idx) :
    ((outsAt0 m c t.val t.isLt).2 y : EReal) = 0 + term m c t y := by
  rw [outsAt0_A m c t h0]; frame_out
  unfold term add
  generalize iblk m c 0 t = h
  generalize iblk m c 1 t = d
  generalize iblk m c 3 t = w
  generalize iblk m c 4 t = v
  by_cases b2 : (y (0 : Fin 2)).val = 2
  · rw [if_pos b2]
    refine (Rows.hit 2 _ _ _ y b2).trans (row2 _ _ _ _ _ _ ?_)
    rw [View.readCov_eq_canon']
    refine (Rows.miss 1 _ _ _ _ (by show ¬(2 + 1 * 0 = 1); omega)).trans ((Rows.miss 0 _ _ _ _ (by show ¬(2 + 1 * 0 = 0); omega)).trans ?_)
    exact (congrFun (View.canon_unit_zero origin2 ..) _).trans (pay4_at _)
  rw [if_neg b2]
  refine (Rows.miss 2 _ _ _ y b2).trans ?_
  by_cases b1 : (y (0 : Fin 2)).val = 1
  · rw [if_pos b1]
    refine (Rows.hit 1 _ _ _ y b1).trans (row1 _ _ _ _ _ _ ?_)
    rw [View.readCov_eq_canon']
    refine (Rows.miss 0 _ _ _ _ (by show ¬(1 + 1 * 0 = 0); omega)).trans ?_
    exact (congrFun (View.canon_unit_zero origin2 ..) _).trans (pay4_at _)
  rw [if_neg b1]
  refine (Rows.miss 1 _ _ _ y b1).trans ?_
  by_cases b : (y (0 : Fin 2)).val = 0
  · rw [if_pos b]
    refine (Rows.hit 0 _ _ _ y b).trans ((pay1_at _ _ _).trans (congrArg (· + _) ?_))
    rw [View.readCov_eq_canon']
    exact (congrFun (View.canon_unit_zero origin2 ..) _).trans (pay4_at _)
  · rw [if_neg b]
    refine (Rows.miss 0 _ _ _ y b).trans ?_
    exact (congrFun (View.canon_unit_zero origin2 ..) _).trans ((pay4_at _).trans (add_zero _).symm)

/-- An index, from its row. -/
theorem at_row (y : S8x1024.Idx) (r : ℕ) (hr : r < 8) (b : (y (0 : Fin 2)).val = r) :
    (ValueIdx.ix2 (⟨r, hr⟩ : Fin 8) (y 1 : Fin 1024) : S8x1024.Idx) = y := by
  funext a
  apply Fin.ext
  match a with
  | ⟨0, _⟩ => exact b.symm
  | ⟨1, _⟩ => rfl

/-- The accumulator after a later point. -/
theorem acc_next (c : Dev nD) (t : Fin cfg0.N) (h0 : ¬t.val % 16 = 0) (y : S8x1024.Idx) :
    ((outsAt0 m c t.val t.isLt).2 y : EReal)
      = (outsAt0 m c (t.val - 1) (Nat.lt_of_le_of_lt (Nat.sub_le _ _) t.isLt)).2 y + term m c t y := by
  rw [outsAt0_B m c t h0]; frame_out
  generalize (outsAt0 m c (t.val - 1) (Nat.lt_of_le_of_lt (Nat.sub_le _ _) t.isLt)).2 = X
  unfold term add
  generalize iblk m c 0 t = h
  generalize iblk m c 1 t = d
  generalize iblk m c 3 t = w
  generalize iblk m c 4 t = v
  by_cases b2 : (y (0 : Fin 2)).val = 2
  · rw [if_pos b2]
    refine (View.read_writes_cons_rows_of_mem _ _ _ _ _ y (ValueIdx.ix2 (0 : Fin 1) (y 1)) rfl (by show (y 0).val = 2 + 0; omega) rfl).trans (row2 _ _ _ _ _ _ ?_)
    exact (Rows.row 2 (by decide) _ X _).trans (congrArg X (at_row y 2 (by decide) b2))
  rw [if_neg b2]
  refine (View.read_writes_cons_rows_of_not_mem (W := 1) _ _ _ _ _ y rfl rfl (by show (y 0).val < 2 ∨ 2 + 1 ≤ (y 0).val; have : (y 0).val ≠ 2 := b2; omega)).trans ?_
  by_cases b1 : (y (0 : Fin 2)).val = 1
  · rw [if_pos b1]
    refine (View.read_writes_cons_rows_of_mem _ _ _ _ _ y (ValueIdx.ix2 (0 : Fin 1) (y 1)) rfl (by show (y 0).val = 1 + 0; omega) rfl).trans (row1 _ _ _ _ _ _ ?_)
    exact (Rows.row 1 (by decide) _ X _).trans (congrArg X (at_row y 1 (by decide) b1))
  rw [if_neg b1]
  refine (View.read_writes_cons_rows_of_not_mem (W := 1) _ _ _ _ _ y rfl rfl (by show (y 0).val < 1 ∨ 1 + 1 ≤ (y 0).val; have : (y 0).val ≠ 1 := b1; omega)).trans ?_
  by_cases b : (y (0 : Fin 2)).val = 0
  · rw [if_pos b]
    refine (View.read_writes_cons_rows_of_mem _ _ _ _ _ y (ValueIdx.ix2 (0 : Fin 1) (y 1)) rfl (by show (y 0).val = 0 + 0; omega) rfl).trans ((pay1_at _ _ _).trans (congrArg (· + _) ?_))
    exact (Rows.row 0 (by decide) _ X _).trans (congrArg X (at_row y 0 (by decide) b))
  · rw [if_neg b]
    refine (View.read_writes_cons_rows_of_not_mem (W := 1) _ _ _ _ _ y rfl rfl (by show (y 0).val < 0 ∨ 0 + 1 ≤ (y 0).val; have : (y 0).val ≠ 0 := b; omega)).trans ?_
    refine Eq.trans ?_ (add_zero _).symm
    exact congrFun ((hs0_6 t).read_unread X) y

/-- The accumulator after the last point. -/
theorem acc_last (c : Dev nD) (t : Fin cfg0.N) (ht : t.val + 1 = cfg0.N) (y : S8x1024.Idx) :
    ((outsAt0 m c t.val t.isLt).2 y : EReal) = 0 + ∑ p : Fin cfg0.N, term m c p y :=
  Pipeline.eq_sum_fin_of_reset_step_apply_last (fun n h => (outsAt0 m c n h).2) 16 (fun _ => (0 : EReal)) (term m c)
    (acc_first m c) (acc_next m c) (by rw [show cfg0.N = 16 from N_0]) t ht y

/-- The input's gradient, as one function of the arguments. -/
def res5 (c : Dev nD) (i : S8192x1024.Idx) : EReal :=
  form (fun k => arg0 m c (ValueIdx.ix2 (i 0) k)) (fun k => arg1 m c (ValueIdx.ix2 (i 0) k)) (fun k => arg3 m c (ValueIdx.ix2 (0 : Fin 1) k))
    (fun k => arg4 m c (ValueIdx.ix2 (0 : Fin 1) k)) (arg2 m c i) (i 1)

/-- What a point writes of the input's gradient. -/
theorem piece5 (c : Dev nD) (t : Fin cfg0.N) (y : S512x1024.Idx) (z : S8192x1024.Idx)
    (z0 : (z 0).val = t.val * 512 + (y 0).val) (z1 : (z 1).val = (y 1).val) :
    ((outsAt0 m c t.val t.isLt).1 y : EReal) = res5 m c z := by
  have e : (outsAt0 m c t.val t.isLt).1 = k0_pay8 (iblk m c 0 t) (iblk m c 1 t) (iblk m c 3 t) (iblk m c 4 t) (iblk m c 2 t) := by
    by_cases h0 : t.val % 16 = 0
    · rw [outsAt0_A m c t h0]; frame_out
    · rw [outsAt0_B m c t h0]; frame_out
  rw [e]
  unfold res5
  have l1 : (y 1 : Fin 1024) = z 1 := Fin.ext z1.symm
  have E0 : (fun k => (iblk m c 0 t (ValueIdx.ix2 (y 0) k) : EReal)) = fun k => arg0 m c (ValueIdx.ix2 (z 0) k) := funext fun k => blk0_at m c t _ _ z0 rfl
  have E1 : (fun k => (iblk m c 1 t (ValueIdx.ix2 (y 0) k) : EReal)) = fun k => arg1 m c (ValueIdx.ix2 (z 0) k) := funext fun k => blk1_at m c t _ _ z0 rfl
  have E3 : (fun k => (iblk m c 3 t (ValueIdx.ix2 (0 : Fin 1) k) : EReal)) = fun k => arg3 m c (ValueIdx.ix2 (0 : Fin 1) k) := funext fun k => blk3_at m c t _ _ (by show (0 : ℕ) = 0 * 1 + 0; omega) rfl
  have E4 : (fun k => (iblk m c 4 t (ValueIdx.ix2 (0 : Fin 1) k) : EReal)) = fun k => arg4 m c (ValueIdx.ix2 (0 : Fin 1) k) := funext fun k => blk4_at m c t _ _ (by show (0 : ℕ) = 0 * 1 + 0; omega) rfl
  have E2 : (iblk m c 2 t (ValueIdx.ix2 (y 0) (y 1)) : EReal) = arg2 m c z := blk2_at m c t _ _ z0 z1
  rw [← E0, ← E1, ← E3, ← E4, ← E2, ← l1]
  clear E0 E1 E2 E3 E4 l1 z0 z1
  idx_vars y
  exact pay8_at _ _ _ _ _ _ _

/-- The first array the launch leaves. -/
theorem result5 (c : Dev nD) : (dats m 0 c).arrAt 5 cfg0.N = (res5 m c : S8192x1024.Idx → EReal) := by
  refine (dats m 0 c).arrAt_eq_of_covers 5 _ (by decide +kernel) fun t hf y => ?_
  blk_simp
  rw [after0_5]
  obtain ⟨f0, f1⟩ := at5 t
  have d0 : ((win0_5.blk t).view.emb y 0).val = t.val * 512 + (y 0).val := by
    show win0_5.index t 0 * 512 + 1 * (y 0).val = _; omega
  have d1 : ((win0_5.blk t).view.emb y 1).val = (y 1).val := by
    show win0_5.index t 1 * 1024 + 1 * (y 1).val = _; omega
  exact piece5 m c t y _ d0 d1

/-- The second array the launch leaves. -/
theorem result6 (c : Dev nD) : (dats m 0 c).arrAt 6 cfg0.N = (fun i => 0 + ∑ p : Fin cfg0.N, term m c p i : S8x1024.Idx → EReal) := by
  refine (dats m 0 c).arrAt_eq_of_covers 6 _ (by decide +kernel) fun t hf y => ?_
  blk_simp
  rw [after0_6]
  obtain ⟨f0, f1⟩ := at6 t
  have e : (win0_6.blk t).view.emb y = y := by
    funext a
    apply Fin.ext
    match a with
    | ⟨0, _⟩ => show win0_6.index t 0 * 8 + 1 * (y 0).val = (y 0).val; omega
    | ⟨1, _⟩ => show win0_6.index t 1 * 1024 + 1 * (y 1).val = (y 1).val; omega
  rw [e]
  have hN : cfg0.N = 16 := N_0
  have ht := (flush0_6 t).mp hf
  exact acc_last m c t (by have := t.isLt; omega) y

/-- The sums over the blocks are sums over all rows. -/
theorem sums (c : Dev nD) (y : S8x1024.Idx) (f : Fin 8192 → EReal)
    (hf : ∀ (p : Fin cfg0.N) (hp : p.val < 16), term m c p y = ∑ k : Fin 512, f ⟨p.val * 512 + k.val, by omega⟩) :
    0 + ∑ p : Fin cfg0.N, term m c p y = ∑ k : Fin 8192, f k := by
  have hN : cfg0.N = 16 := N_0
  rw [zero_add]
  refine Eq.trans ?_ (Fin.sum_mul_add_fin 16 512 _)
  refine Fin.sum_congr' _ hN |>.symm.trans ?_
  exact Finset.sum_congr rfl fun p _ => hf _ p.isLt

/-- The normalised entry. -/
def nrm (c : Dev nD) (j : Fin 8192) (l : Fin 1024) : EReal :=
  arg0 m c (ValueIdx.ix2 j l) * inv fun k => arg0 m c (ValueIdx.ix2 j k)

/-- A block's normalised entry. -/
theorem nrm_at (c : Dev nD) (j : Fin 8192) (h : Vec Ideal S512x1024 .f32) (k : Fin 512)
    (hh : ∀ q : Fin 1024, (h (ValueIdx.ix2 k q) : EReal) = arg0 m c (ValueIdx.ix2 j q)) (l : Fin 1024) :
    (h (ValueIdx.ix2 k l) : EReal) * (inv fun q => h (ValueIdx.ix2 k q)) = nrm m c j l := by
  unfold nrm
  exact congrArg₂ (· * ·) (hh l) (congrArg inv (funext hh))

/-- A term of the scale's gradient, its factors reordered. -/
theorem scale_term {d d' n n' w w' : EReal} (hd : d = d') (hn : n = n') (hw : w = w') : d * n * w = n' * w' * d' := by
  subst hd hn hw; ac_rfl

/-- A term of the weight's gradient, its factors reordered. -/
theorem weight_term {d d' n n' v v' : EReal} (hd : d = d') (hn : n = n') (hv : v = v') : d * n * (one + v) = n' * (d' * (one + v')) := by
  subst hd hn hv; ac_rfl

/-- The rows of the second array. -/
theorem row_shift (c : Dev nD) (y : S8x1024.Idx) (b : (y (0 : Fin 2)).val = 0) :
    0 + ∑ p : Fin cfg0.N, term m c p y = ∑ k : Fin 8192, arg1 m c (ValueIdx.ix2 k (y 1)) := by
  refine sums m c y _ fun p hp => ?_
  unfold term add
  rw [if_neg (by omega), if_neg (by omega), if_pos b]
  refine Finset.sum_congr rfl fun k _ => ?_
  exact blk1_at m c _ _ _ rfl rfl

/-- The rows of the second array. -/
theorem row_scale (c : Dev nD) (y : S8x1024.Idx) (b : (y (0 : Fin 2)).val = 1) :
    0 + ∑ p : Fin cfg0.N, term m c p y
      = ∑ k : Fin 8192, nrm m c k (y 1) * arg3 m c (ValueIdx.ix2 (0 : Fin 1) (y 1)) * arg1 m c (ValueIdx.ix2 k (y 1)) := by
  refine sums m c y _ fun p hp => ?_
  unfold term add
  rw [if_neg (by omega), if_pos b]
  refine Finset.sum_congr rfl fun k _ => ?_
  exact scale_term (blk1_at m c p _ (ValueIdx.ix2 ⟨p.val * 512 + k.val, by omega⟩ (y 1)) rfl rfl)
    (nrm_at m c ⟨p.val * 512 + k.val, by omega⟩ (iblk m c 0 p) k (fun q => blk0_at m c p _ _ rfl rfl) (y 1)) (blk3_at m c p _ (ValueIdx.ix2 (0 : Fin 1) (y 1)) (by show (0 : ℕ) = 0 * 1 + 0; omega) rfl)

/-- The rows of the second array. -/
theorem row_weight (c : Dev nD) (y : S8x1024.Idx) (b : (y (0 : Fin 2)).val = 2) :
    0 + ∑ p : Fin cfg0.N, term m c p y
      = ∑ k : Fin 8192, nrm m c k (y 1) * (arg1 m c (ValueIdx.ix2 k (y 1)) * (one + arg4 m c (ValueIdx.ix2 (0 : Fin 1) (y 1)))) := by
  refine sums m c y _ fun p hp => ?_
  unfold term add
  rw [if_pos b]
  refine Finset.sum_congr rfl fun k _ => ?_
  exact weight_term (blk1_at m c p _ (ValueIdx.ix2 ⟨p.val * 512 + k.val, by omega⟩ (y 1)) rfl rfl)
    (nrm_at m c ⟨p.val * 512 + k.val, by omega⟩ (iblk m c 0 p) k (fun q => blk0_at m c p _ _ rfl rfl) (y 1)) (blk4_at m c p _ (ValueIdx.ix2 (0 : Fin 1) (y 1)) (by show (0 : ℕ) = 0 * 1 + 0; omega) rfl)

/-- The number the norm divides by is 1024. -/
theorem rows_eq : rows = ((1024 : ℝ) : EReal) := by
  have e : rows = ((8388608 * (2 ^ 13)⁻¹ : ℝ) : EReal) := by simp [rows, Ideal.ofBits, Ideal.ieee]
  rw [e]; norm_num

/-- The number added under the root is a real number above zero. -/
theorem eps_eq : ∃ ε : ℝ, 0 < ε ∧ eps = (ε : EReal) := by
  refine ⟨8796093 * (2 ^ 43)⁻¹, by positivity, ?_⟩
  simp [eps, Ideal.ofBits, Ideal.ieee]

/-- The factor the derivative of the reciprocal root takes is minus one half. -/
theorem minus_half : Ideal.ofBits .f32 0xBF000000#32 = ((-(1 / 2) : ℝ) : EReal) := by
  have e : Ideal.ofBits .f32 0xBF000000#32 = ((-(8388608 * (2 ^ 24)⁻¹) : ℝ) : EReal) := by simp [Ideal.ofBits, Ideal.ieee]
  rw [e]; norm_num

/-- The derivative of the forward line is the form the launch computes. -/
theorem form_eq (h d w v : Fin 1024 → EReal) (e : EReal) (l : Fin 1024) :
    e + (d l * (one + v l) * w l * inv h
        + h l * Ideal.div ((∑ k : Fin 1024, h k * (d k * (one + v k) * w k)) * (Ideal.ofBits .f32 0xBF000000#32 * Ideal.div (inv h) (Ideal.div (∑ k : Fin 1024, h k * h k) rows + eps))) rows
        + Ideal.div ((∑ k : Fin 1024, h k * (d k * (one + v k) * w k)) * (Ideal.ofBits .f32 0xBF000000#32 * Ideal.div (inv h) (Ideal.div (∑ k : Fin 1024, h k * h k) rows + eps))) rows * h l)
      = form h d w v e l := by
  obtain ⟨ε, h0, h1⟩ := eps_eq
  exact congrArg (e + ·) (NormMath.forms h (fun k => d k * (one + v k) * w k) l rows eps _ rows_eq ε h0 h1 minus_half)

end Cert.NormBwdIdeal.Product

namespace Cert.NormBwd

/-- The launch and the derivative of the modulated norm end with the same arrays. -/
theorem algebraic : Cert.algebraic_NormBwdIdeal_NormBwdRefIdeal := by
  intro m g m' g' _ ha
  refine ⟨fun c => (NormBwdIdeal.Gen.dats m 0 c).arrAt 5 NormBwdIdeal.cfg0.N, fun c => (NormBwdIdeal.Gen.dats m 0 c).arrAt 6 NormBwdIdeal.cfg0.N,
    NormBwdIdeal.Value.run_blocks m g, ?_⟩
  refine (θ_run _ _ _).mono (fun r h c => ?_) (NormBwdRefIdeal.Value.run m' g')
  obtain ⟨h0, h1, h2⟩ := h c
  obtain ⟨a0, a1, a2, a3, a4⟩ := ha c
  refine ⟨h0.trans ?_, h1.trans ?_, h2⟩
  · unfold NormBwdRefIdeal.Value.res_main_v49
    rw [a0, a1, a2, a3, a4]
    funext i
    refine Eq.trans ?_ (congrFun (NormBwdIdeal.Product.result5 m c) i).symm
    unfold NormBwdIdeal.Product.res5
    refine Eq.trans ?_ (NormBwdIdeal.Product.form_eq _ _ _ _ _ _)
    clear a0 a1 a2 a3 a4 h0 h1 h2 h ha
    idx_vars i
    pointwise
    simp only [Fin.sum_univ_one]
    rfl
  · rw [a0, a1, a3, a4]
    funext i
    refine Eq.trans ?_ (congrFun (NormBwdIdeal.Product.result6 m c) i).symm
    show _ = 0 + ∑ p : Fin NormBwdIdeal.cfg0.N, NormBwdIdeal.Product.term m c p i
    by_cases b2 : (i (0 : Fin 2)).val = 2
    · refine Eq.trans ?_ (NormBwdIdeal.Product.row_weight m c i b2).symm
      clear a0 a1 a2 a3 a4 h0 h1 h2 h ha
      idx_vars i
      pointwise
      have e : i0.val = 2 := b2
      rw [dif_neg (show ¬i0.val < 1 by omega), dif_neg (show ¬i0.val - 1 < 1 by omega), dif_pos (show i0.val - 1 - 1 < 1 by omega)]
      rfl
    by_cases b1 : (i (0 : Fin 2)).val = 1
    · refine Eq.trans ?_ (NormBwdIdeal.Product.row_scale m c i b1).symm
      clear a0 a1 a2 a3 a4 h0 h1 h2 h ha
      idx_vars i
      pointwise
      have e : i0.val = 1 := b1
      rw [dif_neg (show ¬i0.val < 1 by omega), dif_pos (show i0.val - 1 < 1 by omega)]
      rfl
    by_cases b : (i (0 : Fin 2)).val = 0
    · refine Eq.trans ?_ (NormBwdIdeal.Product.row_shift m c i b).symm
      clear a0 a1 a2 a3 a4 h0 h1 h2 h ha
      idx_vars i
      pointwise
      have e : i0.val = 0 := b
      rw [dif_pos (show i0.val < 1 by omega)]
      rfl
    have z : ∑ p : Fin NormBwdIdeal.cfg0.N, NormBwdIdeal.Product.term m c p i = 0 :=
      Finset.sum_eq_zero fun p _ => by unfold NormBwdIdeal.Product.term NormBwdIdeal.Product.add; rw [if_neg b2, if_neg b1, if_neg b]
    rw [z]
    clear a0 a1 a2 a3 a4 h0 h1 h2 h ha z
    idx_vars i
    pointwise
    have e : i0.val ≠ 0 := b
    have e1 : i0.val ≠ 1 := b1
    have e2 : i0.val ≠ 2 := b2
    rw [dif_neg (show ¬i0.val < 1 by omega), dif_neg (show ¬i0.val - 1 < 1 by omega), dif_neg (show ¬i0.val - 1 - 1 < 1 by omega)]

end Cert.NormBwd

end
-- ==== Proof.Post.lean ====
/-
  The mixer's way out: every head of the two directions' sum divided by its root mean square, times the weight and the
  gate, against the same lines on the whole array.
-/
module

public import proofs.«01_k».proof.Defs
public import proofs.«01_k».proof.Proof.Sums
public import proofs.«01_k».proof.Proof.Gen.PostIdeal.Value
public import proofs.«01_k».proof.Proof.Gen.PostRefIdeal.Run
public import Idealize.ShloMosaic.Lib.Pipeline.ValueKit.Geometry
public import Idealize.ShloMosaic.Lib.Pipeline.ValueKit.Tiles

@[expose] public section

set_option maxRecDepth 16384

noncomputable section

open Idealize.ShloMosaic Idealize.ShloMosaic.TcCoe Idealize.SL.Sem

namespace Cert.PostIdeal.Product

open Cert.PostIdeal Cert.PostIdeal.Gen Cert.PostIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = t.val ∧ win0_1.index t (1 : Fin 2) = 0 :=
  (by decide +kernel : ∀ t : Fin grid0.N, _)

/-- Which block of its third operand point `t` is given. -/
theorem at2 : ∀ t : Fin cfg0.N, win0_2.index t (0 : Fin 2) = t.val ∧ win0_2.index t (1 : Fin 2) = 3 :=
  (by decide +kernel : ∀ t : Fin grid0.N, _)

/-- Which block of its fourth operand point `t` is given. -/
theorem at3 : ∀ t : Fin cfg0.N, win0_3.index t (0 : Fin 2) = 0 ∧ win0_3.index t (1 : Fin 2) = 0 :=
  (by decide +kernel : ∀ t : Fin grid0.N, _)

/-- Which block of the result point `t` writes. -/
theorem at4 : ∀ t : Fin cfg0.N, win0_4.index t (0 : Fin 2) = t.val ∧ win0_4.index t (1 : Fin 2) = 0 :=
  (by decide +kernel : ∀ t : Fin grid0.N, _)

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S8192x1024.Idx → EReal := m ((c.tc : Thread nD τ).loc main_arg1)

/-- An argument's entries. -/
abbrev arg2 (c : Dev nD) : S8192x8192.Idx → EReal := m ((c.tc : Thread nD τ).loc main_arg2)

/-- An argument's entries. -/
abbrev arg3 (c : Dev nD) : S1x128.Idx → EReal := m ((c.tc : Thread nD τ).loc main_arg3)

/-- An element of point `t`'s block of the first operand. -/
theorem blk0_at (c : Dev nD) (t : Fin cfg0.N) (j : S256x1024.Idx) (p : S8192x1024.Idx)
    (p0 : (p 0).val = (t.val) * 256 + (j 0).val) (p1 : (p 1).val = (0) * 1024 + (j 1).val) :
    iblk m c 0 t j = arg0 m c p := by
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 256 + 1 * (j 0).val = (p 0).val; omega
  | ⟨1, _⟩ => show win0_0.index t 1 * 1024 + 1 * (j 1).val = (p 1).val; omega

/-- An element of point `t`'s block of the second operand. -/
theorem blk1_at (c : Dev nD) (t : Fin cfg0.N) (j : S256x1024.Idx) (p : S8192x1024.Idx)
    (p0 : (p 0).val = (t.val) * 256 + (j 0).val) (p1 : (p 1).val = (0) * 1024 + (j 1).val) :
    iblk m c 1 t j = arg1 m c p := by
  unfold iblk
  rw [View.read_apply]
  show m ((c.tc : Thread nD τ).loc main_arg1) _ = _
  congr 1
  obtain ⟨f0, f1⟩ := at1 t
  funext a; apply Fin.ext
  match a with
  | ⟨0, _⟩ => show win0_1.index t 0 * 256 + 1 * (j 0).val = (p 0).val; omega
  | ⟨1, _⟩ => show win0_1.index t 1 * 1024 + 1 * (j 1).val = (p 1).val; omega

/-- An element of point `t`'s block of the third operand. -/
theorem blk2_at (c : Dev nD) (t : Fin cfg0.N) (j : S256x1024.Idx) (p : S8192x8192.Idx)
    (p0 : (p 0).val = (t.val) * 256 + (j 0).val) (p1 : (p 1).val = (3) * 1024 + (j 1).val) :
    iblk m c 2 t j = arg2 m c p := by
  unfold iblk
  rw [View.read_apply]
  show m ((c.tc : Thread nD τ).loc main_arg2) _ = _
  congr 1
  obtain ⟨f0, f1⟩ := at2 t
  funext a; apply Fin.ext
  match a with
  | ⟨0, _⟩ => show win0_2.index t 0 * 256 + 1 * (j 0).val = (p 0).val; omega
  | ⟨1, _⟩ => show win0_2.index t 1 * 1024 + 1 * (j 1).val = (p 1).val; omega

/-- An element of point `t`'s block of the fourth operand. -/
theorem blk3_at (c : Dev nD) (t : Fin cfg0.N) (j : S1x128.Idx) (p : S1x128.Idx)
    (p0 : (p 0).val = (0) * 1 + (j 0).val) (p1 : (p 1).val = (0) * 128 + (j 1).val) :
    iblk m c 3 t j = arg3 m c p := by
  unfold iblk
  rw [View.read_apply]
  show m ((c.tc : Thread nD τ).loc main_arg3) _ = _
  congr 1
  obtain ⟨f0, f1⟩ := at3 t
  funext a; apply Fin.ext
  match a with
  | ⟨0, _⟩ => show win0_3.index t 0 * 1 + 1 * (j 0).val = (p 0).val; omega
  | ⟨1, _⟩ => show win0_3.index t 1 * 128 + 1 * (j 1).val = (p 1).val; omega

/-- What a head of a row of the result is, from the head it comes from. -/
def form (h w z : Fin 128 → EReal) (l : Fin 128) : EReal :=
  h l * Ideal.rsqrt (Ideal.div (∑ k : Fin 128, h k * h k) (Ideal.ofBits .f32 0x43000000#32) + Ideal.ofBits .f32 0x358637BD#32)
    * w l * (z l * Ideal.logistic (z l))

/-- The same entries, taken `o` columns on. -/
abbrev off (o : Fin 897) (k : Fin 128) : Fin 1024 := ⟨o.val + k.val, by omega⟩

/-- A head of a block's result, from the blocks. -/
def tile (a b z : Vec Ideal S256x1024 .f32) (w : Vec Ideal S1x128 .f32) (o : Fin 897) (j : Fin 256) (l : Fin 128) : EReal :=
  form (fun k => a (ValueIdx.ix2 j (off o k)) + b (ValueIdx.ix2 j (off o k))) (fun k => w (ValueIdx.ix2 (0 : Fin 1) k))
    (fun k => z (ValueIdx.ix2 j (off o k))) l

/-- The same with the entries named. -/
theorem tile_eq (a b z : Vec Ideal S256x1024 .f32) (w : Vec Ideal S1x128 .f32) (o : Fin 897) (j : Fin 256) (l : Fin 128)
    (f g q p : Fin 128 → EReal) (h0 : ∀ k, a (ValueIdx.ix2 j (off o k)) = f k) (h1 : ∀ k, b (ValueIdx.ix2 j (off o k)) = g k)
    (h2 : ∀ k, z (ValueIdx.ix2 j (off o k)) = q k) (h3 : ∀ k, w (ValueIdx.ix2 (0 : Fin 1) k) = p k) :
    tile a b z w o j l = form (fun k => f k + g k) p q l := by
  unfold tile
  rw [funext h2, funext h3]
  simp only [h0, h1]

/-- The head that begins at column 0 of a block's result, at an index. -/
theorem head0_at (a b z : Vec Ideal S256x1024 .f32) (w : Vec Ideal S1x128 .f32) (j : Fin 256) (l : Fin 128) :
    (k0_pay5 a b z w : Vec Ideal S256x128 .bf16) (ValueIdx.ix2 j l) = tile a b z w 0 j l := by
  rw [lay4_0_eq]
  unfold tile form
  have e : ∀ k, off 0 k = ⟨k.val, by omega⟩ := fun k => Fin.ext (by show 0 + k.val = k.val; omega)
  simp only [e]
  pointwise
  try rfl

/-- The head that begins at column 128 of a block's result, at an index. -/
theorem head128_at (a b z : Vec Ideal S256x1024 .f32) (w : Vec Ideal S1x128 .f32) (j : Fin 256) (l : Fin 128) :
    (k0_pay7 (k0_pay6 a b z w) : Vec Ideal S256x128 .bf16) (ValueIdx.ix2 j l) = tile a b z w 128 j l := by
  rw [lay4_1_eq]
  unfold tile form
  have e : ∀ k, off 128 k = ⟨128 + k.val, by omega⟩ := fun k => Fin.ext (by show 128 + k.val = 128 + k.val; omega)
  simp only [e]
  pointwise
  try rfl

/-- The head that begins at column 256 of a block's result, at an index. -/
theorem head256_at (a b z : Vec Ideal S256x1024 .f32) (w : Vec Ideal S1x128 .f32) (j : Fin 256) (l : Fin 128) :
    (k0_pay8 (k0_pay3 a b) (k0_pay4 z) w : Vec Ideal S256x128 .bf16) (ValueIdx.ix2 j l) = tile a b z w 256 j l := by
  rw [lay4_2_eq]
  unfold tile form
  have e : ∀ k, off 256 k = ⟨256 + k.val, by omega⟩ := fun k => Fin.ext (by show 256 + k.val = 256 + k.val; omega)
  simp only [e]
  pointwise
  try rfl

/-- The head that begins at column 384 of a block's result, at an index. -/
theorem head384_at (a b z : Vec Ideal S256x1024 .f32) (w : Vec Ideal S1x128 .f32) (j : Fin 256) (l : Fin 128) :
    (k0_pay9 (k0_pay3 a b) (k0_pay4 z) w : Vec Ideal S256x128 .bf16) (ValueIdx.ix2 j l) = tile a b z w 384 j l := by
  rw [lay4_3_eq]
  unfold tile form
  have e : ∀ k, off 384 k = ⟨384 + k.val, by omega⟩ := fun k => Fin.ext (by show 384 + k.val = 384 + k.val; omega)
  simp only [e]
  pointwise
  try rfl

/-- The head that begins at column 512 of a block's result, at an index. -/
theorem head512_at (a b z : Vec Ideal S256x1024 .f32) (w : Vec Ideal S1x128 .f32) (j : Fin 256) (l : Fin 128) :
    (k0_pay12 (k0_pay4 z) (k0_pay10 (k0_pay3 a b)) (k0_pay11 (k0_pay3 a b)) w : Vec Ideal S256x128 .bf16) (ValueIdx.ix2 j l) = tile a b z w 512 j l := by
  rw [lay4_4_eq]
  unfold tile form
  have e : ∀ k, off 512 k = ⟨512 + k.val, by omega⟩ := fun k => Fin.ext (by show 512 + k.val = 512 + k.val; omega)
  simp only [e]
  pointwise
  try rfl

/-- The head that begins at column 640 of a block's result, at an index. -/
theorem head640_at (a b z : Vec Ideal S256x1024 .f32) (w : Vec Ideal S1x128 .f32) (j : Fin 256) (l : Fin 128) :
    (k0_pay13 (k0_pay3 a b) (k0_pay4 z) w : Vec Ideal S256x128 .bf16) (ValueIdx.ix2 j l) = tile a b z w 640 j l := by
  rw [lay4_5_eq]
  unfold tile form
  have e : ∀ k, off 640 k = ⟨640 + k.val, by omega⟩ := fun k => Fin.ext (by show 640 + k.val = 640 + k.val; omega)
  simp only [e]
  pointwise
  try rfl

/-- The head that begins at column 768 of a block's result, at an index. -/
theorem head768_at (a b z : Vec Ideal S256x1024 .f32) (w : Vec Ideal S1x128 .f32) (j : Fin 256) (l : Fin 128) :
    (k0_pay1 (k0_pay4 z) (k0_pay14 (k0_pay3 a b)) (k0_pay15 (k0_pay3 a b)) w : Vec Ideal S256x128 .bf16) (ValueIdx.ix2 j l) = tile a b z w 768 j l := by
  rw [lay4_6_eq]
  unfold tile form
  have e : ∀ k, off 768 k = ⟨768 + k.val, by omega⟩ := fun k => Fin.ext (by show 768 + k.val = 768 + k.val; omega)
  simp only [e]
  pointwise
  try rfl

/-- The head that begins at column 896 of a block's result, at an index. -/
theorem head896_at (a b z : Vec Ideal S256x1024 .f32) (w : Vec Ideal S1x128 .f32) (j : Fin 256) (l : Fin 128) :
    (k0_pay2 (k0_pay3 a b) (k0_pay4 z) w : Vec Ideal S256x128 .bf16) (ValueIdx.ix2 j l) = tile a b z w 896 j l := by
  rw [lay4_7_eq]
  unfold tile form
  have e : ∀ k, off 896 k = ⟨896 + k.val, by omega⟩ := fun k => Fin.ext (by show 896 + k.val = 896 + k.val; omega)
  simp only [e]
  pointwise
  try rfl

/-- The result, as one function of the arguments. -/
def res4 (c : Dev nD) (i : S8192x1024.Idx) : EReal :=
  form (fun k => arg0 m c (ValueIdx.ix2 (i 0) (⟨(i 1).val / 128 * 128 + k.val, by have : (i 1).val < 1024 := (i 1).isLt; omega⟩ : Fin 1024))
      + arg1 m c (ValueIdx.ix2 (i 0) (⟨(i 1).val / 128 * 128 + k.val, by have : (i 1).val < 1024 := (i 1).isLt; omega⟩ : Fin 1024)))
    (fun k => arg3 m c (ValueIdx.ix2 (0 : Fin 1) k))
    (fun k => arg2 m c (ValueIdx.ix2 (i 0) (⟨3072 + ((i 1).val / 128 * 128 + k.val), by have : (i 1).val < 1024 := (i 1).isLt; omega⟩ : Fin 8192)))
    ⟨(i 1).val % 128, Nat.mod_lt _ (by decide)⟩

/-- What a point writes of the head that begins at column `o`. -/
theorem piece4 (o : Fin 897) (ho : o.val % 128 = 0) (c : Dev nD) (t : Fin cfg0.N) (j : Fin 256) (l : Fin 128) (z : S8192x1024.Idx)
    (z0 : (z 0).val = t.val * 256 + j.val) (z1 : (z 1).val = o.val + l.val) :
    tile (iblk m c 0 t) (iblk m c 1 t) (iblk m c 2 t) (iblk m c 3 t) o j l = res4 m c z := by
  have l1 : l = (⟨(z 1).val % 128, Nat.mod_lt _ (by decide)⟩ : Fin 128) := Fin.ext (by show l.val = (z 1).val % 128; omega)
  have hz : (z 1).val < 1024 := (z 1).isLt
  unfold res4
  rw [← l1]
  exact tile_eq _ _ _ _ o j l _ _ _ _
    (fun k => blk0_at m c t _ _ z0 (by show (z 1).val / 128 * 128 + k.val = 0 * 1024 + (o.val + k.val); omega))
    (fun k => blk1_at m c t _ _ z0 (by show (z 1).val / 128 * 128 + k.val = 0 * 1024 + (o.val + k.val); omega))
    (fun k => blk2_at m c t _ _ z0 (by show 3072 + ((z 1).val / 128 * 128 + k.val) = 3 * 1024 + (o.val + k.val); omega))
    (fun k => blk3_at m c t _ _ (by show (0 : ℕ) = 0 * 1 + 0; omega) (by show k.val = 0 * 128 + k.val; omega))

set_option maxHeartbeats 2000000 in
/-- The array the launch leaves. -/
theorem result4 (c : Dev nD) : (dats m 0 c).arrAt 4 cfg0.N = (res4 m c : S8192x1024.Idx → EReal) := by
  refine (dats m 0 c).arrAt_eq_of_covers 4 _ (by decide +kernel) fun t hf y => ?_
  blk_simp
  rw [after0_4]
  obtain ⟨f0, f1⟩ := at4 t
  have d0 : ((win0_4.blk t).view.emb y 0).val = t.val * 256 + (y 0).val := by
    show win0_4.index t 0 * 256 + 1 * (y 0).val = _; omega
  have d1 : ((win0_4.blk t).view.emb y 1).val = (y 1).val := by
    show win0_4.index t 1 * 1024 + 1 * (y 1).val = _; omega
  generalize (win0_4.blk t).view.emb y = z at d0 d1
  unfold_out out0_4
  simp only [View.ld_unit_zero (S := S256x1024) origin2, View.ld_unit_zero (S := S1x128) origin2]
  canon_tiles x h using cover0_4 ..
  · idx_vars x
    refine (head896_at _ _ _ _ _ _).trans ?_
    exact (piece4 m 896 (by decide) c t x0 x1 z (d0.trans (by omega)) (d1.trans (by show (y 1).val = 896 + x1.val; omega)))
  · idx_vars x
    refine (head768_at _ _ _ _ _ _).trans ?_
    exact (piece4 m 768 (by decide) c t x0 x1 z (d0.trans (by omega)) (d1.trans (by show (y 1).val = 768 + x1.val; omega)))
  · idx_vars x
    refine (head640_at _ _ _ _ _ _).trans ?_
    exact (piece4 m 640 (by decide) c t x0 x1 z (d0.trans (by omega)) (d1.trans (by show (y 1).val = 640 + x1.val; omega)))
  · idx_vars x
    refine (head512_at _ _ _ _ _ _).trans ?_
    exact (piece4 m 512 (by decide) c t x0 x1 z (d0.trans (by omega)) (d1.trans (by show (y 1).val = 512 + x1.val; omega)))
  · idx_vars x
    refine (head384_at _ _ _ _ _ _).trans ?_
    exact (piece4 m 384 (by decide) c t x0 x1 z (d0.trans (by omega)) (d1.trans (by show (y 1).val = 384 + x1.val; omega)))
  · idx_vars x
    refine (head256_at _ _ _ _ _ _).trans ?_
    exact (piece4 m 256 (by decide) c t x0 x1 z (d0.trans (by omega)) (d1.trans (by show (y 1).val = 256 + x1.val; omega)))
  · idx_vars x
    refine (head128_at _ _ _ _ _ _).trans ?_
    exact (piece4 m 128 (by decide) c t x0 x1 z (d0.trans (by omega)) (d1.trans (by show (y 1).val = 128 + x1.val; omega)))
  · idx_vars x
    refine (head0_at _ _ _ _ _ _).trans ?_
    exact (piece4 m 0 (by decide) c t x0 x1 z (d0.trans (by omega)) (d1.trans (by show (y 1).val = 0 + x1.val; omega)))

end Cert.PostIdeal.Product

namespace Cert.Post

/-- The launch and the lines on the whole array end with the same array. -/
theorem algebraic : Cert.algebraic_PostIdeal_PostRefIdeal := by
  intro m g m' g' _ ha
  refine ⟨fun c => (PostIdeal.Gen.dats m 0 c).arrAt 4 PostIdeal.cfg0.N, PostIdeal.Value.run_blocks m g, ?_⟩
  refine (θ_run _ _ _).mono (fun r h c => ?_) (PostRefIdeal.Value.run m' g')
  obtain ⟨h0, h1⟩ := h c
  obtain ⟨a0, a1, a2, a3⟩ := ha c
  refine ⟨h0.trans ?_, h1⟩
  rw [a0, a1, a2, a3]
  funext i
  refine Eq.trans ?_ (congrFun (PostIdeal.Product.result4 m c) i).symm
  unfold PostIdeal.Product.res4 PostIdeal.Product.form
  clear a0 a1 a2 a3 h0 h1 h ha
  idx_vars i
  pointwise
  simp only [Nat.div_add_mod']
  rfl

end Cert.Post

end
-- ==== Proof.PrepA.lean ====
/-
  The first branch's way in: the gated input passed through the short convolution along the rows, block by block with the
  neighbouring rows, against the shifted products on the whole array.
-/
module

public import proofs.«01_k».proof.Defs
public import proofs.«01_k».proof.Proof.Sums
public import proofs.«01_k».proof.Proof.Gen.PrepAIdeal.Value
public import proofs.«01_k».proof.Proof.Gen.PrepARefIdeal.Run
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.PrepAIdeal.Product

open Cert.PrepAIdeal Cert.PrepAIdeal.Gen Cert.PrepAIdeal.Value Cert.Sums

section
variable {F : FTy → Type} [FloatOps F]
variable (m : (ℓ : Loc nD τ sig) → Buf (Elt F) ℓ)

/-- Which block of rows before point `t`'s own it is given. -/
theorem at0 : ∀ t : Fin cfg0.N, win0_0.index t (0 : Fin 2) = (t.val * 32 - 1) ∧ win0_0.index t (1 : Fin 2) = 4 :=
  (by decide +kernel : ∀ t : Fin grid0.N, _)

/-- Which block of rows of its own point `t` is given. -/
theorem at1 : ∀ t : Fin cfg0.N, win0_1.index t (0 : Fin 2) = t.val ∧ win0_1.index t (1 : Fin 2) = 4 :=
  (by decide +kernel : ∀ t : Fin grid0.N, _)

/-- Which block of rows after point `t`'s own it is given. -/
theorem at2 : ∀ t : Fin cfg0.N, win0_2.index t (0 : Fin 2) = min (t.val * 32 + 32) 1023 ∧ win0_2.index t (1 : Fin 2) = 4 :=
  (by decide +kernel : ∀ t : Fin grid0.N, _)

/-- Which block of the taps point `t` is given. -/
theorem at3 : ∀ t : Fin cfg0.N, win0_3.index t (0 : Fin 2) = 0 ∧ win0_3.index t (1 : Fin 2) = 0 :=
  (by decide +kernel : ∀ t : Fin grid0.N, _)

/-- Which block of the result point `t` writes. -/
theorem at4 : ∀ t : Fin cfg0.N, win0_4.index t (0 : Fin 2) = t.val ∧ win0_4.index t (1 : Fin 2) = 0 :=
  (by decide +kernel : ∀ t : Fin grid0.N, _)

end

variable (m : (ℓ : Loc nD τ sig) → Buf (Elt Ideal) ℓ)

/-- An argument's entries. -/
abbrev arg0 (c : Dev nD) : S8192x8192.Idx → EReal := m ((c.tc : Thread nD τ).loc main_arg0)

/-- An argument's entries. -/
abbrev arg1 (c : Dev nD) : S3x512.Idx → EReal := m ((c.tc : Thread nD τ).loc main_arg1)

/-- An element of point `t`'s block of the first operand. -/
theorem blk0_at (c : Dev nD) (t : Fin cfg0.N) (j : S8x1536.Idx) (p : S8192x8192.Idx)
    (p0 : (p 0).val = ((t.val * 32 - 1)) * 8 + (j 0).val) (p1 : (p 1).val = 6144 + (j 1).val) :
    X0_0 m c t j = arg0 m c p := by
  unfold X0_0 Pipeline.Window.fill
  rw [dif_pos (moved0_0 t j)]
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 8 + 1 * (j 0).val = (p 0).val; omega
  | ⟨1, _⟩ => show win0_0.index t 1 * 1536 + 1 * (j 1).val = (p 1).val; omega

/-- An element of point `t`'s block of the second operand. -/
theorem blk1_at (c : Dev nD) (t : Fin cfg0.N) (j : S256x1536.Idx) (p : S8192x8192.Idx)
    (p0 : (p 0).val = (t.val) * 256 + (j 0).val) (p1 : (p 1).val = 6144 + (j 1).val) :
    X0_1 m c t j = arg0 m c p := by
  unfold X0_1 Pipeline.Window.fill
  rw [dif_pos (moved0_1 t j)]
  unfold iblk
  rw [View.read_apply]
  show m ((c.tc : Thread nD τ).loc main_arg0) _ = _
  congr 1
  obtain ⟨f0, f1⟩ := at1 t
  funext a; apply Fin.ext
  match a with
  | ⟨0, _⟩ => show win0_1.index t 0 * 256 + 1 * (j 0).val = (p 0).val; omega
  | ⟨1, _⟩ => show win0_1.index t 1 * 1536 + 1 * (j 1).val = (p 1).val; omega

/-- An element of point `t`'s block of the third operand. -/
theorem blk2_at (c : Dev nD) (t : Fin cfg0.N) (j : S8x1536.Idx) (p : S8192x8192.Idx)
    (p0 : (p 0).val = (min (t.val * 32 + 32) 1023) * 8 + (j 0).val) (p1 : (p 1).val = 6144 + (j 1).val) :
    X0_2 m c t j = arg0 m c p := by
  unfold X0_2 Pipeline.Window.fill
  rw [dif_pos (moved0_2 t j)]
  unfold iblk
  rw [View.read_apply]
  show m ((c.tc : Thread nD τ).loc main_arg0) _ = _
  congr 1
  obtain ⟨f0, f1⟩ := at2 t
  funext a; apply Fin.ext
  match a with
  | ⟨0, _⟩ => show win0_2.index t 0 * 8 + 1 * (j 0).val = (p 0).val; omega
  | ⟨1, _⟩ => show win0_2.index t 1 * 1536 + 1 * (j 1).val = (p 1).val; omega

/-- An element of the taps. -/
theorem blk3_at (c : Dev nD) (t : Fin cfg0.N) (j : S3x512.Idx) : iblk m c 3 t j = arg1 m c j := by
  unfold iblk
  rw [View.read_apply]
  show m ((c.tc : Thread nD τ).loc main_arg1) _ = _
  congr 1
  obtain ⟨f0, f1⟩ := at3 t
  funext a; apply Fin.ext
  match a with
  | ⟨0, _⟩ => show win0_3.index t 0 * 3 + 1 * (j 0).val = (j 0).val; omega
  | ⟨1, _⟩ => show win0_3.index t 1 * 512 + 1 * (j 1).val = (j 1).val; omega

/-- When a point has rows before its own. -/
theorem before_iff : ∀ t : Fin cfg0.N, Scalar.cmpi .sgt (BitVec.ofNat 32 (grid0.coords t 0).val) 0#32 = if t.val = 0 then 0#1 else 1#1 :=
  (by decide +kernel : ∀ t : Fin grid0.N, _)

/-- When a point has rows after its own. -/
theorem behind_iff : ∀ t : Fin cfg0.N, Scalar.cmpi .slt (BitVec.ofNat 32 (grid0.coords t 0).val) 31#32 = if t.val = 31 then 0#1 else 1#1 :=
  (by decide +kernel : ∀ t : Fin grid0.N, _)

/-- Row `r` of the rows before, the point's own and the rows after, stacked; zero outside the array. -/
def row (i : grid0.Coords) (a b : Vec Ideal S8x1536 .f32) (x : Vec Ideal S256x1536 .f32) (k : Fin 1536) (r : ℕ) (hr : r < 272) : EReal :=
  if h : r < 8 then
    Scalar.select (Scalar.cmpi .sgt (BitVec.ofNat 32 (i 0).val) 0#32) (a (ValueIdx.ix2 (⟨r, h⟩ : Fin 8) k)) 0
  else if h' : r - 8 < 256 then x (ValueIdx.ix2 (⟨r - 8, h'⟩ : Fin 256) k)
  else Scalar.select (Scalar.cmpi .slt (BitVec.ofNat 32 (i 0).val) 31#32) (b (ValueIdx.ix2 (⟨r - 8 - 256, by omega⟩ : Fin 8) k)) 0

/-- A column of the second part. -/
abbrev second (l : Fin 512) : Fin 1536 := ⟨512 + l.val, by omega⟩

/-- A column of the third part. -/
abbrev third (l : Fin 512) : Fin 1536 := ⟨1024 + l.val, by omega⟩

/-- A block's result, at an index. -/
theorem pay1_at (i : grid0.Coords) (a b : Vec Ideal S8x1536 .f32) (x : Vec Ideal S256x1536 .f32) (w : Vec Ideal S3x512 .f32) (g : Vec Ideal S256x512 .f32) (j : Fin 256) (l : Fin 512) :
    (k0_pay1 i a b x w g : Vec Ideal S256x512 .bf16) (ValueIdx.ix2 j l)
      = g (ValueIdx.ix2 j l) * (row i a b x (second l) (7 + j.val) (by omega) * row i a b x (third l) (7 + j.val) (by omega) * w (ValueIdx.ix2 (0 : Fin 3) l)
          + x (ValueIdx.ix2 j (second l)) * x (ValueIdx.ix2 j (third l)) * w (ValueIdx.ix2 (1 : Fin 3) l)
          + row i a b x (second l) (9 + j.val) (by omega) * row i a b x (third l) (9 + j.val) (by omega) * w (ValueIdx.ix2 (2 : Fin 3) l)) := by
  unfold k0_pay1
  pointwise
  have e1 : (8 + (ValueIdx.ix2 j l 0 : Fin 256).val + 272 - 1) % 272 = 7 + j.val := by show (8 + j.val + 272 - 1) % 272 = 7 + j.val; omega
  have e3 : (8 + (ValueIdx.ix2 j l 0 : Fin 256).val + 272 - 271) % 272 = 9 + j.val := by show (8 + j.val + 272 - 271) % 272 = 9 + j.val; omega
  simp only [e1, e3]
  rfl

/-- Row `q - 8` of the array, column `6144 + k`; zero outside. -/
def line (c : Dev nD) (k : Fin 1536) (q : ℕ) : EReal :=
  if h : 8 ≤ q ∧ q < 8200 then arg0 m c (ValueIdx.ix2 (⟨q - 8, by omega⟩ : Fin 8192) (⟨6144 + k.val, by omega⟩ : Fin 8192)) else 0

/-- A stacked row is a row of the array. -/
theorem row_at (c : Dev nD) (t : Fin cfg0.N) (k : Fin 1536) (r : ℕ) (hr : r < 272) :
    row (grid0.coords t) (X0_0 m c t) (X0_2 m c t) (X0_1 m c t) k r hr = line m c k (t.val * 256 + r) := by
  have ht : t.val < 32 := t.isLt
  unfold row line
  rw [before_iff, behind_iff]
  by_cases h : r < 8
  · rw [dif_pos h]
    by_cases h0 : t.val = 0
    · rw [if_pos h0, dif_neg (by omega)]; rfl
    · rw [if_neg h0, dif_pos ⟨by omega, by omega⟩]
      exact blk0_at m c t _ _ (by show t.val * 256 + r - 8 = (t.val * 32 - 1) * 8 + r; omega) rfl
  rw [dif_neg h]
  by_cases h' : r - 8 < 256
  · rw [dif_pos h', dif_pos ⟨by omega, by omega⟩]
    exact blk1_at m c t _ _ (by show t.val * 256 + r - 8 = t.val * 256 + (r - 8); omega) rfl
  rw [dif_neg h']
  by_cases h0 : t.val = 31
  · rw [if_pos h0, dif_neg (by omega)]; rfl
  · rw [if_neg h0, dif_pos ⟨by omega, by omega⟩]
    exact blk2_at m c t _ _ (by show t.val * 256 + r - 8 = min (t.val * 32 + 32) 1023 * 8 + (r - 8 - 256); omega) rfl

/-- An entry of the result. -/
def val (c : Dev nD) (r : Fin 8192) (l : Fin 512) : EReal :=
  arg0 m c (ValueIdx.ix2 r (⟨6144 + l.val, by omega⟩ : Fin 8192))
    * (line m c (second l) (r.val + 7) * line m c (third l) (r.val + 7) * arg1 m c (ValueIdx.ix2 (0 : Fin 3) l)
      + line m c (second l) (r.val + 8) * line m c (third l) (r.val + 8) * arg1 m c (ValueIdx.ix2 (1 : Fin 3) l)
      + line m c (second l) (r.val + 9) * line m c (third l) (r.val + 9) * arg1 m c (ValueIdx.ix2 (2 : Fin 3) l))

/-- The result, as one function of the arguments. -/
def res4 (c : Dev nD) (i : S8192x512.Idx) : EReal := val m c (i 0) (i 1)

/-- A product of two rows of the array, at the row itself. -/
theorem line_at (c : Dev nD) (k : Fin 1536) (q : ℕ) (r : Fin 8192) (l : Fin 8192) (h : q = r.val + 8) (hl : l.val = 6144 + k.val) :
    line m c k q = arg0 m c (ValueIdx.ix2 r l) := by
  unfold line
  rw [dif_pos ⟨by omega, by omega⟩]
  have e1 : (⟨q - 8, by omega⟩ : Fin 8192) = r := Fin.ext (by show q - 8 = r.val; omega)
  have e2 : (⟨6144 + k.val, by omega⟩ : Fin 8192) = l := Fin.ext hl.symm
  rw [e1, e2]

/-- Outside the array a row is zero. -/
theorem line_out (c : Dev nD) (k : Fin 1536) (q : ℕ) (h : ¬ (8 ≤ q ∧ q < 8200)) : line m c k q = 0 := by
  unfold line
  rw [dif_neg h]

/-- The sum over the three taps, from its parts. -/
theorem taps (g g' a a' b b' u u' d d' x x' y y' p p' q q' r r' : EReal) (hg : g = g') (h1 : a = a') (h2 : b = b') (h3 : u = u') (h4 : d = d')
    (h5 : x = x') (h6 : y = y') (hp : p = p') (hq : q = q') (hr : r = r') :
    g * (a * b * p + u * d * q + x * y * r) = g' * (a' * b' * p' + u' * d' * q' + x' * y' * r') := by
  subst hg h1 h2 h3 h4 h5 h6 hp hq hr; rfl

/-- The sum over the three taps, from the products at each. -/
theorem tapped (g a b c a' b' u' d' x' y' p q r : EReal) (h1 : a = a' * b') (h2 : b = u' * d') (h3 : c = x' * y') :
    g * (a * p + b * q + c * r) = g * (a' * b' * p + u' * d' * q + x' * y' * r) := by
  subst h1 h2 h3; rfl

/-- What a point writes of the result. -/
theorem piece4 (c : Dev nD) (t : Fin cfg0.N) (j : Fin 256) (l : Fin 512) (z : Fin 8192)
    (z0 : z.val = t.val * 256 + j.val) :
    (k0_pay1 (grid0.coords t) (X0_0 m c t) (X0_2 m c t) (X0_1 m c t) (iblk m c 3 t)
      (View.ld (X0_1 m c t) (Rect.unit ![0, 0] ![256, 512] inb_S256x1536_S256x512_0_0)) (ValueIdx.ix2 j l) : EReal) = val m c z l := by
  have ht : t.val < 32 := t.isLt
  refine (pay1_at _ _ _ _ _ _ j l).trans ?_
  unfold val
  rw [row_at, row_at, row_at, row_at]
  refine taps _ _ _ _ _ _ _ _ _ _ _ _ _ _ _ _ _ _ _ _ ?_ ?_ ?_ ?_ ?_ ?_ ?_ ?_ ?_ ?_
  · refine (View.ld_unit_apply_of (X0_1 m c t) ![0, 0] ![256, 512] _ (ValueIdx.ix2 j l) (ValueIdx.ix2 j (⟨l.val, by omega⟩ : Fin 1536)) fun a => ?_).trans
      (blk1_at m c t _ _ z0 (by show 6144 + l.val = 6144 + l.val; rfl))
    match a with
    | ⟨0, _⟩ => show j.val = 0 + j.val; omega
    | ⟨1, _⟩ => show l.val = 0 + l.val; omega
  · exact congrArg (line m c (second l)) (by omega)
  · exact congrArg (line m c (third l)) (by omega)
  · rw [line_at m c (second l) _ z (⟨6144 + (second l).val, by omega⟩ : Fin 8192) rfl rfl]
    exact blk1_at m c t _ _ z0 rfl
  · rw [line_at m c (third l) _ z (⟨6144 + (third l).val, by omega⟩ : Fin 8192) rfl rfl]
    exact blk1_at m c t _ _ z0 rfl
  · exact congrArg (line m c (second l)) (by omega)
  · exact congrArg (line m c (third l)) (by omega)
  · exact blk3_at m c t _
  · exact blk3_at m c t _
  · exact blk3_at m c t _

/-- The array the launch leaves. -/
theorem result4 (c : Dev nD) : (dats m 0 c).arrAt 4 cfg0.N = (res4 m c : S8192x512.Idx → EReal) := by
  refine (dats m 0 c).arrAt_eq_of_covers 4 _ (by decide +kernel) fun t hf y => ?_
  blk_simp
  rw [after0_4]
  obtain ⟨f0, f1⟩ := at4 t
  have d0 : ((win0_4.blk t).view.emb y 0).val = t.val * 256 + (y 0).val := by
    show win0_4.index t 0 * 256 + 1 * (y 0).val = _; omega
  have d1 : ((win0_4.blk t).view.emb y 1).val = (y 1).val := by
    show win0_4.index t 1 * 512 + 1 * (y 1).val = _; omega
  generalize (win0_4.blk t).view.emb y = z at d0 d1
  unfold outsAt0
  frame_out
  idx_vars y
  exact (piece4 m c t y0 y1 (z 0) d0).trans (congrArg (val m c (z 0)) (Fin.ext d1.symm))

end Cert.PrepAIdeal.Product

namespace Cert.PrepA

/-- The launch and the shifted products end with the same array. -/
theorem algebraic : Cert.algebraic_PrepAIdeal_PrepARefIdeal := by
  intro m g m' g' _ ha
  refine ⟨fun c => (PrepAIdeal.Gen.dats m 0 c).arrAt 4 PrepAIdeal.cfg0.N, PrepAIdeal.Value.run_blocks m g, ?_⟩
  refine (θ_run _ _ _).mono (fun r h c => ?_) (PrepARefIdeal.Value.run m' g')
  obtain ⟨h0, h1⟩ := h c
  obtain ⟨a0, a1⟩ := ha c
  refine ⟨h0.trans ?_, h1⟩
  rw [a0, a1]
  funext i
  refine Eq.trans ?_ (congrFun (PrepAIdeal.Product.result4 m c) i).symm
  unfold PrepAIdeal.Product.res4 PrepAIdeal.Product.val
  clear a0 a1 h0 h1 h ha
  idx_vars i
  pointwise
  have z : (FloatOps.sitofp (F := Ideal) .f32 0#32 : EReal) = 0 := by simp [FloatOps.sitofp]
  refine PrepAIdeal.Product.tapped _ _ _ _ _ _ _ _ _ _ _ _ _ ?_ ?_ ?_
  · by_cases b : 1 ≤ i0.val
    · rw [dif_pos ⟨b, by omega⟩]
      exact congrArg₂ (· * ·)
        (PrepAIdeal.Product.line_at m c _ _ _ _ (by show i0.val + 7 = i0.val - 1 + 8; omega) (by show 6656 + i1.val = 6144 + (512 + i1.val); omega)).symm
        (PrepAIdeal.Product.line_at m c _ _ _ _ (by show i0.val + 7 = i0.val - 1 + 8; omega) (by show 7168 + i1.val = 6144 + (1024 + i1.val); omega)).symm
    · rw [dif_neg (by omega), PrepAIdeal.Product.line_out m c _ _ (by omega), zero_mul, z]
  · exact congrArg₂ (· * ·)
      (PrepAIdeal.Product.line_at m c _ _ _ _ rfl (by show 6656 + i1.val = 6144 + (512 + i1.val); omega)).symm
      (PrepAIdeal.Product.line_at m c _ _ _ _ rfl (by show 7168 + i1.val = 6144 + (1024 + i1.val); omega)).symm
  · by_cases b : i0.val < 8191
    · rw [dif_pos ⟨by omega, by omega⟩]
      exact congrArg₂ (· * ·)
        (PrepAIdeal.Product.line_at m c _ _ _ _ (by show i0.val + 9 = 2 + i0.val - 1 + 8; omega) (by show 6656 + i1.val = 6144 + (512 + i1.val); omega)).symm
        (PrepAIdeal.Product.line_at m c _ _ _ _ (by show i0.val + 9 = 2 + i0.val - 1 + 8; omega) (by show 7168 + i1.val = 6144 + (1024 + i1.val); omega)).symm
    · rw [dif_neg (by omega), PrepAIdeal.Product.line_out m c _ _ (by omega), zero_mul, z]

end Cert.PrepA

end
-- ==== Proof.PrepABwd.lean ====
/-
  The gradient of the first branch's way in: the gradients of the three gated inputs, written into the columns they came
  from, and the gradient of the three taps, added up block after block, against the derivative of the forward lines.
-/
module

public import proofs.«01_k».proof.Defs
public import proofs.«01_k».proof.Proof.Sums
public import proofs.«01_k».proof.Proof.Gen.PrepABwdIdeal.Value
public import proofs.«01_k».proof.Proof.Gen.PrepABwdRefIdeal.Run
public import proofs.«01_k».proof.Proof.NormMath
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Pipeline.ValueKit.Partial
public import Idealize.ShloMosaic.Lib.WritesUnit

@[expose] public section

set_option maxRecDepth 16384

noncomputable section

open Idealize.ShloMosaic Idealize.ShloMosaic.TcCoe Idealize.SL.Sem

namespace Cert.PrepABwdIdeal.Product

open Cert.PrepABwdIdeal Cert.PrepABwdIdeal.Gen Cert.PrepABwdIdeal.Value Cert.Sums

section
variable {F : FTy → Type} [FloatOps F]
variable (m : (ℓ : Loc nD τ sig) → Buf (Elt F) ℓ)

/-- Which block of rows before point `t`'s own it is given. -/
theorem at0 : ∀ t : Fin cfg0.N, win0_0.index t (0 : Fin 2) = (t.val * 32 - 1) ∧ win0_0.index t (1 : Fin 2) = 4 :=
  (by decide +kernel : ∀ t : Fin grid0.N, _)

/-- Which block of rows of its own point `t` is given. -/
theorem at1 : ∀ t : Fin cfg0.N, win0_1.index t (0 : Fin 2) = t.val ∧ win0_1.index t (1 : Fin 2) = 4 :=
  (by decide +kernel : ∀ t : Fin grid0.N, _)

/-- Which block of rows after point `t`'s own it is given. -/
theorem at2 : ∀ t : Fin cfg0.N, win0_2.index t (0 : Fin 2) = min (t.val * 32 + 32) 1023 ∧ win0_2.index t (1 : Fin 2) = 4 :=
  (by decide +kernel : ∀ t : Fin grid0.N, _)

/-- Which block of rows of the arriving gradient before its own point `t` is given. -/
theorem at3 : ∀ t : Fin cfg0.N, win0_3.index t (0 : Fin 2) = (t.val * 32 - 1) ∧ win0_3.index t (1 : Fin 2) = 0 :=
  (by decide +kernel : ∀ t : Fin grid0.N, _)

/-- Which block of the arriving gradient point `t` is given. -/
theorem at4 : ∀ t : Fin cfg0.N, win0_4.index t (0 : Fin 2) = t.val ∧ win0_4.index t (1 : Fin 2) = 0 :=
  (by decide +kernel : ∀ t : Fin grid0.N, _)

/-- Which block of rows of the arriving gradient after its own point `t` is given. -/
theorem at5 : ∀ t : Fin cfg0.N, win0_5.index t (0 : Fin 2) = min (t.val * 32 + 32) 1023 ∧ win0_5.index t (1 : Fin 2) = 0 :=
  (by decide +kernel : ∀ t : Fin grid0.N, _)

/-- Which block of the taps point `t` is given. -/
theorem at6 : ∀ t : Fin cfg0.N, win0_6.index t (0 : Fin 2) = 0 ∧ win0_6.index t (1 : Fin 2) = 0 :=
  (by decide +kernel : ∀ t : Fin grid0.N, _)

/-- Which block of the first result point `t` writes. -/
theorem at7 : ∀ t : Fin cfg0.N, win0_7.index t (0 : Fin 2) = t.val ∧ win0_7.index t (1 : Fin 2) = 4 :=
  (by decide +kernel : ∀ t : Fin grid0.N, _)

/-- Which block of the second result point `t` writes. -/
theorem at8 : ∀ t : Fin cfg0.N, win0_8.index t (0 : Fin 2) = 0 ∧ win0_8.index t (1 : Fin 2) = 0 :=
  (by decide +kernel : ∀ t : Fin grid0.N, _)

end

variable (m : (ℓ : Loc nD τ sig) → Buf (Elt Ideal) ℓ)

/-- An argument's entries. -/
abbrev arg0 (c : Dev nD) : S8192x512.Idx → EReal := m ((c.tc : Thread nD τ).loc main_arg0)

/-- An argument's entries. -/
abbrev arg1 (c : Dev nD) : S8192x8192.Idx → EReal := m ((c.tc : Thread nD τ).loc main_arg1)

/-- An argument's entries. -/
abbrev arg2 (c : Dev nD) : S3x512.Idx → EReal := m ((c.tc : Thread nD τ).loc main_arg2)

/-- An argument's entries. -/
abbrev arg3 (c : Dev nD) : S8192x8192.Idx → EReal := m ((c.tc : Thread nD τ).loc main_arg3)

/-- An element of point `t`'s block of the first operand. -/
theorem blk0_at (c : Dev nD) (t : Fin cfg0.N) (j : S8x1536.Idx) (p : S8192x8192.Idx)
    (p0 : (p 0).val = ((t.val * 32 - 1)) * 8 + (j 0).val) (p1 : (p 1).val = 6144 + (j 1).val) :
    X0_0 m c t j = arg1 m c p := by
  unfold X0_0 Pipeline.Window.fill
  rw [dif_pos (moved0_0 t j)]
  unfold iblk
  rw [View.read_apply]
  show m ((c.tc : Thread nD τ).loc main_arg1) _ = _
  congr 1
  obtain ⟨f0, f1⟩ := at0 t
  funext a; apply Fin.ext
  match a with
  | ⟨0, _⟩ => show win0_0.index t 0 * 8 + 1 * (j 0).val = (p 0).val; omega
  | ⟨1, _⟩ => show win0_0.index t 1 * 1536 + 1 * (j 1).val = (p 1).val; omega

/-- An element of point `t`'s block of the second operand. -/
theorem blk1_at (c : Dev nD) (t : Fin cfg0.N) (j : S256x1536.Idx) (p : S8192x8192.Idx)
    (p0 : (p 0).val = (t.val) * 256 + (j 0).val) (p1 : (p 1).val = 6144 + (j 1).val) :
    X0_1 m c t j = arg1 m c p := by
  unfold X0_1 Pipeline.Window.fill
  rw [dif_pos (moved0_1 t j)]
  unfold iblk
  rw [View.read_apply]
  show m ((c.tc : Thread nD τ).loc main_arg1) _ = _
  congr 1
  obtain ⟨f0, f1⟩ := at1 t
  funext a; apply Fin.ext
  match a with
  | ⟨0, _⟩ => show win0_1.index t 0 * 256 + 1 * (j 0).val = (p 0).val; omega
  | ⟨1, _⟩ => show win0_1.index t 1 * 1536 + 1 * (j 1).val = (p 1).val; omega

/-- An element of point `t`'s block of the third operand. -/
theorem blk2_at (c : Dev nD) (t : Fin cfg0.N) (j : S8x1536.Idx) (p : S8192x8192.Idx)
    (p0 : (p 0).val = (min (t.val * 32 + 32) 1023) * 8 + (j 0).val) (p1 : (p 1).val = 6144 + (j 1).val) :
    X0_2 m c t j = arg1 m c p := by
  unfold X0_2 Pipeline.Window.fill
  rw [dif_pos (moved0_2 t j)]
  unfold iblk
  rw [View.read_apply]
  show m ((c.tc : Thread nD τ).loc main_arg1) _ = _
  congr 1
  obtain ⟨f0, f1⟩ := at2 t
  funext a; apply Fin.ext
  match a with
  | ⟨0, _⟩ => show win0_2.index t 0 * 8 + 1 * (j 0).val = (p 0).val; omega
  | ⟨1, _⟩ => show win0_2.index t 1 * 1536 + 1 * (j 1).val = (p 1).val; omega

/-- An element of point `t`'s block of the fourth operand. -/
theorem blk3_at (c : Dev nD) (t : Fin cfg0.N) (j : S8x512.Idx) (p : S8192x512.Idx)
    (p0 : (p 0).val = ((t.val * 32 - 1)) * 8 + (j 0).val) (p1 : (p 1).val = (j 1).val) :
    iblk m c 3 t j = arg0 m c p := by
  unfold iblk
  rw [View.read_apply]
  show m ((c.tc : Thread nD τ).loc main_arg0) _ = _
  congr 1
  obtain ⟨f0, f1⟩ := at3 t
  funext a; apply Fin.ext
  match a with
  | ⟨0, _⟩ => show win0_3.index t 0 * 8 + 1 * (j 0).val = (p 0).val; omega
  | ⟨1, _⟩ => show win0_3.index t 1 * 512 + 1 * (j 1).val = (p 1).val; omega

/-- An element of point `t`'s block of the fifth operand. -/
theorem blk4_at (c : Dev nD) (t : Fin cfg0.N) (j : S256x512.Idx) (p : S8192x512.Idx)
    (p0 : (p 0).val = (t.val) * 256 + (j 0).val) (p1 : (p 1).val = (j 1).val) :
    iblk m c 4 t j = arg0 m c p := by
  unfold iblk
  rw [View.read_apply]
  show m ((c.tc : Thread nD τ).loc main_arg0) _ = _
  congr 1
  obtain ⟨f0, f1⟩ := at4 t
  funext a; apply Fin.ext
  match a with
  | ⟨0, _⟩ => show win0_4.index t 0 * 256 + 1 * (j 0).val = (p 0).val; omega
  | ⟨1, _⟩ => show win0_4.index t 1 * 512 + 1 * (j 1).val = (p 1).val; omega

/-- An element of point `t`'s block of the sixth operand. -/
theorem blk5_at (c : Dev nD) (t : Fin cfg0.N) (j : S8x512.Idx) (p : S8192x512.Idx)
    (p0 : (p 0).val = (min (t.val * 32 + 32) 1023) * 8 + (j 0).val) (p1 : (p 1).val = (j 1).val) :
    iblk m c 5 t j = arg0 m c p := by
  unfold iblk
  rw [View.read_apply]
  show m ((c.tc : Thread nD τ).loc main_arg0) _ = _
  congr 1
  obtain ⟨f0, f1⟩ := at5 t
  funext a; apply Fin.ext
  match a with
  | ⟨0, _⟩ => show win0_5.index t 0 * 8 + 1 * (j 0).val = (p 0).val; omega
  | ⟨1, _⟩ => show win0_5.index t 1 * 512 + 1 * (j 1).val = (p 1).val; omega

/-- An element of the taps. -/
theorem blk6_at (c : Dev nD) (t : Fin cfg0.N) (j : S3x512.Idx) : iblk m c 6 t j = arg2 m c j := by
  unfold iblk
  rw [View.read_apply]
  show m ((c.tc : Thread nD τ).loc main_arg2) _ = _
  congr 1
  obtain ⟨f0, f1⟩ := at6 t
  funext a; apply Fin.ext
  match a with
  | ⟨0, _⟩ => show win0_6.index t 0 * 3 + 1 * (j 0).val = (j 0).val; omega
  | ⟨1, _⟩ => show win0_6.index t 1 * 512 + 1 * (j 1).val = (j 1).val; omega

/-- When a point has rows before its own. -/
theorem before_iff : ∀ t : Fin cfg0.N, Scalar.cmpi .sgt (BitVec.ofNat 32 (grid0.coords t 0).val) 0#32 = if t.val = 0 then 0#1 else 1#1 :=
  (by decide +kernel : ∀ t : Fin grid0.N, _)

/-- When a point has rows after its own. -/
theorem behind_iff : ∀ t : Fin cfg0.N, Scalar.cmpi .slt (BitVec.ofNat 32 (grid0.coords t 0).val) 31#32 = if t.val = 31 then 0#1 else 1#1 :=
  (by decide +kernel : ∀ t : Fin grid0.N, _)

/-- Row `r` of the input's rows before, the point's own and the rows after, stacked; zero outside the array. -/
def row (i : grid0.Coords) (a b : Vec Ideal S8x1536 .f32) (x : Vec Ideal S256x1536 .f32) (k : Fin 1536) (r : ℕ) (hr : r < 272) : EReal :=
  if h : r < 8 then
    Scalar.select (Scalar.cmpi .sgt (BitVec.ofNat 32 (i 0).val) 0#32) (a (ValueIdx.ix2 (⟨r, h⟩ : Fin 8) k)) 0
  else if h' : r - 8 < 256 then x (ValueIdx.ix2 (⟨r - 8, h'⟩ : Fin 256) k)
  else Scalar.select (Scalar.cmpi .slt (BitVec.ofNat 32 (i 0).val) 31#32) (b (ValueIdx.ix2 (⟨r - 8 - 256, by omega⟩ : Fin 8) k)) 0

/-- Row `r` of the arriving gradient's rows, stacked the same way. -/
def rowd (i : grid0.Coords) (a b : Vec Ideal S8x512 .f32) (x : Vec Ideal S256x512 .f32) (k : Fin 512) (r : ℕ) (hr : r < 272) : EReal :=
  if h : r < 8 then
    Scalar.select (Scalar.cmpi .sgt (BitVec.ofNat 32 (i 0).val) 0#32) (a (ValueIdx.ix2 (⟨r, h⟩ : Fin 8) k)) 0
  else if h' : r - 8 < 256 then x (ValueIdx.ix2 (⟨r - 8, h'⟩ : Fin 256) k)
  else Scalar.select (Scalar.cmpi .slt (BitVec.ofNat 32 (i 0).val) 31#32) (b (ValueIdx.ix2 (⟨r - 8 - 256, by omega⟩ : Fin 8) k)) 0

/-- A column of the first part. -/
abbrev first (l : Fin 512) : Fin 1536 := ⟨l.val, by omega⟩

/-- A column of the second part. -/
abbrev second (l : Fin 512) : Fin 1536 := ⟨512 + l.val, by omega⟩

/-- A column of the third part. -/
abbrev third (l : Fin 512) : Fin 1536 := ⟨1024 + l.val, by omega⟩

/-- The stacked rows, at an index. -/
theorem pay5_at (i : grid0.Coords) (a b : Vec Ideal S8x1536 .f32) (x : Vec Ideal S256x1536 .f32) (r : Fin 272) (k : Fin 1536) :
    (k0_pay5 i a b x : Vec Ideal S272x1536 .f32) (ValueIdx.ix2 r k) = row i a b x k r.val r.isLt := by
  unfold k0_pay5
  pointwise
  rfl

/-- The second part of the stacked rows, at an index. -/
theorem pay6_at (i : grid0.Coords) (a b : Vec Ideal S8x1536 .f32) (x : Vec Ideal S256x1536 .f32) (r : Fin 272) (l : Fin 512) :
    (k0_pay6 i a b x : Vec Ideal S272x512 .f32) (ValueIdx.ix2 r l) = row i a b x (second l) r.val r.isLt := by
  refine Eq.trans ?_ (pay5_at i a b x r (second l))
  unfold k0_pay6
  generalize (k0_pay5 i a b x : Vec Ideal S272x1536 .f32) = q
  pointwise
  rfl

/-- The third part of the stacked rows, at an index. -/
theorem pay7_at (i : grid0.Coords) (a b : Vec Ideal S8x1536 .f32) (x : Vec Ideal S256x1536 .f32) (r : Fin 272) (l : Fin 512) :
    (k0_pay7 i a b x : Vec Ideal S272x512 .f32) (ValueIdx.ix2 r l) = row i a b x (third l) r.val r.isLt := by
  refine Eq.trans ?_ (pay5_at i a b x r (third l))
  unfold k0_pay7
  generalize (k0_pay5 i a b x : Vec Ideal S272x1536 .f32) = q
  pointwise
  rfl

/-- The gated input, at an index. -/
theorem pay8_at (i : grid0.Coords) (a b : Vec Ideal S8x1536 .f32) (x : Vec Ideal S256x1536 .f32) (r : Fin 272) (l : Fin 512) :
    (k0_pay8 i a b x : Vec Ideal S272x512 .f32) (ValueIdx.ix2 r l) = row i a b x (second l) r.val r.isLt * row i a b x (third l) r.val r.isLt := by
  refine Eq.trans ?_ (congrArg₂ (· * ·) (pay6_at i a b x r l) (pay7_at i a b x r l))
  unfold k0_pay8
  generalize (k0_pay6 i a b x : Vec Ideal S272x512 .f32) = q
  generalize (k0_pay7 i a b x : Vec Ideal S272x512 .f32) = q'
  pointwise

/-- The convolution's gradient, at an index. -/
theorem pay9_at (i : grid0.Coords) (a b : Vec Ideal S8x1536 .f32) (x : Vec Ideal S256x1536 .f32) (e f : Vec Ideal S8x512 .f32) (d : Vec Ideal S256x512 .f32) (r : Fin 272) (l : Fin 512) :
    (k0_pay9 i a b x e f d : Vec Ideal S272x512 .f32) (ValueIdx.ix2 r l) = rowd i e f d l r.val r.isLt * row i a b x (first l) r.val r.isLt := by
  refine Eq.trans ?_ (congrArg (fun z : EReal => rowd i e f d l r.val r.isLt * z) (pay5_at i a b x r (first l)))
  unfold k0_pay9
  generalize (k0_pay5 i a b x : Vec Ideal S272x1536 .f32) = q
  pointwise
  rfl

/-- A row of a stack, `o` rows down. -/
abbrev at_ (q : Vec Ideal S272x512 .f32) (o : ℕ) (ho : o ≤ 9) (j : Fin 256) (l : Fin 512) : EReal := q (ValueIdx.ix2 (⟨o + j.val, by omega⟩ : Fin 272) l)

/-- The gradient of the first part, at an index. -/
theorem pay1_at (x : Vec Ideal S272x512 .f32) (w : Vec Ideal S3x512 .f32) (g : Vec Ideal S256x512 .f32) (j : Fin 256) (l : Fin 512) :
    (k0_pay1 x w g : Vec Ideal S256x512 .bf16) (ValueIdx.ix2 j l)
      = g (ValueIdx.ix2 j l) * (at_ x 7 (by omega) j l * w (ValueIdx.ix2 (0 : Fin 3) l) + at_ x 8 (by omega) j l * w (ValueIdx.ix2 (1 : Fin 3) l) + at_ x 9 (by omega) j l * w (ValueIdx.ix2 (2 : Fin 3) l)) := by
  unfold k0_pay1
  pointwise
  have e1 : (8 + (ValueIdx.ix2 j l 0 : Fin 256).val + 272 - 1) % 272 = 7 + j.val := by show (8 + j.val + 272 - 1) % 272 = 7 + j.val; omega
  have e3 : (8 + (ValueIdx.ix2 j l 0 : Fin 256).val + 272 - 271) % 272 = 9 + j.val := by show (8 + j.val + 272 - 271) % 272 = 9 + j.val; omega
  simp only [e1, e3]
  rfl

/-- What arrives at the gated input, at an index. -/
theorem pay14_at (x : Vec Ideal S272x512 .f32) (w : Vec Ideal S3x512 .f32) (j : Fin 256) (l : Fin 512)
    (g : Vec Ideal S256x512 .f32) (hg : (g (ValueIdx.ix2 j l) : EReal) = at_ x 9 (by omega) j l) :
    (k0_pay14 w x g (k0_pay11 w) : Vec Ideal S256x512 .f32) (ValueIdx.ix2 j l)
      = at_ x 9 (by omega) j l * w (ValueIdx.ix2 (0 : Fin 3) l) + at_ x 8 (by omega) j l * w (ValueIdx.ix2 (1 : Fin 3) l) + at_ x 7 (by omega) j l * w (ValueIdx.ix2 (2 : Fin 3) l) := by
  rw [← hg]
  unfold k0_pay14 k0_pay11
  pointwise
  have e1 : (8 + (ValueIdx.ix2 j l 0 : Fin 256).val + 272 - 1) % 272 = 7 + j.val := by show (8 + j.val + 272 - 1) % 272 = 7 + j.val; omega
  simp only [e1]
  rfl

/-- The convolution's gradient a row further, at an index. -/
theorem pay10_at (i : grid0.Coords) (a b : Vec Ideal S8x1536 .f32) (x : Vec Ideal S256x1536 .f32) (e f : Vec Ideal S8x512 .f32) (d : Vec Ideal S256x512 .f32) (j : Fin 256) (l : Fin 512) :
    (k0_pay10 i a b x e f d : Vec Ideal S256x512 .f32) (ValueIdx.ix2 j l) = at_ (k0_pay9 i a b x e f d) 9 (by omega) j l := by
  unfold k0_pay10
  generalize (k0_pay9 i a b x e f d : Vec Ideal S272x512 .f32) = q
  pointwise
  have e3 : (8 + (ValueIdx.ix2 j l 0 : Fin 256).val + 272 - 271) % 272 = 9 + j.val := by show (8 + j.val + 272 - 271) % 272 = 9 + j.val; omega
  simp only [e3]
  rfl

/-- The gradient of the second part, at an index. -/
theorem pay2_at (x : Vec Ideal S272x512 .f32) (g : Vec Ideal S256x512 .f32) (j : Fin 256) (l : Fin 512) :
    (k0_pay2 (F := Ideal) x g : Vec Ideal S256x512 .bf16) (ValueIdx.ix2 j l) = g (ValueIdx.ix2 j l) * at_ x 8 (by omega) j l := by
  unfold k0_pay2
  pointwise
  rfl

/-- The gradient of the third part, at an index. -/
theorem pay3_at (x : Vec Ideal S272x512 .f32) (g : Vec Ideal S256x512 .f32) (j : Fin 256) (l : Fin 512) :
    (k0_pay3 (F := Ideal) x g : Vec Ideal S256x512 .bf16) (ValueIdx.ix2 j l) = g (ValueIdx.ix2 j l) * at_ x 8 (by omega) j l := by
  unfold k0_pay3
  pointwise
  rfl

/-- The first tap's gradient after a block, at an index. -/
theorem pay12_at (x d : Vec Ideal S272x512 .f32) (a : Vec Ideal S1x512 .f32) (b : EReal) (l : Fin 512) (e : (a (ValueIdx.ix2 (0 : Fin 1) l) : EReal) = b) :
    (k0_pay12 x d a : Vec Ideal S1x512 .f32) (ValueIdx.ix2 (0 : Fin 1) l)
      = b + ∑ j : Fin 256, at_ d 8 (by omega) j l * at_ x 7 (by omega) j l := by
  rw [← e]
  unfold k0_pay12
  pointwise
  have e1 : ∀ j : Fin 256, (8 + j.val + 272 - 1) % 272 = 7 + j.val := fun j => by omega
  simp only [e1]
  try rfl

/-- The second tap's gradient after a block, at an index. -/
theorem pay13_at (x d : Vec Ideal S272x512 .f32) (a : Vec Ideal S1x512 .f32) (b : EReal) (l : Fin 512) (e : (a (ValueIdx.ix2 (0 : Fin 1) l) : EReal) = b) :
    (k0_pay13 x d a : Vec Ideal S1x512 .f32) (ValueIdx.ix2 (0 : Fin 1) l)
      = b + ∑ j : Fin 256, at_ d 8 (by omega) j l * at_ x 8 (by omega) j l := by
  rw [← e]
  unfold k0_pay13
  pointwise
  try rfl

/-- The third tap's gradient after a block, at an index. -/
theorem pay15_at (x d : Vec Ideal S272x512 .f32) (a : Vec Ideal S1x512 .f32) (b : EReal) (l : Fin 512) (e : (a (ValueIdx.ix2 (0 : Fin 1) l) : EReal) = b) :
    (k0_pay15 x d a : Vec Ideal S1x512 .f32) (ValueIdx.ix2 (0 : Fin 1) l)
      = b + ∑ j : Fin 256, at_ d 8 (by omega) j l * at_ x 9 (by omega) j l := by
  rw [← e]
  unfold k0_pay15
  pointwise
  have e3 : ∀ j : Fin 256, (8 + j.val + 272 - 271) % 272 = 9 + j.val := fun j => by omega
  simp only [e3]
  try rfl

/-- The array the accumulator starts from. -/
theorem pay4_at (y : S8x512.Idx) : (k0_pay4 (F := Ideal) y : EReal) = 0 := by
  unfold k0_pay4
  idx_vars y
  pointwise

/-- Row `q - 8` of the input, column `6144 + k`; zero outside. -/
def line (c : Dev nD) (k : Fin 1536) (q : ℕ) : EReal :=
  if h : 8 ≤ q ∧ q < 8200 then arg1 m c (ValueIdx.ix2 (⟨q - 8, by omega⟩ : Fin 8192) (⟨6144 + k.val, by omega⟩ : Fin 8192)) else 0

/-- Row `q - 8` of the arriving gradient; zero outside. -/
def lined (c : Dev nD) (l : Fin 512) (q : ℕ) : EReal :=
  if h : 8 ≤ q ∧ q < 8200 then arg0 m c (ValueIdx.ix2 (⟨q - 8, by omega⟩ : Fin 8192) l) else 0

/-- The input's stacked row is a row of the array. -/
theorem row_at (c : Dev nD) (t : Fin cfg0.N) (k : Fin 1536) (r : ℕ) (hr : r < 272) :
    row (grid0.coords t) (X0_0 m c t) (X0_2 m c t) (X0_1 m c t) k r hr = line m c k (t.val * 256 + r) := by
  have ht : t.val < 32 := t.isLt
  unfold row line
  rw [before_iff, behind_iff]
  by_cases h : r < 8
  · rw [dif_pos h]
    by_cases h0 : t.val = 0
    · rw [if_pos h0, dif_neg (by omega)]; rfl
    · rw [if_neg h0, dif_pos ⟨by omega, by omega⟩]
      exact blk0_at m c t _ _ (by show t.val * 256 + r - 8 = (t.val * 32 - 1) * 8 + r; omega) rfl
  rw [dif_neg h]
  by_cases h' : r - 8 < 256
  · rw [dif_pos h', dif_pos ⟨by omega, by omega⟩]
    exact blk1_at m c t _ _ (by show t.val * 256 + r - 8 = t.val * 256 + (r - 8); omega) rfl
  rw [dif_neg h']
  by_cases h0 : t.val = 31
  · rw [if_pos h0, dif_neg (by omega)]; rfl
  · rw [if_neg h0, dif_pos ⟨by omega, by omega⟩]
    exact blk2_at m c t _ _ (by show t.val * 256 + r - 8 = min (t.val * 32 + 32) 1023 * 8 + (r - 8 - 256); omega) rfl

/-- The arriving gradient's stacked row is a row of the array. -/
theorem rowd_at (c : Dev nD) (t : Fin cfg0.N) (k : Fin 512) (r : ℕ) (hr : r < 272) :
    rowd (grid0.coords t) (iblk m c 3 t) (iblk m c 5 t) (iblk m c 4 t) k r hr = lined m c k (t.val * 256 + r) := by
  have ht : t.val < 32 := t.isLt
  unfold rowd lined
  rw [before_iff, behind_iff]
  by_cases h : r < 8
  · rw [dif_pos h]
    by_cases h0 : t.val = 0
    · rw [if_pos h0, dif_neg (by omega)]; rfl
    · rw [if_neg h0, dif_pos ⟨by omega, by omega⟩]
      exact blk3_at m c t _ _ (by show t.val * 256 + r - 8 = (t.val * 32 - 1) * 8 + r; omega) rfl
  rw [dif_neg h]
  by_cases h' : r - 8 < 256
  · rw [dif_pos h', dif_pos ⟨by omega, by omega⟩]
    exact blk4_at m c t _ _ (by show t.val * 256 + r - 8 = t.val * 256 + (r - 8); omega) rfl
  rw [dif_neg h']
  by_cases h0 : t.val = 31
  · rw [if_pos h0, dif_neg (by omega)]; rfl
  · rw [if_neg h0, dif_pos ⟨by omega, by omega⟩]
    exact blk5_at m c t _ _ (by show t.val * 256 + r - 8 = min (t.val * 32 + 32) 1023 * 8 + (r - 8 - 256); omega) rfl

/-- The gated input's row `q - 8`. -/
def cross (c : Dev nD) (l : Fin 512) (q : ℕ) : EReal := line m c (second l) q * line m c (third l) q
/-- The convolution's gradient's row `q - 8`. -/
def grad (c : Dev nD) (l : Fin 512) (q : ℕ) : EReal := lined m c l q * line m c (first l) q

/-- The stacked gated input at point `t`. -/
abbrev xs (c : Dev nD) (t : Fin cfg0.N) : Vec Ideal S272x512 .f32 := k0_pay8 (grid0.coords t) (X0_0 m c t) (X0_2 m c t) (X0_1 m c t)
/-- The stacked gradient at point `t`. -/
abbrev ds (c : Dev nD) (t : Fin cfg0.N) : Vec Ideal S272x512 .f32 :=
  k0_pay9 (grid0.coords t) (X0_0 m c t) (X0_2 m c t) (X0_1 m c t) (iblk m c 3 t) (iblk m c 5 t) (iblk m c 4 t)

/-- The stacked gated input is the gated input. -/
theorem xs_at (c : Dev nD) (t : Fin cfg0.N) (o : ℕ) (ho : o ≤ 9) (j : Fin 256) (l : Fin 512) (q : ℕ) (hq : q = t.val * 256 + (o + j.val)) :
    at_ (xs m c t) o ho j l = cross m c l q := by
  subst hq
  refine (pay8_at _ _ _ _ _ _).trans ?_
  rw [row_at, row_at]
  rfl

/-- The stacked gradient is the gradient. -/
theorem ds_at (c : Dev nD) (t : Fin cfg0.N) (o : ℕ) (ho : o ≤ 9) (j : Fin 256) (l : Fin 512) (q : ℕ) (hq : q = t.val * 256 + (o + j.val)) :
    at_ (ds m c t) o ho j l = grad m c l q := by
  subst hq
  refine (pay9_at _ _ _ _ _ _ _ _ _).trans ?_
  rw [row_at, rowd_at]
  rfl

/-- A tap. -/
abbrev tap (c : Dev nD) (k : Fin 3) (l : Fin 512) : EReal := arg2 m c (ValueIdx.ix2 k l)

/-- What the convolution gives. -/
def conv (c : Dev nD) (l : Fin 512) (r : ℕ) : EReal := cross m c l (r + 7) * tap m c 0 l + cross m c l (r + 8) * tap m c 1 l + cross m c l (r + 9) * tap m c 2 l
/-- What arrives at the gated input. -/
def back (c : Dev nD) (l : Fin 512) (r : ℕ) : EReal := grad m c l (r + 9) * tap m c 0 l + grad m c l (r + 8) * tap m c 1 l + grad m c l (r + 7) * tap m c 2 l

/-- The gradient of the first part, as one function of the arguments. -/
def out1 (c : Dev nD) (r : Fin 8192) (l : Fin 512) : EReal := arg0 m c (ValueIdx.ix2 r l) * conv m c l r.val
/-- The gradient of the second part, as one function of the arguments. -/
def out2 (c : Dev nD) (r : Fin 8192) (l : Fin 512) : EReal := back m c l r.val * line m c (third l) (r.val + 8)
/-- The gradient of the third part, as one function of the arguments. -/
def out3 (c : Dev nD) (r : Fin 8192) (l : Fin 512) : EReal := back m c l r.val * line m c (second l) (r.val + 8)

/-- What a point writes of the first part. -/
theorem piece1 (c : Dev nD) (t : Fin cfg0.N) (j : Fin 256) (l : Fin 512) (z : Fin 8192) (z0 : z.val = t.val * 256 + j.val) :
    (k0_pay1 (xs m c t) (iblk m c 6 t) (iblk m c 4 t) : Vec Ideal S256x512 .bf16) (ValueIdx.ix2 j l) = out1 m c z l := by
  refine (pay1_at _ _ _ j l).trans ?_
  rw [xs_at m c t 7 _ j l (z.val + 7) (by omega), xs_at m c t 8 _ j l (z.val + 8) (by omega), xs_at m c t 9 _ j l (z.val + 9) (by omega)]
  unfold out1 conv
  refine congrArg₂ (· * ·) (blk4_at m c t _ _ z0 rfl) ?_
  exact congrArg₂ (· + ·) (congrArg₂ (· + ·) (congrArg (_ * ·) (blk6_at m c t _)) (congrArg (_ * ·) (blk6_at m c t _))) (congrArg (_ * ·) (blk6_at m c t _))

/-- What arrives at a point's gated input. -/
abbrev gs (c : Dev nD) (t : Fin cfg0.N) : Vec Ideal S256x512 .f32 :=
  k0_pay14 (iblk m c 6 t) (ds m c t) (k0_pay10 (grid0.coords t) (X0_0 m c t) (X0_2 m c t) (X0_1 m c t) (iblk m c 3 t) (iblk m c 5 t) (iblk m c 4 t)) (k0_pay11 (iblk m c 6 t))

/-- What arrives at a point's gated input is what arrives there. -/
theorem gs_at (c : Dev nD) (t : Fin cfg0.N) (j : Fin 256) (l : Fin 512) (z : ℕ) (z0 : z = t.val * 256 + j.val) :
    (gs m c t (ValueIdx.ix2 j l) : EReal) = back m c l z := by
  refine (pay14_at _ _ j l _ (pay10_at _ _ _ _ _ _ _ j l)).trans ?_
  rw [ds_at m c t 7 _ j l (z + 7) (by omega), ds_at m c t 8 _ j l (z + 8) (by omega), ds_at m c t 9 _ j l (z + 9) (by omega)]
  unfold back
  exact congrArg₂ (· + ·) (congrArg₂ (· + ·) (congrArg (_ * ·) (blk6_at m c t _)) (congrArg (_ * ·) (blk6_at m c t _))) (congrArg (_ * ·) (blk6_at m c t _))

/-- What a point writes of the second part. -/
theorem piece2 (c : Dev nD) (t : Fin cfg0.N) (j : Fin 256) (l : Fin 512) (z : Fin 8192) (z0 : z.val = t.val * 256 + j.val) :
    (k0_pay2 (k0_pay7 (grid0.coords t) (X0_0 m c t) (X0_2 m c t) (X0_1 m c t)) (gs m c t) : Vec Ideal S256x512 .bf16) (ValueIdx.ix2 j l) = out2 m c z l := by
  refine (pay2_at _ _ j l).trans ?_
  rw [gs_at m c t j l z.val z0]
  unfold out2
  refine congrArg (_ * ·) ((pay7_at _ _ _ _ _ _).trans ?_)
  rw [row_at]
  exact congrArg (line m c (third l)) (by show t.val * 256 + (8 + j.val) = z.val + 8; omega)

/-- What a point writes of the third part. -/
theorem piece3 (c : Dev nD) (t : Fin cfg0.N) (j : Fin 256) (l : Fin 512) (z : Fin 8192) (z0 : z.val = t.val * 256 + j.val) :
    (k0_pay3 (k0_pay6 (grid0.coords t) (X0_0 m c t) (X0_2 m c t) (X0_1 m c t)) (gs m c t) : Vec Ideal S256x512 .bf16) (ValueIdx.ix2 j l) = out3 m c z l := by
  refine (pay3_at _ _ j l).trans ?_
  rw [gs_at m c t j l z.val z0]
  unfold out3
  refine congrArg (_ * ·) ((pay6_at _ _ _ _ _ _).trans ?_)
  rw [row_at]
  exact congrArg (line m c (second l)) (by show t.val * 256 + (8 + j.val) = z.val + 8; omega)

/-- What point `t` adds to the accumulator. -/
def term (c : Dev nD) (t : Fin cfg0.N) (y : S8x512.Idx) : EReal :=
  if (y (0 : Fin 2)).val = 2 then ∑ j : Fin 256, at_ (ds m c t) 8 (by omega) j (y 1) * at_ (xs m c t) 9 (by omega) j (y 1)
  else if (y (0 : Fin 2)).val = 1 then ∑ j : Fin 256, at_ (ds m c t) 8 (by omega) j (y 1) * at_ (xs m c t) 8 (by omega) j (y 1)
  else if (y (0 : Fin 2)).val = 0 then ∑ j : Fin 256, at_ (ds m c t) 8 (by omega) j (y 1) * at_ (xs m c t) 7 (by omega) j (y 1)
  else 0

/-- The accumulator after the first point. -/
theorem acc_first (c : Dev nD) (t : Fin cfg0.N) (h0 : t.val % 32 = 0) (y : S8x512.Idx) :
    ((outsAt0 m c t.val t.isLt).2 y : EReal) = 0 + term m c t y := by
  rw [outsAt0_A m c t h0]; frame_out
  unfold term
  by_cases b2 : (y (0 : Fin 2)).val = 2
  · rw [if_pos b2]
    refine (Rows.hit 2 _ _ _ y b2).trans (pay15_at _ _ _ _ _ ?_)
    rw [View.readCov_eq_canon']
    refine (Rows.miss 1 _ _ _ _ (by show ¬(2 + 1 * 0 = 1); omega)).trans ?_
    refine (Rows.miss 0 _ _ _ _ (by show ¬(2 + 1 * 0 = 0); omega)).trans ?_
    exact (congrFun (View.canon_unit_zero origin2 ..) _).trans (pay4_at _)
  rw [if_neg b2]
  refine (Rows.miss 2 _ _ _ y b2).trans ?_
  by_cases b1 : (y (0 : Fin 2)).val = 1
  · rw [if_pos b1]
    refine (Rows.hit 1 _ _ _ y b1).trans (pay13_at _ _ _ _ _ ?_)
    rw [View.readCov_eq_canon']
    refine (Rows.miss 0 _ _ _ _ (by show ¬(1 + 1 * 0 = 0); omega)).trans ?_
    exact (congrFun (View.canon_unit_zero origin2 ..) _).trans (pay4_at _)
  rw [if_neg b1]
  refine (Rows.miss 1 _ _ _ y b1).trans ?_
  by_cases b : (y (0 : Fin 2)).val = 0
  · rw [if_pos b]
    refine (Rows.hit 0 _ _ _ y b).trans (pay12_at _ _ _ _ _ ?_)
    rw [View.readCov_eq_canon']
    exact (congrFun (View.canon_unit_zero origin2 ..) _).trans (pay4_at _)
  · rw [if_neg b]
    refine (Rows.miss 0 _ _ _ y b).trans ?_
    exact (congrFun (View.canon_unit_zero origin2 ..) _).trans ((pay4_at _).trans (add_zero _).symm)

/-- An index, from its row. -/
theorem at_row (y : S8x512.Idx) (r : ℕ) (hr : r < 8) (b : (y (0 : Fin 2)).val = r) :
    (ValueIdx.ix2 (⟨r, hr⟩ : Fin 8) (y 1 : Fin 512) : S8x512.Idx) = y := by
  funext a
  apply Fin.ext
  match a with
  | ⟨0, _⟩ => exact b.symm
  | ⟨1, _⟩ => rfl

/-- The accumulator after a later point. -/
theorem acc_next (c : Dev nD) (t : Fin cfg0.N) (h0 : ¬t.val % 32 = 0) (y : S8x512.Idx) :
    ((outsAt0 m c t.val t.isLt).2 y : EReal)
      = (outsAt0 m c (t.val - 1) (Nat.lt_of_le_of_lt (Nat.sub_le _ _) t.isLt)).2 y + term m c t y := by
  rw [outsAt0_B m c t h0]; frame_out
  generalize (outsAt0 m c (t.val - 1) (Nat.lt_of_le_of_lt (Nat.sub_le _ _) t.isLt)).2 = X
  unfold term
  by_cases b2 : (y (0 : Fin 2)).val = 2
  · rw [if_pos b2]
    refine (View.read_writes_cons_rows_of_mem _ _ _ _ _ y (ValueIdx.ix2 (0 : Fin 1) (y 1)) rfl (by show (y 0).val = 2 + 0; omega) rfl).trans (pay15_at _ _ _ _ _ ?_)
    exact (Rows.row 2 (by decide) _ X _).trans (congrArg X (at_row y 2 (by decide) b2))
  rw [if_neg b2]
  refine (View.read_writes_cons_rows_of_not_mem (W := 1) _ _ _ _ _ y rfl rfl (by show (y 0).val < 2 ∨ 2 + 1 ≤ (y 0).val; have : (y 0).val ≠ 2 := b2; omega)).trans ?_
  by_cases b1 : (y (0 : Fin 2)).val = 1
  · rw [if_pos b1]
    refine (View.read_writes_cons_rows_of_mem _ _ _ _ _ y (ValueIdx.ix2 (0 : Fin 1) (y 1)) rfl (by show (y 0).val = 1 + 0; omega) rfl).trans (pay13_at _ _ _ _ _ ?_)
    exact (Rows.row 1 (by decide) _ X _).trans (congrArg X (at_row y 1 (by decide) b1))
  rw [if_neg b1]
  refine (View.read_writes_cons_rows_of_not_mem (W := 1) _ _ _ _ _ y rfl rfl (by show (y 0).val < 1 ∨ 1 + 1 ≤ (y 0).val; have : (y 0).val ≠ 1 := b1; omega)).trans ?_
  by_cases b : (y (0 : Fin 2)).val = 0
  · rw [if_pos b]
    refine (View.read_writes_cons_rows_of_mem _ _ _ _ _ y (ValueIdx.ix2 (0 : Fin 1) (y 1)) rfl (by show (y 0).val = 0 + 0; omega) rfl).trans (pay12_at _ _ _ _ _ ?_)
    exact (Rows.row 0 (by decide) _ X _).trans (congrArg X (at_row y 0 (by decide) b))
  · rw [if_neg b]
    refine (View.read_writes_cons_rows_of_not_mem (W := 1) _ _ _ _ _ y rfl rfl (by show (y 0).val < 0 ∨ 0 + 1 ≤ (y 0).val; have : (y 0).val ≠ 0 := b; omega)).trans ?_
    refine Eq.trans ?_ (add_zero _).symm
    exact congrFun ((hs0_8 t).read_unread X) y

/-- The accumulator after the last point. -/
theorem acc_last (c : Dev nD) (t : Fin cfg0.N) (ht : t.val + 1 = cfg0.N) (y : S8x512.Idx) :
    ((outsAt0 m c t.val t.isLt).2 y : EReal) = 0 + ∑ p : Fin cfg0.N, term m c p y :=
  Pipeline.eq_sum_fin_of_reset_step_apply_last (fun n h => (outsAt0 m c n h).2) 32 (fun _ => (0 : EReal)) (term m c)
    (acc_first m c) (acc_next m c) (by rw [show cfg0.N = 32 from N_0]) t ht y

/-- The second array the launch leaves. -/
theorem result8 (c : Dev nD) : (dats m 0 c).arrAt 8 cfg0.N = (fun i => 0 + ∑ p : Fin cfg0.N, term m c p i : S8x512.Idx → EReal) := by
  refine (dats m 0 c).arrAt_eq_of_covers 8 _ (by decide +kernel) fun t hf y => ?_
  blk_simp
  rw [after0_8]
  obtain ⟨f0, f1⟩ := at8 t
  have e : (win0_8.blk t).view.emb y = y := by
    funext a
    apply Fin.ext
    match a with
    | ⟨0, _⟩ => show win0_8.index t 0 * 8 + 1 * (y 0).val = (y 0).val; omega
    | ⟨1, _⟩ => show win0_8.index t 1 * 512 + 1 * (y 1).val = (y 1).val; omega
  rw [e]
  have hN : cfg0.N = 32 := N_0
  have ht := (flush0_8 t).mp hf
  exact acc_last m c t (by have := t.isLt; omega) y

/-- The sums over the blocks are sums over all rows. -/
theorem sums (f : Fin 8192 → EReal) (g : Fin cfg0.N → EReal)
    (hf : ∀ (p : Fin cfg0.N) (hp : p.val < 32), g p = ∑ k : Fin 256, f ⟨p.val * 256 + k.val, by omega⟩) :
    ∑ p : Fin cfg0.N, g p = ∑ k : Fin 8192, f k := by
  have hN : cfg0.N = 32 := N_0
  refine Eq.trans ?_ (Fin.sum_mul_add_fin 32 256 _)
  refine Fin.sum_congr' _ hN |>.symm.trans ?_
  exact Finset.sum_congr rfl fun p _ => hf _ p.isLt

/-- The first tap's gradient. -/
theorem row_first (c : Dev nD) (y : S8x512.Idx) (b : (y (0 : Fin 2)).val = 0) :
    0 + ∑ p : Fin cfg0.N, term m c p y = ∑ k : Fin 8192, grad m c (y 1) (k.val + 8) * cross m c (y 1) (k.val + 7) := by
  rw [zero_add]
  refine sums _ _ fun p hp => ?_
  unfold term
  rw [if_neg (by omega), if_neg (by omega), if_pos b]
  refine Finset.sum_congr rfl fun k _ => ?_
  exact congrArg₂ (· * ·) (ds_at m c p 8 (by omega) k (y 1) (p.val * 256 + k.val + 8) (by omega)) (xs_at m c p 7 (by omega) k (y 1) (p.val * 256 + k.val + 7) (by omega))

/-- The second tap's gradient. -/
theorem row_second (c : Dev nD) (y : S8x512.Idx) (b : (y (0 : Fin 2)).val = 1) :
    0 + ∑ p : Fin cfg0.N, term m c p y = ∑ k : Fin 8192, grad m c (y 1) (k.val + 8) * cross m c (y 1) (k.val + 8) := by
  rw [zero_add]
  refine sums _ _ fun p hp => ?_
  unfold term
  rw [if_neg (by omega), if_pos b]
  refine Finset.sum_congr rfl fun k _ => ?_
  exact congrArg₂ (· * ·) (ds_at m c p 8 (by omega) k (y 1) (p.val * 256 + k.val + 8) (by omega)) (xs_at m c p 8 (by omega) k (y 1) (p.val * 256 + k.val + 8) (by omega))

/-- The third tap's gradient. -/
theorem row_third (c : Dev nD) (y : S8x512.Idx) (b : (y (0 : Fin 2)).val = 2) :
    0 + ∑ p : Fin cfg0.N, term m c p y = ∑ k : Fin 8192, grad m c (y 1) (k.val + 8) * cross m c (y 1) (k.val + 9) := by
  rw [zero_add]
  refine sums _ _ fun p hp => ?_
  unfold term
  rw [if_pos b]
  refine Finset.sum_congr rfl fun k _ => ?_
  exact congrArg₂ (· * ·) (ds_at m c p 8 (by omega) k (y 1) (p.val * 256 + k.val + 8) (by omega)) (xs_at m c p 9 (by omega) k (y 1) (p.val * 256 + k.val + 9) (by omega))

/-- The first array, as one function of the arguments. -/
def res7 (c : Dev nD) (i : S8192x8192.Idx) : EReal :=
  if h : (i (1 : Fin 2)).val - 6144 < 512 then out1 m c (i 0) ⟨(i (1 : Fin 2)).val - 6144, h⟩
  else if h' : (i (1 : Fin 2)).val - 6144 - 512 < 512 then out2 m c (i 0) ⟨(i (1 : Fin 2)).val - 6144 - 512, h'⟩
  else out3 m c (i 0) ⟨((i (1 : Fin 2)).val - 6144 - 512 - 512) % 512, Nat.mod_lt _ (by decide)⟩

/-- What a point writes of the first part, at an index of the array. -/
theorem first_piece (c : Dev nD) (t : Fin cfg0.N) (x : S256x512.Idx) (z : S8192x8192.Idx)
    (z0 : (z (0 : Fin 2)).val = t.val * 256 + (x (0 : Fin 2)).val) (z1 : (z (1 : Fin 2)).val = 6144 + (x (1 : Fin 2)).val) :
    ((k0_pay1 (xs m c t) (iblk m c 6 t) (iblk m c 4 t) : Vec Ideal S256x512 .bf16) x : EReal) = res7 m c z := by
  idx_vars x
  have z1' : (z 1).val = 6144 + x1.val := z1
  have b := x1.isLt
  unfold res7
  rw [dif_pos (show (z 1).val - 6144 < 512 by omega)]
  exact (piece1 m c t x0 x1 (z 0) z0).trans (congrArg (out1 m c (z 0)) (Fin.ext (by show x1.val = (z 1).val - 6144; omega)))

/-- What a point writes of the second part, at an index of the array. -/
theorem second_piece (c : Dev nD) (t : Fin cfg0.N) (x : S256x512.Idx) (z : S8192x8192.Idx)
    (z0 : (z (0 : Fin 2)).val = t.val * 256 + (x (0 : Fin 2)).val) (z1 : (z (1 : Fin 2)).val = 6656 + (x (1 : Fin 2)).val) :
    ((k0_pay2 (k0_pay7 (grid0.coords t) (X0_0 m c t) (X0_2 m c t) (X0_1 m c t)) (gs m c t) : Vec Ideal S256x512 .bf16) x : EReal) = res7 m c z := by
  idx_vars x
  have z1' : (z 1).val = 6656 + x1.val := z1
  have b := x1.isLt
  unfold res7
  rw [dif_neg (show ¬(z 1).val - 6144 < 512 by omega), dif_pos (show (z 1).val - 6144 - 512 < 512 by omega)]
  exact (piece2 m c t x0 x1 (z 0) z0).trans (congrArg (out2 m c (z 0)) (Fin.ext (by show x1.val = (z 1).val - 6144 - 512; omega)))

/-- What a point writes of the third part, at an index of the array. -/
theorem third_piece (c : Dev nD) (t : Fin cfg0.N) (x : S256x512.Idx) (z : S8192x8192.Idx)
    (z0 : (z (0 : Fin 2)).val = t.val * 256 + (x (0 : Fin 2)).val) (z1 : (z (1 : Fin 2)).val = 7168 + (x (1 : Fin 2)).val) :
    ((k0_pay3 (k0_pay6 (grid0.coords t) (X0_0 m c t) (X0_2 m c t) (X0_1 m c t)) (gs m c t) : Vec Ideal S256x512 .bf16) x : EReal) = res7 m c z := by
  idx_vars x
  have z1' : (z 1).val = 7168 + x1.val := z1
  have b := x1.isLt
  unfold res7
  rw [dif_neg (show ¬(z 1).val - 6144 < 512 by omega), dif_neg (show ¬(z 1).val - 6144 - 512 < 512 by omega)]
  exact (piece3 m c t x0 x1 (z 0) z0).trans (congrArg (out3 m c (z 0)) (Fin.ext (by show x1.val = ((z 1).val - 6144 - 512 - 512) % 512; omega)))

/-- Columns written last, read back. -/
theorem col_hit {e : EltTy} (o : ℕ) (inb : ∀ a : Fin 2, (![0, o] : Fin 2 → ℕ) a + (![256, 512] : Fin 2 → ℕ) a ≤ S256x1536.size a)
    (w : S256x512.Idx → Elt Ideal e) (L : List (View.Piece (Elt Ideal) S256x1536 e)) (y : S256x1536.Idx) (x : S256x512.Idx)
    (h0 : (y (0 : Fin 2)).val = (x (0 : Fin 2)).val) (h1 : (y (1 : Fin 2)).val = o + (x (1 : Fin 2)).val) :
    View.canon ((⟨Rect.unit (s := S256x1536) ![0, o] ![256, 512] inb, w⟩ : View.Piece (Elt Ideal) S256x1536 e) :: L) y = w x := by
  have hy : (Rect.unit (s := S256x1536) ![0, o] ![256, 512] inb).emb x = y := by
    funext a
    apply Fin.ext
    match a with
    | ⟨0, _⟩ => show 0 + 1 * (x (0 : Fin 2)).val = (y (0 : Fin 2)).val; omega
    | ⟨1, _⟩ => show o + 1 * (x (1 : Fin 2)).val = (y (1 : Fin 2)).val; omega
  exact (congrArg _ hy.symm).trans (View.canon_cons_emb (Rect.unit (s := S256x1536) ![0, o] ![256, 512] inb) w L x)

/-- Other columns, read past the columns written last. -/
theorem col_miss {e : EltTy} (o : ℕ) (inb : ∀ a : Fin 2, (![0, o] : Fin 2 → ℕ) a + (![256, 512] : Fin 2 → ℕ) a ≤ S256x1536.size a)
    (w : S256x512.Idx → Elt Ideal e) (L : List (View.Piece (Elt Ideal) S256x1536 e)) (y : S256x1536.Idx) (h : (y (1 : Fin 2)).val < o) :
    View.canon ((⟨Rect.unit (s := S256x1536) ![0, o] ![256, 512] inb, w⟩ : View.Piece (Elt Ideal) S256x1536 e) :: L) y = View.canon L y := by
  refine View.canon_cons_of_not_mem _ L ?_
  show y ∉ (Rect.unit (s := S256x1536) ![0, o] ![256, 512] inb).set
  rw [Rect.mem_set_unit]
  intro hall
  have k := hall (1 : Fin 2)
  have k1 : o ≤ (y (1 : Fin 2)).val := k.1
  omega

/-- Three groups of columns written one after the other, read back. -/
theorem cols {e : EltTy} (i1 i2 i3) (w1 w2 w3 : S256x512.Idx → Elt Ideal e) (y : S256x1536.Idx) (v : Elt Ideal e)
    (e3 : ∀ x : S256x512.Idx, (y (0 : Fin 2)).val = (x (0 : Fin 2)).val → (y (1 : Fin 2)).val = 1024 + (x (1 : Fin 2)).val → w3 x = v)
    (e2 : ∀ x : S256x512.Idx, (y (0 : Fin 2)).val = (x (0 : Fin 2)).val → (y (1 : Fin 2)).val = 512 + (x (1 : Fin 2)).val → w2 x = v)
    (e1 : ∀ x : S256x512.Idx, (y (0 : Fin 2)).val = (x (0 : Fin 2)).val → (y (1 : Fin 2)).val = 0 + (x (1 : Fin 2)).val → w1 x = v) :
    View.canon [(⟨Rect.unit (s := S256x1536) ![0, 1024] ![256, 512] i3, w3⟩ : View.Piece (Elt Ideal) S256x1536 e),
      (⟨Rect.unit (s := S256x1536) ![0, 512] ![256, 512] i2, w2⟩ : View.Piece (Elt Ideal) S256x1536 e),
      (⟨Rect.unit (s := S256x1536) ![0, 0] ![256, 512] i1, w1⟩ : View.Piece (Elt Ideal) S256x1536 e)] y = v := by
  have b : (y (1 : Fin 2)).val < 1536 := (y (1 : Fin 2)).isLt
  have at3 : ∀ o : ℕ, ∀ ho : (y (1 : Fin 2)).val - o < 512, o ≤ (y (1 : Fin 2)).val →
      (y (1 : Fin 2)).val = o + ((ValueIdx.ix2 (y (0 : Fin 2) : Fin 256) (⟨(y (1 : Fin 2)).val - o, ho⟩ : Fin 512) : S256x512.Idx) (1 : Fin 2)).val := by
    intro o ho hle
    show (y (1 : Fin 2)).val = o + ((y (1 : Fin 2)).val - o)
    omega
  by_cases h3 : 1024 ≤ (y (1 : Fin 2)).val
  · exact (col_hit 1024 _ _ _ y _ rfl (at3 1024 (by omega) h3)).trans (e3 _ rfl (at3 1024 (by omega) h3))
  refine (col_miss 1024 _ _ _ y (by omega)).trans ?_
  by_cases h2 : 512 ≤ (y (1 : Fin 2)).val
  · exact (col_hit 512 _ _ _ y _ rfl (at3 512 (by omega) h2)).trans (e2 _ rfl (at3 512 (by omega) h2))
  refine (col_miss 512 _ _ _ y (by omega)).trans ?_
  exact (col_hit 0 _ _ _ y _ rfl (at3 0 (by omega) (by omega))).trans (e1 _ rfl (at3 0 (by omega) (by omega)))

/-- What a point writes of the first array. -/
theorem piece7 (c : Dev nD) (t : Fin cfg0.N) (y : S256x1536.Idx) (z : S8192x8192.Idx)
    (d0 : (z (0 : Fin 2)).val = t.val * 256 + (y (0 : Fin 2)).val) (d1 : (z (1 : Fin 2)).val = 6144 + (y (1 : Fin 2)).val) :
    ((outsAt0 m c t.val t.isLt).1 y : EReal) = res7 m c z := by
  by_cases h0 : t.val % 32 = 0
  · rw [outsAt0_A m c t h0]; frame_out
    exact cols _ _ _ _ _ _ y _ (fun x u v => third_piece m c t x z (by omega) (by omega))
      (fun x u v => second_piece m c t x z (by omega) (by omega))
      (fun x u v => first_piece m c t x z (by omega) (by omega))
  · rw [outsAt0_B m c t h0]; frame_out
    exact cols _ _ _ _ _ _ y _ (fun x u v => third_piece m c t x z (by omega) (by omega))
      (fun x u v => second_piece m c t x z (by omega) (by omega))
      (fun x u v => first_piece m c t x z (by omega) (by omega))

/-- The first array the launch leaves. -/
theorem result7 (c : Dev nD) (i : S8192x8192.Idx) :
    (dats m 0 c).arrAt 7 cfg0.N i = if (i (1 : Fin 2)).val / 1536 = 4 then res7 m c i else (dats m 0 c).A 7 i := by
  refine congrFun ((dats m 0 c).arrAt_eq_of_coversWhere 7 (res7 m c : S8192x8192.Idx → EReal) (P := fun j => (j (1 : Fin 2)).val / 1536 = 4) (fun β => β (1 : Fin 2) = 4) (by decide +kernel)
    (fun t hf y => ?_) (fun j => Iff.rfl)) i
  blk_simp
  rw [after0_7]
  obtain ⟨f0, f1⟩ := at7 t
  have d0 : ((win0_7.blk t).view.emb y 0).val = t.val * 256 + (y 0).val := by
    show win0_7.index t 0 * 256 + 1 * (y 0).val = _; omega
  have d1 : ((win0_7.blk t).view.emb y 1).val = 6144 + (y 1).val := by
    show win0_7.index t 1 * 1536 + 1 * (y 1).val = _; omega
  exact piece7 m c t ((cfg0.win 7).xinj (cfg0.grid.coords t) y) _ d0 d1

/-- Inside the array a row is the array's. -/
theorem line_in (c : Dev nD) (k : Fin 1536) (q : ℕ) (r : Fin 8192) (l : Fin 8192) (h : q = r.val + 8) (hl : l.val = 6144 + k.val) :
    line m c k q = arg1 m c (ValueIdx.ix2 r l) := by
  unfold line
  rw [dif_pos ⟨by omega, by omega⟩]
  have e1 : (⟨q - 8, by omega⟩ : Fin 8192) = r := Fin.ext (by show q - 8 = r.val; omega)
  have e2 : (⟨6144 + k.val, by omega⟩ : Fin 8192) = l := Fin.ext hl.symm
  rw [e1, e2]

/-- Outside the array a row is zero. -/
theorem line_out (c : Dev nD) (k : Fin 1536) (q : ℕ) (h : ¬ (8 ≤ q ∧ q < 8200)) : line m c k q = 0 := by
  unfold line
  rw [dif_neg h]

/-- Inside the array a row of the arriving gradient is the array's. -/
theorem lined_in (c : Dev nD) (l : Fin 512) (q : ℕ) (r : Fin 8192) (l' : Fin 512) (h : q = r.val + 8) (hl : l'.val = l.val) :
    lined m c l q = arg0 m c (ValueIdx.ix2 r l') := by
  unfold lined
  rw [dif_pos ⟨by omega, by omega⟩]
  have e1 : (⟨q - 8, by omega⟩ : Fin 8192) = r := Fin.ext (by show q - 8 = r.val; omega)
  have e2 : l = l' := Fin.ext hl.symm
  rw [e1, e2]

/-- A row of the gated input inside the array. -/
theorem cross_in (c : Dev nD) (l : Fin 512) (q : ℕ) (r : Fin 8192) (l2 l3 : Fin 8192) (h : q = r.val + 8) (h2 : l2.val = 6656 + l.val) (h3 : l3.val = 7168 + l.val) :
    arg1 m c (ValueIdx.ix2 r l2) * arg1 m c (ValueIdx.ix2 r l3) = cross m c l q := by
  unfold cross
  exact congrArg₂ (· * ·) (line_in m c _ _ _ _ h (by show l2.val = 6144 + (512 + l.val); omega)).symm (line_in m c _ _ _ _ h (by show l3.val = 6144 + (1024 + l.val); omega)).symm

/-- A row of the convolution's gradient inside the array. -/
theorem grad_in (c : Dev nD) (l : Fin 512) (q : ℕ) (r : Fin 8192) (l0 : Fin 512) (l1 : Fin 8192) (h : q = r.val + 8) (h0 : l0.val = l.val) (h1 : l1.val = 6144 + l.val) :
    arg1 m c (ValueIdx.ix2 r l1) * arg0 m c (ValueIdx.ix2 r l0) = grad m c l q := by
  unfold grad
  rw [mul_comm]
  exact congrArg₂ (· * ·) (lined_in m c _ _ _ _ h h0).symm (line_in m c _ _ _ _ h (by show l1.val = 6144 + l.val; omega)).symm

/-- Outside the array the gated input is zero. -/
theorem cross_out (c : Dev nD) (l : Fin 512) (q : ℕ) (h : ¬ (8 ≤ q ∧ q < 8200)) : cross m c l q = 0 := by
  unfold cross
  rw [line_out m c _ _ h, zero_mul]

/-- Outside the array the convolution's gradient is zero. -/
theorem grad_out (c : Dev nD) (l : Fin 512) (q : ℕ) (h : ¬ (8 ≤ q ∧ q < 8200)) : grad m c l q = 0 := by
  unfold grad
  rw [line_out m c _ _ h, mul_zero]

/-- The array the first result starts from. -/
theorem start7 (c : Dev nD) (i : S8192x8192.Idx) : ((dats m 0 c).A 7 i : EReal) = arg3 m c i := by
  have e : V m c main_v1_0 = (truncf (F := Ideal) .bf16 (m ((c.tc : Thread nD τ).loc main_arg3) : FVec Ideal S8192x8192 .f32) bitsLt_bf16_f32 : FVec Ideal S8192x8192 .bf16) := by
    unfold V
    after_results
    rfl
  rw [A_eq]
  show V m c main_v1_0 i = _
  rw [e]
  rfl

end Cert.PrepABwdIdeal.Product

namespace Cert.PrepABwd

/-- A sum of three in the opposite order. -/
theorem turn (a b d : EReal) : a + b + d = d + b + a := by
  rw [add_comm d b, add_comm a b, add_assoc, add_comm a d, add_assoc]

set_option maxHeartbeats 1000000 in
open PrepABwdIdeal.Product in
/-- The launch and the derivative of the forward lines end with the same arrays. -/
theorem algebraic : Cert.algebraic_PrepABwdIdeal_PrepABwdRefIdeal := by
  intro m g m' g' _ ha
  refine ⟨fun c => (PrepABwdIdeal.Gen.dats m 0 c).arrAt 7 PrepABwdIdeal.cfg0.N, fun c => (PrepABwdIdeal.Gen.dats m 0 c).arrAt 8 PrepABwdIdeal.cfg0.N,
    PrepABwdIdeal.Value.run_blocks m g, ?_⟩
  refine (θ_run _ _ _).mono (fun r h c => ?_) (PrepABwdRefIdeal.Value.run m' g')
  obtain ⟨h0, h1, h2⟩ := h c
  obtain ⟨a0, a1, a2, a3⟩ := ha c
  have z : (FloatOps.sitofp (F := Ideal) .f32 0#32 : EReal) = 0 := by simp [FloatOps.sitofp]
  refine ⟨h0.trans ?_, h1.trans ?_, h2⟩
  · unfold PrepABwdRefIdeal.Value.res_main_v74
    rw [a0, a1, a2, a3]
    funext i
    refine Eq.trans ?_ (result7 m c i).symm
    clear a0 a1 a2 a3 h0 h1 h2 h ha
    by_cases p : (i (1 : Fin 2)).val / 1536 = 4
    · rw [if_pos p]
      unfold res7
      by_cases p1 : (i (1 : Fin 2)).val - 6144 < 512
      · rw [dif_pos p1]
        unfold out1 conv
        idx_vars i
        pointwise
        have q : i1.val / 1536 = 4 := p
        have q1 : i1.val - 6144 < 512 := p1
        rw [dif_neg (show ¬i1.val < 6144 by omega), dif_pos q1]
        refine congrArg (arg0 m c (ValueIdx.ix2 i0 ⟨i1.val - 6144, q1⟩) * ·) (congrArg₂ (· + ·) (congrArg₂ (· + ·) (congrArg (· * _) ?_) (congrArg (· * _) ?_)) (congrArg (· * _) ?_))
        · by_cases b : i0.val < 1
          · rw [dif_pos b, cross_out m c _ _ (by omega)]
          · rw [dif_neg b, dif_pos (show i0.val - 1 < 8192 by omega)]
            exact cross_in m c _ _ _ _ _ (by show i0.val + 7 = i0.val - 1 + 8; omega) rfl rfl
        · exact cross_in m c _ _ _ _ _ rfl rfl rfl
        · rw [dif_neg (show ¬2 + i0.val < 1 by omega)]
          by_cases b : 2 + i0.val - 1 < 8192
          · rw [dif_pos b]
            exact cross_in m c _ _ _ _ _ (by show i0.val + 9 = 2 + i0.val - 1 + 8; omega) rfl rfl
          · rw [dif_neg b, cross_out m c _ _ (by omega)]
      rw [dif_neg p1]
      by_cases p2 : (i (1 : Fin 2)).val - 6144 - 512 < 512
      · rw [dif_pos p2]
        unfold out2 back
        idx_vars i
        pointwise
        have q : i1.val / 1536 = 4 := p
        have q1 : ¬i1.val - 6144 < 512 := p1
        have q2 : i1.val - 6144 - 512 < 512 := p2
        rw [dif_neg (show ¬i1.val < 6144 by omega), dif_neg q1, dif_pos q2]
        refine (congrArg₂ (· * ·) ((congrArg₂ (· + ·) (congrArg₂ (· + ·) ?_ ?_) ?_).trans (turn _ _ _)) (line_in m c _ _ _ _ rfl (by show 7168 + (i1.val - 6144 - 512) = 6144 + (1024 + (i1.val - 6144 - 512)); omega)).symm)
        · by_cases b : 2 ≤ 1 + i0.val
          · rw [dif_pos ⟨⟨b, by omega⟩, q2⟩]
            exact congrArg (· * _) (grad_in m c _ _ _ _ _ (by show i0.val + 7 = 1 + i0.val - 2 + 8; omega) rfl rfl)
          · rw [dif_neg (fun k => b k.1.1), grad_out m c _ _ (by omega), zero_mul]
        · rw [dif_pos q2]
          exact congrArg (· * _) (grad_in m c _ _ _ _ _ rfl rfl rfl)
        · by_cases b : 1 + i0.val < 8192
          · rw [dif_pos ⟨b, q2⟩]
            exact congrArg (· * _) (grad_in m c _ _ _ _ _ (by show i0.val + 9 = 1 + i0.val + 8; omega) rfl rfl)
          · rw [dif_neg (fun k => b k.1), grad_out m c _ _ (by omega), zero_mul]
      rw [dif_neg p2]
      have w : ∀ v : ℕ, ∀ h : v < 512, (⟨v % 512, Nat.mod_lt _ (by decide)⟩ : Fin 512) = ⟨v, h⟩ := fun v h => Fin.ext (Nat.mod_eq_of_lt h)
      have q3 : (i (1 : Fin 2)).val - 6144 - 512 - 512 < 512 := by omega
      rw [w _ q3]
      unfold out3 back
      idx_vars i
      pointwise
      have q : i1.val / 1536 = 4 := p
      have q1 : ¬i1.val - 6144 < 512 := p1
      have q2 : ¬i1.val - 6144 - 512 < 512 := p2
      have q3' : i1.val - 6144 - 512 - 512 < 512 := q3
      rw [dif_neg (show ¬i1.val < 6144 by omega), dif_neg q1, dif_neg q2, dif_pos q3']
      refine (mul_comm _ _).trans (congrArg₂ (· * ·) ((congrArg₂ (· + ·) (congrArg₂ (· + ·) ?_ ?_) ?_).trans (turn _ _ _)) (line_in m c _ _ _ _ rfl (by show 6656 + (i1.val - 6144 - 512 - 512) = 6144 + (512 + (i1.val - 6144 - 512 - 512)); omega)).symm)
      · by_cases b : 2 ≤ 1 + i0.val
        · rw [dif_pos ⟨⟨b, by omega⟩, q3'⟩]
          exact congrArg (· * _) (grad_in m c _ _ _ _ _ (by show i0.val + 7 = 1 + i0.val - 2 + 8; omega) rfl rfl)
        · rw [dif_neg (fun k => b k.1.1), grad_out m c _ _ (by omega), zero_mul]
      · rw [dif_pos q3']
        exact congrArg (· * _) (grad_in m c _ _ _ _ _ rfl rfl rfl)
      · by_cases b : 1 + i0.val < 8192
        · rw [dif_pos ⟨b, q3'⟩]
          exact congrArg (· * _) (grad_in m c _ _ _ _ _ (by show i0.val + 9 = 1 + i0.val + 8; omega) rfl rfl)
        · rw [dif_neg (fun k => b k.1), grad_out m c _ _ (by omega), zero_mul]
    rw [if_neg p]
    refine Eq.trans ?_ (start7 m c i).symm
    idx_vars i
    pointwise
    have q : ¬i1.val / 1536 = 4 := p
    by_cases b : i1.val < 6144
    · rw [dif_pos b]
    rw [dif_neg b, dif_neg (by omega), dif_neg (by omega), dif_neg (by omega)]
    exact congrArg (arg3 m c) (congrArg (ValueIdx.ix2 i0) (Fin.ext (by show 7680 + (i1.val - 6144 - 512 - 512 - 512) = i1.val; omega)))
  · unfold PrepABwdRefIdeal.Value.res_main_v76
    rw [a0, a1]
    funext i
    refine Eq.trans ?_ (congrFun (result8 m c) i).symm
    clear a0 a1 a2 a3 h0 h1 h2 h ha
    show _ = 0 + ∑ p : Fin PrepABwdIdeal.cfg0.N, term m c p i
    idx_vars i
    pointwise
    simp only [Fin.sum_univ_one]
    by_cases b : i0.val = 0
    · refine Eq.trans ?_ ((zero_add _).symm.trans (row_first m c (ValueIdx.ix2 i0 i1) b)).symm
      rw [dif_pos (show i0.val < 3 by omega), dif_neg (show ¬(2 ≤ i0.val ∧ i0.val - 2 < 1) by omega), dif_neg (show ¬(1 ≤ i0.val ∧ i0.val - 1 < 1) by omega),
        dif_pos (show i0.val < 1 by omega), zero_add, zero_add]
      refine Finset.sum_congr rfl fun k _ => (mul_comm _ _).trans (congrArg₂ (· * ·) (grad_in m c _ _ _ _ _ rfl rfl rfl) ?_)
      by_cases d : k.val < 1
      · rw [dif_pos d, cross_out m c _ _ (by omega)]
      · rw [dif_neg d, dif_pos (show k.val - 1 < 8192 by omega)]
        exact cross_in m c _ _ _ _ _ (by show k.val + 7 = k.val - 1 + 8; omega) rfl rfl
    by_cases b1 : i0.val = 1
    · refine Eq.trans ?_ ((zero_add _).symm.trans (row_second m c (ValueIdx.ix2 i0 i1) b1)).symm
      rw [dif_pos (show i0.val < 3 by omega), dif_neg (show ¬(2 ≤ i0.val ∧ i0.val - 2 < 1) by omega), dif_pos (show 1 ≤ i0.val ∧ i0.val - 1 < 1 by omega),
        dif_neg (show ¬i0.val < 1 by omega), zero_add, add_zero]
      exact Finset.sum_congr rfl fun k _ => (mul_comm _ _).trans (congrArg₂ (· * ·) (grad_in m c _ _ _ _ _ rfl rfl rfl) (cross_in m c _ _ _ _ _ rfl rfl rfl))
    by_cases b2 : i0.val = 2
    · refine Eq.trans ?_ ((zero_add _).symm.trans (row_third m c (ValueIdx.ix2 i0 i1) b2)).symm
      rw [dif_pos (show i0.val < 3 by omega), dif_pos (show 2 ≤ i0.val ∧ i0.val - 2 < 1 by omega), dif_neg (show ¬(1 ≤ i0.val ∧ i0.val - 1 < 1) by omega),
        dif_neg (show ¬i0.val < 1 by omega), add_zero, add_zero]
      refine Finset.sum_congr rfl fun k _ => (mul_comm _ _).trans (congrArg₂ (· * ·) (grad_in m c _ _ _ _ _ rfl rfl rfl) ?_)
      rw [dif_neg (show ¬2 + k.val < 1 by omega)]
      by_cases d : 2 + k.val - 1 < 8192
      · rw [dif_pos d]
        exact cross_in m c _ _ _ _ _ (by show k.val + 9 = 2 + k.val - 1 + 8; omega) rfl rfl
      · rw [dif_neg d, cross_out m c _ _ (by omega)]
    have n : ∑ p : Fin PrepABwdIdeal.cfg0.N, term m c p (ValueIdx.ix2 i0 i1) = 0 :=
      Finset.sum_eq_zero fun p _ => by unfold term; rw [if_neg b2, if_neg b1, if_neg b]
    rw [dif_neg (show ¬i0.val < 3 by omega)]
    exact n.symm

end Cert.PrepABwd

end
-- ==== Proof.ResidBwd.lean ====
/-
  The backward pass of the gated residual: the gradient of the branch, and the gradient of its gate added up over the
  rows, against the derivative of the forward line. The launch adds the gate's gradient up block after block.
-/
module

public import proofs.«01_k».proof.Defs
public import proofs.«01_k».proof.Proof.Sums
public import proofs.«01_k».proof.Proof.Gen.ResidBwdIdeal.Value
public import proofs.«01_k».proof.Proof.Gen.ResidBwdRefIdeal.Run
public import proofs.«01_k».proof.Proof.Rows
public import Idealize.ShloMosaic.Lib.Pipeline.ValueKit.Geometry
public import Idealize.ShloMosaic.Lib.Pipeline.ValueKit.Acc
public import Idealize.ShloMosaic.Lib.WritesUnit

@[expose] public section

set_option maxRecDepth 16384

noncomputable section

open Idealize.ShloMosaic Idealize.ShloMosaic.TcCoe Idealize.SL.Sem

namespace Cert.ResidBwdIdeal.Product

open Cert.ResidBwdIdeal Cert.ResidBwdIdeal.Gen Cert.ResidBwdIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = t.val ∧ win0_1.index t (1 : Fin 2) = 0 :=
  (by decide +kernel : ∀ t : Fin grid0.N, _)

/-- Which block of its third operand point `t` is given. -/
theorem at2 : ∀ t : Fin cfg0.N, win0_2.index t (0 : Fin 2) = 0 ∧ win0_2.index t (1 : Fin 2) = 0 :=
  (by decide +kernel : ∀ t : Fin grid0.N, _)

/-- Which block of the result point `t` writes. -/
theorem at3 : ∀ t : Fin cfg0.N, win0_3.index t (0 : Fin 2) = t.val ∧ win0_3.index t (1 : Fin 2) = 0 :=
  (by decide +kernel : ∀ t : Fin grid0.N, _)

/-- Which block of the result point `t` writes. -/
theorem at4 : ∀ t : Fin cfg0.N, win0_4.index t (0 : Fin 2) = 0 ∧ win0_4.index t (1 : Fin 2) = 0 :=
  (by decide +kernel : ∀ t : Fin grid0.N, _)

/-- The operand as the launch hands it over. -/
theorem v0_eq (c : Dev nD) : V m c main_v0 = truncf .bf16 (m ((c.tc : Thread nD τ).loc main_arg1)) bitsLt_bf16_f32 := by
  unfold V; after_results

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S8192x1024.Idx → EReal := m ((c.tc : Thread nD τ).loc main_arg1)

/-- An argument's entries. -/
abbrev arg2 (c : Dev nD) : S1x1024.Idx → EReal := m ((c.tc : Thread nD τ).loc main_arg2)

/-- An element of point `t`'s block of the first operand. -/
theorem blk0_at (c : Dev nD) (t : Fin cfg0.N) (j : S1024x1024.Idx) (p : S8192x1024.Idx)
    (p0 : (p 0).val = t.val * 1024 + (j 0).val) (p1 : (p 1).val = (j 1).val) :
    iblk m c 0 t j = arg0 m c p := by
  unfold iblk
  rw [View.read_apply]
  show m ((c.tc : Thread nD τ).loc main_arg0) _ = _
  congr 1
  obtain ⟨f0, f1⟩ := at0 t
  funext a; apply Fin.ext
  match a with
  | ⟨0, _⟩ => show win0_0.index t 0 * 1024 + 1 * (j 0).val = (p 0).val; omega
  | ⟨1, _⟩ => show win0_0.index t 1 * 1024 + 1 * (j 1).val = (p 1).val; omega

/-- An element of point `t`'s block of the second operand. -/
theorem blk1_at (c : Dev nD) (t : Fin cfg0.N) (j : S1024x1024.Idx) (p : S8192x1024.Idx)
    (p0 : (p 0).val = t.val * 1024 + (j 0).val) (p1 : (p 1).val = (j 1).val) :
    iblk m c 1 t j = arg1 m c p := by
  unfold iblk
  rw [View.read_apply]
  show V m c main_v0 _ = _
  rw [v0_eq]
  show m ((c.tc : Thread nD τ).loc main_arg1) _ = _
  congr 1
  obtain ⟨f0, f1⟩ := at1 t
  funext a; apply Fin.ext
  match a with
  | ⟨0, _⟩ => show win0_1.index t 0 * 1024 + 1 * (j 0).val = (p 0).val; omega
  | ⟨1, _⟩ => show win0_1.index t 1 * 1024 + 1 * (j 1).val = (p 1).val; omega

/-- An element of point `t`'s block of the third operand. -/
theorem blk2_at (c : Dev nD) (t : Fin cfg0.N) (j : S1x1024.Idx) (p : S1x1024.Idx)
    (p0 : (p 0).val = 0 * 1 + (j 0).val) (p1 : (p 1).val = (j 1).val) :
    iblk m c 2 t j = arg2 m c p := by
  unfold iblk
  rw [View.read_apply]
  show m ((c.tc : Thread nD τ).loc main_arg2) _ = _
  congr 1
  obtain ⟨f0, f1⟩ := at2 t
  funext a; apply Fin.ext
  match a with
  | ⟨0, _⟩ => show win0_2.index t 0 * 1 + 1 * (j 0).val = (p 0).val; omega
  | ⟨1, _⟩ => show win0_2.index t 1 * 1024 + 1 * (j 1).val = (p 1).val; omega

/-- The weight of the branch. -/
abbrev half : EReal := Ideal.ofBits .f32 0x3F000000#32

/-- The weight is a real number, at least zero. -/
theorem half_eq : half = ((8388608 * (2 ^ 24)⁻¹ : ℝ) : EReal) := by simp [half, Ideal.ofBits, Ideal.ieee]

/-- The branch's gradient in a block, at an index. -/
theorem pay2_at (x : Vec Ideal S1024x1024 .f32) (g : Vec Ideal S1x1024 .f32) (j l : Fin 1024) :
    (k0_pay2 x g : Vec Ideal S1024x1024 .bf16) (ValueIdx.ix2 j l) = half * g (ValueIdx.ix2 (0 : Fin 1) l) * x (ValueIdx.ix2 j l) := by
  unfold k0_pay2
  pointwise
  rfl

/-- What a block adds to the gate's gradient, at an index. -/
theorem pay3_at (x : Vec Ideal S1024x1024 .f32) (a : Vec Ideal S1x1024 .f32) (f : Vec Ideal S1024x1024 .bf16) (l : Fin 1024) :
    (k0_pay3 x a f : Vec Ideal S1x1024 .f32) (ValueIdx.ix2 (0 : Fin 1) l)
      = (a (ValueIdx.ix2 (0 : Fin 1) l) : EReal) + ∑ k : Fin 1024, half * x (ValueIdx.ix2 k l) * f (ValueIdx.ix2 k l) := by
  unfold k0_pay3
  pointwise
  rfl

/-- The array the accumulator starts from. -/
theorem pay1_at (y : S8x1024.Idx) : (k0_pay1 (F := Ideal) y : EReal) = 0 := by
  unfold k0_pay1
  idx_vars y
  pointwise

/-- What point `t` adds to the accumulator. -/
def term (c : Dev nD) (t : Fin cfg0.N) (y : S8x1024.Idx) : EReal :=
  if (y (0 : Fin 2)).val = 0 then
    ∑ k : Fin 1024, half * (iblk m c 0 t (ValueIdx.ix2 k (y 1)) : EReal) * (iblk m c 1 t (ValueIdx.ix2 k (y 1)) : EReal)
  else 0

/-- The accumulator after the first point. -/
theorem acc_first (c : Dev nD) (t : Fin cfg0.N) (h0 : t.val % 8 = 0) (y : S8x1024.Idx) :
    ((outsAt0 m c t.val t.isLt).2 y : EReal) = 0 + term m c t y := by
  rw [outsAt0_A m c t h0]; frame_out
  unfold term
  by_cases b : (y (0 : Fin 2)).val = 0
  · rw [if_pos b]
    refine (Rows.hit 0 _ _ _ y b).trans ((pay3_at _ _ _ _).trans (congrArg (· + _) ?_))
    rw [View.readCov_eq_canon']
    refine (congrFun (View.canon_unit_zero origin2 ..) _).trans (pay1_at _)
  · rw [if_neg b]
    refine (Rows.miss 0 _ _ _ y b).trans ?_
    refine (congrFun (View.canon_unit_zero origin2 ..) _).trans ((pay1_at _).trans (add_zero _).symm)

/-- The accumulator after a later point. -/
theorem acc_next (c : Dev nD) (t : Fin cfg0.N) (h0 : ¬t.val % 8 = 0) (y : S8x1024.Idx) :
    ((outsAt0 m c t.val t.isLt).2 y : EReal)
      = (outsAt0 m c (t.val - 1) (Nat.lt_of_le_of_lt (Nat.sub_le _ _) t.isLt)).2 y + term m c t y := by
  rw [outsAt0_B m c t h0]; frame_out
  generalize (outsAt0 m c (t.val - 1) (Nat.lt_of_le_of_lt (Nat.sub_le _ _) t.isLt)).2 = X
  unfold term
  by_cases b : (y (0 : Fin 2)).val = 0
  · rw [if_pos b]
    refine (View.read_writes_cons_rows_of_mem _ _ _ _ _ y (ValueIdx.ix2 (0 : Fin 1) (y 1)) rfl (by show (y 0).val = 0 + 0; omega) rfl).trans ((pay3_at _ _ _ _).trans (congrArg (· + _) ?_))
    refine (Rows.row 0 (by decide) _ X _).trans (congrArg X ?_)
    funext a
    apply Fin.ext
    match a with
    | ⟨0, _⟩ => exact b.symm
    | ⟨1, _⟩ => rfl
  · rw [if_neg b]
    refine (View.read_writes_cons_rows_of_not_mem (W := 1) _ _ _ _ _ y rfl rfl (by right; show 0 + 1 ≤ (y 0).val; have : (y 0).val ≠ 0 := b; omega)).trans ?_
    refine Eq.trans ?_ (add_zero _).symm
    exact congrFun ((hs0_4 t).read_unread X) y

/-- The accumulator after the last point. -/
theorem acc_last (c : Dev nD) (t : Fin cfg0.N) (ht : t.val + 1 = cfg0.N) (y : S8x1024.Idx) :
    ((outsAt0 m c t.val t.isLt).2 y : EReal) = 0 + ∑ p : Fin cfg0.N, term m c p y :=
  Pipeline.eq_sum_fin_of_reset_step_apply_last (fun n h => (outsAt0 m c n h).2) 8 (fun _ => (0 : EReal)) (term m c)
    (acc_first m c) (acc_next m c) (by rw [show cfg0.N = 8 from N_0]) t ht y

/-- The branch's gradient, as one function of the arguments. -/
def res3 (c : Dev nD) (i : S8192x1024.Idx) : EReal :=
  half * arg2 m c (ValueIdx.ix2 (0 : Fin 1) (i 1)) * arg0 m c i

/-- What a point writes of the branch's gradient. -/
theorem piece3 (c : Dev nD) (t : Fin cfg0.N) (y : S1024x1024.Idx) (z : S8192x1024.Idx)
    (z0 : (z 0).val = t.val * 1024 + (y 0).val) (z1 : (z 1).val = (y 1).val) :
    ((outsAt0 m c t.val t.isLt).1 y : EReal) = res3 m c z := by
  have e : (outsAt0 m c t.val t.isLt).1 = k0_pay2 (iblk m c 0 t) (iblk m c 2 t) := by
    by_cases h0 : t.val % 8 = 0
    · rw [outsAt0_A m c t h0]; frame_out
    · rw [outsAt0_B m c t h0]; frame_out
  rw [e]
  unfold res3
  idx_vars y
  refine (pay2_at _ _ _ _).trans (congrArg₂ (· * ·) (congrArg₂ (· * ·) rfl ?_) ?_)
  · exact blk2_at m c t _ _ (by show (0 : ℕ) = 0 * 1 + 0; omega) z1
  · exact blk0_at m c t _ _ z0 z1

/-- The first array the launch leaves. -/
theorem result3 (c : Dev nD) : (dats m 0 c).arrAt 3 cfg0.N = (res3 m c : S8192x1024.Idx → EReal) := by
  refine (dats m 0 c).arrAt_eq_of_covers 3 _ (by decide +kernel) fun t hf y => ?_
  blk_simp
  rw [after0_3]
  obtain ⟨f0, f1⟩ := at3 t
  have d0 : ((win0_3.blk t).view.emb y 0).val = t.val * 1024 + (y 0).val := by
    show win0_3.index t 0 * 1024 + 1 * (y 0).val = _; omega
  have d1 : ((win0_3.blk t).view.emb y 1).val = (y 1).val := by
    show win0_3.index t 1 * 1024 + 1 * (y 1).val = _; omega
  exact piece3 m c t y _ d0 d1

/-- The second array the launch leaves. -/
theorem result4 (c : Dev nD) : (dats m 0 c).arrAt 4 cfg0.N = (fun i => 0 + ∑ p : Fin cfg0.N, term m c p i : S8x1024.Idx → EReal) := by
  refine (dats m 0 c).arrAt_eq_of_covers 4 _ (by decide +kernel) fun t hf y => ?_
  blk_simp
  rw [after0_4]
  obtain ⟨f0, f1⟩ := at4 t
  have e : (win0_4.blk t).view.emb y = y := by
    funext a
    apply Fin.ext
    match a with
    | ⟨0, _⟩ => show win0_4.index t 0 * 8 + 1 * (y 0).val = (y 0).val; omega
    | ⟨1, _⟩ => show win0_4.index t 1 * 1024 + 1 * (y 1).val = (y 1).val; omega
  rw [e]
  have hN : cfg0.N = 8 := N_0
  have ht := (flush0_4 t).mp hf
  exact acc_last m c t (by have := t.isLt; omega) y

/-- The gate's gradient: half the sum over the rows of what comes in times the branch. -/
theorem gate_at (c : Dev nD) (y : S8x1024.Idx) (b : (y (0 : Fin 2)).val = 0) :
    0 + ∑ p : Fin cfg0.N, term m c p y
      = half * ∑ k : Fin 8192, arg0 m c (ValueIdx.ix2 k (y 1)) * arg1 m c (ValueIdx.ix2 k (y 1)) := by
  have hN : cfg0.N = 8 := N_0
  rw [Rows.factor half (by rw [half_eq]; exact EReal.coe_nonneg.2 (by positivity)) (by rw [half_eq]; exact EReal.coe_ne_top _), zero_add]
  refine Eq.trans ?_ (Fin.sum_mul_add_fin 8 1024 _)
  refine Fin.sum_congr' _ hN |>.symm.trans ?_
  refine Finset.sum_congr rfl fun p _ => ?_
  unfold term
  rw [if_pos b]
  refine Finset.sum_congr rfl fun k _ => ?_
  refine Eq.trans (congrArg₂ (· * ·) (congrArg (half * ·) ?_) ?_) (mul_assoc _ _ _)
  · exact blk0_at m c _ _ _ rfl rfl
  · exact blk1_at m c _ _ _ rfl rfl

end Cert.ResidBwdIdeal.Product

namespace Cert.ResidBwd

/-- The launch and the derivative of the gated residual end with the same arrays. -/
theorem algebraic : Cert.algebraic_ResidBwdIdeal_ResidBwdRefIdeal := by
  intro m g m' g' _ ha
  refine ⟨fun c => (ResidBwdIdeal.Gen.dats m 0 c).arrAt 3 ResidBwdIdeal.cfg0.N, fun c => (ResidBwdIdeal.Gen.dats m 0 c).arrAt 4 ResidBwdIdeal.cfg0.N,
    ResidBwdIdeal.Value.run_blocks m g, ?_⟩
  refine (θ_run _ _ _).mono (fun r h c => ?_) (ResidBwdRefIdeal.Value.run m' g')
  obtain ⟨h0, h1, h2⟩ := h c
  obtain ⟨a0, a1, a2⟩ := ha c
  refine ⟨h0.trans ?_, h1.trans ?_, h2⟩
  · rw [a0, a2]
    funext i
    refine Eq.trans ?_ (congrFun (ResidBwdIdeal.Product.result3 m c) i).symm
    unfold ResidBwdIdeal.Product.res3
    clear a0 a1 a2 h0 h1 h2 h ha
    idx_vars i
    pointwise
    rfl
  · rw [a0, a1]
    funext i
    refine Eq.trans ?_ (congrFun (ResidBwdIdeal.Product.result4 m c) i).symm
    show _ = 0 + ∑ p : Fin ResidBwdIdeal.cfg0.N, ResidBwdIdeal.Product.term m c p i
    by_cases b : (i (0 : Fin 2)).val = 0
    · refine Eq.trans ?_ (ResidBwdIdeal.Product.gate_at m c i b).symm
      clear a0 a1 a2 h0 h1 h2 h ha
      idx_vars i
      pointwise
      rw [dif_pos (show i0.val < 1 by have : i0.val = 0 := b; omega)]
      rfl
    · have z : ∑ p : Fin ResidBwdIdeal.cfg0.N, ResidBwdIdeal.Product.term m c p i = 0 :=
        Finset.sum_eq_zero fun p _ => by unfold ResidBwdIdeal.Product.term; exact if_neg b
      rw [z]
      clear a0 a1 a2 h0 h1 h2 h ha z
      idx_vars i
      pointwise
      rw [dif_neg (show ¬i0.val < 1 by have : i0.val ≠ 0 := b; omega)]

end Cert.ResidBwd

end
-- ==== Proof.Swiglu.lean ====
/-
  The backward pass of the gate `silu(a) * b` behind the wide product: the gradient of the gated product, both halves of
  the gradient beside each other, against the derivative of the forward lines. The kernel writes the derivative of
  `silu` as `s * (1 + a * (1 - s))`, the derivative adds `s` and `a * (s * (1 - s))` after multiplying each by what comes
  in; the two agree when what comes in is finite.
-/
module

public import proofs.«01_k».proof.Defs
public import proofs.«01_k».proof.Proof.Sums
public import proofs.«01_k».proof.Proof.Gen.SwigluIdeal.Value
public import proofs.«01_k».proof.Proof.Gen.SwigluRefIdeal.Run
public import proofs.«01_k».proof.Proof.Gen.Pre_finite
public import Idealize.ShloMosaic.Lib.Pipeline.ValueKit.Geometry
public import Idealize.ShloMosaic.Lib.Pipeline.ValueKit.Tiles
public import Idealize.ShloMosaic.Lib.ReduceAll

@[expose] public section

set_option maxRecDepth 16384

noncomputable section

open Idealize.ShloMosaic Idealize.ShloMosaic.TcCoe Idealize.SL.Sem

namespace Cert.Swiglu

/-- A comparison `|x| < ∞` that came out true: `x` is a real number. -/
theorem real_of_cmp {x : EReal} (h : Ideal.cmp .olt (max x (-x)) (Ideal.ofBits .f32 0x7F800000#32) = 1#1) :
    ∃ r : ℝ, x = (r : EReal) := by
  have e : Ideal.ofBits .f32 0x7F800000#32 = (⊤ : EReal) := by
    simp [Ideal.ofBits, Ideal.ieee]
  rw [e] at h
  induction x using EReal.rec with
  | bot => simp [Ideal.cmp] at h
  | top => simp [Ideal.cmp] at h
  | coe r => exact ⟨r, rfl⟩

/-- A sum of products of real numbers is a real number. -/
theorem real_sum {n : ℕ} (f g : Fin n → EReal) (hf : ∀ k, ∃ r : ℝ, f k = (r : EReal)) (hg : ∀ k, ∃ r : ℝ, g k = (r : EReal)) :
    ∃ r : ℝ, ∑ k : Fin n, f k * g k = (r : EReal) := by
  classical
  have key : ∀ s : Finset (Fin n), ∃ r : ℝ, ∑ k ∈ s, f k * g k = (r : EReal) := by
    intro s
    induction s using Finset.induction_on with
    | empty => exact ⟨0, by simp⟩
    | insert k s hk ih =>
      obtain ⟨r, hr⟩ := ih
      obtain ⟨p, hp⟩ := hf k
      obtain ⟨q, hq⟩ := hg k
      exact ⟨p * q + r, by rw [Finset.sum_insert hk, hr, hp, hq]; push_cast; rfl⟩
  exact key Finset.univ

/-- The derivative of `a * logistic a`, both ways of writing it, times a real number. -/
theorem slope (r : ℝ) (a : EReal) :
    (r : EReal) * (Ideal.logistic a * (1 + a * (1 - Ideal.logistic a)))
      = (r : EReal) * Ideal.logistic a + a * (r : EReal) * (Ideal.logistic a * (1 - Ideal.logistic a)) := by
  induction a using EReal.rec with
  | bot => rw [Ideal.logistic_bot]; simp
  | top =>
    have e : (1 : EReal) - 1 = 0 := by
      have := EReal.coe_sub 1 1
      simpa using this.symm
    rw [Ideal.logistic_top, e]; simp
  | coe x =>
    rw [Ideal.logistic_coe]
    norm_cast
    ring_nf

/-- What the precondition says of the three arrays it reads. -/
theorem reals (x : FVec Ideal Pre_finite.S8192x1024 .f32) (w : FVec Ideal Pre_finite.S2816x1024 .f32)
    (a b : FVec Ideal Pre_finite.S8192x2816 .f32) (h : Pre_finite.fn (F := Ideal) x w a b = fun _ => 1#1) :
    (∀ i, ∃ r : ℝ, (x i : EReal) = (r : EReal)) ∧ (∀ i, ∃ r : ℝ, (w i : EReal) = (r : EReal)) ∧ ∀ i, ∃ r : ℝ, (b i : EReal) = (r : EReal) := by
  have e := congrFun h (Shape.Idx.first (by decide : 0 < Pre_finite.S_.numel))
  unfold Pre_finite.fn at e
  dsimp only at e
  haveI : Subsingleton Pre_finite.S_.Idx := ⟨fun p q => funext fun a => a.elim0⟩
  obtain ⟨e1, e2⟩ := IntOp.andi_eq_one.1 e
  obtain ⟨e3, e4⟩ := IntOp.andi_eq_one.1 e1
  refine ⟨fun i => ?_, fun i => ?_, fun i => ?_⟩
  · exact real_of_cmp (Host.reduce_andi_all _ _ _ _ _ e3 i)
  · exact real_of_cmp (Host.reduce_andi_all _ _ _ _ _ e4 i)
  · exact real_of_cmp (Host.reduce_andi_all _ _ _ _ _ e2 i)

end Cert.Swiglu

namespace Cert.SwigluIdeal.Product

open Cert.SwigluIdeal Cert.SwigluIdeal.Gen Cert.SwigluIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val ∧ win0_0.index t (1 : Fin 2) = 0 :=
  (by decide +kernel : ∀ t : Fin grid0.N, _)

/-- Which block of its second operand point `t` is given. -/
theorem at1 : ∀ t : Fin cfg0.N, win0_1.index t (0 : Fin 2) = 0 ∧ win0_1.index t (1 : Fin 2) = 0 :=
  (by decide +kernel : ∀ t : Fin grid0.N, _)

/-- Which block of its third operand point `t` is given. -/
theorem at2 : ∀ t : Fin cfg0.N, win0_2.index t (0 : Fin 2) = t.val ∧ win0_2.index t (1 : Fin 2) = 0 :=
  (by decide +kernel : ∀ t : Fin grid0.N, _)

/-- Which block of its fourth operand point `t` is given. -/
theorem at3 : ∀ t : Fin cfg0.N, win0_3.index t (0 : Fin 2) = t.val ∧ win0_3.index t (1 : Fin 2) = 0 :=
  (by decide +kernel : ∀ t : Fin grid0.N, _)

/-- Which block of the result point `t` writes. -/
theorem at4 : ∀ t : Fin cfg0.N, win0_4.index t (0 : Fin 2) = t.val ∧ win0_4.index t (1 : Fin 2) = 0 :=
  (by decide +kernel : ∀ t : Fin grid0.N, _)

/-- The operand as the launch hands it over. -/
theorem v0_eq (c : Dev nD) :
    V m c main_v0 = truncf .bf16 (m ((c.tc : Thread nD τ).loc main_arg0)) bitsLt_bf16_f32 := by
  unfold V; after_results

/-- The operand as the launch hands it over. -/
theorem v1_eq (c : Dev nD) :
    V m c main_v1 = truncf .bf16 (m ((c.tc : Thread nD τ).loc main_arg1)) bitsLt_bf16_f32 := by
  unfold V; after_results

/-- The operand as the launch hands it over. -/
theorem v2_eq (c : Dev nD) :
    V m c main_v2 = truncf .bf16 (m ((c.tc : Thread nD τ).loc main_arg2)) bitsLt_bf16_f32 := by
  unfold V; after_results

/-- The operand as the launch hands it over. -/
theorem v3_eq (c : Dev nD) :
    V m c main_v3 = truncf .bf16 (m ((c.tc : Thread nD τ).loc main_arg3)) bitsLt_bf16_f32 := by
  unfold V; after_results

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S2816x1024.Idx → EReal := m ((c.tc : Thread nD τ).loc main_arg1)

/-- An argument's entries. -/
abbrev arg2 (c : Dev nD) : S8192x2816.Idx → EReal := m ((c.tc : Thread nD τ).loc main_arg2)

/-- An argument's entries. -/
abbrev arg3 (c : Dev nD) : S8192x2816.Idx → EReal := m ((c.tc : Thread nD τ).loc main_arg3)

/-- An element of point `t`'s block of the first operand. -/
theorem blk0_at (c : Dev nD) (t : Fin cfg0.N) (j : Fin 512) (k : Fin 1024) (p : S8192x1024.Idx)
    (p0 : (p 0).val = (t.val) * 512 + j.val) (p1 : (p 1).val = (0) * 1024 + k.val) :
    iblk m c 0 t (ValueIdx.ix2 j k) = arg0 m c p := by
  unfold iblk
  rw [View.read_apply]
  show V m c main_v0 _ = _
  rw [v0_eq]
  show m ((c.tc : Thread nD τ).loc main_arg0) _ = _
  congr 1
  obtain ⟨f0, f1⟩ := at0 t
  funext a; apply Fin.ext
  match a with
  | ⟨0, _⟩ => show win0_0.index t 0 * 512 + 1 * j.val = (p 0).val; omega
  | ⟨1, _⟩ => show win0_0.index t 1 * 1024 + 1 * k.val = (p 1).val; omega

/-- An element of point `t`'s block of the second operand. -/
theorem blk1_at (c : Dev nD) (t : Fin cfg0.N) (j : Fin 2816) (k : Fin 1024) (p : S2816x1024.Idx)
    (p0 : (p 0).val = (0) * 2816 + j.val) (p1 : (p 1).val = (0) * 1024 + k.val) :
    iblk m c 1 t (ValueIdx.ix2 j k) = arg1 m c p := by
  unfold iblk
  rw [View.read_apply]
  show V m c main_v1 _ = _
  rw [v1_eq]
  show m ((c.tc : Thread nD τ).loc main_arg1) _ = _
  congr 1
  obtain ⟨f0, f1⟩ := at1 t
  funext a; apply Fin.ext
  match a with
  | ⟨0, _⟩ => show win0_1.index t 0 * 2816 + 1 * j.val = (p 0).val; omega
  | ⟨1, _⟩ => show win0_1.index t 1 * 1024 + 1 * k.val = (p 1).val; omega

/-- An element of point `t`'s block of the third operand. -/
theorem blk2_at (c : Dev nD) (t : Fin cfg0.N) (j : Fin 512) (k : Fin 2816) (p : S8192x2816.Idx)
    (p0 : (p 0).val = (t.val) * 512 + j.val) (p1 : (p 1).val = (0) * 2816 + k.val) :
    iblk m c 2 t (ValueIdx.ix2 j k) = arg2 m c p := by
  unfold iblk
  rw [View.read_apply]
  show V m c main_v2 _ = _
  rw [v2_eq]
  show m ((c.tc : Thread nD τ).loc main_arg2) _ = _
  congr 1
  obtain ⟨f0, f1⟩ := at2 t
  funext a; apply Fin.ext
  match a with
  | ⟨0, _⟩ => show win0_2.index t 0 * 512 + 1 * j.val = (p 0).val; omega
  | ⟨1, _⟩ => show win0_2.index t 1 * 2816 + 1 * k.val = (p 1).val; omega

/-- An element of point `t`'s block of the fourth operand. -/
theorem blk3_at (c : Dev nD) (t : Fin cfg0.N) (j : Fin 512) (k : Fin 2816) (p : S8192x2816.Idx)
    (p0 : (p 0).val = (t.val) * 512 + j.val) (p1 : (p 1).val = (0) * 2816 + k.val) :
    iblk m c 3 t (ValueIdx.ix2 j k) = arg3 m c p := by
  unfold iblk
  rw [View.read_apply]
  show V m c main_v3 _ = _
  rw [v3_eq]
  show m ((c.tc : Thread nD τ).loc main_arg3) _ = _
  congr 1
  obtain ⟨f0, f1⟩ := at3 t
  funext a; apply Fin.ext
  match a with
  | ⟨0, _⟩ => show win0_3.index t 0 * 512 + 1 * j.val = (p 0).val; omega
  | ⟨1, _⟩ => show win0_3.index t 1 * 2816 + 1 * k.val = (p 1).val; omega

/-- The product of two blocks at an index. -/
theorem pay_at (x : Vec Ideal S512x1024 .bf16) (y : Vec Ideal S2816x1024 .bf16) (j : Fin 512) (l : Fin 2816) :
    (k0_pay1 x y : Vec Ideal S512x2816 .f32) (ValueIdx.ix2 j l)
      = ∑ k : Fin 1024, (x (ValueIdx.ix2 j k) : EReal) * y (ValueIdx.ix2 l k) := by
  unfold k0_pay1
  pointwise
  try rfl

/-- The gradient of the gate's argument, from what comes in `D` and the forward values `a` and `b`. -/
def first (D a b : EReal) : EReal := D * b * (Ideal.logistic a * (1 + a * (1 - Ideal.logistic a)))

/-- The gradient of the factor beside the gate. -/
def second (D a : EReal) : EReal := D * (a * Ideal.logistic a)

/-- The first half of a block of the result at an index. -/
theorem first_at (x : Vec Ideal S512x1024 .bf16) (y : Vec Ideal S2816x1024 .bf16) (a b : Vec Ideal S512x2816 .bf16)
    (i : S512x2816.Idx) :
    (k0_pay3 x y a b : Vec Ideal S512x2816 .bf16) i = first ((k0_pay1 x y : Vec Ideal S512x2816 .f32) i) (a i) (b i) := by
  unfold k0_pay3 k0_pay2 first
  generalize k0_pay1 x y = w
  idx_vars i
  pointwise
  try rfl

/-- The second half of a block of the result at an index. -/
theorem second_at (x : Vec Ideal S512x1024 .bf16) (y : Vec Ideal S2816x1024 .bf16) (a : Vec Ideal S512x2816 .bf16)
    (i : S512x2816.Idx) :
    (k0_pay4 x y a : Vec Ideal S512x2816 .bf16) i = second ((k0_pay1 x y : Vec Ideal S512x2816 .f32) i) (a i) := by
  unfold k0_pay4 k0_pay2 second
  generalize k0_pay1 x y = w
  idx_vars i
  pointwise
  try rfl

/-- The gradient of the gated product at row `p` and column `q`. -/
abbrev down (c : Dev nD) (p : Fin 8192) (q : Fin 2816) : EReal :=
  ∑ k : Fin 1024, arg0 m c (ValueIdx.ix2 p k) * arg1 m c (ValueIdx.ix2 q k)

/-- The result, as one function of the arguments. -/
def res (c : Dev nD) (i : S8192x5632.Idx) : EReal :=
  if h : (i 1).val < 2816 then
    first (down m c (i 0) ⟨(i 1).val, h⟩) (arg2 m c (ValueIdx.ix2 (i 0) ⟨(i 1).val, h⟩)) (arg3 m c (ValueIdx.ix2 (i 0) ⟨(i 1).val, h⟩))
  else
    second (down m c (i 0) ⟨(i 1).val - 2816, by have := (i 1).isLt; show _ < 2816; have e : (i 1).val < 5632 := this; omega⟩)
      (arg2 m c (ValueIdx.ix2 (i 0) ⟨(i 1).val - 2816, by have := (i 1).isLt; show _ < 2816; have e : (i 1).val < 5632 := this; omega⟩))

/-- The product of point `t`'s blocks at an index of the whole. -/
theorem down_at (c : Dev nD) (t : Fin cfg0.N) (j : Fin 512) (l : Fin 2816) (p : Fin 8192) (q : Fin 2816)
    (hp : p.val = t.val * 512 + j.val) (hq : q.val = l.val) :
    ((k0_pay1 (iblk m c 0 t) (iblk m c 1 t) : Vec Ideal S512x2816 .f32) (ValueIdx.ix2 j l) : EReal) = down m c p q := by
  refine (pay_at _ _ _ _).trans (Finset.sum_congr rfl fun k _ => congrArg₂ (· * ·) ?_ ?_)
  · exact blk0_at m c t _ k _ hp (by show k.val = _; omega)
  · exact blk1_at m c t _ k _ (by show q.val = _; omega) (by show k.val = _; omega)

/-- The second half of what point `t` writes. -/
theorem second_piece (c : Dev nD) (t : Fin cfg0.N) (x : S512x2816.Idx) (z : S8192x5632.Idx)
    (z0 : (z 0).val = t.val * 512 + (x 0).val) (z1 : (z 1).val = 2816 + (x 1).val) :
    (k0_pay4 (iblk m c 0 t) (iblk m c 1 t) (iblk m c 2 t) : Vec Ideal S512x2816 .bf16) x = res m c z := by
  have b : ¬ (z 1).val < 2816 := by omega
  rw [second_at]
  unfold res
  rw [dif_neg b]
  idx_vars x
  refine congrArg₂ second ?_ ?_
  · exact down_at m c t x0 x1 _ _ z0 (by show (z 1).val - 2816 = _; rw [z1]; show 2816 + x1.val - 2816 = _; omega)
  · exact blk2_at m c t x0 x1 _ z0 (by show (z 1).val - 2816 = _; rw [z1]; show 2816 + x1.val - 2816 = _; omega)

/-- The first half of what point `t` writes. -/
theorem first_piece (c : Dev nD) (t : Fin cfg0.N) (x : S512x2816.Idx) (z : S8192x5632.Idx)
    (z0 : (z 0).val = t.val * 512 + (x 0).val) (z1 : (z 1).val = (x 1).val) :
    (k0_pay3 (iblk m c 0 t) (iblk m c 1 t) (iblk m c 2 t) (iblk m c 3 t) : Vec Ideal S512x2816 .bf16) x = res m c z := by
  have x1 : (x 1).val < 2816 := (x 1).isLt
  have b : (z 1).val < 2816 := by omega
  rw [first_at]
  unfold res
  rw [dif_pos b]
  clear x1
  idx_vars x
  have e1 : (z 1).val = x1.val := z1
  refine congr (congrArg₂ first ?_ ?_) ?_
  · exact down_at m c t x0 x1 _ _ z0 z1
  · exact blk2_at m c t x0 x1 _ z0 (by show (z 1).val = _; omega)
  · exact blk3_at m c t x0 x1 _ z0 (by show (z 1).val = _; omega)

/-- The array the launch leaves. -/
theorem result4 (c : Dev nD) : (dats m 0 c).arrAt 4 cfg0.N = (res m c : S8192x5632.Idx → EReal) := by
  refine (dats m 0 c).arrAt_eq_of_covers 4 _ (by decide +kernel) fun t hf y => ?_
  blk_simp
  rw [after0_4]
  obtain ⟨f0, f1⟩ := at4 t
  have d0 : ((win0_4.blk t).view.emb y 0).val = t.val * 512 + (y 0).val := by
    show win0_4.index t 0 * 512 + 1 * (y 0).val = _; omega
  have d1 : ((win0_4.blk t).view.emb y 1).val = (y 1).val := by
    show win0_4.index t 1 * 5632 + 1 * (y 1).val = _; omega
  generalize (win0_4.blk t).view.emb y = z at d0 d1
  canon_tiles x h using cover0_4 ..
  · rw [View.ld_unit_zero (S := S512x1024) origin2, View.ld_unit_zero (S := S2816x1024) origin2, View.ld_unit_zero (S := S512x2816) origin2]
    exact second_piece m c t x z (by omega) (by omega)
  · rw [View.ld_unit_zero (S := S512x1024) origin2, View.ld_unit_zero (S := S2816x1024) origin2, View.ld_unit_zero (S := S512x2816) origin2, View.ld_unit_zero (S := S512x2816) origin2]
    exact first_piece m c t x z (by omega) (by omega)

end Cert.SwigluIdeal.Product

namespace Cert.Swiglu

/-- The launch and the derivative of the gate end with the same array when what comes in is finite. -/
theorem algebraic : Cert.algebraic_SwigluIdeal_SwigluRefIdeal := by
  intro m g m' g' pre ha
  refine ⟨fun c => (SwigluIdeal.Gen.dats m 0 c).arrAt 4 SwigluIdeal.cfg0.N, SwigluIdeal.Value.run_blocks m g, ?_⟩
  refine (θ_run _ _ _).mono (fun r h c => ?_) (SwigluRefIdeal.Value.run m' g')
  obtain ⟨h0, h1, h2, h3, h4⟩ := h c
  obtain ⟨a0, a1, a2, a3⟩ := ha c
  obtain ⟨rx, rw', rb⟩ := reals _ _ _ _ (pre c)
  refine ⟨h0.trans ?_, h1, h2, h3, h4⟩
  rw [a0, a1, a2, a3]
  funext i
  have i1 : (i 1).val < 5632 := (i 1).isLt
  refine Eq.trans ?_ (congrFun (SwigluIdeal.Product.result4 m c) i).symm
  unfold SwigluIdeal.Product.res
  clear a0 a1 a2 a3 h0 h1 h2 h3 h4 h ha
  idx_vars i
  rename_i l
  pointwise
  by_cases b : l.val < 2816
  · simp only [dif_pos b]
    obtain ⟨p, hp⟩ := real_sum (fun k : Fin 1024 => SwigluIdeal.Product.arg0 m c (ValueIdx.ix2 i0 k))
      (fun k => SwigluIdeal.Product.arg1 m c (ValueIdx.ix2 ⟨l.val, b⟩ k)) (fun k => rx _) (fun k => rw' _)
    obtain ⟨q, hq⟩ := rb (ValueIdx.ix2 i0 ⟨l.val, b⟩)
    have hD : SwigluIdeal.Product.down m c i0 ⟨l.val, b⟩ * SwigluIdeal.Product.arg3 m c (ValueIdx.ix2 i0 ⟨l.val, b⟩) = ((p * q : ℝ) : EReal) := by
      refine (congrArg₂ (· * ·) hp hq).trans ?_
      push_cast; rfl
    unfold SwigluIdeal.Product.first
    rw [hD]
    refine Eq.trans ?_ (slope (p * q) _).symm
    rw [← hD]
    rfl
  · have b' : l.val - 2816 < 2816 := by omega
    simp only [dif_neg b, dif_pos b']
    exact mul_comm _ _

end Cert.Swiglu

end
-- ==== Proof.Up.lean ====
/-
  The feed-forward's way up: two blocks of columns by eight of tokens, the gate's and the other half's products and the
  gated product of the two, against the same lines over the whole arrays.
-/
module

public import proofs.«01_k».proof.Defs
public import proofs.«01_k».proof.Proof.Sums
public import proofs.«01_k».proof.Proof.Gen.UpIdeal.Value
public import proofs.«01_k».proof.Proof.Gen.UpRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.UpIdeal.Product

open Cert.UpIdeal Cert.UpIdeal.Gen Cert.UpIdeal.Value Cert.Sums

section
variable {F : FTy → Type} [FloatOps F]
variable (m : (ℓ : Loc nD τ sig) → Buf (Elt F) ℓ)

/-- Which block of its first operand point `t` is given. -/
theorem at0 : ∀ t : Fin cfg0.N, win0_0.index t (0 : Fin 2) = t.val % 8 ∧ win0_0.index t (1 : Fin 2) = 0 :=
  (by decide +kernel : ∀ t : Fin grid0.N, _)

/-- Which block of its second operand point `t` is given. -/
theorem at1 : ∀ t : Fin cfg0.N, win0_1.index t (0 : Fin 3) = t.val / 8 ∧ win0_1.index t (1 : Fin 3) = 0 ∧ win0_1.index t (2 : Fin 3) = 0 :=
  (by decide +kernel : ∀ t : Fin grid0.N, _)

/-- Which block of its third operand point `t` is given. -/
theorem at2 : ∀ t : Fin cfg0.N, win0_2.index t (0 : Fin 3) = t.val / 8 + 2 ∧ win0_2.index t (1 : Fin 3) = 0 ∧ win0_2.index t (2 : Fin 3) = 0 :=
  (by decide +kernel : ∀ t : Fin grid0.N, _)

/-- Which block of the result point `t` writes. -/
theorem at3 : ∀ t : Fin cfg0.N, win0_3.index t (0 : Fin 2) = t.val % 8 ∧ win0_3.index t (1 : Fin 2) = t.val / 8 :=
  (by decide +kernel : ∀ t : Fin grid0.N, _)

/-- Which block of the result point `t` writes. -/
theorem at4 : ∀ t : Fin cfg0.N, win0_4.index t (0 : Fin 2) = t.val % 8 ∧ win0_4.index t (1 : Fin 2) = t.val / 8 :=
  (by decide +kernel : ∀ t : Fin grid0.N, _)

/-- Which block of the result point `t` writes. -/
theorem at5 : ∀ t : Fin cfg0.N, win0_5.index t (0 : Fin 2) = t.val % 8 ∧ win0_5.index t (1 : Fin 2) = t.val / 8 :=
  (by decide +kernel : ∀ t : Fin grid0.N, _)

/-- What a point leaves in its block of the result. -/
theorem out3 (x0 : Vec F S1024x1024 .bf16) (x1 : Vec F S1x1024x1408 .bf16) (x2 : Vec F S1x1024x1408 .bf16) :
    out0_3 (F := F) x0 x1 x2 = k0_pay4 x0 x1 := by
  unfold out0_3
  rw [View.canon_unit_zero origin2]
  simp only [View.ld_unit_zero (S := S1024x1024) origin2, View.ld_unit_zero (S := S1x1024x1408) origin3]

/-- What a point leaves in its block of the result. -/
theorem out4 (x0 : Vec F S1024x1024 .bf16) (x1 : Vec F S1x1024x1408 .bf16) (x2 : Vec F S1x1024x1408 .bf16) :
    out0_4 (F := F) x0 x1 x2 = k0_pay5 x0 x2 := by
  unfold out0_4
  rw [View.canon_unit_zero origin2]
  simp only [View.ld_unit_zero (S := S1024x1024) origin2, View.ld_unit_zero (S := S1x1024x1408) origin3]

/-- What a point leaves in its block of the result. -/
theorem out5 (x0 : Vec F S1024x1024 .bf16) (x1 : Vec F S1x1024x1408 .bf16) (x2 : Vec F S1x1024x1408 .bf16) :
    out0_5 (F := F) x0 x1 x2 = k0_pay6 x0 x1 x2 := by
  unfold out0_5
  rw [View.canon_unit_zero origin2]
  simp only [View.ld_unit_zero (S := S1024x1024) origin2, View.ld_unit_zero (S := S1x1024x1408) origin3]

/-- The operand as the launch hands it over. -/
theorem v0_eq (c : Dev nD) :
    V m c main_v0 = truncf .bf16 (m ((c.tc : Thread nD τ).loc main_arg0)) bitsLt_bf16_f32 := by
  unfold V; after_results

/-- The operand as the launch hands it over. -/
theorem v1_eq (c : Dev nD) :
    V m c main_v1 = truncf .bf16 (m ((c.tc : Thread nD τ).loc main_arg1)) bitsLt_bf16_f32 := by
  unfold V; after_results

end

variable (m : (ℓ : Loc nD τ sig) → Buf (Elt Ideal) ℓ)

/-- An argument's entries. -/
abbrev arg0 (c : Dev nD) : S8192x1024.Idx → EReal := m ((c.tc : Thread nD τ).loc main_arg0)

/-- An argument's entries. -/
abbrev arg1 (c : Dev nD) : S4x1024x1408.Idx → EReal := m ((c.tc : Thread nD τ).loc main_arg1)

/-- An element of point `t`'s block of the first operand. -/
theorem blk0_at (c : Dev nD) (t : Fin cfg0.N) (j : Fin 1024) (k : Fin 1024) (p : S8192x1024.Idx)
    (p0 : (p 0).val = (t.val % 8) * 1024 + j.val) (p1 : (p 1).val = (0) * 1024 + k.val) :
    iblk m c 0 t (ValueIdx.ix2 j k) = arg0 m c p := by
  unfold iblk
  rw [View.read_apply]
  show V m c main_v0 _ = _
  rw [v0_eq]
  show m ((c.tc : Thread nD τ).loc main_arg0) _ = _
  congr 1
  obtain ⟨f0, f1⟩ := at0 t
  funext a; apply Fin.ext
  match a with
  | ⟨0, _⟩ => show win0_0.index t 0 * 1024 + 1 * j.val = (p 0).val; omega
  | ⟨1, _⟩ => show win0_0.index t 1 * 1024 + 1 * k.val = (p 1).val; omega

/-- An element of point `t`'s block of the second operand. -/
theorem blk1_at (c : Dev nD) (t : Fin cfg0.N) (j : Fin 1) (k : Fin 1024) (l : Fin 1408) (p : S4x1024x1408.Idx)
    (p0 : (p 0).val = (t.val / 8) * 1 + j.val) (p1 : (p 1).val = (0) * 1024 + k.val) (p2 : (p 2).val = (0) * 1408 + l.val) :
    iblk m c 1 t (ValueIdx.ix3 j k l) = arg1 m c p := by
  unfold iblk
  rw [View.read_apply]
  show V m c main_v1 _ = _
  rw [v1_eq]
  show m ((c.tc : Thread nD τ).loc main_arg1) _ = _
  congr 1
  obtain ⟨f0, f1, f2⟩ := at1 t
  funext a; apply Fin.ext
  match a with
  | ⟨0, _⟩ => show win0_1.index t 0 * 1 + 1 * j.val = (p 0).val; omega
  | ⟨1, _⟩ => show win0_1.index t 1 * 1024 + 1 * k.val = (p 1).val; omega
  | ⟨2, _⟩ => show win0_1.index t 2 * 1408 + 1 * l.val = (p 2).val; omega

/-- An element of point `t`'s block of the third operand. -/
theorem blk2_at (c : Dev nD) (t : Fin cfg0.N) (j : Fin 1) (k : Fin 1024) (l : Fin 1408) (p : S4x1024x1408.Idx)
    (p0 : (p 0).val = (t.val / 8 + 2) * 1 + j.val) (p1 : (p 1).val = (0) * 1024 + k.val) (p2 : (p 2).val = (0) * 1408 + l.val) :
    iblk m c 2 t (ValueIdx.ix3 j k l) = arg1 m c p := by
  unfold iblk
  rw [View.read_apply]
  show V m c main_v1 _ = _
  rw [v1_eq]
  show m ((c.tc : Thread nD τ).loc main_arg1) _ = _
  congr 1
  obtain ⟨f0, f1, f2⟩ := at2 t
  funext a; apply Fin.ext
  match a with
  | ⟨0, _⟩ => show win0_2.index t 0 * 1 + 1 * j.val = (p 0).val; omega
  | ⟨1, _⟩ => show win0_2.index t 1 * 1024 + 1 * k.val = (p 1).val; omega
  | ⟨2, _⟩ => show win0_2.index t 2 * 1408 + 1 * l.val = (p 2).val; omega

/-- The product of two blocks at an index. -/
theorem a_at (x : Vec Ideal S1024x1024 .bf16) (y : Vec Ideal S1x1024x1408 .bf16) (j : Fin 1024) (l : Fin 1408) :
    (k0_pay2 x y : Vec Ideal S1024x1408 .f32) (ValueIdx.ix2 j l)
      = ∑ k : Fin 1024, (x (ValueIdx.ix2 j k) : EReal) * y (ValueIdx.ix3 0 k l) := by
  unfold k0_pay2 k0_pay1
  pointwise
  try rfl

/-- The product of two blocks at an index. -/
theorem b_at (x : Vec Ideal S1024x1024 .bf16) (y : Vec Ideal S1x1024x1408 .bf16) (j : Fin 1024) (l : Fin 1408) :
    (k0_pay3 x y : Vec Ideal S1024x1408 .f32) (ValueIdx.ix2 j l)
      = ∑ k : Fin 1024, (x (ValueIdx.ix2 j k) : EReal) * y (ValueIdx.ix3 0 k l) := by
  unfold k0_pay3 k0_pay1
  pointwise
  try rfl

/-- What the feed-forward makes of the gate's product and the other's. -/
abbrev _root_.Cert.Up.gated (a b : EReal) : EReal := a * Ideal.logistic a * b
open Cert.Up (gated)

/-- The gated product of two blocks at an index. -/
theorem f_at (x : Vec Ideal S1024x1024 .bf16) (y z : Vec Ideal S1x1024x1408 .bf16) (j : Fin 1024) (l : Fin 1408) :
    (k0_pay6 x y z : Vec Ideal S1024x1408 .bf16) (ValueIdx.ix2 j l)
      = gated (∑ k : Fin 1024, (x (ValueIdx.ix2 j k) : EReal) * y (ValueIdx.ix3 0 k l))
          (∑ k : Fin 1024, (x (ValueIdx.ix2 j k) : EReal) * z (ValueIdx.ix3 0 k l)) := by
  refine Eq.trans ?_ (congrArg₂ gated (a_at x y j l) (b_at x z j l))
  unfold k0_pay6 gated
  generalize k0_pay2 x y = v
  generalize k0_pay3 x z = w
  pointwise
  try rfl

/-- A sum of a product of two blocks. -/
abbrev prod (x : Vec Ideal S1024x1024 .bf16) (y : Vec Ideal S1x1024x1408 .bf16) (j : Fin 1024) (l : Fin 1408) : EReal :=
  ∑ k : Fin 1024, (x (ValueIdx.ix2 j k) : EReal) * y (ValueIdx.ix3 0 k l)

/-- The weight's piece a column of the gate's half (`o = 0`) or the other half (`o = 2`) lies in. -/
abbrev piece (o : ℕ) (ho : o < 3) (i : S8192x2816.Idx) : Fin 4 :=
  ⟨(i 1).val / 1408 + o, by have : (i 1).val < 2816 := (i 1).isLt; omega⟩
/-- Its column there. -/
abbrev place (i : S8192x2816.Idx) : Fin 1408 := ⟨(i 1).val % 1408, Nat.mod_lt _ (by decide)⟩
/-- A sum of the product's. -/
abbrev half (o : ℕ) (ho : o < 3) (c : Dev nD) (i : S8192x2816.Idx) : EReal :=
  ∑ k : Fin 1024, arg0 m c (ValueIdx.ix2 (i 0) k) * arg1 m c (ValueIdx.ix3 (piece o ho i) k (place i))

/-- A block's sum is a sum of the whole product's. -/
theorem half1 (c : Dev nD) (t : Fin cfg0.N) (j : Fin 1024) (l : Fin 1408) (i : S8192x2816.Idx)
    (d0 : (i 0).val = (t.val % 8) * 1024 + j.val) (d1 : (i 1).val = (t.val / 8) * 1408 + l.val) :
    prod (iblk m c 0 t) (iblk m c 1 t) j l = half m 0 (by decide) c i := by
  refine Finset.sum_congr rfl fun k _ => congrArg₂ (· * ·) ?_ ?_
  · exact blk0_at m c t j k _ d0 (by show k.val = _; omega)
  · refine blk1_at m c t 0 k l _ ?_ (by show k.val = _; omega) ?_
    · show (i 1).val / 1408 + 0 = _ * 1 + 0; omega
    · show (i 1).val % 1408 = _; omega

/-- A block's sum is a sum of the whole product's. -/
theorem half2 (c : Dev nD) (t : Fin cfg0.N) (j : Fin 1024) (l : Fin 1408) (i : S8192x2816.Idx)
    (d0 : (i 0).val = (t.val % 8) * 1024 + j.val) (d1 : (i 1).val = (t.val / 8) * 1408 + l.val) :
    prod (iblk m c 0 t) (iblk m c 2 t) j l = half m 2 (by decide) c i := by
  refine Finset.sum_congr rfl fun k _ => congrArg₂ (· * ·) ?_ ?_
  · exact blk0_at m c t j k _ d0 (by show k.val = _; omega)
  · refine blk2_at m c t 0 k l _ ?_ (by show k.val = _; omega) ?_
    · show (i 1).val / 1408 + 2 = _ * 1 + 0; omega
    · show (i 1).val % 1408 = _; omega

/-- The result, as one function of the arguments. -/
theorem result3 (c : Dev nD) : (dats m 0 c).arrAt 3 cfg0.N = (fun i => half m 0 (by decide) c i : S8192x2816.Idx → EReal) := by
  refine (dats m 0 c).arrAt_eq_of_covers 3 _ (by decide +kernel) fun t hf y => ?_
  blk_simp
  rw [after0_3, out3]
  obtain ⟨f0, f1⟩ := at3 t
  idx_vars y
  have d0 : ((win0_3.blk t).view.emb (ValueIdx.ix2 y0 y1) 0).val = (t.val % 8) * 1024 + y0.val := by
    show win0_3.index t 0 * 1024 + 1 * y0.val = _; omega
  have d1 : ((win0_3.blk t).view.emb (ValueIdx.ix2 y0 y1) 1).val = (t.val / 8) * 1408 + y1.val := by
    show win0_3.index t 1 * 1408 + 1 * y1.val = _; omega
  exact (a_at _ _ _ _).trans (half1 m c t _ _ _ d0 d1)

/-- The result, as one function of the arguments. -/
theorem result4 (c : Dev nD) : (dats m 0 c).arrAt 4 cfg0.N = (fun i => half m 2 (by decide) c i : S8192x2816.Idx → EReal) := by
  refine (dats m 0 c).arrAt_eq_of_covers 4 _ (by decide +kernel) fun t hf y => ?_
  blk_simp
  rw [after0_4, out4]
  obtain ⟨f0, f1⟩ := at4 t
  idx_vars y
  have d0 : ((win0_4.blk t).view.emb (ValueIdx.ix2 y0 y1) 0).val = (t.val % 8) * 1024 + y0.val := by
    show win0_4.index t 0 * 1024 + 1 * y0.val = _; omega
  have d1 : ((win0_4.blk t).view.emb (ValueIdx.ix2 y0 y1) 1).val = (t.val / 8) * 1408 + y1.val := by
    show win0_4.index t 1 * 1408 + 1 * y1.val = _; omega
  exact (b_at _ _ _ _).trans (half2 m c t _ _ _ d0 d1)

/-- The result, as one function of the arguments. -/
theorem result5 (c : Dev nD) : (dats m 0 c).arrAt 5 cfg0.N = (fun i => gated (half m 0 (by decide) c i) (half m 2 (by decide) c i) : S8192x2816.Idx → EReal) := by
  refine (dats m 0 c).arrAt_eq_of_covers 5 _ (by decide +kernel) fun t hf y => ?_
  blk_simp
  rw [after0_5, out5]
  obtain ⟨f0, f1⟩ := at5 t
  idx_vars y
  have d0 : ((win0_5.blk t).view.emb (ValueIdx.ix2 y0 y1) 0).val = (t.val % 8) * 1024 + y0.val := by
    show win0_5.index t 0 * 1024 + 1 * y0.val = _; omega
  have d1 : ((win0_5.blk t).view.emb (ValueIdx.ix2 y0 y1) 1).val = (t.val / 8) * 1408 + y1.val := by
    show win0_5.index t 1 * 1408 + 1 * y1.val = _; omega
  exact (f_at _ _ _ _ _).trans (congrArg₂ gated (half1 m c t _ _ _ d0 d1) (half2 m c t _ _ _ d0 d1))

end Cert.UpIdeal.Product

namespace Cert.Up

open UpRefIdeal UpRefIdeal.Gen in
/-- The plain product's columns from 0 on, at an index. -/
theorem cols0 (m : (ℓ : Loc UpIdeal.nD UpIdeal.τ UpIdeal.sig) → Buf (Elt Ideal) ℓ) (c : Dev UpIdeal.nD) (i : S8192x2816.Idx) :
    (truncf .bf16 (extractStridedSlice S8192x2816 ![0, 0] (Host.dotGeneral (F := Ideal) (φ₁ := .f32) (φ₂ := .f32) dot_S8192x1024_S1024x5632_S8192x5632_1_0_0_1_n_n none (m ((c.tc : Thread UpIdeal.nD UpIdeal.τ).loc UpIdeal.main_arg0)) ((concatenate S1024x5632 1 [⟨S1024x1408, ((shapeCast _ (extractStridedSlice S1x1024x1408 ![0, 0, 0] (m ((c.tc : Thread UpIdeal.nD UpIdeal.τ).loc UpIdeal.main_arg1)) slices_S4x1024x1408_S1x1024x1408_0_0_0) shapeCasts_S1x1024x1408_S1024x1408) : (⟨S1024x1408, .f32⟩ : BufTy).Contents (Elt Ideal))⟩, ⟨S1024x1408, ((shapeCast _ (extractStridedSlice S1x1024x1408 ![1, 0, 0] (m ((c.tc : Thread UpIdeal.nD UpIdeal.τ).loc UpIdeal.main_arg1)) slices_S4x1024x1408_S1x1024x1408_1_0_0) shapeCasts_S1x1024x1408_S1024x1408) : (⟨S1024x1408, .f32⟩ : BufTy).Contents (Elt Ideal))⟩, ⟨S1024x1408, ((shapeCast _ (extractStridedSlice S1x1024x1408 ![2, 0, 0] (m ((c.tc : Thread UpIdeal.nD UpIdeal.τ).loc UpIdeal.main_arg1)) slices_S4x1024x1408_S1x1024x1408_2_0_0) shapeCasts_S1x1024x1408_S1024x1408) : (⟨S1024x1408, .f32⟩ : BufTy).Contents (Elt Ideal))⟩, ⟨S1024x1408, ((shapeCast _ (extractStridedSlice S1x1024x1408 ![3, 0, 0] (m ((c.tc : Thread UpIdeal.nD UpIdeal.τ).loc UpIdeal.main_arg1)) slices_S4x1024x1408_S1x1024x1408_3_0_0) shapeCasts_S1x1024x1408_S1024x1408) : (⟨S1024x1408, .f32⟩ : BufTy).Contents (Elt Ideal))⟩] concatenates_S1024x1408_S1024x1408_S1024x1408_S1024x1408_S1024x5632_d1 : (⟨S1024x5632, .f32⟩ : BufTy).Contents (Elt Ideal)))) slices_S8192x5632_S8192x2816_0_0) bitsLt_bf16_f32 : FVec Ideal S8192x2816 .bf16) i
      = UpIdeal.Product.half m 0 (by decide) c i := by
  have i1 : (i 1).val < 2816 := (i 1).isLt
  unfold UpIdeal.Product.half
  idx_vars i
  rename_i l
  pointwise
  refine Finset.sum_congr rfl fun k _ => congrArg₂ (· * ·) rfl ?_
  split_ifs
  all_goals refine congrArg (UpIdeal.Product.arg1 m c) (congrArg₂ (fun p q => ValueIdx.ix3 p k q) (Fin.ext ?_) (Fin.ext ?_))
  all_goals first | omega | (dsimp [UpIdeal.Product.piece, UpIdeal.Product.place] at * <;> omega) | (simp [UpIdeal.Product.piece, UpIdeal.Product.place] at * <;> omega)

open UpRefIdeal UpRefIdeal.Gen in
/-- The plain product's columns from 2816 on, at an index. -/
theorem cols1 (m : (ℓ : Loc UpIdeal.nD UpIdeal.τ UpIdeal.sig) → Buf (Elt Ideal) ℓ) (c : Dev UpIdeal.nD) (i : S8192x2816.Idx) :
    (truncf .bf16 (extractStridedSlice S8192x2816 ![0, 2816] (Host.dotGeneral (F := Ideal) (φ₁ := .f32) (φ₂ := .f32) dot_S8192x1024_S1024x5632_S8192x5632_1_0_0_1_n_n none (m ((c.tc : Thread UpIdeal.nD UpIdeal.τ).loc UpIdeal.main_arg0)) ((concatenate S1024x5632 1 [⟨S1024x1408, ((shapeCast _ (extractStridedSlice S1x1024x1408 ![0, 0, 0] (m ((c.tc : Thread UpIdeal.nD UpIdeal.τ).loc UpIdeal.main_arg1)) slices_S4x1024x1408_S1x1024x1408_0_0_0) shapeCasts_S1x1024x1408_S1024x1408) : (⟨S1024x1408, .f32⟩ : BufTy).Contents (Elt Ideal))⟩, ⟨S1024x1408, ((shapeCast _ (extractStridedSlice S1x1024x1408 ![1, 0, 0] (m ((c.tc : Thread UpIdeal.nD UpIdeal.τ).loc UpIdeal.main_arg1)) slices_S4x1024x1408_S1x1024x1408_1_0_0) shapeCasts_S1x1024x1408_S1024x1408) : (⟨S1024x1408, .f32⟩ : BufTy).Contents (Elt Ideal))⟩, ⟨S1024x1408, ((shapeCast _ (extractStridedSlice S1x1024x1408 ![2, 0, 0] (m ((c.tc : Thread UpIdeal.nD UpIdeal.τ).loc UpIdeal.main_arg1)) slices_S4x1024x1408_S1x1024x1408_2_0_0) shapeCasts_S1x1024x1408_S1024x1408) : (⟨S1024x1408, .f32⟩ : BufTy).Contents (Elt Ideal))⟩, ⟨S1024x1408, ((shapeCast _ (extractStridedSlice S1x1024x1408 ![3, 0, 0] (m ((c.tc : Thread UpIdeal.nD UpIdeal.τ).loc UpIdeal.main_arg1)) slices_S4x1024x1408_S1x1024x1408_3_0_0) shapeCasts_S1x1024x1408_S1024x1408) : (⟨S1024x1408, .f32⟩ : BufTy).Contents (Elt Ideal))⟩] concatenates_S1024x1408_S1024x1408_S1024x1408_S1024x1408_S1024x5632_d1 : (⟨S1024x5632, .f32⟩ : BufTy).Contents (Elt Ideal)))) slices_S8192x5632_S8192x2816_0_2816) bitsLt_bf16_f32 : FVec Ideal S8192x2816 .bf16) i
      = UpIdeal.Product.half m 2 (by decide) c i := by
  have i1 : (i 1).val < 2816 := (i 1).isLt
  unfold UpIdeal.Product.half
  idx_vars i
  rename_i l
  pointwise
  refine Finset.sum_congr rfl fun k _ => congrArg₂ (· * ·) rfl ?_
  split_ifs
  all_goals refine congrArg (UpIdeal.Product.arg1 m c) (congrArg₂ (fun p q => ValueIdx.ix3 p k q) (Fin.ext ?_) (Fin.ext ?_))
  all_goals first | omega | (dsimp [UpIdeal.Product.piece, UpIdeal.Product.place] at * <;> omega) | (simp [UpIdeal.Product.piece, UpIdeal.Product.place] at * <;> omega)

open UpRefIdeal UpRefIdeal.Gen in
/-- The gated product of two arrays, at an index. -/
theorem gated_at (v w : FVec Ideal S8192x2816 .f32) (i : S8192x2816.Idx) :
    (truncf .bf16 (mulf (mulf v (Host.divf (broadcastInDim S8192x2816 ![] bcast_S_S8192x2816 (constant S_ .f32 0x3F800000#32)) (addf (broadcastInDim S8192x2816 ![] bcast_S_S8192x2816 (constant S_ .f32 0x3F800000#32)) (Host.exp (Host.negf v))))) w) bitsLt_bf16_f32 : FVec Ideal S8192x2816 .bf16) i
      = gated (v i) (w i) := by
  pointwise
  rfl

/-- The launch and the plain lines end with the same three arrays. -/
theorem algebraic : Cert.algebraic_UpIdeal_UpRefIdeal := by
  intro m g m' g' _ ha
  refine ⟨fun c => (UpIdeal.Gen.dats m 0 c).arrAt 3 UpIdeal.cfg0.N, fun c => (UpIdeal.Gen.dats m 0 c).arrAt 4 UpIdeal.cfg0.N,
    fun c => (UpIdeal.Gen.dats m 0 c).arrAt 5 UpIdeal.cfg0.N, UpIdeal.Value.run_blocks m g, ?_⟩
  refine (θ_run _ _ _).mono (fun r h c => ?_) (UpRefIdeal.Value.run m' g')
  obtain ⟨h0, h1, h2, h3⟩ := h c
  obtain ⟨a0, a1⟩ := ha c
  refine ⟨h0.trans ?_, h1.trans ?_, h2.trans ?_, h3⟩
  · rw [a0, a1]
    funext i
    refine Eq.trans ?_ (congrFun (UpIdeal.Product.result3 m c) i).symm
    exact cols0 m c i
  · rw [a0, a1]
    funext i
    refine Eq.trans ?_ (congrFun (UpIdeal.Product.result4 m c) i).symm
    exact cols1 m c i
  · unfold UpRefIdeal.Value.res_main_v16
    rw [a0, a1]
    funext i
    refine Eq.trans ?_ (congrFun (UpIdeal.Product.result5 m c) i).symm
    exact (gated_at _ _ i).trans (congrArg₂ gated (cols0 m c i) (cols1 m c i))

end Cert.Up

end
-- ==== Proof.lean ====
module

public import proofs.«01_k».proof.Defs
public import proofs.«01_k».proof.Proof.AOut
public import proofs.«01_k».proof.Proof.AdaGrad
public import proofs.«01_k».proof.Proof.AdaMod
public import proofs.«01_k».proof.Proof.AdamwA
public import proofs.«01_k».proof.Proof.AdamwAda
public import proofs.«01_k».proof.Proof.AdamwDown
public import proofs.«01_k».proof.Proof.AdamwIn
public import proofs.«01_k».proof.Proof.AdamwOut
public import proofs.«01_k».proof.Proof.AdamwSmall
public import proofs.«01_k».proof.Proof.AdamwUp
public import proofs.«01_k».proof.Proof.BOut
public import proofs.«01_k».proof.Proof.Dmg
public import proofs.«01_k».proof.Proof.Down
public import proofs.«01_k».proof.Proof.Du
public import proofs.«01_k».proof.Proof.Dya
public import proofs.«01_k».proof.Proof.FinalLoss
public import proofs.«01_k».proof.Proof.Gen.AOut.Frame
public import proofs.«01_k».proof.Proof.Gen.AOutIdeal.Frame
public import proofs.«01_k».proof.Proof.Gen.AOutRefIdeal.Run
public import proofs.«01_k».proof.Proof.Gen.AdaGrad.Frame
public import proofs.«01_k».proof.Proof.Gen.AdaGradIdeal.Frame
public import proofs.«01_k».proof.Proof.Gen.AdaGradRefIdeal.Run
public import proofs.«01_k».proof.Proof.Gen.AdaMod.Frame
public import proofs.«01_k».proof.Proof.Gen.AdaModIdeal.Frame
public import proofs.«01_k».proof.Proof.Gen.AdaModRefIdeal.Run
public import proofs.«01_k».proof.Proof.Gen.AdamwA.Frame
public import proofs.«01_k».proof.Proof.Gen.AdamwAIdeal.Frame
public import proofs.«01_k».proof.Proof.Gen.AdamwARefIdeal.Run
public import proofs.«01_k».proof.Proof.Gen.AdamwAda.Frame
public import proofs.«01_k».proof.Proof.Gen.AdamwAdaIdeal.Frame
public import proofs.«01_k».proof.Proof.Gen.AdamwAdaRefIdeal.Run
public import proofs.«01_k».proof.Proof.Gen.AdamwDown.Frame
public import proofs.«01_k».proof.Proof.Gen.AdamwDownIdeal.Frame
public import proofs.«01_k».proof.Proof.Gen.AdamwDownRefIdeal.Run
public import proofs.«01_k».proof.Proof.Gen.AdamwIn.Frame
public import proofs.«01_k».proof.Proof.Gen.AdamwInIdeal.Frame
public import proofs.«01_k».proof.Proof.Gen.AdamwInRefIdeal.Run
public import proofs.«01_k».proof.Proof.Gen.AdamwOut.Frame
public import proofs.«01_k».proof.Proof.Gen.AdamwOutIdeal.Frame
public import proofs.«01_k».proof.Proof.Gen.AdamwOutRefIdeal.Run
public import proofs.«01_k».proof.Proof.Gen.AdamwSmall.Frame
public import proofs.«01_k».proof.Proof.Gen.AdamwSmallIdeal.Frame
public import proofs.«01_k».proof.Proof.Gen.AdamwSmallRefIdeal.Run
public import proofs.«01_k».proof.Proof.Gen.AdamwUp.Frame
public import proofs.«01_k».proof.Proof.Gen.AdamwUpIdeal.Frame
public import proofs.«01_k».proof.Proof.Gen.AdamwUpRefIdeal.Run
public import proofs.«01_k».proof.Proof.Gen.BOut.Frame
public import proofs.«01_k».proof.Proof.Gen.BOutIdeal.Frame
public import proofs.«01_k».proof.Proof.Gen.BOutRefIdeal.Run
public import proofs.«01_k».proof.Proof.Gen.Dmg.Frame
public import proofs.«01_k».proof.Proof.Gen.DmgIdeal.Frame
public import proofs.«01_k».proof.Proof.Gen.DmgRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Du.Frame
public import proofs.«01_k».proof.Proof.Gen.DuIdeal.Frame
public import proofs.«01_k».proof.Proof.Gen.DuRefIdeal.Run
public import proofs.«01_k».proof.Proof.Gen.Dya.Frame
public import proofs.«01_k».proof.Proof.Gen.DyaIdeal.Frame
public import proofs.«01_k».proof.Proof.Gen.DyaRefIdeal.Run
public import proofs.«01_k».proof.Proof.Gen.FinalLoss.Frame
public import proofs.«01_k».proof.Proof.Gen.FinalLossIdeal.Frame
public import proofs.«01_k».proof.Proof.Gen.FinalLossRefIdeal.Run
public import proofs.«01_k».proof.Proof.Gen.GwA.Frame
public import proofs.«01_k».proof.Proof.Gen.GwAIdeal.Frame
public import proofs.«01_k».proof.Proof.Gen.GwARefIdeal.Run
public import proofs.«01_k».proof.Proof.Gen.GwDown.Frame
public import proofs.«01_k».proof.Proof.Gen.GwDownIdeal.Frame
public import proofs.«01_k».proof.Proof.Gen.GwDownRefIdeal.Run
public import proofs.«01_k».proof.Proof.Gen.GwIn.Frame
public import proofs.«01_k».proof.Proof.Gen.GwInIdeal.Frame
public import proofs.«01_k».proof.Proof.Gen.GwInRefIdeal.Run
public import proofs.«01_k».proof.Proof.Gen.GwOut.Frame
public import proofs.«01_k».proof.Proof.Gen.GwOutIdeal.Frame
public import proofs.«01_k».proof.Proof.Gen.GwOutRefIdeal.Run
public import proofs.«01_k».proof.Proof.Gen.GwUp.Frame
public import proofs.«01_k».proof.Proof.Gen.GwUpIdeal.Frame
public import proofs.«01_k».proof.Proof.Gen.GwUpRefIdeal.Run
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Gen.MixDu.Frame
public import proofs.«01_k».proof.Proof.Gen.MixDuIdeal.Frame
public import proofs.«01_k».proof.Proof.Gen.MixDuRefIdeal.Run
public import proofs.«01_k».proof.Proof.Gen.MixIn.Frame
public import proofs.«01_k».proof.Proof.Gen.MixInIdeal.Frame
public import proofs.«01_k».proof.Proof.Gen.MixInRefIdeal.Run
public import proofs.«01_k».proof.Proof.Gen.MixOut.Frame
public import proofs.«01_k».proof.Proof.Gen.MixOutIdeal.Frame
public import proofs.«01_k».proof.Proof.Gen.MixOutRefIdeal.Run
public import proofs.«01_k».proof.Proof.Gen.Norm.Frame
public import proofs.«01_k».proof.Proof.Gen.NormBwd.Frame
public import proofs.«01_k».proof.Proof.Gen.NormBwdIdeal.Frame
public import proofs.«01_k».proof.Proof.Gen.NormBwdRefIdeal.Run
public import proofs.«01_k».proof.Proof.Gen.NormIdeal.Frame
public import proofs.«01_k».proof.Proof.Gen.NormRefIdeal.Run
public import proofs.«01_k».proof.Proof.Gen.On_gates_written
public import proofs.«01_k».proof.Proof.Gen.Post.Frame
public import proofs.«01_k».proof.Proof.Gen.PostIdeal.Frame
public import proofs.«01_k».proof.Proof.Gen.PostRefIdeal.Run
public import proofs.«01_k».proof.Proof.Gen.Pre_finite
public import proofs.«01_k».proof.Proof.Gen.PrepA.Frame
public import proofs.«01_k».proof.Proof.Gen.PrepABwd.Frame
public import proofs.«01_k».proof.Proof.Gen.PrepABwdIdeal.Frame
public import proofs.«01_k».proof.Proof.Gen.PrepABwdRefIdeal.Run
public import proofs.«01_k».proof.Proof.Gen.PrepAIdeal.Frame
public import proofs.«01_k».proof.Proof.Gen.PrepARefIdeal.Run
public import proofs.«01_k».proof.Proof.Gen.ResidBwd.Frame
public import proofs.«01_k».proof.Proof.Gen.ResidBwdIdeal.Frame
public import proofs.«01_k».proof.Proof.Gen.ResidBwdRefIdeal.Run
public import proofs.«01_k».proof.Proof.Gen.Swiglu.Frame
public import proofs.«01_k».proof.Proof.Gen.SwigluIdeal.Frame
public import proofs.«01_k».proof.Proof.Gen.SwigluRefIdeal.Run
public import proofs.«01_k».proof.Proof.Gen.Up.Frame
public import proofs.«01_k».proof.Proof.Gen.UpIdeal.Frame
public import proofs.«01_k».proof.Proof.Gen.UpRefIdeal.Run
public import proofs.«01_k».proof.Proof.GwA
public import proofs.«01_k».proof.Proof.GwDown
public import proofs.«01_k».proof.Proof.GwIn
public import proofs.«01_k».proof.Proof.GwOut
public import proofs.«01_k».proof.Proof.GwUp
public import proofs.«01_k».proof.Proof.MergeBwd
public import proofs.«01_k».proof.Proof.MixDu
public import proofs.«01_k».proof.Proof.MixIn
public import proofs.«01_k».proof.Proof.MixOut
public import proofs.«01_k».proof.Proof.Norm
public import proofs.«01_k».proof.Proof.NormBwd
public import proofs.«01_k».proof.Proof.Post
public import proofs.«01_k».proof.Proof.PrepA
public import proofs.«01_k».proof.Proof.PrepABwd
public import proofs.«01_k».proof.Proof.ResidBwd
public import proofs.«01_k».proof.Proof.Swiglu
public import proofs.«01_k».proof.Proof.Up

@[expose] public section

noncomputable section

namespace Cert.Proof

open Idealize.ShloMosaic Idealize.SL.Sem

theorem claim : Cert.Claim :=
  ⟨Cert.GwDown.Gen.facts,
    Cert.GwDownIdeal.Gen.facts,
    Cert.GwDownRefIdeal.Gen.facts,
    Cert.GwUp.Gen.facts,
    Cert.GwUpIdeal.Gen.facts,
    Cert.GwUpRefIdeal.Gen.facts,
    Cert.Du.Gen.facts,
    Cert.DuIdeal.Gen.facts,
    Cert.DuRefIdeal.Gen.facts,
    Cert.GwIn.Gen.facts,
    Cert.GwInIdeal.Gen.facts,
    Cert.GwInRefIdeal.Gen.facts,
    Cert.MixDu.Gen.facts,
    Cert.MixDuIdeal.Gen.facts,
    Cert.MixDuRefIdeal.Gen.facts,
    Cert.Swiglu.Gen.facts,
    Cert.SwigluIdeal.Gen.facts,
    Cert.SwigluRefIdeal.Gen.facts,
    Cert.GwOut.Gen.facts,
    Cert.GwOutIdeal.Gen.facts,
    Cert.GwOutRefIdeal.Gen.facts,
    Cert.GwA.Gen.facts,
    Cert.GwAIdeal.Gen.facts,
    Cert.GwARefIdeal.Gen.facts,
    Cert.Dmg.Gen.facts,
    Cert.DmgIdeal.Gen.facts,
    Cert.DmgRefIdeal.Gen.facts,
    Cert.Dya.Gen.facts,
    Cert.DyaIdeal.Gen.facts,
    Cert.DyaRefIdeal.Gen.facts,
    Cert.MixIn.Gen.facts,
    Cert.MixInIdeal.Gen.facts,
    Cert.MixInRefIdeal.Gen.facts,
    Cert.AOut.Gen.facts,
    Cert.AOutIdeal.Gen.facts,
    Cert.AOutRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.MixOut.Gen.facts,
    Cert.MixOutIdeal.Gen.facts,
    Cert.MixOutRefIdeal.Gen.facts,
    Cert.BOut.Gen.facts,
    Cert.BOutIdeal.Gen.facts,
    Cert.BOutRefIdeal.Gen.facts,
    Cert.Norm.Gen.facts,
    Cert.NormIdeal.Gen.facts,
    Cert.NormRefIdeal.Gen.facts,
    Cert.NormBwd.Gen.facts,
    Cert.NormBwdIdeal.Gen.facts,
    Cert.NormBwdRefIdeal.Gen.facts,
    Cert.ResidBwd.Gen.facts,
    Cert.ResidBwdIdeal.Gen.facts,
    Cert.ResidBwdRefIdeal.Gen.facts,
    Cert.MergeBwd.Gen.facts,
    Cert.MergeBwdIdeal.Gen.facts,
    Cert.MergeBwdRefIdeal.Gen.facts,
    Cert.PrepA.Gen.facts,
    Cert.PrepAIdeal.Gen.facts,
    Cert.PrepARefIdeal.Gen.facts,
    Cert.Post.Gen.facts,
    Cert.PostIdeal.Gen.facts,
    Cert.PostRefIdeal.Gen.facts,
    Cert.PrepABwd.Gen.facts,
    Cert.PrepABwdIdeal.Gen.facts,
    Cert.PrepABwdRefIdeal.Gen.facts,
    Cert.AdaMod.Gen.facts,
    Cert.AdaModIdeal.Gen.facts,
    Cert.AdaModRefIdeal.Gen.facts,
    Cert.AdaGrad.Gen.facts,
    Cert.AdaGradIdeal.Gen.facts,
    Cert.AdaGradRefIdeal.Gen.facts,
    Cert.FinalLoss.Gen.facts,
    Cert.FinalLossIdeal.Gen.facts,
    Cert.FinalLossRefIdeal.Gen.facts,
    Cert.AdamwAda.Gen.facts,
    Cert.AdamwAdaIdeal.Gen.facts,
    Cert.AdamwAdaRefIdeal.Gen.facts,
    Cert.AdamwUp.Gen.facts,
    Cert.AdamwUpIdeal.Gen.facts,
    Cert.AdamwUpRefIdeal.Gen.facts,
    Cert.AdamwDown.Gen.facts,
    Cert.AdamwDownIdeal.Gen.facts,
    Cert.AdamwDownRefIdeal.Gen.facts,
    Cert.AdamwIn.Gen.facts,
    Cert.AdamwInIdeal.Gen.facts,
    Cert.AdamwInRefIdeal.Gen.facts,
    Cert.AdamwA.Gen.facts,
    Cert.AdamwAIdeal.Gen.facts,
    Cert.AdamwARefIdeal.Gen.facts,
    Cert.AdamwOut.Gen.facts,
    Cert.AdamwOutIdeal.Gen.facts,
    Cert.AdamwOutRefIdeal.Gen.facts,
    Cert.AdamwSmall.Gen.facts,
    Cert.AdamwSmallIdeal.Gen.facts,
    Cert.AdamwSmallRefIdeal.Gen.facts,
    Cert.Pre_finite.Gen.facts,
    Cert.On_gates_written.Gen.facts,
    fun m ρ _ => Cert.GwDown.Gen.frame m ρ,
    fun m ρ _ => Cert.GwDownIdeal.Gen.frame m ρ,
    fun m ρ _ => (θ_run _ _ _).mono
      (fun r h => ⟨fun c => (h c).2, sem_eq_zero_of_no_sems (by decide) r.2⟩) (Cert.GwDownRefIdeal.Value.run m ρ),
    fun m ρ _ => Cert.GwUp.Gen.frame m ρ,
    fun m ρ _ => Cert.GwUpIdeal.Gen.frame m ρ,
    fun m ρ _ => (θ_run _ _ _).mono
      (fun r h => ⟨fun c => (h c).2, sem_eq_zero_of_no_sems (by decide) r.2⟩) (Cert.GwUpRefIdeal.Value.run m ρ),
    fun m ρ _ => Cert.Du.Gen.frame m ρ,
    fun m ρ _ => Cert.DuIdeal.Gen.frame m ρ,
    fun m ρ _ => (θ_run _ _ _).mono
      (fun r h => ⟨fun c => (h c).2, sem_eq_zero_of_no_sems (by decide) r.2⟩) (Cert.DuRefIdeal.Value.run m ρ),
    fun m ρ _ => Cert.GwIn.Gen.frame m ρ,
    fun m ρ _ => Cert.GwInIdeal.Gen.frame m ρ,
    fun m ρ _ => (θ_run _ _ _).mono
      (fun r h => ⟨fun c => (h c).2, sem_eq_zero_of_no_sems (by decide) r.2⟩) (Cert.GwInRefIdeal.Value.run m ρ),
    fun m ρ _ => Cert.MixDu.Gen.frame m ρ,
    fun m ρ _ => Cert.MixDuIdeal.Gen.frame m ρ,
    fun m ρ _ => (θ_run _ _ _).mono
      (fun r h => ⟨fun c => (h c).2, sem_eq_zero_of_no_sems (by decide) r.2⟩) (Cert.MixDuRefIdeal.Value.run m ρ),
    fun m ρ _ => Cert.Swiglu.Gen.frame m ρ,
    fun m ρ _ => Cert.Swiglu.Gen.frame m ρ,
    fun m ρ _ => Cert.SwigluIdeal.Gen.frame m ρ,
    fun m ρ _ => Cert.SwigluIdeal.Gen.frame m ρ,
    fun m ρ _ => (θ_run _ _ _).mono
      (fun r h => ⟨fun c => (h c).2, sem_eq_zero_of_no_sems (by decide) r.2⟩) (Cert.SwigluRefIdeal.Value.run m ρ),
    fun m ρ _ => Cert.GwOut.Gen.frame m ρ,
    fun m ρ _ => Cert.GwOutIdeal.Gen.frame m ρ,
    fun m ρ _ => (θ_run _ _ _).mono
      (fun r h => ⟨fun c => (h c).2, sem_eq_zero_of_no_sems (by decide) r.2⟩) (Cert.GwOutRefIdeal.Value.run m ρ),
    fun m ρ _ => Cert.GwA.Gen.frame m ρ,
    fun m ρ _ => Cert.GwAIdeal.Gen.frame m ρ,
    fun m ρ _ => (θ_run _ _ _).mono
      (fun r h => ⟨fun c => (h c).2, sem_eq_zero_of_no_sems (by decide) r.2⟩) (Cert.GwARefIdeal.Value.run m ρ),
    fun m ρ _ => Cert.Dmg.Gen.frame m ρ,
    fun m ρ _ => Cert.DmgIdeal.Gen.frame m ρ,
    fun m ρ _ => (θ_run _ _ _).mono
      (fun r h => ⟨fun c => (h c).2, sem_eq_zero_of_no_sems (by decide) r.2⟩) (Cert.DmgRefIdeal.Value.run m ρ),
    fun m ρ _ => Cert.Dya.Gen.frame m ρ,
    fun m ρ _ => Cert.DyaIdeal.Gen.frame m ρ,
    fun m ρ _ => (θ_run _ _ _).mono
      (fun r h => ⟨fun c => (h c).2, sem_eq_zero_of_no_sems (by decide) r.2⟩) (Cert.DyaRefIdeal.Value.run m ρ),
    fun m ρ _ => Cert.MixIn.Gen.frame m ρ,
    fun m ρ _ => Cert.MixInIdeal.Gen.frame m ρ,
    fun m ρ _ => (θ_run _ _ _).mono
      (fun r h => ⟨fun c => (h c).2, sem_eq_zero_of_no_sems (by decide) r.2⟩) (Cert.MixInRefIdeal.Value.run m ρ),
    fun m ρ _ => Cert.AOut.Gen.frame m ρ,
    fun m ρ _ => Cert.AOutIdeal.Gen.frame m ρ,
    fun m ρ _ => (θ_run _ _ _).mono
      (fun r h => ⟨fun c => (h c).2, sem_eq_zero_of_no_sems (by decide) r.2⟩) (Cert.AOutRefIdeal.Value.run m ρ),
    fun m ρ _ => Cert.Up.Gen.frame m ρ,
    fun m ρ _ => Cert.UpIdeal.Gen.frame m ρ,
    fun m ρ _ => (θ_run _ _ _).mono
      (fun r h => ⟨fun c => (h c).2.2.2, sem_eq_zero_of_no_sems (by decide) r.2⟩) (Cert.UpRefIdeal.Value.run m ρ),
    fun m ρ _ => Cert.Down.Gen.frame m ρ,
    fun m ρ _ => Cert.DownIdeal.Gen.frame m ρ,
    fun m ρ _ => (θ_run _ _ _).mono
      (fun r h => ⟨fun c => (h c).2.2, sem_eq_zero_of_no_sems (by decide) r.2⟩) (Cert.DownRefIdeal.Value.run m ρ),
    fun m ρ _ => Cert.MixOut.Gen.frame m ρ,
    fun m ρ _ => Cert.MixOutIdeal.Gen.frame m ρ,
    fun m ρ _ => (θ_run _ _ _).mono
      (fun r h => ⟨fun c => (h c).2.2, sem_eq_zero_of_no_sems (by decide) r.2⟩) (Cert.MixOutRefIdeal.Value.run m ρ),
    fun m ρ _ => Cert.BOut.Gen.frame m ρ,
    fun m ρ _ => Cert.BOutIdeal.Gen.frame m ρ,
    fun m ρ _ => (θ_run _ _ _).mono
      (fun r h => ⟨fun c => (h c).2.2, sem_eq_zero_of_no_sems (by decide) r.2⟩) (Cert.BOutRefIdeal.Value.run m ρ),
    fun m ρ _ => Cert.Norm.Gen.frame m ρ,
    fun m ρ _ => Cert.NormIdeal.Gen.frame m ρ,
    fun m ρ _ => (θ_run _ _ _).mono
      (fun r h => ⟨fun c => (h c).2, sem_eq_zero_of_no_sems (by decide) r.2⟩) (Cert.NormRefIdeal.Value.run m ρ),
    fun m ρ _ => Cert.NormBwd.Gen.frame m ρ,
    fun m ρ _ => Cert.NormBwdIdeal.Gen.frame m ρ,
    fun m ρ _ => (θ_run _ _ _).mono
      (fun r h => ⟨fun c => (h c).2.2, sem_eq_zero_of_no_sems (by decide) r.2⟩) (Cert.NormBwdRefIdeal.Value.run m ρ),
    fun m ρ _ => Cert.ResidBwd.Gen.frame m ρ,
    fun m ρ _ => Cert.ResidBwdIdeal.Gen.frame m ρ,
    fun m ρ _ => (θ_run _ _ _).mono
      (fun r h => ⟨fun c => (h c).2.2, sem_eq_zero_of_no_sems (by decide) r.2⟩) (Cert.ResidBwdRefIdeal.Value.run m ρ),
    fun m ρ _ => Cert.MergeBwd.Gen.frame m ρ,
    fun m ρ _ => Cert.MergeBwdIdeal.Gen.frame m ρ,
    fun m ρ _ => (θ_run _ _ _).mono
      (fun r h => ⟨fun c => (h c).2.2.2, sem_eq_zero_of_no_sems (by decide) r.2⟩) (Cert.MergeBwdRefIdeal.Value.run m ρ),
    fun m ρ _ => Cert.PrepA.Gen.frame m ρ,
    fun m ρ _ => Cert.PrepAIdeal.Gen.frame m ρ,
    fun m ρ _ => (θ_run _ _ _).mono
      (fun r h => ⟨fun c => (h c).2, sem_eq_zero_of_no_sems (by decide) r.2⟩) (Cert.PrepARefIdeal.Value.run m ρ),
    fun m ρ _ => Cert.Post.Gen.frame m ρ,
    fun m ρ _ => Cert.PostIdeal.Gen.frame m ρ,
    fun m ρ _ => (θ_run _ _ _).mono
      (fun r h => ⟨fun c => (h c).2, sem_eq_zero_of_no_sems (by decide) r.2⟩) (Cert.PostRefIdeal.Value.run m ρ),
    fun m ρ _ => Cert.PrepABwd.Gen.frame m ρ,
    fun m ρ _ => Cert.PrepABwdIdeal.Gen.frame m ρ,
    fun m ρ _ => (θ_run _ _ _).mono
      (fun r h => ⟨fun c => (h c).2.2, sem_eq_zero_of_no_sems (by decide) r.2⟩) (Cert.PrepABwdRefIdeal.Value.run m ρ),
    fun m ρ _ => Cert.AdaMod.Gen.frame m ρ,
    fun m ρ _ => Cert.AdaModIdeal.Gen.frame m ρ,
    fun m ρ _ => (θ_run _ _ _).mono
      (fun r h => ⟨fun c => (h c).2, sem_eq_zero_of_no_sems (by decide) r.2⟩) (Cert.AdaModRefIdeal.Value.run m ρ),
    fun m ρ _ => Cert.AdaGrad.Gen.frame m ρ,
    fun m ρ _ => Cert.AdaGradIdeal.Gen.frame m ρ,
    fun m ρ _ => (θ_run _ _ _).mono
      (fun r h => ⟨fun c => (h c).2, sem_eq_zero_of_no_sems (by decide) r.2⟩) (Cert.AdaGradRefIdeal.Value.run m ρ),
    fun m ρ _ => Cert.FinalLoss.Gen.frame m ρ,
    fun m ρ _ => Cert.FinalLossIdeal.Gen.frame m ρ,
    fun m ρ _ => (θ_run _ _ _).mono
      (fun r h => ⟨fun c => (h c).2.2, sem_eq_zero_of_no_sems (by decide) r.2⟩) (Cert.FinalLossRefIdeal.Value.run m ρ),
    fun m ρ _ => Cert.AdamwAda.Gen.frame m ρ,
    fun m ρ _ => Cert.AdamwAdaIdeal.Gen.frame m ρ,
    fun m ρ _ => (θ_run _ _ _).mono
      (fun r h => ⟨fun c => (h c).2.2.2, sem_eq_zero_of_no_sems (by decide) r.2⟩) (Cert.AdamwAdaRefIdeal.Value.run m ρ),
    fun m ρ _ => Cert.AdamwUp.Gen.frame m ρ,
    fun m ρ _ => Cert.AdamwUpIdeal.Gen.frame m ρ,
    fun m ρ _ => (θ_run _ _ _).mono
      (fun r h => ⟨fun c => (h c).2.2.2, sem_eq_zero_of_no_sems (by decide) r.2⟩) (Cert.AdamwUpRefIdeal.Value.run m ρ),
    fun m ρ _ => Cert.AdamwDown.Gen.frame m ρ,
    fun m ρ _ => Cert.AdamwDownIdeal.Gen.frame m ρ,
    fun m ρ _ => (θ_run _ _ _).mono
      (fun r h => ⟨fun c => (h c).2.2.2, sem_eq_zero_of_no_sems (by decide) r.2⟩) (Cert.AdamwDownRefIdeal.Value.run m ρ),
    fun m ρ _ => Cert.AdamwIn.Gen.frame m ρ,
    fun m ρ _ => Cert.AdamwInIdeal.Gen.frame m ρ,
    fun m ρ _ => (θ_run _ _ _).mono
      (fun r h => ⟨fun c => (h c).2.2.2, sem_eq_zero_of_no_sems (by decide) r.2⟩) (Cert.AdamwInRefIdeal.Value.run m ρ),
    fun m ρ _ => Cert.AdamwA.Gen.frame m ρ,
    fun m ρ _ => Cert.AdamwAIdeal.Gen.frame m ρ,
    fun m ρ _ => (θ_run _ _ _).mono
      (fun r h => ⟨fun c => (h c).2.2.2, sem_eq_zero_of_no_sems (by decide) r.2⟩) (Cert.AdamwARefIdeal.Value.run m ρ),
    fun m ρ _ => Cert.AdamwOut.Gen.frame m ρ,
    fun m ρ _ => Cert.AdamwOutIdeal.Gen.frame m ρ,
    fun m ρ _ => (θ_run _ _ _).mono
      (fun r h => ⟨fun c => (h c).2.2.2, sem_eq_zero_of_no_sems (by decide) r.2⟩) (Cert.AdamwOutRefIdeal.Value.run m ρ),
    fun m ρ _ => Cert.AdamwSmall.Gen.frame m ρ,
    fun m ρ _ => Cert.AdamwSmallIdeal.Gen.frame m ρ,
    fun m ρ _ => (θ_run _ _ _).mono
      (fun r h => ⟨fun c => (h c).2.2.2, sem_eq_zero_of_no_sems (by decide) r.2⟩) (Cert.AdamwSmallRefIdeal.Value.run m ρ),
    trivial,
    Cert.GwDown.algebraic,
    trivial,
    Cert.GwUp.algebraic,
    trivial,
    Cert.Du.algebraic,
    trivial,
    Cert.GwIn.algebraic,
    trivial,
    Cert.MixDu.algebraic,
    trivial,
    Cert.Swiglu.algebraic,
    trivial,
    Cert.GwOut.algebraic,
    trivial,
    Cert.GwA.algebraic,
    trivial,
    Cert.Dmg.algebraic,
    trivial,
    Cert.Dya.algebraic,
    trivial,
    Cert.MixIn.algebraic,
    trivial,
    Cert.AOut.algebraic,
    trivial,
    Cert.Up.algebraic,
    trivial,
    Cert.Down.algebraic,
    trivial,
    Cert.MixOut.algebraic,
    trivial,
    Cert.BOut.algebraic,
    trivial,
    Cert.Norm.algebraic,
    trivial,
    Cert.NormBwd.algebraic,
    trivial,
    Cert.ResidBwd.algebraic,
    trivial,
    Cert.MergeBwd.algebraic,
    trivial,
    Cert.PrepA.algebraic,
    trivial,
    Cert.Post.algebraic,
    trivial,
    Cert.PrepABwd.algebraic,
    trivial,
    Cert.AdaMod.algebraic,
    trivial,
    Cert.AdaGrad.algebraic,
    trivial,
    Cert.FinalLoss.algebraic,
    trivial,
    Cert.AdamwAda.algebraic,
    trivial,
    Cert.AdamwUp.algebraic,
    trivial,
    Cert.AdamwDown.algebraic,
    trivial,
    Cert.AdamwIn.algebraic,
    trivial,
    Cert.AdamwA.algebraic,
    trivial,
    Cert.AdamwOut.algebraic,
    trivial,
    Cert.AdamwSmall.algebraic⟩

end Cert.Proof

end
